-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v14) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Hidden_HiddenIdeal : Prop :=
  True

def algebraic_HiddenIdeal_HiddenReferenceIdeal [hHiddenIdeal : Cert.HiddenIdeal.Facts] [hHiddenReferenceIdeal : Cert.HiddenReferenceIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenIdeal m →
    (∀ c : Dev Cert.HiddenIdeal.nD,
      m' ((c.tc : Thread Cert.HiddenReferenceIdeal.nD Cert.HiddenReferenceIdeal.τ).loc Cert.HiddenReferenceIdeal.main_arg0) = m ((c.tc : Thread Cert.HiddenIdeal.nD Cert.HiddenIdeal.τ).loc Cert.HiddenIdeal.main_arg0)
      ∧ m' ((c.tc : Thread Cert.HiddenReferenceIdeal.nD Cert.HiddenReferenceIdeal.τ).loc Cert.HiddenReferenceIdeal.main_arg1) = m ((c.tc : Thread Cert.HiddenIdeal.nD Cert.HiddenIdeal.τ).loc Cert.HiddenIdeal.main_arg1)
      ∧ m' ((c.tc : Thread Cert.HiddenReferenceIdeal.nD Cert.HiddenReferenceIdeal.τ).loc Cert.HiddenReferenceIdeal.main_arg2) = m ((c.tc : Thread Cert.HiddenIdeal.nD Cert.HiddenIdeal.τ).loc Cert.HiddenIdeal.main_arg2)) →
    ∃ (v0 : (c : Dev Cert.HiddenIdeal.nD) → Buf (Elt Ideal) ((c.tc : Thread Cert.HiddenIdeal.nD Cert.HiddenIdeal.τ).loc Cert.HiddenIdeal.main_v0_0)) (v1 : (c : Dev Cert.HiddenIdeal.nD) → Buf (Elt Ideal) ((c.tc : Thread Cert.HiddenIdeal.nD Cert.HiddenIdeal.τ).loc Cert.HiddenIdeal.main_v0_1)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v0_0) = v0 c
          ∧ r.2.mem ((c.tc : Thread Cert.HiddenIdeal.nD Cert.HiddenIdeal.τ).loc Cert.HiddenIdeal.main_v0_1) = v1 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v6) = v0 c
          ∧ r.2.mem ((c.tc : Thread Cert.HiddenReferenceIdeal.nD Cert.HiddenReferenceIdeal.τ).loc Cert.HiddenReferenceIdeal.main_v7) = v1 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)) →
    ∃ (v0 : (c : Dev Cert.ProjectIdeal.nD) → Buf (Elt Ideal) ((c.tc : Thread Cert.ProjectIdeal.nD Cert.ProjectIdeal.τ).loc Cert.ProjectIdeal.main_v4_0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v4_0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v71) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hHidden : Cert.Hidden.Facts) (hHiddenIdeal : Cert.HiddenIdeal.Facts) (hHiddenReferenceIdeal : Cert.HiddenReferenceIdeal.Facts) (hProject : Cert.Project.Facts) (hProjectIdeal : Cert.ProjectIdeal.Facts) (hProjectReferenceIdeal : Cert.ProjectReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown)
    ∧ quiescent_DownIdeal (hDownIdeal := hDownIdeal)
    ∧ quiescent_DownReferenceIdeal (hDownReferenceIdeal := hDownReferenceIdeal)
    ∧ quiescent_Hidden (hHidden := hHidden)
    ∧ quiescent_HiddenIdeal (hHiddenIdeal := hHiddenIdeal)
    ∧ quiescent_HiddenReferenceIdeal (hHiddenReferenceIdeal := hHiddenReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_DownReferenceIdeal (hDownIdeal := hDownIdeal) (hDownReferenceIdeal := hDownReferenceIdeal)
    ∧ preserves_Hidden_HiddenIdeal
    ∧ algebraic_HiddenIdeal_HiddenReferenceIdeal (hHiddenIdeal := hHiddenIdeal) (hHiddenReferenceIdeal := hHiddenReferenceIdeal)
    ∧ preserves_Project_ProjectIdeal
    ∧ algebraic_ProjectIdeal_ProjectReferenceIdeal (hProjectIdeal := hProjectIdeal) (hProjectReferenceIdeal := hProjectReferenceIdeal)
-- ==== Pre_finite.lean ====
abbrev S2x8192x17408 : Shape := ⟨3, ![2, 8192, 17408]⟩
abbrev S2x8192x1024 : Shape := ⟨3, ![2, 8192, 1024]⟩
abbrev S1x1024 : Shape := ⟨2, ![1, 1024]⟩
abbrev S2x8192x3072 : Shape := ⟨3, ![2, 8192, 3072]⟩
abbrev S_ : Shape := ⟨0, ![]⟩

class Facts : Prop where
  slices_S2x8192x17408_S2x8192x3072_0_0_9216 : S2x8192x17408.Slices ![0, 0, 9216] S2x8192x3072
  bitsLt_bf16_f32 : FTy.bits .bf16 < FTy.bits .f32
  bcast_S_S2x8192x3072 : S_.BroadcastsInDim S2x8192x3072 (![] : Fin 0 → Fin S2x8192x3072.rank)
  bcast_S_S2x8192x1024 : S_.BroadcastsInDim S2x8192x1024 (![] : Fin 0 → Fin S2x8192x1024.rank)

variable [Facts]

def fn {F : FTy → Type} [FloatOps F] (main_arg0 : FVec F S2x8192x17408 .bf16) (main_arg1 : FVec F S2x8192x1024 .bf16) (main_arg2 : FVec F S1x1024 .f32) : IVec S2x8192x3072 1 × IVec S2x8192x1024 1 :=
  let main_v0 : FVec F S2x8192x3072 .bf16 := (extractStridedSlice S2x8192x3072 ![0, 0, 9216] · slices_S2x8192x17408_S2x8192x3072_0_0_9216) main_arg0
  let main_v1 : FVec F S2x8192x3072 .f32 := (extf .f32 · bitsLt_bf16_f32) main_v0
  let main_v2 : FVec F S2x8192x3072 .f32 := Host.absf main_v1
  let main_cst : FVec F S_ .f32 := constant S_ .f32 0x7F800000#32
  let main_v3 : FVec F S2x8192x3072 .f32 := broadcastInDim S2x8192x3072 ![] bcast_S_S2x8192x3072 main_cst
  let main_v4 : IVec S2x8192x3072 1 := cmpf .olt main_v2 main_v3
  let main_v5 : FVec F S2x8192x1024 .f32 := (extf .f32 · bitsLt_bf16_f32) main_arg1
  let main_v6 : FVec F S2x8192x1024 .f32 := Host.absf main_v5
  let main_cst_0 : FVec F S_ .f32 := constant S_ .f32 0x7F800000#32
  let main_v7 : FVec F S2x8192x1024 .f32 := broadcastInDim S2x8192x1024 ![] bcast_S_S2x8192x1024 main_cst_0
  let main_v8 : IVec S2x8192x1024 1 := cmpf .olt main_v6 main_v7
  (main_v4, main_v8)
-- ==== Kernel.lean ====
abbrev S2x8192x17408 : Shape := ⟨3, ![2, 8192, 17408]⟩
abbrev S2x8192x1024 : Shape := ⟨3, ![2, 8192, 1024]⟩
abbrev S1x1024 : Shape := ⟨2, ![1, 1024]⟩
abbrev S128x128 : Shape := ⟨2, ![128, 128]⟩
abbrev S2x512x16x17408 : Shape := ⟨4, ![2, 512, 16, 17408]⟩
abbrev S2x16x512x17408 : Shape := ⟨4, ![2, 16, 512, 17408]⟩
abbrev S2x512x16x1024 : Shape := ⟨4, ![2, 512, 16, 1024]⟩
abbrev S2x16x512x1024 : Shape := ⟨4, ![2, 16, 512, 1024]⟩
abbrev S2x16x1x512x17408 : Shape := ⟨5, ![2, 16, 1, 512, 17408]⟩
abbrev S2x4x4x512x17408 : Shape := ⟨5, ![2, 4, 4, 512, 17408]⟩
abbrev S2x1x16x512x17408 : Shape := ⟨5, ![2, 1, 16, 512, 17408]⟩
abbrev S2x16x1x512x1024 : Shape := ⟨5, ![2, 16, 1, 512, 1024]⟩
abbrev S2x16x1x512x128 : Shape := ⟨5, ![2, 16, 1, 512, 128]⟩
abbrev S2x4x4x512x1024 : Shape := ⟨5, ![2, 4, 4, 512, 1024]⟩
abbrev S2x4x4x512x128 : Shape := ⟨5, ![2, 4, 4, 512, 128]⟩
abbrev S2x1x16x512x1024 : Shape := ⟨5, ![2, 1, 16, 512, 1024]⟩
abbrev S2x1x16x512x128 : Shape := ⟨5, ![2, 1, 16, 512, 128]⟩
abbrev S1x16x1x16x1024 : Shape := ⟨5, ![1, 16, 1, 16, 1024]⟩
abbrev S1x4x1x64x1024 : Shape := ⟨5, ![1, 4, 1, 64, 1024]⟩
abbrev S1x1x1x256x1024 : Shape := ⟨5, ![1, 1, 1, 256, 1024]⟩
abbrev S1x16x16x1024 : Shape := ⟨4, ![1, 16, 16, 1024]⟩
abbrev S1x16x1x16x128 : Shape := ⟨5, ![1, 16, 1, 16, 128]⟩
abbrev S1x4x1x64x128 : Shape := ⟨5, ![1, 4, 1, 64, 128]⟩
abbrev S1x1x1x256x128 : Shape := ⟨5, ![1, 1, 1, 256, 128]⟩
abbrev S384x1024 : Shape := ⟨2, ![384, 1024]⟩
abbrev S8x128x128 : Shape := ⟨3, ![8, 128, 128]⟩
abbrev S128x1024 : Shape := ⟨2, ![128, 1024]⟩
abbrev S128x256 : Shape := ⟨2, ![128, 256]⟩
abbrev S16x16x128 : Shape := ⟨3, ![16, 16, 128]⟩
abbrev S16x8x128 : Shape := ⟨3, ![16, 8, 128]⟩
abbrev S256x128 : Shape := ⟨2, ![256, 128]⟩
abbrev S128 : Shape := ⟨1, ![128]⟩
abbrev S128x1 : Shape := ⟨2, ![128, 1]⟩
abbrev S16x8x1 : Shape := ⟨3, ![16, 8, 1]⟩
abbrev S16x8x16 : Shape := ⟨3, ![16, 8, 16]⟩
abbrev S1x16x1x8x16 : Shape := ⟨5, ![1, 16, 1, 8, 16]⟩
abbrev S4x64x128 : Shape := ⟨3, ![4, 64, 128]⟩
abbrev S4x32x128 : Shape := ⟨3, ![4, 32, 128]⟩
abbrev S4x32x1 : Shape := ⟨3, ![4, 32, 1]⟩
abbrev S4x32x16 : Shape := ⟨3, ![4, 32, 16]⟩
abbrev S1x4x1x32x16 : Shape := ⟨5, ![1, 4, 1, 32, 16]⟩
abbrev S1x256x128 : Shape := ⟨3, ![1, 256, 128]⟩
abbrev S1x128x128 : Shape := ⟨3, ![1, 128, 128]⟩
abbrev S1x128x1 : Shape := ⟨3, ![1, 128, 1]⟩
abbrev S1x128x16 : Shape := ⟨3, ![1, 128, 16]⟩
abbrev S1x1x1x128x16 : Shape := ⟨5, ![1, 1, 1, 128, 16]⟩
abbrev S16x16x1024 : Shape := ⟨3, ![16, 16, 1024]⟩
abbrev S16x8x1024 : Shape := ⟨3, ![16, 8, 1024]⟩
abbrev S1x128 : Shape := ⟨2, ![1, 128]⟩
abbrev S1x8x128 : Shape := ⟨3, ![1, 8, 128]⟩
abbrev S8x128 : Shape := ⟨2, ![8, 128]⟩
abbrev S8x8x128 : Shape := ⟨3, ![8, 8, 128]⟩
abbrev S4x8x128 : Shape := ⟨3, ![4, 8, 128]⟩
abbrev S2x8x128 : Shape := ⟨3, ![2, 8, 128]⟩
abbrev S1x16x16x128 : Shape := ⟨4, ![1, 16, 16, 128]⟩

abbrev nBuf : Space → Nat
  | .hbm => 18
  | .vmem => 51
  | .smem => 0
  | _ => 0

abbrev bufTy : (tb : Table) → Fin (tcTables nBuf tb) → BufTy
  | .hbm, ⟨0, _⟩ => ⟨S2x8192x17408, .bf16⟩
  | .hbm, ⟨1, _⟩ => ⟨S2x8192x1024, .bf16⟩
  | .hbm, ⟨2, _⟩ => ⟨S1x1024, .f32⟩
  | .hbm, ⟨3, _⟩ => ⟨S128x128, .bf16⟩
  | .hbm, ⟨4, _⟩ => ⟨S2x512x16x17408, .bf16⟩
  | .hbm, ⟨5, _⟩ => ⟨S2x16x512x17408, .bf16⟩
  | .hbm, ⟨6, _⟩ => ⟨S2x512x16x1024, .bf16⟩
  | .hbm, ⟨7, _⟩ => ⟨S2x16x512x1024, .bf16⟩
  | .hbm, ⟨8, _⟩ => ⟨S2x16x1x512x17408, .bf16⟩
  | .hbm, ⟨9, _⟩ => ⟨S2x4x4x512x17408, .bf16⟩
  | .hbm, ⟨10, _⟩ => ⟨S2x1x16x512x17408, .bf16⟩
  | .hbm, ⟨11, _⟩ => ⟨S2x16x1x512x1024, .bf16⟩
  | .hbm, ⟨12, _⟩ => ⟨S2x16x1x512x128, .f32⟩
  | .hbm, ⟨13, _⟩ => ⟨S2x4x4x512x1024, .bf16⟩
  | .hbm, ⟨14, _⟩ => ⟨S2x4x4x512x128, .f32⟩
  | .hbm, ⟨15, _⟩ => ⟨S2x1x16x512x1024, .bf16⟩
  | .hbm, ⟨16, _⟩ => ⟨S2x1x16x512x128, .f32⟩
  | .hbm, ⟨17, _⟩ => ⟨S2x16x512x1024, .bf16⟩
  | .local _ .vmem, ⟨0, _⟩ => ⟨S1x16x1x16x1024, .bf16⟩
  | .local _ .vmem, ⟨1, _⟩ => ⟨S1x16x1x16x1024, .bf16⟩
  | .local _ .vmem, ⟨2, _⟩ => ⟨S1x16x1x16x1024, .bf16⟩
  | .local _ .vmem, ⟨3, _⟩ => ⟨S1x16x1x16x1024, .bf16⟩
  | .local _ .vmem, ⟨4, _⟩ => ⟨S1x16x1x16x1024, .bf16⟩
  | .local _ .vmem, ⟨5, _⟩ => ⟨S1x16x1x16x1024, .bf16⟩
  | .local _ .vmem, ⟨6, _⟩ => ⟨S1x4x1x64x1024, .bf16⟩
  | .local _ .vmem, ⟨7, _⟩ => ⟨S1x4x1x64x1024, .bf16⟩
  | .local _ .vmem, ⟨8, _⟩ => ⟨S1x4x1x64x1024, .bf16⟩
  | .local _ .vmem, ⟨9, _⟩ => ⟨S1x4x1x64x1024, .bf16⟩
  | .local _ .vmem, ⟨10, _⟩ => ⟨S1x4x1x64x1024, .bf16⟩
  | .local _ .vmem, ⟨11, _⟩ => ⟨S1x4x1x64x1024, .bf16⟩
  | .local _ .vmem, ⟨12, _⟩ => ⟨S1x1x1x256x1024, .bf16⟩
  | .local _ .vmem, ⟨13, _⟩ => ⟨S1x1x1x256x1024, .bf16⟩
  | .local _ .vmem, ⟨14, _⟩ => ⟨S1x1x1x256x1024, .bf16⟩
  | .local _ .vmem, ⟨15, _⟩ => ⟨S1x1x1x256x1024, .bf16⟩
  | .local _ .vmem, ⟨16, _⟩ => ⟨S1x1x1x256x1024, .bf16⟩
  | .local _ .vmem, ⟨17, _⟩ => ⟨S1x1x1x256x1024, .bf16⟩
  | .local _ .vmem, ⟨18, _⟩ => ⟨S1x16x16x1024, .bf16⟩
  | .local _ .vmem, ⟨19, _⟩ => ⟨S1x16x16x1024, .bf16⟩
  | .local _ .vmem, ⟨20, _⟩ => ⟨S1x16x16x1024, .bf16⟩
  | .local _ .vmem, ⟨21, _⟩ => ⟨S1x16x16x1024, .bf16⟩
  | .local _ .vmem, ⟨22, _⟩ => ⟨S1x16x16x1024, .bf16⟩
  | .local _ .vmem, ⟨23, _⟩ => ⟨S1x16x16x1024, .bf16⟩
  | .local _ .vmem, ⟨24, _⟩ => ⟨S1x16x16x1024, .bf16⟩
  | .local _ .vmem, ⟨25, _⟩ => ⟨S1x16x16x1024, .bf16⟩
  | .local _ .vmem, ⟨26, _⟩ => ⟨S1x16x16x1024, .bf16⟩
  | .local _ .vmem, ⟨27, _⟩ => ⟨S1x16x16x1024, .bf16⟩
  | .local _ .vmem, ⟨28, _⟩ => ⟨S1x1024, .f32⟩
  | .local _ .vmem, ⟨29, _⟩ => ⟨S128x128, .bf16⟩
  | .local _ .vmem, ⟨30, _⟩ => ⟨S1x16x1x16x1024, .bf16⟩
  | .local _ .vmem, ⟨31, _⟩ => ⟨S1x16x1x16x1024, .bf16⟩
  | .local _ .vmem, ⟨32, _⟩ => ⟨S1x16x1x16x128, .f32⟩
  | .local _ .vmem, ⟨33, _⟩ => ⟨S1x16x1x16x128, .f32⟩
  | .local _ .vmem, ⟨34, _⟩ => ⟨S1x4x1x64x1024, .bf16⟩
  | .local _ .vmem, ⟨35, _⟩ => ⟨S1x4x1x64x1024, .bf16⟩
  | .local _ .vmem, ⟨36, _⟩ => ⟨S1x4x1x64x128, .f32⟩
  | .local _ .vmem, ⟨37, _⟩ => ⟨S1x4x1x64x128, .f32⟩
  | .local _ .vmem, ⟨38, _⟩ => ⟨S1x1x1x256x1024, .bf16⟩
  | .local _ .vmem, ⟨39, _⟩ => ⟨S1x1x1x256x1024, .bf16⟩
  | .local _ .vmem, ⟨40, _⟩ => ⟨S1x1x1x256x128, .f32⟩
  | .local _ .vmem, ⟨41, _⟩ => ⟨S1x1x1x256x128, .f32⟩
  | .local _ .vmem, ⟨42, _⟩ => ⟨S1x16x16x1024, .bf16⟩
  | .local _ .vmem, ⟨43, _⟩ => ⟨S1x16x16x1024, .bf16⟩
  | .local _ .vmem, ⟨44, _⟩ => ⟨S384x1024, .bf16⟩
  | .local _ .vmem, ⟨45, _⟩ => ⟨S384x1024, .bf16⟩
  | .local _ .vmem, ⟨46, _⟩ => ⟨S384x1024, .bf16⟩
  | .local _ .vmem, ⟨47, _⟩ => ⟨S384x1024, .bf16⟩
  | .local _ .vmem, ⟨48, _⟩ => ⟨S384x1024, .bf16⟩
  | .local _ .vmem, ⟨49, _⟩ => ⟨S384x1024, .bf16⟩
  | .local _ .vmem, ⟨50, _⟩ => ⟨S8x128x128, .f32⟩
  | _, _ => ⟨S2x8192x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v7_5 : Ref sig .tc := ⟨.hbm, 16, rfl⟩
abbrev main_v7_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_scratch3 : Ref sig .tc := ⟨.vmem, 47, rfl⟩
abbrev cc0_scratch4 : Ref sig .tc := ⟨.vmem, 48, rfl⟩
abbrev cc0_scratch5 : Ref sig .tc := ⟨.vmem, 49, rfl⟩
abbrev cc0_scratch6 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41
abbrev cc0_sem22_0 : DmaSem sig := 42
abbrev cc0_sem22_1 : DmaSem sig := 43

abbrev nD : Nat := 1
abbrev τ : Topo := Topo.v7x

variable {F : FTy → Type} [FloatOps F]

abbrev grid0 : Pipeline.Grid := ⟨1, ![64], ![false]⟩

def cc0_transform_0 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let v17 : BitVec 32 := Scalar.divsi arg0 c32_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c32_i32_4 c0_i32_7
  let v24 : BitVec 32 := Scalar.extui v23
  let c0_i32_8 : BitVec 32 := 0#32
  let v25 : BitVec 1 := Scalar.cmpi .slt c32_i32_4 c0_i32_8
  let v26 : BitVec 32 := Scalar.extui v25
  let v27 : BitVec 32 := Scalar.subi v24 v26
  let v28 : BitVec 1 := Scalar.cmpi .ne v22 v27
  let v29 : BitVec 32 := Scalar.remsi arg0 c32_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c32_i32_17 : BitVec 32 := 32#32
  let c0_i32_18 : BitVec 32 := 0#32
  let v44 : BitVec 1 := Scalar.cmpi .eq c32_i32_17 c0_i32_18
  let c1_i32_19 : BitVec 32 := 1#32
  let v45 : BitVec 32 := Scalar.select v44 c1_i32_19 c32_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  let c0_i32_25 : BitVec 32 := 0#32
  ![v16.toNat, c0_i32_23.toNat, v43.toNat, v53.toNat, c0_i32_24.toNat]

def cc0_transform_1 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let v17 : BitVec 32 := Scalar.divsi arg0 c32_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c32_i32_4 c0_i32_7
  let v24 : BitVec 32 := Scalar.extui v23
  let c0_i32_8 : BitVec 32 := 0#32
  let v25 : BitVec 1 := Scalar.cmpi .slt c32_i32_4 c0_i32_8
  let v26 : BitVec 32 := Scalar.extui v25
  let v27 : BitVec 32 := Scalar.subi v24 v26
  let v28 : BitVec 1 := Scalar.cmpi .ne v22 v27
  let v29 : BitVec 32 := Scalar.remsi arg0 c32_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c32_i32_17 : BitVec 32 := 32#32
  let c0_i32_18 : BitVec 32 := 0#32
  let v44 : BitVec 1 := Scalar.cmpi .eq c32_i32_17 c0_i32_18
  let c1_i32_19 : BitVec 32 := 1#32
  let v45 : BitVec 32 := Scalar.select v44 c1_i32_19 c32_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c3_i32 : BitVec 32 := 3#32
  let c0_i32_24 : BitVec 32 := 0#32
  ![v16.toNat, c0_i32_23.toNat, v43.toNat, v53.toNat, c3_i32.toNat]

def cc0_transform_2 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let v17 : BitVec 32 := Scalar.divsi arg0 c32_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c32_i32_4 c0_i32_7
  let v24 : BitVec 32 := Scalar.extui v23
  let c0_i32_8 : BitVec 32 := 0#32
  let v25 : BitVec 1 := Scalar.cmpi .slt c32_i32_4 c0_i32_8
  let v26 : BitVec 32 := Scalar.extui v25
  let v27 : BitVec 32 := Scalar.subi v24 v26
  let v28 : BitVec 1 := Scalar.cmpi .ne v22 v27
  let v29 : BitVec 32 := Scalar.remsi arg0 c32_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c32_i32_17 : BitVec 32 := 32#32
  let c0_i32_18 : BitVec 32 := 0#32
  let v44 : BitVec 1 := Scalar.cmpi .eq c32_i32_17 c0_i32_18
  let c1_i32_19 : BitVec 32 := 1#32
  let v45 : BitVec 32 := Scalar.select v44 c1_i32_19 c32_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c6_i32 : BitVec 32 := 6#32
  let c0_i32_24 : BitVec 32 := 0#32
  ![v16.toNat, c0_i32_23.toNat, v43.toNat, v53.toNat, c6_i32.toNat]

def cc0_transform_3 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.divsi arg0 c8_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c8_i32 c0_i32_6
  let v24 : BitVec 32 := Scalar.extui v23
  let c0_i32_7 : BitVec 32 := 0#32
  let v25 : BitVec 1 := Scalar.cmpi .slt c8_i32 c0_i32_7
  let v26 : BitVec 32 := Scalar.extui v25
  let v27 : BitVec 32 := Scalar.subi v24 v26
  let v28 : BitVec 1 := Scalar.cmpi .ne v22 v27
  let v29 : BitVec 32 := Scalar.remsi arg0 c8_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c4_i32 : BitVec 32 := 4#32
  let c0_i32_10 : BitVec 32 := 0#32
  let v34 : BitVec 1 := Scalar.cmpi .eq c4_i32 c0_i32_10
  let c1_i32_11 : BitVec 32 := 1#32
  let v35 : BitVec 32 := Scalar.select v34 c1_i32_11 c4_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c8_i32_15 : BitVec 32 := 8#32
  let c0_i32_16 : BitVec 32 := 0#32
  let v44 : BitVec 1 := Scalar.cmpi .eq c8_i32_15 c0_i32_16
  let c1_i32_17 : BitVec 32 := 1#32
  let v45 : BitVec 32 := Scalar.select v44 c1_i32_17 c8_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let c0_i32_21 : BitVec 32 := 0#32
  let c1_i32_22 : BitVec 32 := 1#32
  let c0_i32_23 : BitVec 32 := 0#32
  ![v16.toNat, c0_i32_21.toNat, v43.toNat, v53.toNat, c1_i32_22.toNat]

def cc0_transform_4 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.divsi arg0 c8_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c8_i32 c0_i32_6
  let v24 : BitVec 32 := Scalar.extui v23
  let c0_i32_7 : BitVec 32 := 0#32
  let v25 : BitVec 1 := Scalar.cmpi .slt c8_i32 c0_i32_7
  let v26 : BitVec 32 := Scalar.extui v25
  let v27 : BitVec 32 := Scalar.subi v24 v26
  let v28 : BitVec 1 := Scalar.cmpi .ne v22 v27
  let v29 : BitVec 32 := Scalar.remsi arg0 c8_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c4_i32 : BitVec 32 := 4#32
  let c0_i32_10 : BitVec 32 := 0#32
  let v34 : BitVec 1 := Scalar.cmpi .eq c4_i32 c0_i32_10
  let c1_i32_11 : BitVec 32 := 1#32
  let v35 : BitVec 32 := Scalar.select v34 c1_i32_11 c4_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c8_i32_15 : BitVec 32 := 8#32
  let c0_i32_16 : BitVec 32 := 0#32
  let v44 : BitVec 1 := Scalar.cmpi .eq c8_i32_15 c0_i32_16
  let c1_i32_17 : BitVec 32 := 1#32
  let v45 : BitVec 32 := Scalar.select v44 c1_i32_17 c8_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let c0_i32_21 : BitVec 32 := 0#32
  let c4_i32_22 : BitVec 32 := 4#32
  let c0_i32_23 : BitVec 32 := 0#32
  ![v16.toNat, c0_i32_21.toNat, v43.toNat, v53.toNat, c4_i32_22.toNat]

def cc0_transform_5 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.divsi arg0 c8_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c8_i32 c0_i32_6
  let v24 : BitVec 32 := Scalar.extui v23
  let c0_i32_7 : BitVec 32 := 0#32
  let v25 : BitVec 1 := Scalar.cmpi .slt c8_i32 c0_i32_7
  let v26 : BitVec 32 := Scalar.extui v25
  let v27 : BitVec 32 := Scalar.subi v24 v26
  let v28 : BitVec 1 := Scalar.cmpi .ne v22 v27
  let v29 : BitVec 32 := Scalar.remsi arg0 c8_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c4_i32 : BitVec 32 := 4#32
  let c0_i32_10 : BitVec 32 := 0#32
  let v34 : BitVec 1 := Scalar.cmpi .eq c4_i32 c0_i32_10
  let c1_i32_11 : BitVec 32 := 1#32
  let v35 : BitVec 32 := Scalar.select v34 c1_i32_11 c4_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c8_i32_15 : BitVec 32 := 8#32
  let c0_i32_16 : BitVec 32 := 0#32
  let v44 : BitVec 1 := Scalar.cmpi .eq c8_i32_15 c0_i32_16
  let c1_i32_17 : BitVec 32 := 1#32
  let v45 : BitVec 32 := Scalar.select v44 c1_i32_17 c8_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let c0_i32_21 : BitVec 32 := 0#32
  let c7_i32 : BitVec 32 := 7#32
  let c0_i32_22 : BitVec 32 := 0#32
  ![v16.toNat, c0_i32_21.toNat, v43.toNat, v53.toNat, c7_i32.toNat]

def cc0_transform_6 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.divsi arg0 c2_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c2_i32 c0_i32_6
  let v24 : BitVec 32 := Scalar.extui v23
  let c0_i32_7 : BitVec 32 := 0#32
  let v25 : BitVec 1 := Scalar.cmpi .slt c2_i32 c0_i32_7
  let v26 : BitVec 32 := Scalar.extui v25
  let v27 : BitVec 32 := Scalar.subi v24 v26
  let v28 : BitVec 1 := Scalar.cmpi .ne v22 v27
  let v29 : BitVec 32 := Scalar.remsi arg0 c2_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c16_i32 : BitVec 32 := 16#32
  let c0_i32_10 : BitVec 32 := 0#32
  let v34 : BitVec 1 := Scalar.cmpi .eq c16_i32 c0_i32_10
  let c1_i32_11 : BitVec 32 := 1#32
  let v35 : BitVec 32 := Scalar.select v34 c1_i32_11 c16_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c2_i32_15 : BitVec 32 := 2#32
  let c0_i32_16 : BitVec 32 := 0#32
  let v44 : BitVec 1 := Scalar.cmpi .eq c2_i32_15 c0_i32_16
  let c1_i32_17 : BitVec 32 := 1#32
  let v45 : BitVec 32 := Scalar.select v44 c1_i32_17 c2_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let c0_i32_21 : BitVec 32 := 0#32
  let c2_i32_22 : BitVec 32 := 2#32
  let c0_i32_23 : BitVec 32 := 0#32
  ![v16.toNat, c0_i32_21.toNat, v43.toNat, v53.toNat, c2_i32_22.toNat]

def cc0_transform_7 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.divsi arg0 c2_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c2_i32 c0_i32_6
  let v24 : BitVec 32 := Scalar.extui v23
  let c0_i32_7 : BitVec 32 := 0#32
  let v25 : BitVec 1 := Scalar.cmpi .slt c2_i32 c0_i32_7
  let v26 : BitVec 32 := Scalar.extui v25
  let v27 : BitVec 32 := Scalar.subi v24 v26
  let v28 : BitVec 1 := Scalar.cmpi .ne v22 v27
  let v29 : BitVec 32 := Scalar.remsi arg0 c2_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c16_i32 : BitVec 32 := 16#32
  let c0_i32_10 : BitVec 32 := 0#32
  let v34 : BitVec 1 := Scalar.cmpi .eq c16_i32 c0_i32_10
  let c1_i32_11 : BitVec 32 := 1#32
  let v35 : BitVec 32 := Scalar.select v34 c1_i32_11 c16_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c2_i32_15 : BitVec 32 := 2#32
  let c0_i32_16 : BitVec 32 := 0#32
  let v44 : BitVec 1 := Scalar.cmpi .eq c2_i32_15 c0_i32_16
  let c1_i32_17 : BitVec 32 := 1#32
  let v45 : BitVec 32 := Scalar.select v44 c1_i32_17 c2_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let c0_i32_21 : BitVec 32 := 0#32
  let c5_i32 : BitVec 32 := 5#32
  let c0_i32_22 : BitVec 32 := 0#32
  ![v16.toNat, c0_i32_21.toNat, v43.toNat, v53.toNat, c5_i32.toNat]

def cc0_transform_8 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.divsi arg0 c2_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c2_i32 c0_i32_6
  let v24 : BitVec 32 := Scalar.extui v23
  let c0_i32_7 : BitVec 32 := 0#32
  let v25 : BitVec 1 := Scalar.cmpi .slt c2_i32 c0_i32_7
  let v26 : BitVec 32 := Scalar.extui v25
  let v27 : BitVec 32 := Scalar.subi v24 v26
  let v28 : BitVec 1 := Scalar.cmpi .ne v22 v27
  let v29 : BitVec 32 := Scalar.remsi arg0 c2_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c16_i32 : BitVec 32 := 16#32
  let c0_i32_10 : BitVec 32 := 0#32
  let v34 : BitVec 1 := Scalar.cmpi .eq c16_i32 c0_i32_10
  let c1_i32_11 : BitVec 32 := 1#32
  let v35 : BitVec 32 := Scalar.select v34 c1_i32_11 c16_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c2_i32_15 : BitVec 32 := 2#32
  let c0_i32_16 : BitVec 32 := 0#32
  let v44 : BitVec 1 := Scalar.cmpi .eq c2_i32_15 c0_i32_16
  let c1_i32_17 : BitVec 32 := 1#32
  let v45 : BitVec 32 := Scalar.select v44 c1_i32_17 c2_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let c0_i32_21 : BitVec 32 := 0#32
  let c8_i32 : BitVec 32 := 8#32
  let c0_i32_22 : BitVec 32 := 0#32
  ![v16.toNat, c0_i32_21.toNat, v43.toNat, v53.toNat, c8_i32.toNat]

def cc0_transform_9 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c9_i32 : BitVec 32 := 9#32
  let c0_i32_11 : BitVec 32 := 0#32
  ![v16.toNat, c0_i32_10.toNat, v26.toNat, c9_i32.toNat]

def cc0_transform_10 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c10_i32 : BitVec 32 := 10#32
  let c0_i32_11 : BitVec 32 := 0#32
  ![v16.toNat, c0_i32_10.toNat, v26.toNat, c10_i32.toNat]

def cc0_transform_11 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c11_i32 : BitVec 32 := 11#32
  let c0_i32_11 : BitVec 32 := 0#32
  ![v16.toNat, c0_i32_10.toNat, v26.toNat, c11_i32.toNat]

def cc0_transform_12 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c12_i32 : BitVec 32 := 12#32
  let c0_i32_11 : BitVec 32 := 0#32
  ![v16.toNat, c0_i32_10.toNat, v26.toNat, c12_i32.toNat]

def cc0_transform_13 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let v17 : BitVec 32 := Scalar.divsi arg0 c32_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c32_i32_4 c0_i32_7
  let v24 : BitVec 32 := Scalar.extui v23
  let c0_i32_8 : BitVec 32 := 0#32
  let v25 : BitVec 1 := Scalar.cmpi .slt c32_i32_4 c0_i32_8
  let v26 : BitVec 32 := Scalar.extui v25
  let v27 : BitVec 32 := Scalar.subi v24 v26
  let v28 : BitVec 1 := Scalar.cmpi .ne v22 v27
  let v29 : BitVec 32 := Scalar.remsi arg0 c32_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c32_i32_17 : BitVec 32 := 32#32
  let c0_i32_18 : BitVec 32 := 0#32
  let v44 : BitVec 1 := Scalar.cmpi .eq c32_i32_17 c0_i32_18
  let c1_i32_19 : BitVec 32 := 1#32
  let v45 : BitVec 32 := Scalar.select v44 c1_i32_19 c32_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  let c0_i32_25 : BitVec 32 := 0#32
  ![v16.toNat, c0_i32_23.toNat, v43.toNat, v53.toNat, c0_i32_24.toNat]

def cc0_transform_17 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let v17 : BitVec 32 := Scalar.divsi arg0 c32_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c32_i32_4 c0_i32_7
  let v24 : BitVec 32 := Scalar.extui v23
  let c0_i32_8 : BitVec 32 := 0#32
  let v25 : BitVec 1 := Scalar.cmpi .slt c32_i32_4 c0_i32_8
  let v26 : BitVec 32 := Scalar.extui v25
  let v27 : BitVec 32 := Scalar.subi v24 v26
  let v28 : BitVec 1 := Scalar.cmpi .ne v22 v27
  let v29 : BitVec 32 := Scalar.remsi arg0 c32_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c32_i32_17 : BitVec 32 := 32#32
  let c0_i32_18 : BitVec 32 := 0#32
  let v44 : BitVec 1 := Scalar.cmpi .eq c32_i32_17 c0_i32_18
  let c1_i32_19 : BitVec 32 := 1#32
  let v45 : BitVec 32 := Scalar.select v44 c1_i32_19 c32_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  let c0_i32_25 : BitVec 32 := 0#32
  ![v16.toNat, c0_i32_23.toNat, v43.toNat, v53.toNat, c0_i32_24.toNat]

def cc0_transform_18 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.divsi arg0 c8_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c8_i32 c0_i32_6
  let v24 : BitVec 32 := Scalar.extui v23
  let c0_i32_7 : BitVec 32 := 0#32
  let v25 : BitVec 1 := Scalar.cmpi .slt c8_i32 c0_i32_7
  let v26 : BitVec 32 := Scalar.extui v25
  let v27 : BitVec 32 := Scalar.subi v24 v26
  let v28 : BitVec 1 := Scalar.cmpi .ne v22 v27
  let v29 : BitVec 32 := Scalar.remsi arg0 c8_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c4_i32 : BitVec 32 := 4#32
  let c0_i32_10 : BitVec 32 := 0#32
  let v34 : BitVec 1 := Scalar.cmpi .eq c4_i32 c0_i32_10
  let c1_i32_11 : BitVec 32 := 1#32
  let v35 : BitVec 32 := Scalar.select v34 c1_i32_11 c4_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c8_i32_15 : BitVec 32 := 8#32
  let c0_i32_16 : BitVec 32 := 0#32
  let v44 : BitVec 1 := Scalar.cmpi .eq c8_i32_15 c0_i32_16
  let c1_i32_17 : BitVec 32 := 1#32
  let v45 : BitVec 32 := Scalar.select v44 c1_i32_17 c8_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let c0_i32_21 : BitVec 32 := 0#32
  let c0_i32_22 : BitVec 32 := 0#32
  let c0_i32_23 : BitVec 32 := 0#32
  ![v16.toNat, c0_i32_21.toNat, v43.toNat, v53.toNat, c0_i32_22.toNat]

def cc0_transform_19 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.divsi arg0 c8_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c8_i32 c0_i32_6
  let v24 : BitVec 32 := Scalar.extui v23
  let c0_i32_7 : BitVec 32 := 0#32
  let v25 : BitVec 1 := Scalar.cmpi .slt c8_i32 c0_i32_7
  let v26 : BitVec 32 := Scalar.extui v25
  let v27 : BitVec 32 := Scalar.subi v24 v26
  let v28 : BitVec 1 := Scalar.cmpi .ne v22 v27
  let v29 : BitVec 32 := Scalar.remsi arg0 c8_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c4_i32 : BitVec 32 := 4#32
  let c0_i32_10 : BitVec 32 := 0#32
  let v34 : BitVec 1 := Scalar.cmpi .eq c4_i32 c0_i32_10
  let c1_i32_11 : BitVec 32 := 1#32
  let v35 : BitVec 32 := Scalar.select v34 c1_i32_11 c4_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c8_i32_15 : BitVec 32 := 8#32
  let c0_i32_16 : BitVec 32 := 0#32
  let v44 : BitVec 1 := Scalar.cmpi .eq c8_i32_15 c0_i32_16
  let c1_i32_17 : BitVec 32 := 1#32
  let v45 : BitVec 32 := Scalar.select v44 c1_i32_17 c8_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let c0_i32_21 : BitVec 32 := 0#32
  let c0_i32_22 : BitVec 32 := 0#32
  let c0_i32_23 : BitVec 32 := 0#32
  ![v16.toNat, c0_i32_21.toNat, v43.toNat, v53.toNat, c0_i32_22.toNat]

def cc0_transform_20 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.divsi arg0 c2_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c2_i32 c0_i32_6
  let v24 : BitVec 32 := Scalar.extui v23
  let c0_i32_7 : BitVec 32 := 0#32
  let v25 : BitVec 1 := Scalar.cmpi .slt c2_i32 c0_i32_7
  let v26 : BitVec 32 := Scalar.extui v25
  let v27 : BitVec 32 := Scalar.subi v24 v26
  let v28 : BitVec 1 := Scalar.cmpi .ne v22 v27
  let v29 : BitVec 32 := Scalar.remsi arg0 c2_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c16_i32 : BitVec 32 := 16#32
  let c0_i32_10 : BitVec 32 := 0#32
  let v34 : BitVec 1 := Scalar.cmpi .eq c16_i32 c0_i32_10
  let c1_i32_11 : BitVec 32 := 1#32
  let v35 : BitVec 32 := Scalar.select v34 c1_i32_11 c16_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c2_i32_15 : BitVec 32 := 2#32
  let c0_i32_16 : BitVec 32 := 0#32
  let v44 : BitVec 1 := Scalar.cmpi .eq c2_i32_15 c0_i32_16
  let c1_i32_17 : BitVec 32 := 1#32
  let v45 : BitVec 32 := Scalar.select v44 c1_i32_17 c2_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let c0_i32_21 : BitVec 32 := 0#32
  let c0_i32_22 : BitVec 32 := 0#32
  let c0_i32_23 : BitVec 32 := 0#32
  ![v16.toNat, c0_i32_21.toNat, v43.toNat, v53.toNat, c0_i32_22.toNat]

def cc0_transform_21 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.divsi arg0 c2_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c2_i32 c0_i32_6
  let v24 : BitVec 32 := Scalar.extui v23
  let c0_i32_7 : BitVec 32 := 0#32
  let v25 : BitVec 1 := Scalar.cmpi .slt c2_i32 c0_i32_7
  let v26 : BitVec 32 := Scalar.extui v25
  let v27 : BitVec 32 := Scalar.subi v24 v26
  let v28 : BitVec 1 := Scalar.cmpi .ne v22 v27
  let v29 : BitVec 32 := Scalar.remsi arg0 c2_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c16_i32 : BitVec 32 := 16#32
  let c0_i32_10 : BitVec 32 := 0#32
  let v34 : BitVec 1 := Scalar.cmpi .eq c16_i32 c0_i32_10
  let c1_i32_11 : BitVec 32 := 1#32
  let v35 : BitVec 32 := Scalar.select v34 c1_i32_11 c16_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c2_i32_15 : BitVec 32 := 2#32
  let c0_i32_16 : BitVec 32 := 0#32
  let v44 : BitVec 1 := Scalar.cmpi .eq c2_i32_15 c0_i32_16
  let c1_i32_17 : BitVec 32 := 1#32
  let v45 : BitVec 32 := Scalar.select v44 c1_i32_17 c2_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let c0_i32_21 : BitVec 32 := 0#32
  let c0_i32_22 : BitVec 32 := 0#32
  let c0_i32_23 : BitVec 32 := 0#32
  ![v16.toNat, c0_i32_21.toNat, v43.toNat, v53.toNat, c0_i32_22.toNat]

def cc0_transform_22 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1x16x1x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16x16x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x16x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x16x1x16x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x16x1x16x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4x1x64x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4x1x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x1x256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x1x256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x16x16x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x8192x17408 : Shape := ⟨3, ![2, 8192, 17408]⟩
abbrev S2x8192x1024 : Shape := ⟨3, ![2, 8192, 1024]⟩
abbrev S1x1024 : Shape := ⟨2, ![1, 1024]⟩
abbrev S_ : Shape := ⟨0, ![]⟩
abbrev S2x8x128x128 : Shape := ⟨4, ![2, 8, 128, 128]⟩
abbrev S2x8192x8x128 : Shape := ⟨4, ![2, 8192, 8, 128]⟩
abbrev S8192x2x8x128 : Shape := ⟨4, ![8192, 2, 8, 128]⟩
abbrev S1x2x8x128 : Shape := ⟨4, ![1, 2, 8, 128]⟩
abbrev S2x8x128 : Shape := ⟨3, ![2, 8, 128]⟩
abbrev S2x8x128x1 : Shape := ⟨4, ![2, 8, 128, 1]⟩
abbrev S2x8x1x128 : Shape := ⟨4, ![2, 8, 1, 128]⟩
abbrev S2x8192x8 : Shape := ⟨3, ![2, 8192, 8]⟩
abbrev S2x8192x8x1 : Shape := ⟨4, ![2, 8192, 8, 1]⟩
abbrev S8x128 : Shape := ⟨2, ![8, 128]⟩
abbrev S1x1x8x128 : Shape := ⟨4, ![1, 1, 8, 128]⟩
abbrev S2x512x16x1024 : Shape := ⟨4, ![2, 512, 16, 1024]⟩
abbrev S2x16x512x1024 : Shape := ⟨4, ![2, 16, 512, 1024]⟩

abbrev nBuf : Space → Nat
  | .hbm => 95
  | .vmem => 0
  | .smem => 0
  | _ => 0

abbrev bufTy : (tb : Table) → Fin (tcTables nBuf tb) → BufTy
  | .hbm, ⟨0, _⟩ => ⟨S2x8192x17408, .bf16⟩
  | .hbm, ⟨1, _⟩ => ⟨S2x8192x1024, .bf16⟩
  | .hbm, ⟨2, _⟩ => ⟨S1x1024, .f32⟩
  | .hbm, ⟨3, _⟩ => ⟨S2x8192x1024, .bf16⟩
  | .hbm, ⟨4, _⟩ => ⟨S2x8192x1024, .bf16⟩
  | .hbm, ⟨5, _⟩ => ⟨S2x8192x1024, .bf16⟩
  | .hbm, ⟨6, _⟩ => ⟨S_, .f32⟩
  | .hbm, ⟨7, _⟩ => ⟨S2x8x128x128, .f32⟩
  | .hbm, ⟨8, _⟩ => ⟨S2x8192x1024, .f32⟩
  | .hbm, ⟨9, _⟩ => ⟨S2x8192x8x128, .f32⟩
  | .hbm, ⟨10, _⟩ => ⟨S8192x2x8x128, .f32⟩
  | .hbm, ⟨11, _⟩ => ⟨S2x8192x1024, .f32⟩
  | .hbm, ⟨12, _⟩ => ⟨S2x8192x8x128, .f32⟩
  | .hbm, ⟨13, _⟩ => ⟨S8192x2x8x128, .f32⟩
  | .hbm, ⟨14, _⟩ => ⟨S2x8192x1024, .f32⟩
  | .hbm, ⟨15, _⟩ => ⟨S2x8192x8x128, .f32⟩
  | .hbm, ⟨16, _⟩ => ⟨S8192x2x8x128, .f32⟩
  | .hbm, ⟨17, _⟩ => ⟨S2x8192x1024, .f32⟩
  | .hbm, ⟨18, _⟩ => ⟨S2x8192x8x128, .f32⟩
  | .hbm, ⟨19, _⟩ => ⟨S8192x2x8x128, .f32⟩
  | .hbm, ⟨20, _⟩ => ⟨S_, .f32⟩
  | .hbm, ⟨21, _⟩ => ⟨S8192x2x8x128, .f32⟩
  | .hbm, ⟨22, _⟩ => ⟨S_, .i32⟩
  | .hbm, ⟨23, _⟩ => ⟨S8192x2x8x128, .f32⟩
  | .hbm, ⟨24, _⟩ => ⟨S8192x2x8x128, .f32⟩
  | .hbm, ⟨25, _⟩ => ⟨S8192x2x8x128, .f32⟩
  | .hbm, ⟨26, _⟩ => ⟨S8192x2x8x128, .f32⟩
  | .hbm, ⟨27, _⟩ => ⟨S_, .i32⟩
  | .hbm, ⟨28, _⟩ => ⟨S2x8x128x128, .f32⟩
  | .hbm, ⟨29, _⟩ => ⟨S8192x2x8x128, .f32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x2x8x128, .f32⟩
  | .hbm, ⟨36, _⟩ => ⟨S2x8x128, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x2x8x128, .f32⟩
  | .hbm, ⟨41, _⟩ => ⟨S2x8x128, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x2x8x128, .f32⟩
  | .hbm, ⟨46, _⟩ => ⟨S2x8x128, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x2x8x128, .f32⟩
  | .hbm, ⟨51, _⟩ => ⟨S2x8x128, .f32⟩
  | .hbm, ⟨52, _⟩ => ⟨S2x8x128, .f32⟩
  | .hbm, ⟨53, _⟩ => ⟨S2x8x128x1, .f32⟩
  | .hbm, ⟨54, _⟩ => ⟨S2x8x128x128, .f32⟩
  | .hbm, ⟨55, _⟩ => ⟨S2x8x128x128, .f32⟩
  | .hbm, ⟨56, _⟩ => ⟨S2x8x128x1, .f32⟩
  | .hbm, ⟨57, _⟩ => ⟨S2x8x1x128, .f32⟩
  | .hbm, ⟨58, _⟩ => ⟨S2x8x128x128, .f32⟩
  | .hbm, ⟨59, _⟩ => ⟨S2x8x128x128, .f32⟩
  | .hbm, ⟨60, _⟩ => ⟨S2x8x128x128, .f32⟩
  | .hbm, ⟨61, _⟩ => ⟨S2x8x128x128, .f32⟩
  | .hbm, ⟨62, _⟩ => ⟨S2x8x128, .f32⟩
  | .hbm, ⟨63, _⟩ => ⟨S1x2x8x128, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S8192x2x8x128, .f32⟩
  | .hbm, ⟨68, _⟩ => ⟨S_, .i32⟩
  | .hbm, ⟨69, _⟩ => ⟨S_, .i32⟩
  | .hbm, ⟨70, _⟩ => ⟨S2x8192x8x128, .f32⟩
  | .hbm, ⟨71, _⟩ => ⟨S2x8192x8x128, .f32⟩
  | .hbm, ⟨72, _⟩ => ⟨S_, .f32⟩
  | .hbm, ⟨73, _⟩ => ⟨S2x8192x8, .f32⟩
  | .hbm, ⟨74, _⟩ => ⟨S2x8192x8x1, .f32⟩
  | .hbm, ⟨75, _⟩ => ⟨S_, .f32⟩
  | .hbm, ⟨76, _⟩ => ⟨S2x8192x8x1, .f32⟩
  | .hbm, ⟨77, _⟩ => ⟨S2x8192x8x1, .f32⟩
  | .hbm, ⟨78, _⟩ => ⟨S_, .f32⟩
  | .hbm, ⟨79, _⟩ => ⟨S2x8192x8x1, .f32⟩
  | .hbm, ⟨80, _⟩ => ⟨S2x8192x8x1, .f32⟩
  | .hbm, ⟨81, _⟩ => ⟨S2x8192x8x1, .f32⟩
  | .hbm, ⟨82, _⟩ => ⟨S2x8192x8x128, .f32⟩
  | .hbm, ⟨83, _⟩ => ⟨S2x8192x8x128, .f32⟩
  | .hbm, ⟨84, _⟩ => ⟨S8x128, .f32⟩
  | .hbm, ⟨85, _⟩ => ⟨S1x1x8x128, .f32⟩
  | .hbm, ⟨86, _⟩ => ⟨S2x8192x8x128, .f32⟩
  | .hbm, ⟨87, _⟩ => ⟨S2x8192x8x128, .f32⟩
  | .hbm, ⟨88, _⟩ => ⟨S2x8192x1024, .f32⟩
  | .hbm, ⟨89, _⟩ => ⟨S2x8192x1024, .bf16⟩
  | .hbm, ⟨90, _⟩ => ⟨S2x8192x1024, .f32⟩
  | .hbm, ⟨91, _⟩ => ⟨S2x8192x1024, .f32⟩
  | .hbm, ⟨92, _⟩ => ⟨S2x8192x1024, .bf16⟩
  | .hbm, ⟨93, _⟩ => ⟨S2x512x16x1024, .bf16⟩
  | .hbm, ⟨94, _⟩ => ⟨S2x16x512x1024, .bf16⟩
  | _, _ => ⟨S2x8192x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_c : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev main_v17_3 : Ref sig .tc := ⟨.hbm, 26, rfl⟩
abbrev main_v17_4 : Ref sig .tc := ⟨.hbm, 27, rfl⟩
abbrev main_v17_5 : Ref sig .tc := ⟨.hbm, 28, rfl⟩
abbrev main_v17_6 : Ref sig .tc := ⟨.hbm, 29, rfl⟩
abbrev main_while0c_c_10 : Ref sig .tc := ⟨.hbm, 30, rfl⟩
abbrev main_while0c_v40 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_c_1 : Ref sig .tc := ⟨.hbm, 34, rfl⟩
abbrev main_while0b_call0_v0 : Ref sig .tc := ⟨.hbm, 35, rfl⟩
abbrev main_while0b_v40 : Ref sig .tc := ⟨.hbm, 36, rfl⟩
abbrev main_while0b_call1_c : Ref sig .tc := ⟨.hbm, 37, rfl⟩
abbrev main_while0b_call1_c_0 : Ref sig .tc := ⟨.hbm, 38, rfl⟩
abbrev main_while0b_call1_c_1 : Ref sig .tc := ⟨.hbm, 39, rfl⟩
abbrev main_while0b_call1_v0 : Ref sig .tc := ⟨.hbm, 40, rfl⟩
abbrev main_while0b_v41 : Ref sig .tc := ⟨.hbm, 41, rfl⟩
abbrev main_while0b_call2_c : Ref sig .tc := ⟨.hbm, 42, rfl⟩
abbrev main_while0b_call2_c_0 : Ref sig .tc := ⟨.hbm, 43, rfl⟩
abbrev main_while0b_call2_c_1 : Ref sig .tc := ⟨.hbm, 44, rfl⟩
abbrev main_while0b_call2_v0 : Ref sig .tc := ⟨.hbm, 45, rfl⟩
abbrev main_while0b_v42 : Ref sig .tc := ⟨.hbm, 46, rfl⟩
abbrev main_while0b_call3_c : Ref sig .tc := ⟨.hbm, 47, rfl⟩
abbrev main_while0b_call3_c_0 : Ref sig .tc := ⟨.hbm, 48, rfl⟩
abbrev main_while0b_call3_c_1 : Ref sig .tc := ⟨.hbm, 49, rfl⟩
abbrev main_while0b_call3_v0 : Ref sig .tc := ⟨.hbm, 50, rfl⟩
abbrev main_while0b_v43 : Ref sig .tc := ⟨.hbm, 51, rfl⟩
abbrev main_while0b_v44 : Ref sig .tc := ⟨.hbm, 52, rfl⟩
abbrev main_while0b_v45 : Ref sig .tc := ⟨.hbm, 53, rfl⟩
abbrev main_while0b_v46 : Ref sig .tc := ⟨.hbm, 54, rfl⟩
abbrev main_while0b_v47 : Ref sig .tc := ⟨.hbm, 55, rfl⟩
abbrev main_while0b_v48 : Ref sig .tc := ⟨.hbm, 56, rfl⟩
abbrev main_while0b_v49 : Ref sig .tc := ⟨.hbm, 57, rfl⟩
abbrev main_while0b_v50 : Ref sig .tc := ⟨.hbm, 58, rfl⟩
abbrev main_while0b_v51 : Ref sig .tc := ⟨.hbm, 59, rfl⟩
abbrev main_while0b_v52 : Ref sig .tc := ⟨.hbm, 60, rfl⟩
abbrev main_while0b_v53 : Ref sig .tc := ⟨.hbm, 61, rfl⟩
abbrev main_while0b_v54 : Ref sig .tc := ⟨.hbm, 62, rfl⟩
abbrev main_while0b_call4_v0 : Ref sig .tc := ⟨.hbm, 63, rfl⟩
abbrev main_while0b_call4_c : Ref sig .tc := ⟨.hbm, 64, rfl⟩
abbrev main_while0b_call4_c_0 : Ref sig .tc := ⟨.hbm, 65, rfl⟩
abbrev main_while0b_call4_c_1 : Ref sig .tc := ⟨.hbm, 66, rfl⟩
abbrev main_while0b_v55 : Ref sig .tc := ⟨.hbm, 67, rfl⟩
abbrev main_while0b_c_10 : Ref sig .tc := ⟨.hbm, 68, rfl⟩
abbrev main_while0b_v56 : Ref sig .tc := ⟨.hbm, 69, rfl⟩
abbrev main_v18 : Ref sig .tc := ⟨.hbm, 70, rfl⟩
abbrev main_v19 : Ref sig .tc := ⟨.hbm, 71, rfl⟩
abbrev main_cst_1 : Ref sig .tc := ⟨.hbm, 72, rfl⟩
abbrev main_v20 : Ref sig .tc := ⟨.hbm, 73, rfl⟩
abbrev main_v21 : Ref sig .tc := ⟨.hbm, 74, rfl⟩
abbrev main_cst_2 : Ref sig .tc := ⟨.hbm, 75, rfl⟩
abbrev main_v22 : Ref sig .tc := ⟨.hbm, 76, rfl⟩
abbrev main_v23 : Ref sig .tc := ⟨.hbm, 77, rfl⟩
abbrev main_cst_3 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩

abbrev nD : Nat := 1
abbrev τ : Topo := Topo.v7x

variable {F : FTy → Type} [FloatOps F]

abbrev main_while0_count : Scf.Loop 32 := ⟨0#32, 8192#32, 1#32⟩
-- ==== Down.lean ====
abbrev S16384x5632 : Shape := ⟨2, ![16384, 5632]⟩
abbrev S5632x2048 : Shape := ⟨2, ![5632, 2048]⟩
abbrev S16384x2048 : Shape := ⟨2, ![16384, 2048]⟩
abbrev S1x2048 : Shape := ⟨2, ![1, 2048]⟩
abbrev S512x5632 : Shape := ⟨2, ![512, 5632]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S1x2048, .f32⟩
  | .hbm, ⟨4, _⟩ => ⟨S5632x2048, .bf16⟩
  | .hbm, ⟨5, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S5632x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownReferenceIdeal.lean ====
abbrev S16384x5632 : Shape := ⟨2, ![16384, 5632]⟩
abbrev S5632x2048 : Shape := ⟨2, ![5632, 2048]⟩
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S1x2048, .f32⟩
  | .hbm, ⟨4, _⟩ => ⟨S16384x5632, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Hidden.lean ====
abbrev S16384x2048 : Shape := ⟨2, ![16384, 2048]⟩
abbrev S2048x11264 : Shape := ⟨2, ![2048, 11264]⟩
abbrev S5632x2048 : Shape := ⟨2, ![5632, 2048]⟩
abbrev S16384x5632 : Shape := ⟨2, ![16384, 5632]⟩
abbrev S1024x2048 : Shape := ⟨2, ![1024, 2048]⟩
abbrev S2048x512 : Shape := ⟨2, ![2048, 512]⟩
abbrev S32x2048 : Shape := ⟨2, ![32, 2048]⟩
abbrev S1024x512 : Shape := ⟨2, ![1024, 512]⟩

abbrev nBuf : Space → Nat
  | .hbm => 5
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S5632x2048, .f32⟩
  | .hbm, ⟨3, _⟩ => ⟨S16384x5632, .bf16⟩
  | .hbm, ⟨4, _⟩ => ⟨S5632x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S32x2048, .f32⟩
  | .local _ .vmem, ⟨7, _⟩ => ⟨S32x2048, .f32⟩
  | .local _ .vmem, ⟨8, _⟩ => ⟨S1024x512, .bf16⟩
  | .local _ .vmem, ⟨9, _⟩ => ⟨S1024x512, .bf16⟩
  | .local _ .vmem, ⟨10, _⟩ => ⟨S32x2048, .bf16⟩
  | .local _ .vmem, ⟨11, _⟩ => ⟨S32x2048, .bf16⟩
  | .local _ .vmem, ⟨12, _⟩ => ⟨S2048x512, .bf16⟩
  | .local _ .vmem, ⟨13, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 1 := Scalar.cmpi .sge arg1 c14_i32
  let v1 : BitVec 32 := Scalar.extui v0
  let v2 : BitVec 32 := Scalar.addi arg0 v1
  let c10_i32 : BitVec 32 := 10#32
  let v3 : BitVec 32 := Scalar.minsi v2 c10_i32
  let c0_i32 : BitVec 32 := 0#32
  let v4 : BitVec 32 := Scalar.addi c0_i32 v3
  let c0_i32_0 : BitVec 32 := 0#32
  let c0_i32_1 : BitVec 32 := 0#32
  ![c0_i32_0.toNat, v4.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 1 := Scalar.cmpi .sge arg1 c15_i32
  let v1 : BitVec 32 := Scalar.extui v0
  let v2 : BitVec 32 := Scalar.addi arg0 v1
  let c10_i32 : BitVec 32 := 10#32
  let v3 : BitVec 32 := Scalar.minsi v2 c10_i32
  let c11_i32 : BitVec 32 := 11#32
  let v4 : BitVec 32 := Scalar.addi c11_i32 v3
  let c0_i32 : BitVec 32 := 0#32
  let c0_i32_0 : BitVec 32 := 0#32
  ![c0_i32.toNat, v4.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c175_i32 : BitVec 32 := 175#32
  let v2 : BitVec 32 := Scalar.minsi v1 c175_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c175_i32 : BitVec 32 := 175#32
  let v2 : BitVec 32 := Scalar.minsi v1 c175_i32
  let c0_i32 : BitVec 32 := 0#32
  let c0_i32_0 : BitVec 32 := 0#32
  ![v2.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== HiddenReferenceIdeal.lean ====
abbrev S16384x2048 : Shape := ⟨2, ![16384, 2048]⟩
abbrev S2048x11264 : Shape := ⟨2, ![2048, 11264]⟩
abbrev S5632x2048 : Shape := ⟨2, ![5632, 2048]⟩
abbrev S16384x11264 : Shape := ⟨2, ![16384, 11264]⟩
abbrev S16384x5632 : Shape := ⟨2, ![16384, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S5632x2048, .f32⟩
  | .hbm, ⟨3, _⟩ => ⟨S16384x2048, .f32⟩
  | .hbm, ⟨4, _⟩ => ⟨S16384x11264, .f32⟩
  | .hbm, ⟨5, _⟩ => ⟨S16384x5632, .f32⟩
  | .hbm, ⟨6, _⟩ => ⟨S16384x5632, .f32⟩
  | .hbm, ⟨7, _⟩ => ⟨S16384x5632, .f32⟩
  | .hbm, ⟨8, _⟩ => ⟨S16384x5632, .f32⟩
  | .hbm, ⟨9, _⟩ => ⟨S_, .f32⟩
  | .hbm, ⟨10, _⟩ => ⟨S16384x5632, .f32⟩
  | .hbm, ⟨11, _⟩ => ⟨S16384x5632, .f32⟩
  | .hbm, ⟨12, _⟩ => ⟨S_, .f32⟩
  | .hbm, ⟨13, _⟩ => ⟨S16384x5632, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .bf16⟩
  | .hbm, ⟨18, _⟩ => ⟨S5632x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Project.lean ====
abbrev S16384x2048 : Shape := ⟨2, ![16384, 2048]⟩
abbrev S1x2048 : Shape := ⟨2, ![1, 2048]⟩
abbrev S2048x17408 : Shape := ⟨2, ![2048, 17408]⟩
abbrev S8192x64 : Shape := ⟨2, ![8192, 64]⟩
abbrev S2x1024 : Shape := ⟨2, ![2, 1024]⟩
abbrev S8192x256 : Shape := ⟨2, ![8192, 256]⟩
abbrev S512x16x256 : Shape := ⟨3, ![512, 16, 256]⟩
abbrev S16x512x256 : Shape := ⟨3, ![16, 512, 256]⟩
abbrev S2x16x512x17408 : Shape := ⟨4, ![2, 16, 512, 17408]⟩
abbrev S2x16x512x1024 : Shape := ⟨4, ![2, 16, 512, 1024]⟩
abbrev S512x2048 : Shape := ⟨2, ![512, 2048]⟩
abbrev S2048x1024 : Shape := ⟨2, ![2048, 1024]⟩
abbrev S16x64x256 : Shape := ⟨3, ![16, 64, 256]⟩
abbrev S1x16x64x1024 : Shape := ⟨4, ![1, 16, 64, 1024]⟩
abbrev S1024x2048 : Shape := ⟨2, ![1024, 2048]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩
abbrev S16x2048 : Shape := ⟨2, ![16, 2048]⟩
abbrev S1024x1024 : Shape := ⟨2, ![1024, 1024]⟩
abbrev S1024x256 : Shape := ⟨2, ![1024, 256]⟩
abbrev S1024x128 : Shape := ⟨2, ![1024, 128]⟩
abbrev S16x64x1024 : Shape := ⟨3, ![16, 64, 1024]⟩
abbrev S1x1024 : Shape := ⟨2, ![1, 1024]⟩

abbrev nBuf : Space → Nat
  | .hbm => 12
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x17408, .f32⟩
  | .hbm, ⟨3, _⟩ => ⟨S8192x64, .f32⟩
  | .hbm, ⟨4, _⟩ => ⟨S8192x64, .f32⟩
  | .hbm, ⟨5, _⟩ => ⟨S2x1024, .f32⟩
  | .hbm, ⟨6, _⟩ => ⟨S8192x64, .f32⟩
  | .hbm, ⟨7, _⟩ => ⟨S8192x256, .f32⟩
  | .hbm, ⟨8, _⟩ => ⟨S512x16x256, .f32⟩
  | .hbm, ⟨9, _⟩ => ⟨S16x512x256, .f32⟩
  | .hbm, ⟨10, _⟩ => ⟨S2x16x512x17408, .bf16⟩
  | .hbm, ⟨11, _⟩ => ⟨S2x16x512x1024, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x1024, .f32⟩
  | .local _ .vmem, ⟨6, _⟩ => ⟨S2048x1024, .f32⟩
  | .local _ .vmem, ⟨7, _⟩ => ⟨S16x64x256, .f32⟩
  | .local _ .vmem, ⟨8, _⟩ => ⟨S16x64x256, .f32⟩
  | .local _ .vmem, ⟨9, _⟩ => ⟨S2x1024, .f32⟩
  | .local _ .vmem, ⟨10, _⟩ => ⟨S1x16x64x1024, .bf16⟩
  | .local _ .vmem, ⟨11, _⟩ => ⟨S1x16x64x1024, .bf16⟩
  | .local _ .vmem, ⟨12, _⟩ => ⟨S1x16x64x1024, .bf16⟩
  | .local _ .vmem, ⟨13, _⟩ => ⟨S1x16x64x1024, .bf16⟩
  | .local _ .vmem, ⟨14, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 17], ![false, false]⟩

def k0_cond2 (i : grid0.Coords) : BitVec 1 :=
  let arg1 : BitVec 32 := BitVec.ofNat 32 (i 1).val
  let c6_i32 : BitVec 32 := 6#32
  let v3 : BitVec 1 := Scalar.cmpi .slt arg1 c6_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c9_i32 : BitVec 32 := 9#32
  let v6 : BitVec 1 := Scalar.cmpi .eq arg1 c9_i32
  let c12_i32 : BitVec 32 := 12#32
  let v7 : BitVec 1 := Scalar.cmpi .eq arg1 c12_i32
  let v8 : BitVec 1 := Scalar.ori v6 v7
  let v9 : BitVec 32 := Scalar.extui v8
  let c0_i32_2 : BitVec 32 := 0#32
  let v10 : BitVec 1 := Scalar.cmpi .ne v9 c0_i32_2
  v10

def k0_cond4 (i : grid0.Coords) : BitVec 1 :=
  let arg1 : BitVec 32 := BitVec.ofNat 32 (i 1).val
  let c6_i32_3 : BitVec 32 := 6#32
  let v11 : BitVec 1 := Scalar.cmpi .sge arg1 c6_i32_3
  let c10_i32 : BitVec 32 := 10#32
  let v12 : BitVec 1 := Scalar.cmpi .ne arg1 c10_i32
  let v13 : BitVec 1 := Scalar.andi v11 v12
  let c9_i32 : BitVec 32 := 9#32
  let v6 : BitVec 1 := Scalar.cmpi .eq arg1 c9_i32
  let c12_i32 : BitVec 32 := 12#32
  let v7 : BitVec 1 := Scalar.cmpi .eq arg1 c12_i32
  let v8 : BitVec 1 := Scalar.ori v6 v7
  let v_true : BitVec 1 := 1#1
  let v14 : BitVec 1 := Scalar.xori v8 v_true
  let v15 : BitVec 1 := Scalar.andi v13 v14
  let v16 : BitVec 32 := Scalar.extui v15
  let c0_i32_4 : BitVec 32 := 0#32
  let v17 : BitVec 1 := Scalar.cmpi .ne v16 c0_i32_4
  v17

def k0_cond5 (i : grid0.Coords) : BitVec 1 :=
  let arg1 : BitVec 32 := BitVec.ofNat 32 (i 1).val
  let c10_i32_5 : BitVec 32 := 10#32
  let v18 : BitVec 1 := Scalar.cmpi .eq arg1 c10_i32_5
  let v19 : BitVec 32 := Scalar.extui v18
  let c0_i32_6 : BitVec 32 := 0#32
  let v20 : BitVec 1 := Scalar.cmpi .ne v19 c0_i32_6
  v20

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 1 := Scalar.cmpi .sge arg1 c15_i32
  let v1 : BitVec 32 := Scalar.extui v0
  let v2 : BitVec 32 := Scalar.addi arg0 v1
  let c15_i32_0 : BitVec 32 := 15#32
  let v3 : BitVec 32 := Scalar.minsi v2 c15_i32_0
  let c2_i32 : BitVec 32 := 2#32
  let v4 : BitVec 32 := Scalar.muli c2_i32 v3
  let c0_i32 : BitVec 32 := 0#32
  let v5 : BitVec 32 := Scalar.addi v4 c0_i32
  let c0_i32_1 : BitVec 32 := 0#32
  let c0_i32_2 : BitVec 32 := 0#32
  ![v5.toNat, c0_i32_1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg1 c16_i32
  let v1 : BitVec 32 := Scalar.extui v0
  let v2 : BitVec 32 := Scalar.addi arg0 v1
  let c15_i32 : BitVec 32 := 15#32
  let v3 : BitVec 32 := Scalar.minsi v2 c15_i32
  let c2_i32 : BitVec 32 := 2#32
  let v4 : BitVec 32 := Scalar.muli c2_i32 v3
  let c1_i32 : BitVec 32 := 1#32
  let v5 : BitVec 32 := Scalar.addi v4 c1_i32
  let c0_i32 : BitVec 32 := 0#32
  let c0_i32_0 : BitVec 32 := 0#32
  ![v5.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

def cc0_transform_7 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S16x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ProjectReferenceIdeal.lean ====
abbrev S16384x2048 : Shape := ⟨2, ![16384, 2048]⟩
abbrev S1x2048 : Shape := ⟨2, ![1, 2048]⟩
abbrev S2048x17408 : Shape := ⟨2, ![2048, 17408]⟩
abbrev S8192x64 : Shape := ⟨2, ![8192, 64]⟩
abbrev S2x1024 : Shape := ⟨2, ![2, 1024]⟩
abbrev S_ : Shape := ⟨0, ![]⟩
abbrev S16384 : Shape := ⟨1, ![16384]⟩
abbrev S16384x1 : Shape := ⟨2, ![16384, 1]⟩
abbrev S16384x17408 : Shape := ⟨2, ![16384, 17408]⟩
abbrev S1x8192x1x64 : Shape := ⟨4, ![1, 8192, 1, 64]⟩
abbrev S16384x6144 : Shape := ⟨2, ![16384, 6144]⟩
abbrev S2x8192x48x128 : Shape := ⟨4, ![2, 8192, 48, 128]⟩
abbrev S2x8192x48x64 : Shape := ⟨4, ![2, 8192, 48, 64]⟩
abbrev S1024 : Shape := ⟨1, ![1024]⟩
abbrev S1x1024 : Shape := ⟨2, ![1, 1024]⟩
abbrev S16384x1024 : Shape := ⟨2, ![16384, 1024]⟩
abbrev S16384x3072 : Shape := ⟨2, ![16384, 3072]⟩
abbrev S16384x4096 : Shape := ⟨2, ![16384, 4096]⟩
abbrev S2x512x16x17408 : Shape := ⟨4, ![2, 512, 16, 17408]⟩
abbrev S2x16x512x17408 : Shape := ⟨4, ![2, 16, 512, 17408]⟩

abbrev nBuf : Space → Nat
  | .hbm => 104
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x17408, .f32⟩
  | .hbm, ⟨3, _⟩ => ⟨S8192x64, .f32⟩
  | .hbm, ⟨4, _⟩ => ⟨S8192x64, .f32⟩
  | .hbm, ⟨5, _⟩ => ⟨S2x1024, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x17408, .f32⟩
  | .hbm, ⟨22, _⟩ => ⟨S1x8192x1x64, .f32⟩
  | .hbm, ⟨23, _⟩ => ⟨S1x8192x1x64, .f32⟩
  | .hbm, ⟨24, _⟩ => ⟨S16384x6144, .f32⟩
  | .hbm, ⟨25, _⟩ => ⟨S2x8192x48x128, .f32⟩
  | .hbm, ⟨26, _⟩ => ⟨S2x8192x48x64, .f32⟩
  | .hbm, ⟨27, _⟩ => ⟨S2x8192x48x64, .f32⟩
  | .hbm, ⟨28, _⟩ => ⟨S2x8192x48x64, .f32⟩
  | .hbm, ⟨29, _⟩ => ⟨S2x8192x48x64, .f32⟩
  | .hbm, ⟨30, _⟩ => ⟨S2x8192x48x64, .f32⟩
  | .hbm, ⟨31, _⟩ => ⟨S2x8192x48x64, .f32⟩
  | .hbm, ⟨32, _⟩ => ⟨S2x8192x48x64, .f32⟩
  | .hbm, ⟨33, _⟩ => ⟨S2x8192x48x64, .f32⟩
  | .hbm, ⟨34, _⟩ => ⟨S2x8192x48x64, .f32⟩
  | .hbm, ⟨35, _⟩ => ⟨S2x8192x48x64, .f32⟩
  | .hbm, ⟨36, _⟩ => ⟨S2x8192x48x64, .f32⟩
  | .hbm, ⟨37, _⟩ => ⟨S2x8192x48x64, .f32⟩
  | .hbm, ⟨38, _⟩ => ⟨S2x8192x48x128, .f32⟩
  | .hbm, ⟨39, _⟩ => ⟨S16384x6144, .f32⟩
  | .hbm, ⟨40, _⟩ => ⟨S_, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S2x1024, .f32⟩
  | .hbm, ⟨47, _⟩ => ⟨S2x1024, .f32⟩
  | .hbm, ⟨48, _⟩ => ⟨S2x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2x1024, .f32⟩
  | .hbm, ⟨53, _⟩ => ⟨S2x1024, .f32⟩
  | .hbm, ⟨54, _⟩ => ⟨S1x1024, .f32⟩
  | .hbm, ⟨55, _⟩ => ⟨S_, .f32⟩
  | .hbm, ⟨56, _⟩ => ⟨S1x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x3072, .f32⟩
  | .hbm, ⟨72, _⟩ => ⟨S_, .f32⟩
  | .hbm, ⟨73, _⟩ => ⟨S16384x3072, .f32⟩
  | .hbm, ⟨74, _⟩ => ⟨S16384x3072, .f32⟩
  | .hbm, ⟨75, _⟩ => ⟨S16384x3072, .f32⟩
  | .hbm, ⟨76, _⟩ => ⟨S16384x3072, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S_, .f32⟩
  | .hbm, ⟨93, _⟩ => ⟨S16384x1024, .f32⟩
  | .hbm, ⟨94, _⟩ => ⟨S16384x1024, .f32⟩
  | .hbm, ⟨95, _⟩ => ⟨S_, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x4096, .f32⟩
  | .hbm, ⟨100, _⟩ => ⟨S16384x17408, .f32⟩
  | .hbm, ⟨101, _⟩ => ⟨S16384x17408, .bf16⟩
  | .hbm, ⟨102, _⟩ => ⟨S2x512x16x17408, .bf16⟩
  | .hbm, ⟨103, _⟩ => ⟨S2x16x512x17408, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]
-- ==== Proof.Finite.lean ====
module

public import proofs.«01_k».proof.Defs
public import proofs.«01_k».proof.Proof.Gen.Pre_finite
public import Idealize.ShloMosaic.Lib.KernelVsHost
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
namespace Cert.Hgrn

/-! The precondition, read: the queries, gates, values and kept gates are real numbers. -/

/-- A value whose magnitude is below infinity is a real number. -/
theorem real_of_olt (x : Ideal .f32)
    (h : FloatOps.cmpf .olt (FloatOps.hostAbsf x) (FloatOps.ofBits (F := Ideal) .f32 0x7F800000#32) = 1#1) :
    (x : EReal) = ((EReal.toReal x : ℝ) : EReal) := by
  rw [← Ideal.xori_weird_eq_hostAbsf_olt_inf] at h
  by_cases hx : (x : EReal) = ⊤ ∨ (x : EReal) = ⊥
  · exfalso
    change IntOp.xori (BitVec.ofBool (decide ((x : EReal) = ⊤ ∨ (x : EReal) = ⊥))) 1#1 = 1#1 at h
    rw [decide_eq_true hx] at h
    exact absurd h (by decide)
  · push Not at hx
    exact (EReal.coe_toReal hx.1 hx.2).symm

/-- The real numbers of the 1024 columns from `o` of an array over all tokens. -/
def reals (w : ℕ) (o : ℕ) (ho : o + 1024 ≤ w) (x : (⟨3, ![2, 8192, w]⟩ : Shape).Idx → EReal)
    (b : Fin 2) (t : ℕ) (d : Fin 1024) : ℝ :=
  if h : t < 8192 then (x (ix3 b ⟨t, h⟩ ⟨o + d.val, by omega⟩)).toReal else 0

theorem reals_at (w o : ℕ) (ho : o + 1024 ≤ w) (x : (⟨3, ![2, 8192, w]⟩ : Shape).Idx → EReal)
    (hx : ∀ b (t : Fin 8192) (d : Fin 1024), x (ix3 b t ⟨o + d.val, by omega⟩)
      = ((x (ix3 b t ⟨o + d.val, by omega⟩)).toReal : EReal)) (b : Fin 2) (t : Fin 8192) (d : Fin 1024) :
    x (ix3 b t ⟨o + d.val, by omega⟩) = ((reals w o ho x b t.val d : ℝ) : EReal) := by
  unfold reals
  rw [dif_pos t.isLt]
  exact hx b t d

open Cert.Pre_finite in
theorem finite_proj (a0 : FVec Ideal S2x8192x17408 .bf16) (a1 : FVec Ideal S2x8192x1024 .bf16) (a2 : FVec Ideal S1x1024 .f32)
    (h : (Pre_finite.fn (F := Ideal) a0 a1 a2).1 = fun _ => 1#1) (b : Fin 2) (t : Fin 8192) (d : Fin 3072) :
    a0 (ix3 b t ⟨9216 + d.val, by omega⟩) = ((EReal.toReal (a0 (ix3 b t ⟨9216 + d.val, by omega⟩)) : ℝ) : EReal) := by
  have h' := congrFun h (ix3 b t d)
  unfold Pre_finite.fn at h'
  pointwise at h'
  exact real_of_olt _ h'

open Cert.Pre_finite in
theorem finite_keep (a0 : FVec Ideal S2x8192x17408 .bf16) (a1 : FVec Ideal S2x8192x1024 .bf16) (a2 : FVec Ideal S1x1024 .f32)
    (h : (Pre_finite.fn (F := Ideal) a0 a1 a2).2 = fun _ => 1#1) (b : Fin 2) (t : Fin 8192) (d : Fin 1024) :
    a1 (ix3 b t d) = ((EReal.toReal (a1 (ix3 b t d)) : ℝ) : EReal) := by
  have h' := congrFun h (ix3 b t d)
  unfold Pre_finite.fn at h'
  pointwise at h'
  exact real_of_olt _ h'

end Cert.Hgrn
-- ==== Proof.Recur.lean ====
/- The gated recurrence over real numbers, token by token, and what a chunk of 128 tokens in the kernel's
   row order makes of it. -/
module

public import Mathlib.Analysis.SpecialFunctions.Exp
public import Mathlib.Algebra.BigOperators.Fin

@[expose] public section

namespace Cert.Hgrn

open Finset

/-- The place in its chunk of the token in row `i`: row `r * 8 + u` holds token `u * 16 + r`. -/
def pos (i : Fin 128) : ℕ := i.val % 8 * 16 + i.val / 8

/-- The rows are the tokens of the chunk, each once. -/
def posEquiv : Fin 128 ≃ Fin 128 where
  toFun i := ⟨i.val % 8 * 16 + i.val / 8, by omega⟩
  invFun p := ⟨p.val % 16 * 8 + p.val / 16, by omega⟩
  left_inv i := by ext; show _ = i.val; simp only []; omega
  right_inv p := by ext; show _ = p.val; simp only []; omega

theorem pos_lt (i : Fin 128) : pos i < 128 := (posEquiv i).isLt

theorem pos_inj {i j : Fin 128} : pos i = pos j ↔ i = j :=
  ⟨fun h => posEquiv.injective (Fin.ext h), fun h => h ▸ rfl⟩

/-- A sum over the rows not after row `i` is the sum over the tokens up to its token. -/
theorem sum_rows (F : ℕ → ℝ) (i : Fin 128) :
    ∑ j : Fin 128, (if pos j ≤ pos i then F (pos j) else 0) = ∑ s ∈ range (pos i + 1), F s := by
  have h1 : ∑ j : Fin 128, (if pos j ≤ pos i then F (pos j) else 0)
      = ∑ s : Fin 128, (if s.val ≤ pos i then F s.val else 0) :=
    Equiv.sum_comp posEquiv fun s : Fin 128 => if s.val ≤ pos i then F s.val else 0
  rw [h1, Fin.sum_univ_eq_sum_range (fun s => if s ≤ pos i then F s else 0) 128, ← sum_filter]
  refine sum_congr ?_ fun _ _ => rfl
  ext s
  have := pos_lt i
  simp only [mem_filter, mem_range]
  omega

/-- A sum over all rows is the sum over the tokens of the chunk. -/
theorem sum_all_rows (F : ℕ → ℝ) : ∑ j : Fin 128, F (pos j) = ∑ s ∈ range 128, F s := by
  have h1 : ∑ j : Fin 128, F (pos j) = ∑ s : Fin 128, F s.val :=
    Equiv.sum_comp posEquiv fun s : Fin 128 => F s.val
  rw [h1, Fin.sum_univ_eq_sum_range (fun s => F s) 128]

/-- The state before token `n`: decayed by the gate and increased by the outer product of key and value at each
    token before it. -/
noncomputable def St (g k v : ℕ → Fin 128 → ℝ) : ℕ → Fin 128 → Fin 128 → ℝ
  | 0, _, _ => 0
  | n + 1, d, e => Real.exp (g n d) * St g k v n d e + k n d * v n e

variable (q g k v : ℕ → Fin 128 → ℝ)

/-- The state `p` tokens on, in closed form: the state decayed by all `p` gates, and each token's outer product
    decayed by the gates after it. -/
theorem St_add (n p : ℕ) (d e : Fin 128) :
    St g k v (n + p) d e = Real.exp (∑ i ∈ range p, g (n + i) d) * St g k v n d e
      + ∑ j ∈ range p, Real.exp (∑ i ∈ range p, g (n + i) d - ∑ i ∈ range (j + 1), g (n + i) d) * (k (n + j) d * v (n + j) e) := by
  induction p with
  | zero => simp
  | succ p ih =>
    have hj : ∀ j, Real.exp (∑ i ∈ range (p + 1), g (n + i) d - ∑ i ∈ range (j + 1), g (n + i) d)
        = Real.exp (g (n + p) d) * Real.exp (∑ i ∈ range p, g (n + i) d - ∑ i ∈ range (j + 1), g (n + i) d) := by
      intro j
      rw [← Real.exp_add, sum_range_succ _ p]
      exact congrArg Real.exp (by ring)
    rw [← add_assoc, St, ih, sum_range_succ (fun j => Real.exp _ * _) p, sub_self, Real.exp_zero, one_mul,
      sum_congr rfl fun j _ => congrArg (· * _) (hj j), sum_range_succ (fun i => g (n + i) d) p, Real.exp_add, mul_add,
      mul_sum]
    simp only [← mul_assoc]
    ring

/-- The gates summed up to the token of row `i`, the chunk starting at token `n`. -/
noncomputable def cum (n : ℕ) (i d : Fin 128) : ℝ := ∑ j : Fin 128, if pos j ≤ pos i then g (n + pos j) d else 0

theorem cum_eq (n : ℕ) (i d : Fin 128) : cum g n i d = ∑ s ∈ range (pos i + 1), g (n + s) d :=
  sum_rows (fun s => g (n + s) d) i

/-- The state after the chunk. -/
theorem chunk_state (n : ℕ) (d e : Fin 128) :
    St g k v (n + 128) d e = St g k v n d e * Real.exp (cum g n 127 d)
      + ∑ j : Fin 128, v (n + pos j) e * (k (n + pos j) d * Real.exp (cum g n 127 d - cum g n j d)) := by
  rw [St_add, mul_comm]
  have h127 : cum g n 127 d = ∑ s ∈ range 128, g (n + s) d := cum_eq g n 127 d
  rw [h127]
  refine congrArg₂ (· + ·) rfl ?_
  simp only [cum_eq]
  rw [sum_all_rows (fun s => v (n + s) e * (k (n + s) d
    * Real.exp (∑ i ∈ range 128, g (n + i) d - ∑ i ∈ range (s + 1), g (n + i) d)))]
  exact sum_congr rfl fun j _ => by ring

/-- What the chunk reads out at the token of row `i`: the state before the chunk, and the tokens of the chunk up to
    its own, weighted by query and key. -/
theorem chunk_out (n : ℕ) (i e : Fin 128) :
    ∑ d, q (n + pos i) d * Real.exp (cum g n i d) * St g k v n d e
      + ∑ j : Fin 128, (if pos j ≤ pos i then ∑ d, q (n + pos i) d * k (n + pos j) d * Real.exp (cum g n i d - cum g n j d) else 0)
          * v (n + pos j) e
      = ∑ d, q (n + pos i) d * St g k v (n + pos i + 1) d e := by
  let W : ℕ → ℝ := fun s => ∑ d, q (n + pos i) d * (Real.exp (∑ t ∈ range (pos i + 1), g (n + t) d
          - ∑ t ∈ range (s + 1), g (n + t) d) * (k (n + s) d * v (n + s) e))
  have hr : ∀ j : Fin 128, (if pos j ≤ pos i then ∑ d, q (n + pos i) d * k (n + pos j) d * Real.exp (cum g n i d - cum g n j d) else 0)
      * v (n + pos j) e = if pos j ≤ pos i then W (pos j) else 0 := by
    intro j
    simp only [W]
    split
    · simp only [cum_eq]
      rw [sum_mul]
      exact sum_congr rfl fun d _ => by ring
    · rw [zero_mul]
  rw [sum_congr rfl fun j _ => hr j, sum_rows W i]
  simp only [W]
  rw [sum_comm, ← sum_add_distrib]
  refine sum_congr rfl fun d _ => ?_
  rw [add_assoc n, St_add, mul_add, mul_sum, cum_eq]
  ring

end Cert.Hgrn
-- ==== Proof.Weights.lean ====
module

public import proofs.«01_k».proof.Proof.Gen.KernelIdeal.Skeleton
public import proofs.«01_k».proof.Proof.Recur
public import Idealize.ShloMosaic.Lib.Pointwise

@[expose] public section
set_option maxRecDepth 16384
noncomputable section
open Idealize.ShloMosaic Idealize.ShloMosaic.TcCoe Idealize.SL.Sem
open Cert.KernelIdeal Cert.KernelIdeal.Gen
namespace Cert.Hgrn

/-! The pairwise decay weights of one chunk.

The 128 tokens of a chunk lie in the rows `r * 8 + u`, the token at position `u * 16 + r`.
For a pair of tokens the kernel takes the top bit of the exclusive or of their positions as the
level of the pair, and writes the decay between them as a product of two factors that meet at the
reference row of that level. -/

/-- The row of the token with digits `r` and `u`. -/
def row (r : Fin 16) (u : Fin 8) : Fin 128 := ⟨r.val * 8 + u.val, by omega⟩

theorem row_div (r : Fin 16) (u : Fin 8) : (row r u).val / 8 = r.val := by
  simp only [row]; omega
theorem row_mod (r : Fin 16) (u : Fin 8) : (row r u).val % 8 = u.val := by
  simp only [row]; omega

theorem exists_row (i : Fin 128) : ∃ r u, i = row r u :=
  ⟨⟨i.val / 8, by omega⟩, ⟨i.val % 8, by omega⟩, Fin.ext (by simp only [row]; omega)⟩

/-- The level of a pair of rows, as the kernel computes it on words. -/
def levelB (i j : ℕ) : BitVec 32 :=
  let ti := IntOp.ori (IntOp.shli ArithUnit.vector (IntOp.andi (BitVec.ofNat 32 i) 7#32) 4#32)
    (IntOp.shrui ArithUnit.vector (BitVec.ofNat 32 i) 3#32)
  let tj := IntOp.ori (IntOp.shli ArithUnit.vector (IntOp.andi (BitVec.ofNat 32 j) 7#32) 4#32)
    (IntOp.shrui ArithUnit.vector (BitVec.ofNat 32 j) 3#32)
  Scalar.select (IntOp.cmpi CmpIPredicate.sgt ti tj)
    (IntOp.subi (31#32) (IntOp.ctlz (IntOp.xori ti tj)))
    (Scalar.select (IntOp.cmpi CmpIPredicate.eq ti tj) 7#32 8#32)

/-- The level as an integer. -/
def level (i j : Fin 128) : ℤ := (levelB i.val j.val).toInt

theorem lvl_at (i j : Fin 128) :
    k0_pay584 (F := Ideal) (ix2 i j) = (((level i j : ℤ) : ℝ) : EReal) := by
  pointwise [k0_pay584]
  rfl

/-- The block reference of a digit at a level: the last place of the lower half of its block. -/
def refD (l n : ℕ) : ℕ := n / 2 ^ (l + 1) * 2 ^ (l + 1) + 2 ^ l - 1

/-- The exponent of a row at one of the levels 0 to 3, decided on the digit `r`. -/
def expLo (l : ℕ) (B : Fin 128 → Fin 128 → ℝ) (r : Fin 16) (u : Fin 8) (x : Fin 128) : ℝ :=
  if r.val.testBit l
  then B (row r u) x - B (row ⟨refD l r.val % 16, by omega⟩ u) x
  else B (row ⟨refD l r.val % 16, by omega⟩ u) x - B (row r u) x

/-- The exponent of a row at one of the levels 4 to 6, decided on the digit `u`. -/
def expHi (l : ℕ) (B : Fin 128 → Fin 128 → ℝ) (r : Fin 16) (u : Fin 8) (x : Fin 128) : ℝ :=
  if u.val.testBit l
  then B (row r u) x - B (row 15 ⟨refD l u.val % 8, by omega⟩) x
  else B (row 15 ⟨refD l u.val % 8, by omega⟩) x - B (row r u) x

set_option maxHeartbeats 4000000 in
theorem level_table : ∀ i j : Fin 128,
    (level i j = 7 ∧ i = j) ∨ (level i j = 8 ∧ pos i < pos j) ∨
    (pos j ≤ pos i ∧ ((∃ l : Fin 4, level i j = l.val ∧ (i.val / 8).testBit l = true ∧
        (j.val / 8).testBit l = false ∧
        refD l (i.val / 8) % 16 = refD l (j.val / 8) % 16 ∧ i.val % 8 = j.val % 8) ∨
      (∃ l : Fin 3, level i j = l.val + 4 ∧ (i.val % 8).testBit l = true ∧
        (j.val % 8).testBit l = false ∧ refD l (i.val % 8) % 8 = refD l (j.val % 8) % 8))) := by
  decide +kernel

theorem neg_one_f32 : Ideal.ofBits .f32 0xBF800000#32 = ((-(1 : ℝ) : ℝ) : EReal) := by
  simp [Ideal.ofBits, Ideal.ieee, -EReal.coe_mul, -EReal.coe_neg]; norm_num
theorem c7 : Ideal.ofBits .bf16 0x40E0#16 = ((7 : ℝ) : EReal) := by
  simp [Ideal.ofBits, Ideal.ieee, -EReal.coe_mul]; norm_num
theorem c6 : Ideal.ofBits .bf16 0x40C0#16 = ((6 : ℝ) : EReal) := by
  simp [Ideal.ofBits, Ideal.ieee, -EReal.coe_mul]; norm_num
theorem c5 : Ideal.ofBits .bf16 0x40A0#16 = ((5 : ℝ) : EReal) := by
  simp [Ideal.ofBits, Ideal.ieee, -EReal.coe_mul]; norm_num
theorem c4 : Ideal.ofBits .bf16 0x4080#16 = ((4 : ℝ) : EReal) := by
  simp [Ideal.ofBits, Ideal.ieee, -EReal.coe_mul]; norm_num
theorem c3 : Ideal.ofBits .bf16 0x4040#16 = ((3 : ℝ) : EReal) := by
  simp [Ideal.ofBits, Ideal.ieee, -EReal.coe_mul]; norm_num
theorem c2 : Ideal.ofBits .bf16 0x4000#16 = ((2 : ℝ) : EReal) := by
  simp [Ideal.ofBits, Ideal.ieee, -EReal.coe_mul]; norm_num

theorem coe_sum {ι : Type*} (s : Finset ι) (f : ι → ℝ) :
    ((∑ x ∈ s, f x : ℝ) : EReal) = ∑ x ∈ s, (f x : EReal) := by
  classical
  induction s using Finset.induction_on with
  | empty => simp
  | insert a s h ih => rw [Finset.sum_insert h, Finset.sum_insert h, EReal.coe_add, ih]

/-- The part of a weight that one level contributes. -/
def pairSum (q k e f : Fin 128 → EReal) : EReal :=
  ∑ x, q x * FloatOps.exp2 (F := Ideal) (φ := .f32) (e x) *
    (k x * FloatOps.exp2 (F := Ideal) (φ := .f32) (f x))

theorem pairSum_coe (q k e f : Fin 128 → ℝ) :
    pairSum (fun x => q x) (fun x => k x) (fun x => e x) (fun x => f x)
      = ((∑ x, q x * k x * Real.rpow 2 (e x + f x) : ℝ) : EReal) := by
  rw [pairSum, coe_sum]
  refine Finset.sum_congr rfl fun x _ => ?_
  show ((q x : ℝ) : EReal) * Ideal.exp2 _ * (_ * Ideal.exp2 _) = _
  rw [Ideal.exp2_coe, Ideal.exp2_coe, ← EReal.coe_mul, ← EReal.coe_mul, ← EReal.coe_mul]
  congr 1
  show q x * (2:ℝ) ^ e x * (k x * (2:ℝ) ^ f x) = q x * k x * (2:ℝ) ^ (e x + f x)
  rw [Real.rpow_add (by norm_num)]; ring

end Cert.Hgrn
-- ==== Proof.Levels.lean ====
module

public import proofs.«01_k».proof.Proof.Weights

@[expose] public section
set_option maxRecDepth 16384
noncomputable section
open Idealize.ShloMosaic Idealize.ShloMosaic.TcCoe Idealize.SL.Sem
open Cert.KernelIdeal Cert.KernelIdeal.Gen
namespace Cert.Hgrn

/-! The exponents of the seven levels, and the weights they compose. -/

/-- A block of eight rows, through the two shapes the kernel gives it. -/
def rowBlock (v : FVec Ideal S1x8x128 .f32) : FVec Ideal S1x8x128 .f32 :=
  shapeCast S1x8x128 (shapeCast S1x8x128 (shapeCast S8x128 v shapeCasts_S1x8x128_S8x128)
    shapeCasts_S8x128_S1x8x128) shapeCasts_S1x8x128_S1x8x128

/-- Eight rows repeated over the sixteen blocks. -/
def overBlocks (v : FVec Ideal S8x128 .f32) : FVec Ideal S16x8x128 .f32 :=
  broadcastTo S16x8x128 (shapeCast S1x8x128 (shapeCast S1x8x128 v shapeCasts_S8x128_S1x8x128)
    shapeCasts_S1x8x128_S1x8x128) broadcasts_S1x8x128_S16x8x128

/-- The last block of rows. -/
def lastBlock (b3 : FVec Ideal S16x8x128 .f32) : FVec Ideal S8x128 .f32 :=
  shapeCast S8x128 (extractStridedSlice S1x8x128 ![15, 0, 0] b3
    slices_S16x8x128_o15_0_0_S1x8x128) shapeCasts_S1x8x128_S8x128

/-- One row repeated eight times. -/
def oneRow (v : FVec Ideal S1x128 .f32) : FVec Ideal S8x128 .f32 :=
  broadcastTo S8x128 (shapeCast S1x128 (shapeCast S1x128 (shapeCast S128 v
    shapeCasts_S1x128_S128) shapeCasts_S128_S1x128) shapeCasts_S1x128_S1x128)
    broadcasts_S1x128_S8x128

/-- The row number of each of eight rows. -/
def rowNo : IVec S8x128 32 := iota .tc S8x128 32 [0] iota_S8x128_d0_w32

/-- Plus one on the rows whose number has the bit `m`, minus one on the others. -/
def signs (m : BitVec 32) : FVec Ideal S16x8x128 .f32 :=
  broadcastTo S16x8x128 (shapeCast S1x8x128
    (select (cmpi .ne (andi rowNo (broadcast S8x128 m)) (broadcast S8x128 0#32))
      (broadcast S8x128 (Scalar.ofBits (F := Ideal) .f32 0x3F800000#32))
      (broadcast S8x128 (Scalar.ofBits (F := Ideal) .f32 0xBF800000#32)))
    shapeCasts_S8x128_S1x8x128) broadcasts_S1x8x128_S16x8x128

def row0 (v : FVec Ideal S8x128 .f32) := oneRow (extractStridedSlice S1x128 ![0, 0] v slices_S8x128_o0_0_S1x128)
def row1 (v : FVec Ideal S8x128 .f32) := oneRow (extractStridedSlice S1x128 ![1, 0] v slices_S8x128_o1_0_S1x128)
def row2 (v : FVec Ideal S8x128 .f32) := oneRow (extractStridedSlice S1x128 ![2, 0] v slices_S8x128_o2_0_S1x128)
def row3 (v : FVec Ideal S8x128 .f32) := oneRow (extractStridedSlice S1x128 ![3, 0] v slices_S8x128_o3_0_S1x128)
def row4 (v : FVec Ideal S8x128 .f32) := oneRow (extractStridedSlice S1x128 ![4, 0] v slices_S8x128_o4_0_S1x128)
def row5 (v : FVec Ideal S8x128 .f32) := oneRow (extractStridedSlice S1x128 ![5, 0] v slices_S8x128_o5_0_S1x128)
def row6 (v : FVec Ideal S8x128 .f32) := oneRow (extractStridedSlice S1x128 ![6, 0] v slices_S8x128_o6_0_S1x128)

/-- The first choice on the rows below `n`, the second on the others. -/
def below (n : BitVec 32) (x y : FVec Ideal S8x128 .f32) : FVec Ideal S8x128 .f32 :=
  select (cmpi .slt rowNo (broadcast S8x128 n)) x y

/-- The exponents of level 6. -/
def exps64 (b3 : FVec Ideal S16x8x128 .f32) : FVec Ideal S16x8x128 .f32 :=
  mulf (subf b3 (overBlocks (row3 (lastBlock b3)))) (signs 4#32)

/-- The exponents of level 5. -/
def exps32 (b3 : FVec Ideal S16x8x128 .f32) : FVec Ideal S16x8x128 .f32 :=
  mulf (subf b3 (overBlocks (below 4#32 (row1 (lastBlock b3)) (row5 (lastBlock b3))))) (signs 2#32)

/-- The exponents of level 4. -/
def exps16 (b3 : FVec Ideal S16x8x128 .f32) : FVec Ideal S16x8x128 .f32 :=
  mulf (subf b3 (overBlocks (below 2#32 (row0 (lastBlock b3)) (below 4#32 (row2 (lastBlock b3))
    (below 6#32 (row4 (lastBlock b3)) (row6 (lastBlock b3))))))) (signs 1#32)

/-- The reference rows of the level with blocks of 8 rows, each repeated over its two blocks. -/
def refs8 (b3 : FVec Ideal S16x8x128 .f32) : FVec Ideal S16x8x128 .f32 :=
  broadcastTo S16x8x128 (rowBlock (extractStridedSlice S1x8x128 ![7, 0, 0] b3 slices_S16x8x128_o7_0_0_S1x8x128)) broadcasts_S1x8x128_S16x8x128

/-- The exponents of the level with blocks of 8 rows. -/
def exps8 (b3 : FVec Ideal S16x8x128 .f32) : FVec Ideal S16x8x128 .f32 :=
  concatenate S16x8x128 0 [
    ⟨S8x8x128, subf (extractStridedSlice S8x8x128 ![0, 0, 0] (refs8 b3) slices_S16x8x128_o0_0_0_S8x8x128) (extractStridedSlice S8x8x128 ![0, 0, 0] b3 slices_S16x8x128_o0_0_0_S8x8x128)⟩,
    ⟨S8x8x128, subf (extractStridedSlice S8x8x128 ![8, 0, 0] b3 slices_S16x8x128_o8_0_0_S8x8x128) (extractStridedSlice S8x8x128 ![8, 0, 0] (refs8 b3) slices_S16x8x128_o8_0_0_S8x8x128)⟩] concatenates_S8x8x128_S8x8x128_S16x8x128_d0

/-- The reference rows of the level with blocks of 4 rows, each repeated over its two blocks. -/
def refs4 (b3 : FVec Ideal S16x8x128 .f32) : FVec Ideal S16x8x128 .f32 :=
  concatenate S16x8x128 0 [
    ⟨S8x8x128, broadcastTo S8x8x128 (rowBlock (extractStridedSlice S1x8x128 ![3, 0, 0] b3 slices_S16x8x128_o3_0_0_S1x8x128)) broadcasts_S1x8x128_S8x8x128⟩,
    ⟨S8x8x128, broadcastTo S8x8x128 (rowBlock (extractStridedSlice S1x8x128 ![11, 0, 0] b3 slices_S16x8x128_o11_0_0_S1x8x128)) broadcasts_S1x8x128_S8x8x128⟩] concatenates_S8x8x128_S8x8x128_S16x8x128_d0

/-- The exponents of the level with blocks of 4 rows. -/
def exps4 (b3 : FVec Ideal S16x8x128 .f32) : FVec Ideal S16x8x128 .f32 :=
  concatenate S16x8x128 0 [
    ⟨S4x8x128, subf (extractStridedSlice S4x8x128 ![0, 0, 0] (refs4 b3) slices_S16x8x128_o0_0_0_S4x8x128) (extractStridedSlice S4x8x128 ![0, 0, 0] b3 slices_S16x8x128_o0_0_0_S4x8x128)⟩,
    ⟨S4x8x128, subf (extractStridedSlice S4x8x128 ![4, 0, 0] b3 slices_S16x8x128_o4_0_0_S4x8x128) (extractStridedSlice S4x8x128 ![4, 0, 0] (refs4 b3) slices_S16x8x128_o4_0_0_S4x8x128)⟩,
    ⟨S4x8x128, subf (extractStridedSlice S4x8x128 ![8, 0, 0] (refs4 b3) slices_S16x8x128_o8_0_0_S4x8x128) (extractStridedSlice S4x8x128 ![8, 0, 0] b3 slices_S16x8x128_o8_0_0_S4x8x128)⟩,
    ⟨S4x8x128, subf (extractStridedSlice S4x8x128 ![12, 0, 0] b3 slices_S16x8x128_o12_0_0_S4x8x128) (extractStridedSlice S4x8x128 ![12, 0, 0] (refs4 b3) slices_S16x8x128_o12_0_0_S4x8x128)⟩] concatenates_S4x8x128_S4x8x128_S4x8x128_S4x8x128_S16x8x128_d0

/-- The reference rows of the level with blocks of 2 rows, each repeated over its two blocks. -/
def refs2 (b3 : FVec Ideal S16x8x128 .f32) : FVec Ideal S16x8x128 .f32 :=
  concatenate S16x8x128 0 [
    ⟨S4x8x128, broadcastTo S4x8x128 (rowBlock (extractStridedSlice S1x8x128 ![1, 0, 0] b3 slices_S16x8x128_o1_0_0_S1x8x128)) broadcasts_S1x8x128_S4x8x128⟩,
    ⟨S4x8x128, broadcastTo S4x8x128 (rowBlock (extractStridedSlice S1x8x128 ![5, 0, 0] b3 slices_S16x8x128_o5_0_0_S1x8x128)) broadcasts_S1x8x128_S4x8x128⟩,
    ⟨S4x8x128, broadcastTo S4x8x128 (rowBlock (extractStridedSlice S1x8x128 ![9, 0, 0] b3 slices_S16x8x128_o9_0_0_S1x8x128)) broadcasts_S1x8x128_S4x8x128⟩,
    ⟨S4x8x128, broadcastTo S4x8x128 (rowBlock (extractStridedSlice S1x8x128 ![13, 0, 0] b3 slices_S16x8x128_o13_0_0_S1x8x128)) broadcasts_S1x8x128_S4x8x128⟩] concatenates_S4x8x128_S4x8x128_S4x8x128_S4x8x128_S16x8x128_d0

/-- The exponents of the level with blocks of 2 rows. -/
def exps2 (b3 : FVec Ideal S16x8x128 .f32) : FVec Ideal S16x8x128 .f32 :=
  concatenate S16x8x128 0 [
    ⟨S2x8x128, subf (extractStridedSlice S2x8x128 ![0, 0, 0] (refs2 b3) slices_S16x8x128_o0_0_0_S2x8x128) (extractStridedSlice S2x8x128 ![0, 0, 0] b3 slices_S16x8x128_o0_0_0_S2x8x128)⟩,
    ⟨S2x8x128, subf (extractStridedSlice S2x8x128 ![2, 0, 0] b3 slices_S16x8x128_o2_0_0_S2x8x128) (extractStridedSlice S2x8x128 ![2, 0, 0] (refs2 b3) slices_S16x8x128_o2_0_0_S2x8x128)⟩,
    ⟨S2x8x128, subf (extractStridedSlice S2x8x128 ![4, 0, 0] (refs2 b3) slices_S16x8x128_o4_0_0_S2x8x128) (extractStridedSlice S2x8x128 ![4, 0, 0] b3 slices_S16x8x128_o4_0_0_S2x8x128)⟩,
    ⟨S2x8x128, subf (extractStridedSlice S2x8x128 ![6, 0, 0] b3 slices_S16x8x128_o6_0_0_S2x8x128) (extractStridedSlice S2x8x128 ![6, 0, 0] (refs2 b3) slices_S16x8x128_o6_0_0_S2x8x128)⟩,
    ⟨S2x8x128, subf (extractStridedSlice S2x8x128 ![8, 0, 0] (refs2 b3) slices_S16x8x128_o8_0_0_S2x8x128) (extractStridedSlice S2x8x128 ![8, 0, 0] b3 slices_S16x8x128_o8_0_0_S2x8x128)⟩,
    ⟨S2x8x128, subf (extractStridedSlice S2x8x128 ![10, 0, 0] b3 slices_S16x8x128_o10_0_0_S2x8x128) (extractStridedSlice S2x8x128 ![10, 0, 0] (refs2 b3) slices_S16x8x128_o10_0_0_S2x8x128)⟩,
    ⟨S2x8x128, subf (extractStridedSlice S2x8x128 ![12, 0, 0] (refs2 b3) slices_S16x8x128_o12_0_0_S2x8x128) (extractStridedSlice S2x8x128 ![12, 0, 0] b3 slices_S16x8x128_o12_0_0_S2x8x128)⟩,
    ⟨S2x8x128, subf (extractStridedSlice S2x8x128 ![14, 0, 0] b3 slices_S16x8x128_o14_0_0_S2x8x128) (extractStridedSlice S2x8x128 ![14, 0, 0] (refs2 b3) slices_S16x8x128_o14_0_0_S2x8x128)⟩] concatenates_S2x8x128_S2x8x128_S2x8x128_S2x8x128_S2x8x128_S2x8x128_S2x8x128_S2x8x128_S16x8x128_d0

/-- The reference rows of the level with blocks of 1 rows, each repeated over its two blocks. -/
def refs1 (b3 : FVec Ideal S16x8x128 .f32) : FVec Ideal S16x8x128 .f32 :=
  concatenate S16x8x128 0 [
    ⟨S2x8x128, broadcastTo S2x8x128 (rowBlock (extractStridedSlice S1x8x128 ![0, 0, 0] b3 slices_S16x8x128_o0_0_0_S1x8x128)) broadcasts_S1x8x128_S2x8x128⟩,
    ⟨S2x8x128, broadcastTo S2x8x128 (rowBlock (extractStridedSlice S1x8x128 ![2, 0, 0] b3 slices_S16x8x128_o2_0_0_S1x8x128)) broadcasts_S1x8x128_S2x8x128⟩,
    ⟨S2x8x128, broadcastTo S2x8x128 (rowBlock (extractStridedSlice S1x8x128 ![4, 0, 0] b3 slices_S16x8x128_o4_0_0_S1x8x128)) broadcasts_S1x8x128_S2x8x128⟩,
    ⟨S2x8x128, broadcastTo S2x8x128 (rowBlock (extractStridedSlice S1x8x128 ![6, 0, 0] b3 slices_S16x8x128_o6_0_0_S1x8x128)) broadcasts_S1x8x128_S2x8x128⟩,
    ⟨S2x8x128, broadcastTo S2x8x128 (rowBlock (extractStridedSlice S1x8x128 ![8, 0, 0] b3 slices_S16x8x128_o8_0_0_S1x8x128)) broadcasts_S1x8x128_S2x8x128⟩,
    ⟨S2x8x128, broadcastTo S2x8x128 (rowBlock (extractStridedSlice S1x8x128 ![10, 0, 0] b3 slices_S16x8x128_o10_0_0_S1x8x128)) broadcasts_S1x8x128_S2x8x128⟩,
    ⟨S2x8x128, broadcastTo S2x8x128 (rowBlock (extractStridedSlice S1x8x128 ![12, 0, 0] b3 slices_S16x8x128_o12_0_0_S1x8x128)) broadcasts_S1x8x128_S2x8x128⟩,
    ⟨S2x8x128, broadcastTo S2x8x128 (rowBlock (extractStridedSlice S1x8x128 ![14, 0, 0] b3 slices_S16x8x128_o14_0_0_S1x8x128)) broadcasts_S1x8x128_S2x8x128⟩] concatenates_S2x8x128_S2x8x128_S2x8x128_S2x8x128_S2x8x128_S2x8x128_S2x8x128_S2x8x128_S16x8x128_d0

/-- The exponents of the level with blocks of 1 rows. -/
def exps1 (b3 : FVec Ideal S16x8x128 .f32) : FVec Ideal S16x8x128 .f32 :=
  concatenate S16x8x128 0 [
    ⟨S1x8x128, subf (extractStridedSlice S1x8x128 ![0, 0, 0] (refs1 b3) slices_S16x8x128_o0_0_0_S1x8x128) (extractStridedSlice S1x8x128 ![0, 0, 0] b3 slices_S16x8x128_o0_0_0_S1x8x128)⟩,
    ⟨S1x8x128, subf (extractStridedSlice S1x8x128 ![1, 0, 0] b3 slices_S16x8x128_o1_0_0_S1x8x128) (extractStridedSlice S1x8x128 ![1, 0, 0] (refs1 b3) slices_S16x8x128_o1_0_0_S1x8x128)⟩,
    ⟨S1x8x128, subf (extractStridedSlice S1x8x128 ![2, 0, 0] (refs1 b3) slices_S16x8x128_o2_0_0_S1x8x128) (extractStridedSlice S1x8x128 ![2, 0, 0] b3 slices_S16x8x128_o2_0_0_S1x8x128)⟩,
    ⟨S1x8x128, subf (extractStridedSlice S1x8x128 ![3, 0, 0] b3 slices_S16x8x128_o3_0_0_S1x8x128) (extractStridedSlice S1x8x128 ![3, 0, 0] (refs1 b3) slices_S16x8x128_o3_0_0_S1x8x128)⟩,
    ⟨S1x8x128, subf (extractStridedSlice S1x8x128 ![4, 0, 0] (refs1 b3) slices_S16x8x128_o4_0_0_S1x8x128) (extractStridedSlice S1x8x128 ![4, 0, 0] b3 slices_S16x8x128_o4_0_0_S1x8x128)⟩,
    ⟨S1x8x128, subf (extractStridedSlice S1x8x128 ![5, 0, 0] b3 slices_S16x8x128_o5_0_0_S1x8x128) (extractStridedSlice S1x8x128 ![5, 0, 0] (refs1 b3) slices_S16x8x128_o5_0_0_S1x8x128)⟩,
    ⟨S1x8x128, subf (extractStridedSlice S1x8x128 ![6, 0, 0] (refs1 b3) slices_S16x8x128_o6_0_0_S1x8x128) (extractStridedSlice S1x8x128 ![6, 0, 0] b3 slices_S16x8x128_o6_0_0_S1x8x128)⟩,
    ⟨S1x8x128, subf (extractStridedSlice S1x8x128 ![7, 0, 0] b3 slices_S16x8x128_o7_0_0_S1x8x128) (extractStridedSlice S1x8x128 ![7, 0, 0] (refs1 b3) slices_S16x8x128_o7_0_0_S1x8x128)⟩,
    ⟨S1x8x128, subf (extractStridedSlice S1x8x128 ![8, 0, 0] (refs1 b3) slices_S16x8x128_o8_0_0_S1x8x128) (extractStridedSlice S1x8x128 ![8, 0, 0] b3 slices_S16x8x128_o8_0_0_S1x8x128)⟩,
    ⟨S1x8x128, subf (extractStridedSlice S1x8x128 ![9, 0, 0] b3 slices_S16x8x128_o9_0_0_S1x8x128) (extractStridedSlice S1x8x128 ![9, 0, 0] (refs1 b3) slices_S16x8x128_o9_0_0_S1x8x128)⟩,
    ⟨S1x8x128, subf (extractStridedSlice S1x8x128 ![10, 0, 0] (refs1 b3) slices_S16x8x128_o10_0_0_S1x8x128) (extractStridedSlice S1x8x128 ![10, 0, 0] b3 slices_S16x8x128_o10_0_0_S1x8x128)⟩,
    ⟨S1x8x128, subf (extractStridedSlice S1x8x128 ![11, 0, 0] b3 slices_S16x8x128_o11_0_0_S1x8x128) (extractStridedSlice S1x8x128 ![11, 0, 0] (refs1 b3) slices_S16x8x128_o11_0_0_S1x8x128)⟩,
    ⟨S1x8x128, subf (extractStridedSlice S1x8x128 ![12, 0, 0] (refs1 b3) slices_S16x8x128_o12_0_0_S1x8x128) (extractStridedSlice S1x8x128 ![12, 0, 0] b3 slices_S16x8x128_o12_0_0_S1x8x128)⟩,
    ⟨S1x8x128, subf (extractStridedSlice S1x8x128 ![13, 0, 0] b3 slices_S16x8x128_o13_0_0_S1x8x128) (extractStridedSlice S1x8x128 ![13, 0, 0] (refs1 b3) slices_S16x8x128_o13_0_0_S1x8x128)⟩,
    ⟨S1x8x128, subf (extractStridedSlice S1x8x128 ![14, 0, 0] (refs1 b3) slices_S16x8x128_o14_0_0_S1x8x128) (extractStridedSlice S1x8x128 ![14, 0, 0] b3 slices_S16x8x128_o14_0_0_S1x8x128)⟩,
    ⟨S1x8x128, subf (extractStridedSlice S1x8x128 ![15, 0, 0] b3 slices_S16x8x128_o15_0_0_S1x8x128) (extractStridedSlice S1x8x128 ![15, 0, 0] (refs1 b3) slices_S16x8x128_o15_0_0_S1x8x128)⟩] concatenates_S1x8x128_S1x8x128_S1x8x128_S1x8x128_S1x8x128_S1x8x128_S1x8x128_S1x8x128_S1x8x128_S1x8x128_S1x8x128_S1x8x128_S1x8x128_S1x8x128_S1x8x128_S1x8x128_S16x8x128_d0

/-- One level entered into the weights. -/
def enter (w : BitVec 16) (lvl qb kb : FVec Ideal S128x128 .bf16) (e : FVec Ideal S16x8x128 .f32)
    (a : FVec Ideal S128x128 .bf16) : FVec Ideal S128x128 .bf16 :=
  let f : FVec Ideal S128x128 .bf16 := truncf .bf16 (shapeCast S128x128 (exp2 e)
    shapeCasts_S16x8x128_S128x128) bitsLt_bf16_f32
  select (cmpf .oeq lvl (broadcast S128x128 (Scalar.ofBits (F := Ideal) .bf16 w)))
    (truncf .bf16 (matmul dot_S128x128_S128x128_S128x128_1_1_0_0_n_n none (mulf qb f) (mulf kb f)
      (constant S128x128 .f32 0x00000000#32)) bitsLt_bf16_f32) a

/-- All levels entered. -/
def weights (lvl a0 qb kb : FVec Ideal S128x128 .bf16) (b3 : FVec Ideal S16x8x128 .f32) :
    FVec Ideal S128x128 .bf16 :=
  enter 0x0000#16 lvl qb kb (exps1 b3) <| enter 0x3F80#16 lvl qb kb (exps2 b3) <|
  enter 0x4000#16 lvl qb kb (exps4 b3) <| enter 0x4040#16 lvl qb kb (exps8 b3) <|
  enter 0x4080#16 lvl qb kb (exps16 b3) <| enter 0x40A0#16 lvl qb kb (exps32 b3) <|
  enter 0x40C0#16 lvl qb kb (exps64 b3) a0

theorem enter_at (w : BitVec 16) (lvl qb kb : FVec Ideal S128x128 .bf16)
    (e : FVec Ideal S16x8x128 .f32) (a : FVec Ideal S128x128 .bf16) (i j : Fin 128) :
    enter w lvl qb kb e a (ix2 i j) = if lvl (ix2 i j) = Ideal.ofBits .bf16 w then
      pairSum (fun x => qb (ix2 i x)) (fun x => kb (ix2 j x))
        (fun x => e (ix3 ⟨i.val / 8, by omega⟩ ⟨i.val % 8, by omega⟩ x))
        (fun x => e (ix3 ⟨j.val / 8, by omega⟩ ⟨j.val % 8, by omega⟩ x))
    else a (ix2 i j) := by
  pointwise [enter]
  rfl

section
variable (b3 : FVec Ideal S16x8x128 .f32) (B : Fin 128 → Fin 128 → ℝ)
    (hB : ∀ r u x, b3 (ix3 r u x) = (B (row r u) x : EReal))
include hB

theorem exps64_at (r : Fin 16) (u : Fin 8) (x : Fin 128) :
    exps64 b3 (ix3 r u x) = (expHi 2 B r u x : EReal) := by
  fin_cases u <;> pointwise [exps64, overBlocks, row3, oneRow, lastBlock, signs, rowNo] <;>
  simp [hB, expHi, neg_one_f32, refD, Scalar.select, IntOp.cmpi, IntOp.andi, ← EReal.coe_sub, ← EReal.coe_neg, ← EReal.coe_mul, Nat.testBit]

theorem exps32_at (r : Fin 16) (u : Fin 8) (x : Fin 128) :
    exps32 b3 (ix3 r u x) = (expHi 1 B r u x : EReal) := by
  fin_cases u <;> pointwise [exps32, overBlocks, row1, row5, below, oneRow, lastBlock, signs, rowNo] <;>
  simp [hB, expHi, neg_one_f32, refD, Scalar.select, IntOp.cmpi, IntOp.andi, ← EReal.coe_sub, ← EReal.coe_neg, ← EReal.coe_mul, Nat.testBit]

theorem exps16_at (r : Fin 16) (u : Fin 8) (x : Fin 128) :
    exps16 b3 (ix3 r u x) = (expHi 0 B r u x : EReal) := by
  fin_cases u <;> pointwise [exps16, overBlocks, row0, row2, row4, row6, below, oneRow, lastBlock, signs, rowNo] <;>
  simp [hB, expHi, neg_one_f32, refD, Scalar.select, IntOp.cmpi, IntOp.andi, ← EReal.coe_sub, ← EReal.coe_neg, ← EReal.coe_mul, Nat.testBit]

theorem exps8_at (r : Fin 16) (u : Fin 8) (x : Fin 128) :
    exps8 b3 (ix3 r u x) = (expLo 3 B r u x : EReal) := by
  fin_cases r <;> pointwise [exps8, refs8, rowBlock] <;>
  simp [hB, expLo, refD, ← EReal.coe_sub, Nat.testBit]

theorem exps4_at (r : Fin 16) (u : Fin 8) (x : Fin 128) :
    exps4 b3 (ix3 r u x) = (expLo 2 B r u x : EReal) := by
  fin_cases r <;> pointwise [exps4, refs4, rowBlock] <;>
  simp [hB, expLo, refD, ← EReal.coe_sub, Nat.testBit]

theorem exps2_at (r : Fin 16) (u : Fin 8) (x : Fin 128) :
    exps2 b3 (ix3 r u x) = (expLo 1 B r u x : EReal) := by
  fin_cases r <;> pointwise [exps2, refs2, rowBlock] <;>
  simp [hB, expLo, refD, ← EReal.coe_sub, Nat.testBit]

set_option maxHeartbeats 2000000 in
theorem exps1_at (r : Fin 16) (u : Fin 8) (x : Fin 128) :
    exps1 b3 (ix3 r u x) = (expLo 0 B r u x : EReal) := by
  fin_cases r <;> pointwise [exps1, refs1, rowBlock] <;>
  simp [hB, expLo, refD, ← EReal.coe_sub, Nat.testBit]

end
end Cert.Hgrn
-- ==== Proof.Head.lean ====
module

public import proofs.«01_k».proof.Proof.Levels

@[expose] public section
set_option maxRecDepth 16384
noncomputable section
open Idealize.ShloMosaic Idealize.ShloMosaic.TcCoe Idealize.SL.Sem
open Cert.KernelIdeal Cert.KernelIdeal.Gen
namespace Cert.Hgrn

/-! One head on one chunk: its outputs before the normalisation, and its next state. -/

/-- The weights before any level is entered: the product of a query with its own key. -/
def diagonal (lvl : FVec Ideal S128x128 .bf16) (q k : FVec Ideal S128x128 .f32) :
    FVec Ideal S128x128 .bf16 :=
  select (cmpf .oeq lvl (broadcast S128x128 (Scalar.ofBits (F := Ideal) .bf16 0x40E0#16)))
    (truncf .bf16 (broadcastTo S128x128 (shapeCast S128x1 (shapeCast S128x1
      (multiReduction .add [1] S128 (mulf q k) 0x00000000#32 reduces_S128x128_S128 (.inl rfl) rfl)
      shapeCasts_S128_S128x1) shapeCasts_S128x1_S128x1) broadcasts_S128x1_S128x128) bitsLt_bf16_f32)
    (broadcast S128x128 (Scalar.ofBits (F := Ideal) .bf16 0x0000#16))

/-- All weights of a head. -/
def headW (lvl : FVec Ideal S128x128 .bf16) (q k b : FVec Ideal S128x128 .f32) :
    FVec Ideal S128x128 .bf16 :=
  weights lvl (diagonal lvl q k) (truncf .bf16 q bitsLt_bf16_f32) (truncf .bf16 k bitsLt_bf16_f32)
    (shapeCast S16x8x128 b shapeCasts_S128x128_S16x8x128)

/-- The outputs of a head: from the state before the chunk, and from the chunk itself. -/
def headO (lvl : FVec Ideal S128x128 .bf16) (q k : FVec Ideal S128x128 .f32)
    (v : FVec Ideal S128x128 .bf16) (b st : FVec Ideal S128x128 .f32) : FVec Ideal S128x128 .f32 :=
  addf (matmul dot_S128x128_S128x128_S128x128_1_1_0_0_n_n none
      (truncf .bf16 (mulf q (exp2 b)) bitsLt_bf16_f32) (truncf .bf16 st bitsLt_bf16_f32)
      (constant S128x128 .f32 0x00000000#32))
    (matmul dot_S128x128_S128x128_S128x128_1_0_0_1_n_n none (headW lvl q k b) v
      (constant S128x128 .f32 0x00000000#32))

/-- The state of a head after the chunk. -/
def headSt (k : FVec Ideal S128x128 .f32) (v : FVec Ideal S128x128 .bf16)
    (b st : FVec Ideal S128x128 .f32) : FVec Ideal S128x128 .f32 :=
  let bl : FVec Ideal S1x128 .f32 := extractStridedSlice S1x128 ![127, 0] b slices_S128x128_o127_0_S1x128
  addf (mulf st (broadcastTo S128x128 (exp2 bl) broadcasts_S1x128_S128x128))
    (matmul dot_S128x128_S128x128_S128x128_0_0_1_1_n_n none v
      (truncf .bf16 (mulf k (exp2 (subf (broadcastTo S128x128 bl broadcasts_S1x128_S128x128) b)))
        bitsLt_bf16_f32) (constant S128x128 .f32 0x00000000#32))

section
variable (q k : FVec Ideal S128x128 .f32) (v : FVec Ideal S128x128 .bf16)
  (b st : FVec Ideal S128x128 .f32) (Q K V B S : Fin 128 → Fin 128 → ℝ)
  (hq : ∀ i x, q (ix2 i x) = (Q i x : EReal)) (hk : ∀ i x, k (ix2 i x) = (K i x : EReal))
  (hv : ∀ i x, v (ix2 i x) = (V i x : EReal)) (hb : ∀ i x, b (ix2 i x) = (B i x : EReal))
  (hst : ∀ i x, st (ix2 i x) = (S i x : EReal))

theorem diagonal_at (i j : Fin 128) : diagonal (k0_pay584 (F := Ideal)) q k (ix2 i j) =
    if level i j = 7 then ∑ x, q (ix2 i x) * k (ix2 i x) else 0 := by
  pointwise [diagonal]
  rw [lvl_at, c7]
  simp only [EReal.coe_eq_coe_iff]
  norm_cast

theorem enter_lvl (w : BitVec 16) (n : ℤ) (hw : Ideal.ofBits .bf16 w = ((n : ℝ) : EReal))
    (qb kb : FVec Ideal S128x128 .bf16)
    (e : FVec Ideal S16x8x128 .f32) (a : FVec Ideal S128x128 .bf16) (E : Fin 16 → Fin 8 → Fin 128 → ℝ)
    (he : ∀ r u x, e (ix3 r u x) = (E r u x : EReal))
    (hq : ∀ i x, qb (ix2 i x) = (Q i x : EReal)) (hk : ∀ i x, kb (ix2 i x) = (K i x : EReal))
    (i j : Fin 128) :
    enter w (k0_pay584 (F := Ideal)) qb kb e a (ix2 i j) = if level i j = n then
      ((∑ x, Q i x * K j x * Real.rpow 2 (E ⟨i.val / 8, by omega⟩ ⟨i.val % 8, by omega⟩ x
        + E ⟨j.val / 8, by omega⟩ ⟨j.val % 8, by omega⟩ x) : ℝ) : EReal)
    else a (ix2 i j) := by
  rw [enter_at, lvl_at, hw]
  simp only [EReal.coe_eq_coe_iff, Int.cast_inj, he, hq, hk]
  rw [pairSum_coe]

include hq hk hb in
theorem headW_at (i j : Fin 128) : headW (k0_pay584 (F := Ideal)) q k b (ix2 i j) =
    ((if pos j ≤ pos i then ∑ x, Q i x * K j x * Real.rpow 2 (B i x - B j x) else 0 : ℝ) : EReal) := by
  have hB : ∀ r u x, (shapeCast S16x8x128 b shapeCasts_S128x128_S16x8x128 : FVec Ideal S16x8x128 .f32)
      (ix3 r u x) = (B (row r u) x : EReal) := by
    intro r u x; rw [← hb]; pointwise []; rfl
  have hq' : ∀ i x, (truncf .bf16 q bitsLt_bf16_f32 : FVec Ideal S128x128 .bf16) (ix2 i x)
      = (Q i x : EReal) := hq
  have hk' : ∀ i x, (truncf .bf16 k bitsLt_bf16_f32 : FVec Ideal S128x128 .bf16) (ix2 i x)
      = (K i x : EReal) := hk
  rw [headW, weights]
  rw [enter_lvl Q K 0x0000#16 0 (by rw [Ideal.ofBits_zero_bf16]; simp) _ _ _ _ _ (exps1_at _ B hB) hq' hk',
    enter_lvl Q K 0x3F80#16 1 (by rw [Ideal.ofBits_one_bf16]; simp) _ _ _ _ _ (exps2_at _ B hB) hq' hk',
    enter_lvl Q K 0x4000#16 2 (by rw [c2]; norm_num) _ _ _ _ _ (exps4_at _ B hB) hq' hk',
    enter_lvl Q K 0x4040#16 3 (by rw [c3]; norm_num) _ _ _ _ _ (exps8_at _ B hB) hq' hk',
    enter_lvl Q K 0x4080#16 4 (by rw [c4]; norm_num) _ _ _ _ _ (exps16_at _ B hB) hq' hk',
    enter_lvl Q K 0x40A0#16 5 (by rw [c5]; norm_num) _ _ _ _ _ (exps32_at _ B hB) hq' hk',
    enter_lvl Q K 0x40C0#16 6 (by rw [c6]; norm_num) _ _ _ _ _ (exps64_at _ B hB) hq' hk',
    diagonal_at]
  have hrow : ∀ i : Fin 128, row ⟨i.val / 8, by omega⟩ ⟨i.val % 8, by omega⟩ = i := fun i =>
    Fin.ext (by simp only [row]; omega)
  rcases level_table i j with ⟨h, rfl⟩ | ⟨h, hp⟩ | ⟨hp, ⟨l, h, hi, hj, hr, hu⟩ | ⟨l, h, hi, hj, hr⟩⟩
  · rw [h]; norm_num
    rw [coe_sum]; exact Finset.sum_congr rfl fun x _ => by rw [hq, hk, EReal.coe_mul]
  · rw [h, if_neg (show ¬ pos j ≤ pos i by omega)]; norm_num
  · have key : ∀ x, expLo l B ⟨i.val / 8, by omega⟩ ⟨i.val % 8, by omega⟩ x
        + expLo l B ⟨j.val / 8, by omega⟩ ⟨j.val % 8, by omega⟩ x = B i x - B j x := by
      intro x
      simp only [expLo, hi, hj, hr, hu, if_true, Bool.false_eq_true, if_false]
      have h1 := hrow i
      simp only [hu] at h1
      rw [h1, hrow j]; ring
    rw [h, if_pos hp]
    fin_cases l <;> norm_num <;> exact congrArg _ (funext fun x => congrArg (fun t : ℝ => Q i x * K j x * (2 : ℝ) ^ t) (key x))
  · have key : ∀ x, expHi l B ⟨i.val / 8, by omega⟩ ⟨i.val % 8, by omega⟩ x
        + expHi l B ⟨j.val / 8, by omega⟩ ⟨j.val % 8, by omega⟩ x = B i x - B j x := by
      intro x
      simp only [expHi, hi, hj, hr, if_true, Bool.false_eq_true, if_false]
      rw [hrow i, hrow j]; ring
    rw [h, if_pos hp]
    fin_cases l <;> norm_num <;> exact congrArg _ (funext fun x => congrArg (fun t : ℝ => Q i x * K j x * (2 : ℝ) ^ t) (key x))

theorem exp2_coe' (r : ℝ) : FloatOps.exp2 (F := Ideal) (φ := .f32) (r : EReal) = ((Real.rpow 2 r : ℝ) : EReal) :=
  Ideal.exp2_coe r

include hq hk hv hb hst in
theorem headO_at (i e : Fin 128) : headO (k0_pay584 (F := Ideal)) q k v b st (ix2 i e) =
    ((∑ d, Q i d * Real.rpow 2 (B i d) * S e d +
      ∑ j, (if pos j ≤ pos i then ∑ x, Q i x * K j x * Real.rpow 2 (B i x - B j x) else 0) * V j e : ℝ) : EReal) := by
  have hW := headW_at q k b Q K B hq hk hb
  unfold headO
  generalize headW (k0_pay584 (F := Ideal)) q k b = w at hW
  pointwise []
  simp only [hq, hst, hb, hW, hv, exp2_coe', ← EReal.coe_mul, ← coe_sum, ← EReal.coe_add]

include hk hv hb hst in
theorem headSt_at (e d : Fin 128) : headSt k v b st (ix2 e d) =
    ((S e d * Real.rpow 2 (B 127 d) +
      ∑ j, V j e * (K j d * Real.rpow 2 (B 127 d - B j d)) : ℝ) : EReal) := by
  pointwise [headSt]
  simp only [hk, hst, hb, hv, exp2_coe', ← EReal.coe_sub, ← EReal.coe_mul, ← coe_sum, ← EReal.coe_add]

end
end Cert.Hgrn
-- ==== Proof.Chunk.lean ====
module

public import proofs.«01_k».proof.Proof.Head

@[expose] public section
set_option maxRecDepth 16384
noncomputable section
open Idealize.ShloMosaic Idealize.ShloMosaic.TcCoe Idealize.SL.Sem
open Cert.KernelIdeal Cert.KernelIdeal.Gen
namespace Cert.Hgrn

/-! One chunk of a block of tokens: the part of it that belongs to one head. -/

theorem slice_ok (c : Fin 2) (h : Fin 8) :
    S16x16x1024.Slices ![0, 8 * c.val, 128 * h.val] S16x8x128 := by
  revert c h; decide

theorem slice_ok' (c : Fin 2) : S16x16x1024.Slices ![0, 8 * c.val, 0] S16x8x1024 := by
  revert c; decide

theorem slice_ok'' (h : Fin 8) : S128x1024.Slices ![0, 128 * h.val] S128x128 := by
  revert h; decide

/-- The rows of chunk `c` and the lanes of head `h`. -/
def cut (c : Fin 2) (h : Fin 8) (x : FVec Ideal S16x16x1024 .f32) : FVec Ideal S128x128 .f32 :=
  shapeCast S128x128 (extractStridedSlice S16x8x128 ![0, 8 * c.val, 128 * h.val] x (slice_ok c h))
    shapeCasts_S16x8x128_S128x128

/-- The running sums of the log decays over a chunk, taken in three parts. -/
def sums (c : Fin 2) (x : FVec Ideal S16x16x1024 .f32) (tri : Vec Ideal S128x128 .bf16) :
    FVec Ideal S128x1024 .f32 :=
  let g : FVec Ideal S128x1024 .f32 := shapeCast S128x1024
    (extractStridedSlice S16x8x1024 ![0, 8 * c.val, 0] x (slice_ok' c)) shapeCasts_S16x8x1024_S128x1024
  let hi : FVec Ideal S128x1024 .bf16 := truncf .bf16 g bitsLt_bf16_f32
  let g1 : FVec Ideal S128x1024 .f32 := subf g (extf .f32 hi bitsLt_bf16_f32)
  let mid : FVec Ideal S128x1024 .bf16 := truncf .bf16 g1 bitsLt_bf16_f32
  let g2 : FVec Ideal S128x1024 .f32 := subf g1 (extf .f32 mid bitsLt_bf16_f32)
  let lo : FVec Ideal S128x1024 .bf16 := truncf .bf16 g2 bitsLt_bf16_f32
  addf (addf
    (matmul (φ₁ := .bf16) dot_S128x128_S128x1024_S128x1024_1_0_0_1_n_n none tri hi (constant S128x1024 .f32 0x00000000#32))
    (matmul (φ₁ := .bf16) dot_S128x128_S128x1024_S128x1024_1_0_0_1_n_n none tri mid (constant S128x1024 .f32 0x00000000#32)))
    (matmul (φ₁ := .bf16) dot_S128x128_S128x1024_S128x1024_1_0_0_1_n_n none tri lo (constant S128x1024 .f32 0x00000000#32))

/-- The sums of one head, in units of powers of two. -/
def decay (c : Fin 2) (h : Fin 8) (x : FVec Ideal S16x16x1024 .f32) (tri : Vec Ideal S128x128 .bf16) :
    FVec Ideal S128x128 .f32 :=
  mulf (extractStridedSlice S128x128 ![0, 128 * h.val] (sums c x tri) (slice_ok'' h))
    (broadcast S128x128 (Named.named (F := Ideal) κ "log2e" 0x3FB8AA3B#32))

/-- The outputs of head `h` on chunk `c`. -/
def chunkO (c : Fin 2) (h : Fin 8) (xq xk xv xg : FVec Ideal S16x16x1024 .f32)
    (tri : Vec Ideal S128x128 .bf16) (st : FVec Ideal S128x128 .f32) : FVec Ideal S128x128 .f32 :=
  headO (k0_pay584 (F := Ideal)) (cut c h xq) (cut c h xk) (truncf .bf16 (cut c h xv) bitsLt_bf16_f32)
    (decay c h xg tri) st

/-- The state of head `h` after chunk `c`. -/
def chunkSt (c : Fin 2) (h : Fin 8) (xk xv xg : FVec Ideal S16x16x1024 .f32)
    (tri : Vec Ideal S128x128 .bf16) (st : FVec Ideal S128x128 .f32) : FVec Ideal S128x128 .f32 :=
  headSt (cut c h xk) (truncf .bf16 (cut c h xv) bitsLt_bf16_f32) (decay c h xg tri) st

/-- The normalised and gated outputs, back in the layout of the block. -/
def gated (c : Fin 2) (h : Fin 8) (o : FVec Ideal S128x128 .f32) (gain : Vec Ideal S1x128 .f32)
    (gate : FVec Ideal S16x16x1024 .f32) : FVec Ideal S16x8x128 .f32 :=
  shapeCast S16x8x128 (mulf (mulf (mulf o (broadcastTo S128x128 (rsqrt (addf (divf
    (shapeCast S128x1 (multiReduction .add [1] S128 (mulf o o) 0x00000000#32 reduces_S128x128_S128
      (.inl rfl) rfl) shapeCasts_S128_S128x1)
    (broadcast S128x1 (Scalar.ofBits (F := Ideal) .f32 0x43000000#32)))
    (broadcast S128x1 (Scalar.ofBits (F := Ideal) .f32 0x358637BD#32)))) broadcasts_S128x1_S128x128))
    (broadcastTo S128x128 gain broadcasts_S1x128_S128x128)) (cut c h gate)) shapeCasts_S128x128_S16x8x128

theorem cut_at (c : Fin 2) (h : Fin 8) (x : FVec Ideal S16x16x1024 .f32) (i d : Fin 128) :
    cut c h x (ix2 i d) = x (ix3 (n0 := 16) (n1 := 16) (n2 := 1024) ⟨i.val / 8, by omega⟩
      ⟨8 * c.val + i.val % 8, by omega⟩ ⟨128 * h.val + d.val, by omega⟩) := by
  pointwise [cut]

theorem gated_at (c : Fin 2) (h : Fin 8) (o : FVec Ideal S128x128 .f32) (gain : Vec Ideal S1x128 .f32)
    (gate : FVec Ideal S16x16x1024 .f32) (r : Fin 16) (u : Fin 8) (e : Fin 128) :
    gated c h o gain gate (ix3 r u e) = o (ix2 (row r u) e) *
      FloatOps.rsqrt (F := Ideal) (φ := .f32) (Ideal.div (∑ x, o (ix2 (row r u) x) * o (ix2 (row r u) x))
        (Ideal.ofBits .f32 0x43000000#32) + Ideal.ofBits .f32 0x358637BD#32) * gain (ix2 0 e) *
      gate (ix3 (n0 := 16) (n1 := 16) (n2 := 1024) r
      ⟨8 * c.val + u.val, by omega⟩ ⟨128 * h.val + e.val, by omega⟩) := by
  pointwise [gated, cut]
  rfl

section
variable (n : ℕ) (c : Fin 2) (h : Fin 8) (q g k v : ℕ → Fin 1024 → ℝ)

/-- The lanes of one head. -/
def lanes (h : Fin 8) (q : ℕ → Fin 1024 → ℝ) (t : ℕ) (d : Fin 128) : ℝ := q t ⟨128 * h.val + d.val, by omega⟩

/-- A block holds the tokens from `n` on. -/
def Holds (x : FVec Ideal S16x16x1024 .f32) (n : ℕ) (q : ℕ → Fin 1024 → ℝ) : Prop :=
  ∀ a b d, x (ix3 a b d) = (q (n + (16 * b.val + a.val)) d : EReal)

theorem cut_holds (x : FVec Ideal S16x16x1024 .f32) (hx : Holds x n q) (i d : Fin 128) :
    cut c h x (ix2 i d) = (lanes h q (n + 128 * c.val + pos i) d : EReal) := by
  rw [cut_at, hx, lanes]
  congr 2
  simp only [pos]; omega

theorem decay_holds (x : FVec Ideal S16x16x1024 .f32) (hx : Holds x n g) (tri : Vec Ideal S128x128 .bf16)
    (htri : ∀ i j, tri (ix2 i j) = (((if pos j ≤ pos i then 1 else 0 : ℝ)) : EReal)) (i d : Fin 128) :
    decay c h x tri (ix2 i d) = ((cum (lanes h g) (n + 128 * c.val) i d * (Real.log 2)⁻¹ : ℝ) : EReal) := by
  have hn : Named.named (F := Ideal) κ "log2e" (φ := .f32) 0x3FB8AA3B#32 = (((Real.log 2)⁻¹ : ℝ) : EReal) := rfl
  have hg : ∀ j : Fin 128, x (ix3 (n0 := 16) (n1 := 16) (n2 := 1024) ⟨j.val / 8, by omega⟩
      ⟨8 * c.val + j.val % 8, by omega⟩ ⟨128 * h.val + d.val, by omega⟩)
      = (lanes h g (n + 128 * c.val + pos j) d : EReal) := by
    intro j
    have h1 := cut_holds n c h g x hx j d
    rwa [cut_at] at h1
  pointwise [decay, sums]
  rw [hn]
  simp only [hg, htri, ← EReal.coe_sub, ← EReal.coe_mul, ← coe_sum, ← EReal.coe_add, sub_self, mul_zero,
    Finset.sum_const_zero, add_zero]
  congr 2
  rw [cum]
  exact Finset.sum_congr rfl fun j _ => by split_ifs <;> simp

theorem rpow_two (c : ℝ) : Real.rpow 2 (c * (Real.log 2)⁻¹) = Real.exp c := by
  show (2 : ℝ) ^ (c * (Real.log 2)⁻¹ : ℝ) = _
  rw [Real.rpow_def_of_pos (by norm_num)]
  congr 1
  have : Real.log 2 ≠ 0 := (Real.log_pos (by norm_num)).ne'
  field_simp

variable (xq xk xv xg : FVec Ideal S16x16x1024 .f32) (hq : Holds xq n q) (hk : Holds xk n k)
  (hv : Holds xv n v) (hg : Holds xg n g) (tri : Vec Ideal S128x128 .bf16)
  (htri : ∀ i j, tri (ix2 i j) = (((if pos j ≤ pos i then 1 else 0 : ℝ)) : EReal))
  (st : FVec Ideal S128x128 .f32)
  (hst : ∀ e d, st (ix2 e d) = (St (lanes h g) (lanes h k) (lanes h v) (n + 128 * c.val) d e : EReal))

include hq hk hv hg htri hst in
theorem chunkO_at (i e : Fin 128) : chunkO c h xq xk xv xg tri st (ix2 i e) =
    ((∑ d, lanes h q (n + 128 * c.val + pos i) d *
      St (lanes h g) (lanes h k) (lanes h v) (n + 128 * c.val + pos i + 1) d e : ℝ) : EReal) := by
  have hv' : ∀ i x, (truncf .bf16 (cut c h xv) bitsLt_bf16_f32 : FVec Ideal S128x128 .bf16) (ix2 i x)
      = (lanes h v (n + 128 * c.val + pos i) x : EReal) := cut_holds n c h v xv hv
  rw [chunkO, headO_at _ _ _ _ _ _ _ _ _ _ (cut_holds n c h q xq hq) (cut_holds n c h k xk hk)
    hv' (decay_holds n c h g xg hg tri htri) hst]
  rw [← chunk_out]
  simp only [← sub_mul, rpow_two]

include hk hv hg htri hst in
theorem chunkSt_at (e d : Fin 128) : chunkSt c h xk xv xg tri st (ix2 e d) =
    ((St (lanes h g) (lanes h k) (lanes h v) (n + 128 * c.val + 128) d e : ℝ) : EReal) := by
  have hv' : ∀ i x, (truncf .bf16 (cut c h xv) bitsLt_bf16_f32 : FVec Ideal S128x128 .bf16) (ix2 i x)
      = (lanes h v (n + 128 * c.val + pos i) x : EReal) := cut_holds n c h v xv hv
  rw [chunkSt, headSt_at _ _ _ _ _ _ _ _ (cut_holds n c h k xk hk)
    hv' (decay_holds n c h g xg hg tri htri) hst]
  rw [chunk_state]
  simp only [← sub_mul, rpow_two]

end
end Cert.Hgrn
-- ==== Proof.Spec.lean ====
module

public import proofs.«01_k».proof.Proof.Chunk
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
open Cert.KernelIdeal Cert.KernelIdeal.Gen
namespace Cert.Hgrn

theorem head_in (h : Fin 8) : ∀ a, (![h.val, 0, 0] : Fin 3 → ℕ) a + S1x128x128.size a ≤ S8x128x128.size a := by
  revert h; decide

theorem gain_in (h : Fin 8) : ∀ a, (![0, 128 * h.val] : Fin 2 → ℕ) a + S1x128.size a ≤ S1x1024.size a := by
  revert h; decide

theorem out_in (h : Fin 8) :
    ∀ a, (![0, 0, 0, 128 * h.val] : Fin 4 → ℕ) a + S1x16x16x128.size a ≤ S1x16x16x1024.size a := by
  revert h; decide

section
variable (x9 x10 x11 x12 x13 : Vec Ideal S1x16x16x1024 .bf16) (x14 : Vec Ideal S1x1024 .f32)
  (x15 : Vec Ideal S128x128 .bf16) (S : Vec Ideal S8x128x128 .f32)

/-- The state of head `h` before the block. -/
def st0 (h : Fin 8) : FVec Ideal S128x128 .f32 :=
  shapeCast S128x128 (View.ld (Val := Elt Ideal) S (Rect.unit (s := S8x128x128) ![h.val, 0, 0] S1x128x128.size (head_in h)))
    shapeCasts_S1x128x128_S128x128

/-- The state of head `h` after the block's first chunk, as it is stored. -/
def half (h : Fin 8) : FVec Ideal S1x128x128 .f32 :=
  shapeCast S1x128x128 (chunkSt 0 h (k0_pay580 (k0_pay579 x13)) (k0_pay582 x11) (k0_pay578 x10) x15 (st0 S h))
    shapeCasts_S128x128_S1x128x128

/-- The state of head `h` before the block's second chunk. -/
def st1 (h : Fin 8) : FVec Ideal S128x128 .f32 :=
  shapeCast S128x128 (half x10 x11 x13 x15 S h) shapeCasts_S1x128x128_S128x128

/-- The state of head `h` after the block, as it is stored. -/
def full (h : Fin 8) : FVec Ideal S1x128x128 .f32 :=
  shapeCast S1x128x128 (chunkSt 1 h (k0_pay580 (k0_pay579 x13)) (k0_pay582 x11) (k0_pay578 x10) x15
    (st1 x10 x11 x13 x15 S h)) shapeCasts_S128x128_S1x128x128

/-- The gain of head `h`. -/
def gainOf (h : Fin 8) : Vec Ideal S1x128 .f32 :=
  View.ld (Val := Elt Ideal) x14 (Rect.unit (s := S1x1024) ![0, 128 * h.val] S1x128.size (gain_in h))

/-- What the block stores for head `h`: the gated outputs of its two chunks. -/
def both (h : Fin 8) : FVec Ideal S1x16x16x128 .bf16 :=
  shapeCast S1x16x16x128 (truncf .bf16 (concatenate S16x16x128 1
    [⟨S16x8x128, gated 0 h (chunkO 0 h (k0_pay581 x9) (k0_pay580 (k0_pay579 x13)) (k0_pay582 x11) (k0_pay578 x10) x15
        (st0 S h)) (gainOf x14 h) (k0_pay583 x12)⟩,
     ⟨S16x8x128, gated 1 h (chunkO 1 h (k0_pay581 x9) (k0_pay580 (k0_pay579 x13)) (k0_pay582 x11) (k0_pay578 x10) x15
        (st1 x10 x11 x13 x15 S h)) (gainOf x14 h) (k0_pay583 x12)⟩]
    concatenates_S16x8x128_S16x8x128_S16x16x128_d1) bitsLt_bf16_f32) shapeCasts_S16x16x128_S1x16x16x128

/-- The states stored over the block, the last first. -/
def states : List (View.Piece (Elt Ideal) S8x128x128 .f32) :=
  [⟨Rect.unit (s := S8x128x128) ![7, 0, 0] S1x128x128.size (head_in 7), full x10 x11 x13 x15 S 7⟩,
   ⟨Rect.unit (s := S8x128x128) ![6, 0, 0] S1x128x128.size (head_in 6), full x10 x11 x13 x15 S 6⟩,
   ⟨Rect.unit (s := S8x128x128) ![5, 0, 0] S1x128x128.size (head_in 5), full x10 x11 x13 x15 S 5⟩,
   ⟨Rect.unit (s := S8x128x128) ![4, 0, 0] S1x128x128.size (head_in 4), full x10 x11 x13 x15 S 4⟩,
   ⟨Rect.unit (s := S8x128x128) ![3, 0, 0] S1x128x128.size (head_in 3), full x10 x11 x13 x15 S 3⟩,
   ⟨Rect.unit (s := S8x128x128) ![2, 0, 0] S1x128x128.size (head_in 2), full x10 x11 x13 x15 S 2⟩,
   ⟨Rect.unit (s := S8x128x128) ![1, 0, 0] S1x128x128.size (head_in 1), full x10 x11 x13 x15 S 1⟩,
   ⟨Rect.unit (s := S8x128x128) ![0, 0, 0] S1x128x128.size (head_in 0), full x10 x11 x13 x15 S 0⟩]

/-- The outputs stored over the block, the last first. -/
def outputs : List (View.Piece (Elt Ideal) S1x16x16x1024 .bf16) :=
  [⟨Rect.unit (s := S1x16x16x1024) ![0, 0, 0, 896] S1x16x16x128.size (out_in 7), both x9 x10 x11 x12 x13 x14 x15 S 7⟩,
   ⟨Rect.unit (s := S1x16x16x1024) ![0, 0, 0, 768] S1x16x16x128.size (out_in 6), both x9 x10 x11 x12 x13 x14 x15 S 6⟩,
   ⟨Rect.unit (s := S1x16x16x1024) ![0, 0, 0, 640] S1x16x16x128.size (out_in 5), both x9 x10 x11 x12 x13 x14 x15 S 5⟩,
   ⟨Rect.unit (s := S1x16x16x1024) ![0, 0, 0, 512] S1x16x16x128.size (out_in 4), both x9 x10 x11 x12 x13 x14 x15 S 4⟩,
   ⟨Rect.unit (s := S1x16x16x1024) ![0, 0, 0, 384] S1x16x16x128.size (out_in 3), both x9 x10 x11 x12 x13 x14 x15 S 3⟩,
   ⟨Rect.unit (s := S1x16x16x1024) ![0, 0, 0, 256] S1x16x16x128.size (out_in 2), both x9 x10 x11 x12 x13 x14 x15 S 2⟩,
   ⟨Rect.unit (s := S1x16x16x1024) ![0, 0, 0, 128] S1x16x16x128.size (out_in 1), both x9 x10 x11 x12 x13 x14 x15 S 1⟩,
   ⟨Rect.unit (s := S1x16x16x1024) ![0, 0, 0, 0] S1x16x16x128.size (out_in 0), both x9 x10 x11 x12 x13 x14 x15 S 0⟩]

end
end Cert.Hgrn
-- ==== Proof.Point.lean ====
module

public import proofs.«01_k».proof.Proof.Spec
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
open Cert.KernelIdeal Cert.KernelIdeal.Gen
namespace Cert.Hgrn

/-! One block's stores, at an index. -/

/-- A block of a projection holds the rows `n`, `n + 1`, … of `q`. -/
def Rows (x : Vec Ideal S1x16x16x1024 .bf16) (n : ℕ) (q : ℕ → Fin 1024 → ℝ) : Prop :=
  ∀ (r s : Fin 16) (d : Fin 1024), x (ix4 0 r s d) = ((q (n + (16 * s.val + r.val)) d : ℝ) : EReal)

/-- The scratch holds every head's state before token `n`. -/
def Carry (S : Vec Ideal S8x128x128 .f32) (n : ℕ) (g k v : ℕ → Fin 1024 → ℝ) : Prop :=
  ∀ (h : Fin 8) (e d : Fin 128), S (ix3 h e d) = ((St (lanes h g) (lanes h k) (lanes h v) n d e : ℝ) : EReal)

/-- One row of a head, divided by its root mean square, times the gain and the gate. -/
def scaled (o : Fin 128 → EReal) (gain gate : EReal) (e : Fin 128) : EReal :=
  o e * FloatOps.rsqrt (F := Ideal) (φ := .f32) (Ideal.div (∑ x, o x * o x)
    (Ideal.ofBits .f32 0x43000000#32) + Ideal.ofBits .f32 0x358637BD#32) * gain * gate

theorem widened (x : Vec Ideal S1x16x16x1024 .bf16) (a b : Fin 16) (d : Fin 1024) :
    (extf .f32 (shapeCast S16x16x1024 x shapeCasts_S1x16x16x1024_S16x16x1024) bitsLt_bf16_f32 :
      FVec Ideal S16x16x1024 .f32) (ix3 a b d) = x (ix4 0 a b d) := by
  pointwise

theorem holds_of {x : Vec Ideal S1x16x16x1024 .bf16} {n : ℕ} {q : ℕ → Fin 1024 → ℝ} (hx : Rows x n q) :
    Holds (extf .f32 (shapeCast S16x16x1024 x shapeCasts_S1x16x16x1024_S16x16x1024) bitsLt_bf16_f32) n q := by
  intro a b d
  rw [widened, hx]

section
variable (x9 x10 x11 x12 x13 : Vec Ideal S1x16x16x1024 .bf16) (x14 : Vec Ideal S1x1024 .f32)
  (x15 : Vec Ideal S128x128 .bf16) (S : Vec Ideal S8x128x128 .f32)

theorem flat_at (Y : FVec Ideal S1x128x128 .f32) (e d : Fin 128) :
    shapeCast S128x128 Y shapeCasts_S1x128x128_S128x128 (ix2 e d) = Y (ix3 0 e d) := by
  pointwise

theorem st0_at (h : Fin 8) (e d : Fin 128) : st0 S h (ix2 e d) = S (ix3 h e d) := by
  have e0 : View.ld (Val := Elt Ideal) S (Rect.unit (s := S8x128x128) ![h.val, 0, 0] S1x128x128.size (head_in h))
      (ix3 0 e d) = S (ix3 h e d) := by
    show S _ = S _
    congr 1
    funext a; fin_cases a <;> ext <;> simp [ix3]
  exact (flat_at _ e d).trans e0

theorem st1_at (h : Fin 8) (e d : Fin 128) : st1 x10 x11 x13 x15 S h (ix2 e d)
    = chunkSt 0 h (k0_pay580 (k0_pay579 x13)) (k0_pay582 x11) (k0_pay578 x10) x15 (st0 S h) (ix2 e d) := by
  rw [st1, half, shapeCast_shapeCast]

theorem full_chunk (h : Fin 8) (e d : Fin 128) : full x10 x11 x13 x15 S h (ix3 0 e d)
    = chunkSt 1 h (k0_pay580 (k0_pay579 x13)) (k0_pay582 x11) (k0_pay578 x10) x15 (st1 x10 x11 x13 x15 S h)
        (ix2 e d) := by
  rw [full]
  generalize chunkSt 1 h _ _ _ _ _ = Y
  pointwise

theorem gain_at (h : Fin 8) (e : Fin 128) : gainOf x14 h (ix2 0 e)
    = x14 (ix2 0 ⟨128 * h.val + e.val, by omega⟩) := by
  pointwise [gainOf]

theorem both_lo (h : Fin 8) (r : Fin 16) (u : Fin 8) (e : Fin 128) :
    both x9 x10 x11 x12 x13 x14 x15 S h (ix4 (n2 := 16) 0 r ⟨8 * 0 + u.val, by omega⟩ e)
      = gated 0 h (chunkO 0 h (k0_pay581 x9) (k0_pay580 (k0_pay579 x13)) (k0_pay582 x11) (k0_pay578 x10) x15
        (st0 S h)) (gainOf x14 h) (k0_pay583 x12) (ix3 r u e) := by
  rw [both]
  generalize gated 0 h _ _ _ = Y
  generalize gated 1 h _ _ _ = Z
  pointwise

theorem both_hi (h : Fin 8) (r : Fin 16) (u : Fin 8) (e : Fin 128) :
    both x9 x10 x11 x12 x13 x14 x15 S h (ix4 (n2 := 16) 0 r ⟨8 * 1 + u.val, by omega⟩ e)
      = gated 1 h (chunkO 1 h (k0_pay581 x9) (k0_pay580 (k0_pay579 x13)) (k0_pay582 x11) (k0_pay578 x10) x15
        (st1 x10 x11 x13 x15 S h)) (gainOf x14 h) (k0_pay583 x12) (ix3 r u e) := by
  rw [both]
  generalize gated 0 h _ _ _ = Y
  generalize gated 1 h _ _ _ = Z
  pointwise

theorem canon_states (L : List (View.Piece (Elt Ideal) S8x128x128 .f32)) (h : Fin 8) (e d : Fin 128) :
    View.canon (states x10 x11 x13 x15 S ++ L) (ix3 h e d) = full x10 x11 x13 x15 S h (ix3 0 e d) := by
  have hit : ∀ (h : Fin 8) (w : FVec Ideal S1x128x128 .f32) (M : List (View.Piece (Elt Ideal) S8x128x128 .f32)),
      View.canon (⟨Rect.unit (s := S8x128x128) ![h.val, 0, 0] S1x128x128.size (head_in h), w⟩ :: M) (ix3 h e d)
        = w (ix3 0 e d) := by
    intro h w M
    have e0 := View.canon_cons_emb (Val := Elt Ideal) (e := .f32)
      (Rect.unit (s := S8x128x128) ![h.val, 0, 0] S1x128x128.size (head_in h)) w M (ix3 0 e d)
    rw [← e0]
    congr 1
    funext a; fin_cases a <;> ext <;> simp [ix3]
  have miss : ∀ (h h' : Fin 8) (hne : h ≠ h') (w : FVec Ideal S1x128x128 .f32)
      (M : List (View.Piece (Elt Ideal) S8x128x128 .f32)),
      View.canon (⟨Rect.unit (s := S8x128x128) ![h'.val, 0, 0] S1x128x128.size (head_in h'), w⟩ :: M) (ix3 h e d)
        = View.canon M (ix3 h e d) := by
    intro h h' hne w M
    refine View.canon_cons_of_not_mem _ M ?_
    intro hm
    have h0 := (Rect.mem_set_unit (inb := head_in h')).mp hm 0
    simp [ix3] at h0
    omega
  rw [states]
  fin_cases h
  · refine (miss 0 7 (by decide) _ _).trans ?_
    refine (miss 0 6 (by decide) _ _).trans ?_
    refine (miss 0 5 (by decide) _ _).trans ?_
    refine (miss 0 4 (by decide) _ _).trans ?_
    refine (miss 0 3 (by decide) _ _).trans ?_
    refine (miss 0 2 (by decide) _ _).trans ?_
    refine (miss 0 1 (by decide) _ _).trans ?_
    exact hit 0 _ _
  · refine (miss 1 7 (by decide) _ _).trans ?_
    refine (miss 1 6 (by decide) _ _).trans ?_
    refine (miss 1 5 (by decide) _ _).trans ?_
    refine (miss 1 4 (by decide) _ _).trans ?_
    refine (miss 1 3 (by decide) _ _).trans ?_
    refine (miss 1 2 (by decide) _ _).trans ?_
    exact hit 1 _ _
  · refine (miss 2 7 (by decide) _ _).trans ?_
    refine (miss 2 6 (by decide) _ _).trans ?_
    refine (miss 2 5 (by decide) _ _).trans ?_
    refine (miss 2 4 (by decide) _ _).trans ?_
    refine (miss 2 3 (by decide) _ _).trans ?_
    exact hit 2 _ _
  · refine (miss 3 7 (by decide) _ _).trans ?_
    refine (miss 3 6 (by decide) _ _).trans ?_
    refine (miss 3 5 (by decide) _ _).trans ?_
    refine (miss 3 4 (by decide) _ _).trans ?_
    exact hit 3 _ _
  · refine (miss 4 7 (by decide) _ _).trans ?_
    refine (miss 4 6 (by decide) _ _).trans ?_
    refine (miss 4 5 (by decide) _ _).trans ?_
    exact hit 4 _ _
  · refine (miss 5 7 (by decide) _ _).trans ?_
    refine (miss 5 6 (by decide) _ _).trans ?_
    exact hit 5 _ _
  · refine (miss 6 7 (by decide) _ _).trans ?_
    exact hit 6 _ _
  · exact hit 7 _ _

section
variable (n : ℕ) (q g k v : ℕ → Fin 1024 → ℝ)
  (h9 : Rows x9 n q) (h10 : Rows x10 n g) (h11 : Rows x11 n v) (h13 : Rows x13 n k)
  (htri : ∀ i j, x15 (ix2 i j) = (((if pos j ≤ pos i then 1 else 0 : ℝ)) : EReal))
  (hS : Carry S n g k v)

include h10 h11 h13 htri hS in
theorem st1_carry (h : Fin 8) (e d : Fin 128) : st1 x10 x11 x13 x15 S h (ix2 e d)
    = ((St (lanes h g) (lanes h k) (lanes h v) (n + 128 * (1 : Fin 2).val) d e : ℝ) : EReal) := by
  rw [st1_at]
  exact chunkSt_at n 0 h g k v _ _ _ (holds_of h13) (holds_of h11) (holds_of h10) x15 htri (st0 S h)
    (fun e d => (st0_at S h e d).trans (hS h e d)) e d

include h10 h11 h13 htri hS in
theorem full_at (h : Fin 8) (e d : Fin 128) : full x10 x11 x13 x15 S h (ix3 0 e d)
    = ((St (lanes h g) (lanes h k) (lanes h v) (n + 256) d e : ℝ) : EReal) := by
  rw [full_chunk]
  exact chunkSt_at n 1 h g k v _ _ _ (holds_of h13) (holds_of h11) (holds_of h10) x15 htri _
    (st1_carry x10 x11 x13 x15 S n g k v h10 h11 h13 htri hS h) e d

/-- What a token's row of a head is before it is scaled. -/
def tokenRow (h : Fin 8) (t : ℕ) (e : Fin 128) : EReal :=
  ((∑ d, lanes h q t d * St (lanes h g) (lanes h k) (lanes h v) (t + 1) d e : ℝ) : EReal)

theorem lo_lt (u : Fin 8) : 8 * 0 + u.val < 16 := by omega

theorem hi_lt (u : Fin 8) : 8 * 1 + u.val < 16 := by omega

theorem row_pos (c : ℕ) (r : Fin 16) (u : Fin 8) : n + 128 * c + pos (row r u) = n + (16 * (8 * c + u.val) + r.val) := by
  simp only [row, pos]; omega

include h9 h10 h11 h13 htri hS in
theorem both_at (h : Fin 8) (r s : Fin 16) (e : Fin 128) :
    both x9 x10 x11 x12 x13 x14 x15 S h (ix4 0 r s e)
      = scaled (tokenRow q g k v h (n + (16 * s.val + r.val))) (x14 (ix2 0 ⟨128 * h.val + e.val, by omega⟩))
          (x12 (ix4 0 r s ⟨128 * h.val + e.val, by omega⟩)) e := by
  by_cases hs : s.val < 8
  · obtain ⟨u, hu⟩ : ∃ u : Fin 8, s = ⟨8 * 0 + u.val, lo_lt u⟩ := ⟨⟨s.val, hs⟩, Fin.ext (by simp)⟩
    subst hu
    have ho : ∀ e, chunkO 0 h (k0_pay581 x9) (k0_pay580 (k0_pay579 x13)) (k0_pay582 x11) (k0_pay578 x10) x15
        (st0 S h) (ix2 (row r u) e) = tokenRow q g k v h (n + (16 * (8 * 0 + u.val) + r.val)) e := by
      intro e
      rw [← row_pos n 0 r u]
      exact chunkO_at n 0 h q g k v _ _ _ _ (holds_of h9) (holds_of h13) (holds_of h11) (holds_of h10) x15 htri
        (st0 S h) (fun e d => (st0_at S h e d).trans (hS h e d)) (row r u) e
    rw [both_lo, gated_at, gain_at]
    simp only [ho]
    rw [show k0_pay583 x12 = extf .f32 (shapeCast S16x16x1024 x12 shapeCasts_S1x16x16x1024_S16x16x1024)
      bitsLt_bf16_f32 from rfl, widened]
    rfl
  · obtain ⟨u, hu⟩ : ∃ u : Fin 8, s = ⟨8 * 1 + u.val, hi_lt u⟩ :=
      ⟨⟨s.val - 8, by omega⟩, Fin.ext (by simp; omega)⟩
    subst hu
    have ho : ∀ e, chunkO 1 h (k0_pay581 x9) (k0_pay580 (k0_pay579 x13)) (k0_pay582 x11) (k0_pay578 x10) x15
        (st1 x10 x11 x13 x15 S h) (ix2 (row r u) e) = tokenRow q g k v h (n + (16 * (8 * 1 + u.val) + r.val)) e := by
      intro e
      rw [← row_pos n 1 r u]
      exact chunkO_at n 1 h q g k v _ _ _ _ (holds_of h9) (holds_of h13) (holds_of h11) (holds_of h10) x15 htri
        _ (st1_carry x10 x11 x13 x15 S n g k v h10 h11 h13 htri hS h) (row r u) e
    rw [both_hi, gated_at, gain_at]
    simp only [ho]
    rw [show k0_pay583 x12 = extf .f32 (shapeCast S16x16x1024 x12 shapeCasts_S1x16x16x1024_S16x16x1024)
      bitsLt_bf16_f32 from rfl, widened]
    rfl

include h10 h11 h13 htri hS in
/-- The scratch after the block. -/
theorem carry_next (L : List (View.Piece (Elt Ideal) S8x128x128 .f32)) :
    Carry (View.canon (states x10 x11 x13 x15 S ++ L)) (n + 256) g k v := by
  intro h e d
  rw [canon_states]
  exact full_at x10 x11 x13 x15 S n g k v h10 h11 h13 htri hS h e d

include h9 h10 h11 h13 htri hS in
/-- The output block. -/
theorem canon_outputs (h : Fin 8) (r s : Fin 16) (e : Fin 128) :
    View.canon (outputs x9 x10 x11 x12 x13 x14 x15 S) (ix4 0 r s ⟨128 * h.val + e.val, by omega⟩)
      = scaled (tokenRow q g k v h (n + (16 * s.val + r.val))) (x14 (ix2 0 ⟨128 * h.val + e.val, by omega⟩))
          (x12 (ix4 0 r s ⟨128 * h.val + e.val, by omega⟩)) e := by
  rw [← both_at x9 x10 x11 x12 x13 x14 x15 S n q g k v h9 h10 h11 h13 htri hS h r s e]
  have hit : ∀ (h : Fin 8) (w : FVec Ideal S1x16x16x128 .bf16) (M : List (View.Piece (Elt Ideal) S1x16x16x1024 .bf16)),
      View.canon (⟨Rect.unit (s := S1x16x16x1024) ![0, 0, 0, 128 * h.val] S1x16x16x128.size (out_in h), w⟩ :: M)
        (ix4 0 r s ⟨128 * h.val + e.val, by omega⟩) = w (ix4 0 r s e) := by
    intro h w M
    have e0 := View.canon_cons_emb (Val := Elt Ideal) (e := .bf16)
      (Rect.unit (s := S1x16x16x1024) ![0, 0, 0, 128 * h.val] S1x16x16x128.size (out_in h)) w M (ix4 0 r s e)
    rw [← e0]
    congr 1
    funext a; fin_cases a <;> ext <;> simp [ix4]
  have miss : ∀ (h h' : Fin 8) (hne : h ≠ h') (w : FVec Ideal S1x16x16x128 .bf16)
      (M : List (View.Piece (Elt Ideal) S1x16x16x1024 .bf16)),
      View.canon (⟨Rect.unit (s := S1x16x16x1024) ![0, 0, 0, 128 * h'.val] S1x16x16x128.size (out_in h'), w⟩ :: M)
        (ix4 0 r s ⟨128 * h.val + e.val, by omega⟩)
        = View.canon M (ix4 0 r s ⟨128 * h.val + e.val, by omega⟩) := by
    intro h h' hne w M
    refine View.canon_cons_of_not_mem _ M ?_
    intro hm
    have h0 := (Rect.mem_set_unit (inb := out_in h')).mp hm 3
    simp [ix4] at h0
    omega
  rw [outputs]
  fin_cases h
  · refine (miss 0 7 (by decide) _ _).trans ?_
    refine (miss 0 6 (by decide) _ _).trans ?_
    refine (miss 0 5 (by decide) _ _).trans ?_
    refine (miss 0 4 (by decide) _ _).trans ?_
    refine (miss 0 3 (by decide) _ _).trans ?_
    refine (miss 0 2 (by decide) _ _).trans ?_
    refine (miss 0 1 (by decide) _ _).trans ?_
    exact hit 0 _ _
  · refine (miss 1 7 (by decide) _ _).trans ?_
    refine (miss 1 6 (by decide) _ _).trans ?_
    refine (miss 1 5 (by decide) _ _).trans ?_
    refine (miss 1 4 (by decide) _ _).trans ?_
    refine (miss 1 3 (by decide) _ _).trans ?_
    refine (miss 1 2 (by decide) _ _).trans ?_
    exact hit 1 _ _
  · refine (miss 2 7 (by decide) _ _).trans ?_
    refine (miss 2 6 (by decide) _ _).trans ?_
    refine (miss 2 5 (by decide) _ _).trans ?_
    refine (miss 2 4 (by decide) _ _).trans ?_
    refine (miss 2 3 (by decide) _ _).trans ?_
    exact hit 2 _ _
  · refine (miss 3 7 (by decide) _ _).trans ?_
    refine (miss 3 6 (by decide) _ _).trans ?_
    refine (miss 3 5 (by decide) _ _).trans ?_
    refine (miss 3 4 (by decide) _ _).trans ?_
    exact hit 3 _ _
  · refine (miss 4 7 (by decide) _ _).trans ?_
    refine (miss 4 6 (by decide) _ _).trans ?_
    refine (miss 4 5 (by decide) _ _).trans ?_
    exact hit 4 _ _
  · refine (miss 5 7 (by decide) _ _).trans ?_
    refine (miss 5 6 (by decide) _ _).trans ?_
    exact hit 5 _ _
  · refine (miss 6 7 (by decide) _ _).trans ?_
    exact hit 6 _ _
  · exact hit 7 _ _

end
end
end Cert.Hgrn
-- ==== Proof.Lit.lean ====
module

public import proofs.«01_k».proof.Proof.Chunk
public import Idealize.ShloMosaic.Lib.IdealHost
public import Idealize.ShloMosaic.Lib.Pointwise
public import Idealize.ShloMosaic.Lib.ValueIdxCore
@[expose] public section
set_option maxRecDepth 16384
noncomputable section
open Idealize.ShloMosaic Idealize.ShloMosaic.TcCoe Idealize.SL.Sem
open Cert.KernelIdeal Cert.KernelIdeal.Gen
namespace Cert.Hgrn

/-- The literal's bits, one row at a time. -/
theorem lit_at : ∀ i j : Fin 128, lit0 ⟨128 * i.val + j.val, by omega⟩ =
    if pos j ≤ pos i then 0x3F80#16 else 0x0000#16 := by
  decide +kernel

end Cert.Hgrn
-- ==== Proof.Tri.lean ====
module

public import proofs.«01_k».proof.Proof.Lit
public import Idealize.ShloMosaic.Lib.IdealHost
public import Idealize.ShloMosaic.Lib.Pointwise
public import Idealize.ShloMosaic.Lib.ValueIdxCore
@[expose] public section
set_option maxRecDepth 16384
noncomputable section
open Idealize.ShloMosaic Idealize.ShloMosaic.TcCoe Idealize.SL.Sem
open Cert.KernelIdeal Cert.KernelIdeal.Gen
namespace Cert.Hgrn

/-- The triangle of the running sums: one where the token of row `j` is not after that of row `i`. -/
theorem tri_at (i j : Fin 128) :
    (FloatOps.ofBits .bf16 (lit0 (S128x128.rowMajor (ix2 i j))) : Ideal .bf16) =
      ((if pos j ≤ pos i then 1 else 0 : ℝ) : EReal) := by
  have e : S128x128.rowMajor (ix2 i j) = (⟨128 * i.val + j.val, by omega⟩ : Fin 16384) :=
    Fin.ext ((Shape.rowMajor_val_two (ix2 i j)).trans (by simp [Nat.mul_comm]))
  rw [e, lit_at]
  split
  · exact Ideal.ofBits_one_bf16.trans EReal.coe_one.symm
  · exact Ideal.ofBits_zero_bf16.trans EReal.coe_zero.symm
end Cert.Hgrn
-- ==== Proof.Reads.lean ====
module

public import proofs.«01_k».proof.Proof.Point
public import proofs.«01_k».proof.Proof.Tri
public import proofs.«01_k».proof.Proof.Gen.KernelIdeal.Frame.Runs
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
open Cert.KernelIdeal Cert.KernelIdeal.Gen
namespace Cert.Hgrn

/-! The blocks a grid point reads, as parts of the arguments. -/

variable (m : (ℓ : Loc nD τ sig) → Buf (Elt Ideal) ℓ) (c : Dev nD)

theorem split_at (x : FVec Ideal S2x8192x17408 .bf16) (b : Fin 2) (r : Fin 16) (s : Fin 512) (d : Fin 17408) :
    transpose S2x16x512x17408 [0, 2, 1, 3] (shapeCast S2x512x16x17408 x shapeCasts_S2x8192x17408_S2x512x16x17408)
      transposes_S2x512x16x17408_S2x16x512x17408_0_2_1_3 (ix4 b r s d)
      = x (ix3 b ⟨16 * s.val + r.val, by omega⟩ d) := by
  pointwise
  congr 3
  omega

theorem split_keep_at (x : FVec Ideal S2x8192x1024 .bf16) (b : Fin 2) (r : Fin 16) (s : Fin 512) (d : Fin 1024) :
    transpose S2x16x512x1024 [0, 2, 1, 3] (shapeCast S2x512x16x1024 x shapeCasts_S2x8192x1024_S2x512x16x1024)
      transposes_S2x512x16x1024_S2x16x512x1024_0_2_1_3 (ix4 b r s d)
      = x (ix3 b ⟨16 * s.val + r.val, by omega⟩ d) := by
  pointwise
  congr 3
  omega

theorem entry_proj : V m c main_v1 = transpose S2x16x512x17408 [0, 2, 1, 3]
    (shapeCast S2x512x16x17408 (m ((c.tc : Thread nD τ).loc main_arg0)) shapeCasts_S2x8192x17408_S2x512x16x17408)
    transposes_S2x512x16x17408_S2x16x512x17408_0_2_1_3 := by
  entry_read
  rfl

theorem entry_keep : V m c main_v3 = transpose S2x16x512x1024 [0, 2, 1, 3]
    (shapeCast S2x512x16x1024 (m ((c.tc : Thread nD τ).loc main_arg1)) shapeCasts_S2x8192x1024_S2x512x16x1024)
    transposes_S2x512x16x1024_S2x16x512x1024_0_2_1_3 := by
  entry_read
  rfl

theorem entry_tri (i j : Fin 128) : V m c main_cst (ix2 i j) = ((if pos j ≤ pos i then 1 else 0 : ℝ) : EReal) := by
  have e : V m c main_cst = (fun i => FloatOps.ofBits .bf16 (lit0 (S128x128.rowMajor i)) : FVec Ideal S128x128 .bf16) := by
    entry_read
    rfl
  rw [e]
  exact tri_at i j

theorem points (t : Fin cfg0.N) : t.val < 64 := lt_of_lt_of_eq t.isLt N_0

theorem index9 : ∀ t : Fin cfg0.N, win0_9.index t (0 : Fin 4) = t.val / 32 ∧ win0_9.index t (1 : Fin 4) = 0
    ∧ win0_9.index t (2 : Fin 4) = t.val % 32 ∧ win0_9.index t (3 : Fin 4) = 9 :=
  (by decide +kernel : ∀ t : Fin grid0.N, _)

theorem block9 (t : Fin cfg0.N) (r s : Fin 16) (d : Fin 1024) :
    (iblk m c 9 t : Vec Ideal S1x16x16x1024 .bf16) (ix4 0 r s d) = m ((c.tc : Thread nD τ).loc main_arg0)
      (ix3 (n0 := 2) (n1 := 8192) (n2 := 17408) ⟨t.val / 32, by have := points t; omega⟩
        ⟨256 * (t.val % 32) + (16 * s.val + r.val), by omega⟩ ⟨9216 + d.val, by omega⟩) := by
  have ht := points t
  obtain ⟨e0, e1, e2, e3⟩ := index9 t
  have e : ((cfg0.win 9).blk t).view.emb (ix4 (n0 := 1) (n1 := 16) (n2 := 16) (n3 := 1024) 0 r s d)
      = ix4 (n0 := 2) (n1 := 16) (n2 := 512) (n3 := 17408) ⟨t.val / 32, by omega⟩ r ⟨16 * (t.val % 32) + s.val, by omega⟩
        ⟨9216 + d.val, by omega⟩ := by
    funext a; apply Fin.ext
    match a with
    | ⟨0, _⟩ => show win0_9.index t (0 : Fin 4) * 1 + 1 * 0 = t.val / 32; omega
    | ⟨1, _⟩ => show win0_9.index t (1 : Fin 4) * 16 + 1 * r.val = r.val; omega
    | ⟨2, _⟩ => show win0_9.index t (2 : Fin 4) * 16 + 1 * s.val = 16 * (t.val % 32) + s.val; omega
    | ⟨3, _⟩ => show win0_9.index t (3 : Fin 4) * 1024 + 1 * d.val = 9216 + d.val; omega
  show V m c main_v1 (((cfg0.win 9).blk t).view.emb (ix4 (n0 := 1) (n1 := 16) (n2 := 16) (n3 := 1024) 0 r s d)) = _
  rw [e, entry_proj, split_at]
  congr 2
  simp only [Fin.mk.injEq]; omega

theorem index10 : ∀ t : Fin cfg0.N, win0_10.index t (0 : Fin 4) = t.val / 32 ∧ win0_10.index t (1 : Fin 4) = 0
    ∧ win0_10.index t (2 : Fin 4) = t.val % 32 ∧ win0_10.index t (3 : Fin 4) = 10 :=
  (by decide +kernel : ∀ t : Fin grid0.N, _)

theorem block10 (t : Fin cfg0.N) (r s : Fin 16) (d : Fin 1024) :
    (iblk m c 10 t : Vec Ideal S1x16x16x1024 .bf16) (ix4 0 r s d) = m ((c.tc : Thread nD τ).loc main_arg0)
      (ix3 (n0 := 2) (n1 := 8192) (n2 := 17408) ⟨t.val / 32, by have := points t; omega⟩
        ⟨256 * (t.val % 32) + (16 * s.val + r.val), by omega⟩ ⟨10240 + d.val, by omega⟩) := by
  have ht := points t
  obtain ⟨e0, e1, e2, e3⟩ := index10 t
  have e : ((cfg0.win 10).blk t).view.emb (ix4 (n0 := 1) (n1 := 16) (n2 := 16) (n3 := 1024) 0 r s d)
      = ix4 (n0 := 2) (n1 := 16) (n2 := 512) (n3 := 17408) ⟨t.val / 32, by omega⟩ r ⟨16 * (t.val % 32) + s.val, by omega⟩
        ⟨10240 + d.val, by omega⟩ := by
    funext a; apply Fin.ext
    match a with
    | ⟨0, _⟩ => show win0_10.index t (0 : Fin 4) * 1 + 1 * 0 = t.val / 32; omega
    | ⟨1, _⟩ => show win0_10.index t (1 : Fin 4) * 16 + 1 * r.val = r.val; omega
    | ⟨2, _⟩ => show win0_10.index t (2 : Fin 4) * 16 + 1 * s.val = 16 * (t.val % 32) + s.val; omega
    | ⟨3, _⟩ => show win0_10.index t (3 : Fin 4) * 1024 + 1 * d.val = 10240 + d.val; omega
  show V m c main_v1 (((cfg0.win 10).blk t).view.emb (ix4 (n0 := 1) (n1 := 16) (n2 := 16) (n3 := 1024) 0 r s d)) = _
  rw [e, entry_proj, split_at]
  congr 2
  simp only [Fin.mk.injEq]; omega

theorem index11 : ∀ t : Fin cfg0.N, win0_11.index t (0 : Fin 4) = t.val / 32 ∧ win0_11.index t (1 : Fin 4) = 0
    ∧ win0_11.index t (2 : Fin 4) = t.val % 32 ∧ win0_11.index t (3 : Fin 4) = 11 :=
  (by decide +kernel : ∀ t : Fin grid0.N, _)

theorem block11 (t : Fin cfg0.N) (r s : Fin 16) (d : Fin 1024) :
    (iblk m c 11 t : Vec Ideal S1x16x16x1024 .bf16) (ix4 0 r s d) = m ((c.tc : Thread nD τ).loc main_arg0)
      (ix3 (n0 := 2) (n1 := 8192) (n2 := 17408) ⟨t.val / 32, by have := points t; omega⟩
        ⟨256 * (t.val % 32) + (16 * s.val + r.val), by omega⟩ ⟨11264 + d.val, by omega⟩) := by
  have ht := points t
  obtain ⟨e0, e1, e2, e3⟩ := index11 t
  have e : ((cfg0.win 11).blk t).view.emb (ix4 (n0 := 1) (n1 := 16) (n2 := 16) (n3 := 1024) 0 r s d)
      = ix4 (n0 := 2) (n1 := 16) (n2 := 512) (n3 := 17408) ⟨t.val / 32, by omega⟩ r ⟨16 * (t.val % 32) + s.val, by omega⟩
        ⟨11264 + d.val, by omega⟩ := by
    funext a; apply Fin.ext
    match a with
    | ⟨0, _⟩ => show win0_11.index t (0 : Fin 4) * 1 + 1 * 0 = t.val / 32; omega
    | ⟨1, _⟩ => show win0_11.index t (1 : Fin 4) * 16 + 1 * r.val = r.val; omega
    | ⟨2, _⟩ => show win0_11.index t (2 : Fin 4) * 16 + 1 * s.val = 16 * (t.val % 32) + s.val; omega
    | ⟨3, _⟩ => show win0_11.index t (3 : Fin 4) * 1024 + 1 * d.val = 11264 + d.val; omega
  show V m c main_v1 (((cfg0.win 11).blk t).view.emb (ix4 (n0 := 1) (n1 := 16) (n2 := 16) (n3 := 1024) 0 r s d)) = _
  rw [e, entry_proj, split_at]
  congr 2
  simp only [Fin.mk.injEq]; omega

theorem index12 : ∀ t : Fin cfg0.N, win0_12.index t (0 : Fin 4) = t.val / 32 ∧ win0_12.index t (1 : Fin 4) = 0
    ∧ win0_12.index t (2 : Fin 4) = t.val % 32 ∧ win0_12.index t (3 : Fin 4) = 12 :=
  (by decide +kernel : ∀ t : Fin grid0.N, _)

theorem block12 (t : Fin cfg0.N) (r s : Fin 16) (d : Fin 1024) :
    (iblk m c 12 t : Vec Ideal S1x16x16x1024 .bf16) (ix4 0 r s d) = m ((c.tc : Thread nD τ).loc main_arg0)
      (ix3 (n0 := 2) (n1 := 8192) (n2 := 17408) ⟨t.val / 32, by have := points t; omega⟩
        ⟨256 * (t.val % 32) + (16 * s.val + r.val), by omega⟩ ⟨12288 + d.val, by omega⟩) := by
  have ht := points t
  obtain ⟨e0, e1, e2, e3⟩ := index12 t
  have e : ((cfg0.win 12).blk t).view.emb (ix4 (n0 := 1) (n1 := 16) (n2 := 16) (n3 := 1024) 0 r s d)
      = ix4 (n0 := 2) (n1 := 16) (n2 := 512) (n3 := 17408) ⟨t.val / 32, by omega⟩ r ⟨16 * (t.val % 32) + s.val, by omega⟩
        ⟨12288 + d.val, by omega⟩ := by
    funext a; apply Fin.ext
    match a with
    | ⟨0, _⟩ => show win0_12.index t (0 : Fin 4) * 1 + 1 * 0 = t.val / 32; omega
    | ⟨1, _⟩ => show win0_12.index t (1 : Fin 4) * 16 + 1 * r.val = r.val; omega
    | ⟨2, _⟩ => show win0_12.index t (2 : Fin 4) * 16 + 1 * s.val = 16 * (t.val % 32) + s.val; omega
    | ⟨3, _⟩ => show win0_12.index t (3 : Fin 4) * 1024 + 1 * d.val = 12288 + d.val; omega
  show V m c main_v1 (((cfg0.win 12).blk t).view.emb (ix4 (n0 := 1) (n1 := 16) (n2 := 16) (n3 := 1024) 0 r s d)) = _
  rw [e, entry_proj, split_at]
  congr 2
  simp only [Fin.mk.injEq]; omega

theorem index13 : ∀ t : Fin cfg0.N, win0_13.index t (0 : Fin 4) = t.val / 32 ∧ win0_13.index t (1 : Fin 4) = 0
    ∧ win0_13.index t (2 : Fin 4) = t.val % 32 ∧ win0_13.index t (3 : Fin 4) = 0 :=
  (by decide +kernel : ∀ t : Fin grid0.N, _)

theorem block13 (t : Fin cfg0.N) (r s : Fin 16) (d : Fin 1024) :
    (iblk m c 13 t : Vec Ideal S1x16x16x1024 .bf16) (ix4 0 r s d) = m ((c.tc : Thread nD τ).loc main_arg1)
      (ix3 (n0 := 2) (n1 := 8192) (n2 := 1024) ⟨t.val / 32, by have := points t; omega⟩
        ⟨256 * (t.val % 32) + (16 * s.val + r.val), by omega⟩ d) := by
  have ht := points t
  obtain ⟨e0, e1, e2, e3⟩ := index13 t
  have e : ((cfg0.win 13).blk t).view.emb (ix4 (n0 := 1) (n1 := 16) (n2 := 16) (n3 := 1024) 0 r s d)
      = ix4 (n0 := 2) (n1 := 16) (n2 := 512) (n3 := 1024) ⟨t.val / 32, by omega⟩ r ⟨16 * (t.val % 32) + s.val, by omega⟩
        d := by
    funext a; apply Fin.ext
    match a with
    | ⟨0, _⟩ => show win0_13.index t (0 : Fin 4) * 1 + 1 * 0 = t.val / 32; omega
    | ⟨1, _⟩ => show win0_13.index t (1 : Fin 4) * 16 + 1 * r.val = r.val; omega
    | ⟨2, _⟩ => show win0_13.index t (2 : Fin 4) * 16 + 1 * s.val = 16 * (t.val % 32) + s.val; omega
    | ⟨3, _⟩ => show win0_13.index t (3 : Fin 4) * 1024 + 1 * d.val = d.val; omega
  show V m c main_v3 (((cfg0.win 13).blk t).view.emb (ix4 (n0 := 1) (n1 := 16) (n2 := 16) (n3 := 1024) 0 r s d)) = _
  rw [e, entry_keep, split_keep_at]
  congr 2
  simp only [Fin.mk.injEq]; omega

theorem index14 : ∀ t : Fin cfg0.N, win0_14.index t (0 : Fin 2) = 0 ∧ win0_14.index t (1 : Fin 2) = 0 :=
  (by decide +kernel : ∀ t : Fin grid0.N, _)

theorem block14 (t : Fin cfg0.N) (d : Fin 1024) :
    (iblk m c 14 t : Vec Ideal S1x1024 .f32) (ix2 0 d) = m ((c.tc : Thread nD τ).loc main_arg2) (ix2 0 d) := by
  obtain ⟨e0, e1⟩ := index14 t
  have e : ((cfg0.win 14).blk t).view.emb (ix2 (n0 := 1) (n1 := 1024) 0 d) = ix2 (n0 := 1) (n1 := 1024) 0 d := by
    funext a; apply Fin.ext
    match a with
    | ⟨0, _⟩ => show win0_14.index t (0 : Fin 2) * 1 + 1 * 0 = 0; omega
    | ⟨1, _⟩ => show win0_14.index t (1 : Fin 2) * 1024 + 1 * d.val = d.val; omega
  show V m c main_arg2 (((cfg0.win 14).blk t).view.emb (ix2 (n0 := 1) (n1 := 1024) 0 d)) = _
  rw [e, V_main_arg2]

theorem index15 : ∀ t : Fin cfg0.N, win0_15.index t (0 : Fin 2) = 0 ∧ win0_15.index t (1 : Fin 2) = 0 :=
  (by decide +kernel : ∀ t : Fin grid0.N, _)

theorem block15 (t : Fin cfg0.N) (i j : Fin 128) :
    (iblk m c 15 t : Vec Ideal S128x128 .bf16) (ix2 i j) = ((if pos j ≤ pos i then 1 else 0 : ℝ) : EReal) := by
  obtain ⟨e0, e1⟩ := index15 t
  have e : ((cfg0.win 15).blk t).view.emb (ix2 (n0 := 128) (n1 := 128) i j) = ix2 (n0 := 128) (n1 := 128) i j := by
    funext a; apply Fin.ext
    match a with
    | ⟨0, _⟩ => show win0_15.index t (0 : Fin 2) * 128 + 1 * i.val = i.val; omega
    | ⟨1, _⟩ => show win0_15.index t (1 : Fin 2) * 128 + 1 * j.val = j.val; omega
  show V m c main_cst (((cfg0.win 15).blk t).view.emb (ix2 (n0 := 128) (n1 := 128) i j)) = _
  rw [e, entry_tri]

end Cert.Hgrn
-- ==== Proof.Heads0.lean ====
module

public import proofs.«01_k».proof.Proof.Chunk
public import Idealize.ShloMosaic.Lib.Pointwise

@[expose] public section
set_option maxRecDepth 16384
noncomputable section
open Idealize.ShloMosaic Idealize.ShloMosaic.TcCoe Idealize.SL.Sem
open Cert.KernelIdeal Cert.KernelIdeal.Gen
namespace Cert.Hgrn

/-- The state of head 0 stored after chunk 0, as the kernel computes it. -/
def sComp_0_0 (x10 x11 x13 : Vec Ideal S1x16x16x1024 .bf16) (x15 : Vec Ideal S128x128 .bf16) (s : Vec Ideal S1x128x128 .f32) : FVec Ideal S1x128x128 .f32 :=
  (k0_pay620 (k0_pay587 (k0_pay580 (k0_pay579 x13))) (k0_pay588 (k0_pay582 x11)) (k0_pay589 (k0_pay578 x10) x15) (k0_pay591 (k0_pay578 x10) x15) (k0_pay592 s))

theorem state_0_0 (x10 x11 x13 : Vec Ideal S1x16x16x1024 .bf16) (x15 : Vec Ideal S128x128 .bf16) (s : Vec Ideal S1x128x128 .f32) : sComp_0_0 x10 x11 x13 x15 s =
    shapeCast S1x128x128 (chunkSt 0 0 (k0_pay580 (k0_pay579 x13)) (k0_pay582 x11) (k0_pay578 x10) x15 (shapeCast S128x128 s shapeCasts_S1x128x128_S128x128)) shapeCasts_S128x128_S1x128x128 := rfl

/-- The gated outputs of head 0 on chunk 0, as the kernel computes them. -/
def oComp_0_0 (x9 x10 x11 x12 x13 : Vec Ideal S1x16x16x1024 .bf16) (x15 : Vec Ideal S128x128 .bf16) (s : Vec Ideal S1x128x128 .f32) (gain : Vec Ideal S1x128 .f32) : FVec Ideal S16x8x128 .f32 :=
  (k0_pay621 (k0_pay583 x12) (k0_pay584 (F := Ideal)) (k0_pay588 (k0_pay582 x11)) (k0_pay593 (k0_pay578 x10) (k0_pay581 x9) x15 s) (k0_pay595 (k0_pay581 x9)) (k0_pay596 (k0_pay580 (k0_pay579 x13))) (k0_pay611 (k0_pay584 (F := Ideal)) (k0_pay590 (k0_pay578 x10) x15) (k0_pay595 (k0_pay581 x9)) (k0_pay596 (k0_pay580 (k0_pay579 x13))) (k0_pay606 (k0_pay584 (F := Ideal)) (k0_pay590 (k0_pay578 x10) x15) (k0_pay595 (k0_pay581 x9)) (k0_pay596 (k0_pay580 (k0_pay579 x13))) (k0_pay603 (k0_pay584 (F := Ideal)) (k0_pay590 (k0_pay578 x10) x15) (k0_pay595 (k0_pay581 x9)) (k0_pay596 (k0_pay580 (k0_pay579 x13))) (k0_pay601 (k0_pay584 (F := Ideal)) (k0_pay595 (k0_pay581 x9)) (k0_pay596 (k0_pay580 (k0_pay579 x13))) (k0_pay598 (k0_pay584 (F := Ideal)) (k0_pay590 (k0_pay578 x10) x15) (k0_pay594 (k0_pay580 (k0_pay579 x13)) (k0_pay581 x9) (k0_pay584 (F := Ideal))) (k0_pay595 (k0_pay581 x9)) (k0_pay596 (k0_pay580 (k0_pay579 x13))) (k0_pay597 (k0_pay578 x10) x15)) (iota .tc S8x128 32 [0] iota_S8x128_d0_w32 : IVec S8x128 32) (k0_pay599 (k0_pay590 (k0_pay578 x10) x15)) (k0_pay600)) (k0_pay602 (k0_pay590 (k0_pay578 x10) x15))) (k0_pay604 (k0_pay590 (k0_pay578 x10) x15)) (k0_pay605 (k0_pay590 (k0_pay578 x10) x15))) (k0_pay607 (k0_pay590 (k0_pay578 x10) x15)) (k0_pay608 (k0_pay590 (k0_pay578 x10) x15)) (k0_pay609 (k0_pay590 (k0_pay578 x10) x15)) (k0_pay610 (k0_pay590 (k0_pay578 x10) x15))) (k0_pay619 (k0_pay590 (k0_pay578 x10) x15) (k0_pay612 (k0_pay590 (k0_pay578 x10) x15)) (k0_pay613 (k0_pay590 (k0_pay578 x10) x15)) (k0_pay614 (k0_pay590 (k0_pay578 x10) x15)) (k0_pay615 (k0_pay590 (k0_pay578 x10) x15)) (k0_pay616 (k0_pay590 (k0_pay578 x10) x15)) (k0_pay617 (k0_pay590 (k0_pay578 x10) x15)) (k0_pay618 (k0_pay590 (k0_pay578 x10) x15))) gain)

theorem out_0_0 (x9 x10 x11 x12 x13 : Vec Ideal S1x16x16x1024 .bf16) (x15 : Vec Ideal S128x128 .bf16) (s : Vec Ideal S1x128x128 .f32) (gain : Vec Ideal S1x128 .f32) : oComp_0_0 x9 x10 x11 x12 x13 x15 s gain =
    gated 0 0 (chunkO 0 0 (k0_pay581 x9) (k0_pay580 (k0_pay579 x13)) (k0_pay582 x11) (k0_pay578 x10) x15 (shapeCast S128x128 s shapeCasts_S1x128x128_S128x128)) gain (k0_pay583 x12) := rfl

/-- The state of head 1 stored after chunk 0, as the kernel computes it. -/
def sComp_0_1 (x10 x11 x13 : Vec Ideal S1x16x16x1024 .bf16) (x15 : Vec Ideal S128x128 .bf16) (s : Vec Ideal S1x128x128 .f32) : FVec Ideal S1x128x128 .f32 :=
  (k0_pay653 (k0_pay652 (k0_pay623 (k0_pay580 (k0_pay579 x13))) (k0_pay624 (k0_pay582 x11)) (k0_pay625 (k0_pay585 (k0_pay578 x10) x15)) (k0_pay627 (k0_pay585 (k0_pay578 x10) x15)) (k0_pay628 s)))

theorem state_0_1 (x10 x11 x13 : Vec Ideal S1x16x16x1024 .bf16) (x15 : Vec Ideal S128x128 .bf16) (s : Vec Ideal S1x128x128 .f32) : sComp_0_1 x10 x11 x13 x15 s =
    shapeCast S1x128x128 (chunkSt 0 1 (k0_pay580 (k0_pay579 x13)) (k0_pay582 x11) (k0_pay578 x10) x15 (shapeCast S128x128 s shapeCasts_S1x128x128_S128x128)) shapeCasts_S128x128_S1x128x128 := rfl

/-- The gated outputs of head 1 on chunk 0, as the kernel computes them. -/
def oComp_0_1 (x9 x10 x11 x12 x13 : Vec Ideal S1x16x16x1024 .bf16) (x15 : Vec Ideal S128x128 .bf16) (s : Vec Ideal S1x128x128 .f32) (gain : Vec Ideal S1x128 .f32) : FVec Ideal S16x8x128 .f32 :=
  (k0_pay654 (k0_pay583 x12) (k0_pay651 (k0_pay584 (F := Ideal)) (k0_pay624 (k0_pay582 x11)) (k0_pay626 (k0_pay585 (k0_pay578 x10) x15)) (k0_pay629 (k0_pay585 (k0_pay578 x10) x15) (k0_pay622 (k0_pay581 x9)) s) (k0_pay631 (k0_pay622 (k0_pay581 x9))) (k0_pay632 (k0_pay623 (k0_pay580 (k0_pay579 x13)))) (k0_pay642 (k0_pay639 (k0_pay584 (F := Ideal)) (k0_pay637 (k0_pay584 (F := Ideal)) (k0_pay626 (k0_pay585 (k0_pay578 x10) x15)) (k0_pay631 (k0_pay622 (k0_pay581 x9))) (k0_pay632 (k0_pay623 (k0_pay580 (k0_pay579 x13)))) (k0_pay634 (k0_pay584 (F := Ideal)) (k0_pay626 (k0_pay585 (k0_pay578 x10) x15)) (k0_pay630 (k0_pay584 (F := Ideal)) (k0_pay622 (k0_pay581 x9)) (k0_pay623 (k0_pay580 (k0_pay579 x13)))) (k0_pay631 (k0_pay622 (k0_pay581 x9))) (k0_pay632 (k0_pay623 (k0_pay580 (k0_pay579 x13)))) (k0_pay633 (k0_pay585 (k0_pay578 x10) x15))) (k0_pay636 (k0_pay626 (k0_pay585 (k0_pay578 x10) x15)) (k0_pay631 (k0_pay622 (k0_pay581 x9))) (k0_pay632 (k0_pay623 (k0_pay580 (k0_pay579 x13)))) (k0_pay635 (k0_pay626 (k0_pay585 (k0_pay578 x10) x15)))) (Scalar.ofBits .bf16 0x4080#16 : Ideal .bf16)) (k0_pay638 (k0_pay626 (k0_pay585 (k0_pay578 x10) x15)) (k0_pay631 (k0_pay622 (k0_pay581 x9))) (k0_pay632 (k0_pay623 (k0_pay580 (k0_pay579 x13))))) (Scalar.ofBits .bf16 0x4000#16 : Ideal .bf16)) (k0_pay640 (k0_pay626 (k0_pay585 (k0_pay578 x10) x15)) (k0_pay631 (k0_pay622 (k0_pay581 x9))) (k0_pay632 (k0_pay623 (k0_pay580 (k0_pay579 x13))))) (k0_pay641 (k0_pay584 (F := Ideal)))) (k0_pay643 (k0_pay626 (k0_pay585 (k0_pay578 x10) x15))) (k0_pay644 (k0_pay626 (k0_pay585 (k0_pay578 x10) x15))) (k0_pay645 (k0_pay626 (k0_pay585 (k0_pay578 x10) x15))) (k0_pay646 (k0_pay626 (k0_pay585 (k0_pay578 x10) x15))) (k0_pay647 (k0_pay626 (k0_pay585 (k0_pay578 x10) x15))) (k0_pay648 (k0_pay626 (k0_pay585 (k0_pay578 x10) x15))) (k0_pay649 (k0_pay626 (k0_pay585 (k0_pay578 x10) x15))) (k0_pay650 (k0_pay626 (k0_pay585 (k0_pay578 x10) x15)))) gain)

theorem out_0_1 (x9 x10 x11 x12 x13 : Vec Ideal S1x16x16x1024 .bf16) (x15 : Vec Ideal S128x128 .bf16) (s : Vec Ideal S1x128x128 .f32) (gain : Vec Ideal S1x128 .f32) : oComp_0_1 x9 x10 x11 x12 x13 x15 s gain =
    gated 0 1 (chunkO 0 1 (k0_pay581 x9) (k0_pay580 (k0_pay579 x13)) (k0_pay582 x11) (k0_pay578 x10) x15 (shapeCast S128x128 s shapeCasts_S1x128x128_S128x128)) gain (k0_pay583 x12) := rfl

/-- The state of head 2 stored after chunk 0, as the kernel computes it. -/
def sComp_0_2 (x10 x11 x13 : Vec Ideal S1x16x16x1024 .bf16) (x15 : Vec Ideal S128x128 .bf16) (s : Vec Ideal S1x128x128 .f32) : FVec Ideal S1x128x128 .f32 :=
  (k0_pay704 (k0_pay656 (k0_pay580 (k0_pay579 x13))) (k0_pay657 (k0_pay582 x11)) (k0_pay658 (k0_pay585 (k0_pay578 x10) x15)) (k0_pay660 (k0_pay585 (k0_pay578 x10) x15)) (k0_pay661 s))

theorem state_0_2 (x10 x11 x13 : Vec Ideal S1x16x16x1024 .bf16) (x15 : Vec Ideal S128x128 .bf16) (s : Vec Ideal S1x128x128 .f32) : sComp_0_2 x10 x11 x13 x15 s =
    shapeCast S1x128x128 (chunkSt 0 2 (k0_pay580 (k0_pay579 x13)) (k0_pay582 x11) (k0_pay578 x10) x15 (shapeCast S128x128 s shapeCasts_S1x128x128_S128x128)) shapeCasts_S128x128_S1x128x128 := rfl

/-- The gated outputs of head 2 on chunk 0, as the kernel computes them. -/
def oComp_0_2 (x9 x10 x11 x12 x13 : Vec Ideal S1x16x16x1024 .bf16) (x15 : Vec Ideal S128x128 .bf16) (s : Vec Ideal S1x128x128 .f32) (gain : Vec Ideal S1x128 .f32) : FVec Ideal S16x8x128 .f32 :=
  (k0_pay706 (k0_pay705 (k0_pay583 x12) (k0_pay584 (F := Ideal)) (k0_pay657 (k0_pay582 x11)) (k0_pay659 (k0_pay585 (k0_pay578 x10) x15)) (k0_pay662 (k0_pay581 x9) (k0_pay585 (k0_pay578 x10) x15) s) (k0_pay665 (k0_pay655 (k0_pay581 x9))) (k0_pay666 (k0_pay656 (k0_pay580 (k0_pay579 x13)))) (k0_pay682 (k0_pay584 (F := Ideal)) (k0_pay659 (k0_pay585 (k0_pay578 x10) x15)) (k0_pay665 (k0_pay655 (k0_pay581 x9))) (k0_pay666 (k0_pay656 (k0_pay580 (k0_pay579 x13)))) (k0_pay679 (k0_pay584 (F := Ideal)) (k0_pay659 (k0_pay585 (k0_pay578 x10) x15)) (k0_pay665 (k0_pay655 (k0_pay581 x9))) (k0_pay666 (k0_pay656 (k0_pay580 (k0_pay579 x13)))) (k0_pay676 (k0_pay584 (F := Ideal)) (k0_pay659 (k0_pay585 (k0_pay578 x10) x15)) (k0_pay665 (k0_pay655 (k0_pay581 x9))) (k0_pay666 (k0_pay656 (k0_pay580 (k0_pay579 x13)))) (k0_pay672 (k0_pay584 (F := Ideal)) (k0_pay659 (k0_pay585 (k0_pay578 x10) x15)) (k0_pay665 (k0_pay655 (k0_pay581 x9))) (k0_pay666 (k0_pay656 (k0_pay580 (k0_pay579 x13)))) (k0_pay667 (k0_pay584 (F := Ideal)) (k0_pay655 (k0_pay581 x9)) (k0_pay656 (k0_pay580 (k0_pay579 x13))) (k0_pay659 (k0_pay585 (k0_pay578 x10) x15)) (k0_pay663 (k0_pay580 (k0_pay579 x13)) (k0_pay581 x9)) (k0_pay664 (F := Ideal))) (k0_pay669 (k0_pay659 (k0_pay585 (k0_pay578 x10) x15))) (k0_pay670 (k0_pay659 (k0_pay585 (k0_pay578 x10) x15))) (k0_pay671)) (iota .tc S8x128 32 [0] iota_S8x128_d0_w32 : IVec S8x128 32) (k0_pay674 (k0_pay659 (k0_pay585 (k0_pay578 x10) x15))) (k0_pay675 (k0_pay659 (k0_pay585 (k0_pay578 x10) x15)))) (k0_pay677 (k0_pay659 (k0_pay585 (k0_pay578 x10) x15)) (k0_pay665 (k0_pay655 (k0_pay581 x9))) (k0_pay666 (k0_pay656 (k0_pay580 (k0_pay579 x13))))) (k0_pay678 (k0_pay584 (F := Ideal)))) (k0_pay680 (k0_pay659 (k0_pay585 (k0_pay578 x10) x15))) (k0_pay681 (k0_pay659 (k0_pay585 (k0_pay578 x10) x15)))) (k0_pay688 (k0_pay659 (k0_pay585 (k0_pay578 x10) x15)) (k0_pay683 (k0_pay659 (k0_pay585 (k0_pay578 x10) x15))) (k0_pay684 (k0_pay659 (k0_pay585 (k0_pay578 x10) x15))) (k0_pay685 (k0_pay659 (k0_pay585 (k0_pay578 x10) x15))) (k0_pay686 (k0_pay659 (k0_pay585 (k0_pay578 x10) x15))) (k0_pay687 (k0_pay659 (k0_pay585 (k0_pay578 x10) x15)))) (k0_pay689 (k0_pay659 (k0_pay585 (k0_pay578 x10) x15)) (k0_pay683 (k0_pay659 (k0_pay585 (k0_pay578 x10) x15))) (k0_pay684 (k0_pay659 (k0_pay585 (k0_pay578 x10) x15))) (k0_pay685 (k0_pay659 (k0_pay585 (k0_pay578 x10) x15))) (k0_pay686 (k0_pay659 (k0_pay585 (k0_pay578 x10) x15))) (k0_pay687 (k0_pay659 (k0_pay585 (k0_pay578 x10) x15)))) (k0_pay690 (k0_pay659 (k0_pay585 (k0_pay578 x10) x15)) (k0_pay683 (k0_pay659 (k0_pay585 (k0_pay578 x10) x15))) (k0_pay684 (k0_pay659 (k0_pay585 (k0_pay578 x10) x15))) (k0_pay685 (k0_pay659 (k0_pay585 (k0_pay578 x10) x15))) (k0_pay686 (k0_pay659 (k0_pay585 (k0_pay578 x10) x15))) (k0_pay687 (k0_pay659 (k0_pay585 (k0_pay578 x10) x15)))) (k0_pay691 (k0_pay659 (k0_pay585 (k0_pay578 x10) x15)) (k0_pay683 (k0_pay659 (k0_pay585 (k0_pay578 x10) x15))) (k0_pay684 (k0_pay659 (k0_pay585 (k0_pay578 x10) x15))) (k0_pay685 (k0_pay659 (k0_pay585 (k0_pay578 x10) x15))) (k0_pay686 (k0_pay659 (k0_pay585 (k0_pay578 x10) x15))) (k0_pay687 (k0_pay659 (k0_pay585 (k0_pay578 x10) x15)))) (k0_pay692 (k0_pay659 (k0_pay585 (k0_pay578 x10) x15)) (k0_pay683 (k0_pay659 (k0_pay585 (k0_pay578 x10) x15))) (k0_pay684 (k0_pay659 (k0_pay585 (k0_pay578 x10) x15))) (k0_pay685 (k0_pay659 (k0_pay585 (k0_pay578 x10) x15))) (k0_pay686 (k0_pay659 (k0_pay585 (k0_pay578 x10) x15))) (k0_pay687 (k0_pay659 (k0_pay585 (k0_pay578 x10) x15)))) (k0_pay693 (k0_pay659 (k0_pay585 (k0_pay578 x10) x15)) (k0_pay683 (k0_pay659 (k0_pay585 (k0_pay578 x10) x15))) (k0_pay684 (k0_pay659 (k0_pay585 (k0_pay578 x10) x15))) (k0_pay685 (k0_pay659 (k0_pay585 (k0_pay578 x10) x15))) (k0_pay686 (k0_pay659 (k0_pay585 (k0_pay578 x10) x15))) (k0_pay687 (k0_pay659 (k0_pay585 (k0_pay578 x10) x15)))) (k0_pay694 (k0_pay659 (k0_pay585 (k0_pay578 x10) x15)) (k0_pay683 (k0_pay659 (k0_pay585 (k0_pay578 x10) x15))) (k0_pay684 (k0_pay659 (k0_pay585 (k0_pay578 x10) x15))) (k0_pay685 (k0_pay659 (k0_pay585 (k0_pay578 x10) x15))) (k0_pay686 (k0_pay659 (k0_pay585 (k0_pay578 x10) x15))) (k0_pay687 (k0_pay659 (k0_pay585 (k0_pay578 x10) x15)))) (k0_pay695 (k0_pay659 (k0_pay585 (k0_pay578 x10) x15)) (k0_pay683 (k0_pay659 (k0_pay585 (k0_pay578 x10) x15))) (k0_pay684 (k0_pay659 (k0_pay585 (k0_pay578 x10) x15))) (k0_pay685 (k0_pay659 (k0_pay585 (k0_pay578 x10) x15))) (k0_pay686 (k0_pay659 (k0_pay585 (k0_pay578 x10) x15))) (k0_pay687 (k0_pay659 (k0_pay585 (k0_pay578 x10) x15)))) (k0_pay696 (k0_pay659 (k0_pay585 (k0_pay578 x10) x15)) (k0_pay683 (k0_pay659 (k0_pay585 (k0_pay578 x10) x15))) (k0_pay684 (k0_pay659 (k0_pay585 (k0_pay578 x10) x15))) (k0_pay685 (k0_pay659 (k0_pay585 (k0_pay578 x10) x15))) (k0_pay686 (k0_pay659 (k0_pay585 (k0_pay578 x10) x15))) (k0_pay687 (k0_pay659 (k0_pay585 (k0_pay578 x10) x15)))) (k0_pay697 (k0_pay659 (k0_pay585 (k0_pay578 x10) x15)) (k0_pay683 (k0_pay659 (k0_pay585 (k0_pay578 x10) x15))) (k0_pay684 (k0_pay659 (k0_pay585 (k0_pay578 x10) x15))) (k0_pay685 (k0_pay659 (k0_pay585 (k0_pay578 x10) x15))) (k0_pay686 (k0_pay659 (k0_pay585 (k0_pay578 x10) x15))) (k0_pay687 (k0_pay659 (k0_pay585 (k0_pay578 x10) x15)))) (k0_pay698 (k0_pay659 (k0_pay585 (k0_pay578 x10) x15)) (k0_pay683 (k0_pay659 (k0_pay585 (k0_pay578 x10) x15))) (k0_pay684 (k0_pay659 (k0_pay585 (k0_pay578 x10) x15))) (k0_pay685 (k0_pay659 (k0_pay585 (k0_pay578 x10) x15))) (k0_pay686 (k0_pay659 (k0_pay585 (k0_pay578 x10) x15))) (k0_pay687 (k0_pay659 (k0_pay585 (k0_pay578 x10) x15)))) (k0_pay699 (k0_pay659 (k0_pay585 (k0_pay578 x10) x15)) (k0_pay683 (k0_pay659 (k0_pay585 (k0_pay578 x10) x15))) (k0_pay684 (k0_pay659 (k0_pay585 (k0_pay578 x10) x15))) (k0_pay685 (k0_pay659 (k0_pay585 (k0_pay578 x10) x15))) (k0_pay686 (k0_pay659 (k0_pay585 (k0_pay578 x10) x15))) (k0_pay687 (k0_pay659 (k0_pay585 (k0_pay578 x10) x15)))) (k0_pay700 (k0_pay659 (k0_pay585 (k0_pay578 x10) x15)) (k0_pay683 (k0_pay659 (k0_pay585 (k0_pay578 x10) x15))) (k0_pay684 (k0_pay659 (k0_pay585 (k0_pay578 x10) x15))) (k0_pay685 (k0_pay659 (k0_pay585 (k0_pay578 x10) x15))) (k0_pay686 (k0_pay659 (k0_pay585 (k0_pay578 x10) x15))) (k0_pay687 (k0_pay659 (k0_pay585 (k0_pay578 x10) x15)))) (k0_pay701 (k0_pay659 (k0_pay585 (k0_pay578 x10) x15)) (k0_pay683 (k0_pay659 (k0_pay585 (k0_pay578 x10) x15))) (k0_pay684 (k0_pay659 (k0_pay585 (k0_pay578 x10) x15))) (k0_pay685 (k0_pay659 (k0_pay585 (k0_pay578 x10) x15))) (k0_pay686 (k0_pay659 (k0_pay585 (k0_pay578 x10) x15))) (k0_pay687 (k0_pay659 (k0_pay585 (k0_pay578 x10) x15)))) (k0_pay702 (k0_pay659 (k0_pay585 (k0_pay578 x10) x15)) (k0_pay683 (k0_pay659 (k0_pay585 (k0_pay578 x10) x15))) (k0_pay684 (k0_pay659 (k0_pay585 (k0_pay578 x10) x15))) (k0_pay685 (k0_pay659 (k0_pay585 (k0_pay578 x10) x15))) (k0_pay686 (k0_pay659 (k0_pay585 (k0_pay578 x10) x15))) (k0_pay687 (k0_pay659 (k0_pay585 (k0_pay578 x10) x15)))) (k0_pay703 (k0_pay659 (k0_pay585 (k0_pay578 x10) x15)) (k0_pay683 (k0_pay659 (k0_pay585 (k0_pay578 x10) x15))) (k0_pay684 (k0_pay659 (k0_pay585 (k0_pay578 x10) x15))) (k0_pay685 (k0_pay659 (k0_pay585 (k0_pay578 x10) x15))) (k0_pay686 (k0_pay659 (k0_pay585 (k0_pay578 x10) x15))) (k0_pay687 (k0_pay659 (k0_pay585 (k0_pay578 x10) x15)))) gain))

theorem out_0_2 (x9 x10 x11 x12 x13 : Vec Ideal S1x16x16x1024 .bf16) (x15 : Vec Ideal S128x128 .bf16) (s : Vec Ideal S1x128x128 .f32) (gain : Vec Ideal S1x128 .f32) : oComp_0_2 x9 x10 x11 x12 x13 x15 s gain =
    gated 0 2 (chunkO 0 2 (k0_pay581 x9) (k0_pay580 (k0_pay579 x13)) (k0_pay582 x11) (k0_pay578 x10) x15 (shapeCast S128x128 s shapeCasts_S1x128x128_S128x128)) gain (k0_pay583 x12) := rfl

/-- The state of head 3 stored after chunk 0, as the kernel computes it. -/
def sComp_0_3 (x10 x11 x13 : Vec Ideal S1x16x16x1024 .bf16) (x15 : Vec Ideal S128x128 .bf16) (s : Vec Ideal S1x128x128 .f32) : FVec Ideal S1x128x128 .f32 :=
  (k0_pay737 (k0_pay709 (k0_pay582 x11)) (k0_pay712 (k0_pay585 (k0_pay578 x10) x15)) (k0_pay713 s) (k0_pay736 (k0_pay708 (k0_pay580 (k0_pay579 x13))) (k0_pay710 (k0_pay585 (k0_pay578 x10) x15)) (k0_pay712 (k0_pay585 (k0_pay578 x10) x15))))

theorem state_0_3 (x10 x11 x13 : Vec Ideal S1x16x16x1024 .bf16) (x15 : Vec Ideal S128x128 .bf16) (s : Vec Ideal S1x128x128 .f32) : sComp_0_3 x10 x11 x13 x15 s =
    shapeCast S1x128x128 (chunkSt 0 3 (k0_pay580 (k0_pay579 x13)) (k0_pay582 x11) (k0_pay578 x10) x15 (shapeCast S128x128 s shapeCasts_S1x128x128_S128x128)) shapeCasts_S128x128_S1x128x128 := rfl

/-- The gated outputs of head 3 on chunk 0, as the kernel computes them. -/
def oComp_0_3 (x9 x10 x11 x12 x13 : Vec Ideal S1x16x16x1024 .bf16) (x15 : Vec Ideal S128x128 .bf16) (s : Vec Ideal S1x128x128 .f32) (gain : Vec Ideal S1x128 .f32) : FVec Ideal S16x8x128 .f32 :=
  (k0_pay738 (k0_pay583 x12) (k0_pay735 (k0_pay584 (F := Ideal)) (k0_pay709 (k0_pay582 x11)) (k0_pay711 (k0_pay585 (k0_pay578 x10) x15)) (k0_pay714 (k0_pay581 x9) (k0_pay585 (k0_pay578 x10) x15) s) (k0_pay716 (k0_pay581 x9)) (k0_pay717 (k0_pay580 (k0_pay579 x13))) (k0_pay730 (k0_pay584 (F := Ideal)) (k0_pay716 (k0_pay581 x9)) (k0_pay717 (k0_pay580 (k0_pay579 x13))) (k0_pay728 (k0_pay584 (F := Ideal)) (k0_pay716 (k0_pay581 x9)) (k0_pay717 (k0_pay580 (k0_pay579 x13))) (k0_pay726 (k0_pay584 (F := Ideal)) (k0_pay711 (k0_pay585 (k0_pay578 x10) x15)) (k0_pay716 (k0_pay581 x9)) (k0_pay717 (k0_pay580 (k0_pay579 x13))) (k0_pay724 (k0_pay584 (F := Ideal)) (k0_pay720 (k0_pay584 (F := Ideal)) (k0_pay715 (k0_pay580 (k0_pay579 x13)) (k0_pay581 x9) (k0_pay584 (F := Ideal))) (k0_pay716 (k0_pay581 x9)) (k0_pay717 (k0_pay580 (k0_pay579 x13))) (k0_pay718 (k0_pay585 (k0_pay578 x10) x15)) (k0_pay719) (Scalar.ofBits .f32 0x3F800000#32 : Ideal .f32) (Scalar.ofBits .f32 0xBF800000#32 : Ideal .f32)) (k0_pay722 (k0_pay711 (k0_pay585 (k0_pay578 x10) x15)) (k0_pay716 (k0_pay581 x9))) (k0_pay723 (k0_pay711 (k0_pay585 (k0_pay578 x10) x15)) (k0_pay717 (k0_pay580 (k0_pay579 x13)))) (constant S128x128 .f32 0x00000000#32 : FVec Ideal S128x128 .f32)) (k0_pay725 (k0_pay711 (k0_pay585 (k0_pay578 x10) x15)))) (k0_pay727 (k0_pay711 (k0_pay585 (k0_pay578 x10) x15)))) (k0_pay729 (k0_pay711 (k0_pay585 (k0_pay578 x10) x15)))) (k0_pay731 (k0_pay711 (k0_pay585 (k0_pay578 x10) x15))) (k0_pay732 (k0_pay711 (k0_pay585 (k0_pay578 x10) x15))) (k0_pay733 (k0_pay711 (k0_pay585 (k0_pay578 x10) x15))) (k0_pay734 (k0_pay711 (k0_pay585 (k0_pay578 x10) x15)))) gain)

theorem out_0_3 (x9 x10 x11 x12 x13 : Vec Ideal S1x16x16x1024 .bf16) (x15 : Vec Ideal S128x128 .bf16) (s : Vec Ideal S1x128x128 .f32) (gain : Vec Ideal S1x128 .f32) : oComp_0_3 x9 x10 x11 x12 x13 x15 s gain =
    gated 0 3 (chunkO 0 3 (k0_pay581 x9) (k0_pay580 (k0_pay579 x13)) (k0_pay582 x11) (k0_pay578 x10) x15 (shapeCast S128x128 s shapeCasts_S1x128x128_S128x128)) gain (k0_pay583 x12) := rfl

/-- The state of head 4 stored after chunk 0, as the kernel computes it. -/
def sComp_0_4 (x10 x11 x13 : Vec Ideal S1x16x16x1024 .bf16) (x15 : Vec Ideal S128x128 .bf16) (s : Vec Ideal S1x128x128 .f32) : FVec Ideal S1x128x128 .f32 :=
  (k0_pay782 (k0_pay740 (k0_pay580 (k0_pay579 x13))) (k0_pay741 (k0_pay582 x11)) (k0_pay742 (k0_pay585 (k0_pay578 x10) x15)) (k0_pay744 (k0_pay585 (k0_pay578 x10) x15)) (k0_pay745 s))

theorem state_0_4 (x10 x11 x13 : Vec Ideal S1x16x16x1024 .bf16) (x15 : Vec Ideal S128x128 .bf16) (s : Vec Ideal S1x128x128 .f32) : sComp_0_4 x10 x11 x13 x15 s =
    shapeCast S1x128x128 (chunkSt 0 4 (k0_pay580 (k0_pay579 x13)) (k0_pay582 x11) (k0_pay578 x10) x15 (shapeCast S128x128 s shapeCasts_S1x128x128_S128x128)) shapeCasts_S128x128_S1x128x128 := rfl

/-- The gated outputs of head 4 on chunk 0, as the kernel computes them. -/
def oComp_0_4 (x9 x10 x11 x12 x13 : Vec Ideal S1x16x16x1024 .bf16) (x15 : Vec Ideal S128x128 .bf16) (s : Vec Ideal S1x128x128 .f32) (gain : Vec Ideal S1x128 .f32) : FVec Ideal S16x8x128 .f32 :=
  (k0_pay784 (k0_pay583 x12) (k0_pay783 (k0_pay584 (F := Ideal)) (k0_pay741 (k0_pay582 x11)) (k0_pay743 (k0_pay585 (k0_pay578 x10) x15)) (k0_pay746 (k0_pay581 x9) (k0_pay585 (k0_pay578 x10) x15) s) (k0_pay748 (k0_pay739 (k0_pay581 x9))) (k0_pay749 (k0_pay740 (k0_pay580 (k0_pay579 x13)))) (k0_pay763 (k0_pay584 (F := Ideal)) (k0_pay743 (k0_pay585 (k0_pay578 x10) x15)) (k0_pay748 (k0_pay739 (k0_pay581 x9))) (k0_pay749 (k0_pay740 (k0_pay580 (k0_pay579 x13)))) (k0_pay759 (k0_pay584 (F := Ideal)) (k0_pay743 (k0_pay585 (k0_pay578 x10) x15)) (k0_pay748 (k0_pay739 (k0_pay581 x9))) (k0_pay749 (k0_pay740 (k0_pay580 (k0_pay579 x13)))) (k0_pay757 (k0_pay584 (F := Ideal)) (k0_pay743 (k0_pay585 (k0_pay578 x10) x15)) (k0_pay748 (k0_pay739 (k0_pay581 x9))) (k0_pay749 (k0_pay740 (k0_pay580 (k0_pay579 x13)))) (k0_pay753 (k0_pay584 (F := Ideal)) (k0_pay743 (k0_pay585 (k0_pay578 x10) x15)) (k0_pay748 (k0_pay739 (k0_pay581 x9))) (k0_pay749 (k0_pay740 (k0_pay580 (k0_pay579 x13)))) (k0_pay750 (k0_pay584 (F := Ideal)) (k0_pay739 (k0_pay581 x9)) (k0_pay740 (k0_pay580 (k0_pay579 x13))) (k0_pay743 (k0_pay585 (k0_pay578 x10) x15)) (k0_pay747 (k0_pay580 (k0_pay579 x13)) (k0_pay581 x9))) (k0_pay751 (k0_pay743 (k0_pay585 (k0_pay578 x10) x15))) (iota .tc S8x128 32 [0] iota_S8x128_d0_w32 : IVec S8x128 32) (k0_pay752 (k0_pay743 (k0_pay585 (k0_pay578 x10) x15)))) (k0_pay754 (k0_pay743 (k0_pay585 (k0_pay578 x10) x15))) (iota .tc S8x128 32 [0] iota_S8x128_d0_w32 : IVec S8x128 32) (k0_pay755 (k0_pay743 (k0_pay585 (k0_pay578 x10) x15))) (k0_pay756 (k0_pay743 (k0_pay585 (k0_pay578 x10) x15)))) (k0_pay758 (k0_pay743 (k0_pay585 (k0_pay578 x10) x15)))) (k0_pay760 (k0_pay743 (k0_pay585 (k0_pay578 x10) x15))) (k0_pay761 (k0_pay743 (k0_pay585 (k0_pay578 x10) x15))) (k0_pay762 (k0_pay743 (k0_pay585 (k0_pay578 x10) x15)))) (k0_pay768 (k0_pay743 (k0_pay585 (k0_pay578 x10) x15)) (k0_pay764 (k0_pay743 (k0_pay585 (k0_pay578 x10) x15))) (k0_pay765 (k0_pay743 (k0_pay585 (k0_pay578 x10) x15))) (k0_pay766 (k0_pay743 (k0_pay585 (k0_pay578 x10) x15))) (k0_pay767 (k0_pay743 (k0_pay585 (k0_pay578 x10) x15)))) (k0_pay769 (k0_pay743 (k0_pay585 (k0_pay578 x10) x15)) (k0_pay764 (k0_pay743 (k0_pay585 (k0_pay578 x10) x15))) (k0_pay765 (k0_pay743 (k0_pay585 (k0_pay578 x10) x15))) (k0_pay766 (k0_pay743 (k0_pay585 (k0_pay578 x10) x15))) (k0_pay767 (k0_pay743 (k0_pay585 (k0_pay578 x10) x15)))) (k0_pay770 (k0_pay743 (k0_pay585 (k0_pay578 x10) x15)) (k0_pay764 (k0_pay743 (k0_pay585 (k0_pay578 x10) x15))) (k0_pay765 (k0_pay743 (k0_pay585 (k0_pay578 x10) x15))) (k0_pay766 (k0_pay743 (k0_pay585 (k0_pay578 x10) x15))) (k0_pay767 (k0_pay743 (k0_pay585 (k0_pay578 x10) x15)))) (k0_pay771 (k0_pay743 (k0_pay585 (k0_pay578 x10) x15)) (k0_pay764 (k0_pay743 (k0_pay585 (k0_pay578 x10) x15))) (k0_pay765 (k0_pay743 (k0_pay585 (k0_pay578 x10) x15))) (k0_pay766 (k0_pay743 (k0_pay585 (k0_pay578 x10) x15))) (k0_pay767 (k0_pay743 (k0_pay585 (k0_pay578 x10) x15)))) (k0_pay772 (k0_pay743 (k0_pay585 (k0_pay578 x10) x15)) (k0_pay764 (k0_pay743 (k0_pay585 (k0_pay578 x10) x15))) (k0_pay765 (k0_pay743 (k0_pay585 (k0_pay578 x10) x15))) (k0_pay766 (k0_pay743 (k0_pay585 (k0_pay578 x10) x15))) (k0_pay767 (k0_pay743 (k0_pay585 (k0_pay578 x10) x15)))) (k0_pay773 (k0_pay743 (k0_pay585 (k0_pay578 x10) x15)) (k0_pay764 (k0_pay743 (k0_pay585 (k0_pay578 x10) x15))) (k0_pay765 (k0_pay743 (k0_pay585 (k0_pay578 x10) x15))) (k0_pay766 (k0_pay743 (k0_pay585 (k0_pay578 x10) x15))) (k0_pay767 (k0_pay743 (k0_pay585 (k0_pay578 x10) x15)))) (k0_pay774 (k0_pay743 (k0_pay585 (k0_pay578 x10) x15)) (k0_pay764 (k0_pay743 (k0_pay585 (k0_pay578 x10) x15))) (k0_pay765 (k0_pay743 (k0_pay585 (k0_pay578 x10) x15))) (k0_pay766 (k0_pay743 (k0_pay585 (k0_pay578 x10) x15))) (k0_pay767 (k0_pay743 (k0_pay585 (k0_pay578 x10) x15)))) (k0_pay775 (k0_pay743 (k0_pay585 (k0_pay578 x10) x15)) (k0_pay764 (k0_pay743 (k0_pay585 (k0_pay578 x10) x15))) (k0_pay765 (k0_pay743 (k0_pay585 (k0_pay578 x10) x15))) (k0_pay766 (k0_pay743 (k0_pay585 (k0_pay578 x10) x15))) (k0_pay767 (k0_pay743 (k0_pay585 (k0_pay578 x10) x15)))) (k0_pay776 (k0_pay743 (k0_pay585 (k0_pay578 x10) x15)) (k0_pay764 (k0_pay743 (k0_pay585 (k0_pay578 x10) x15))) (k0_pay765 (k0_pay743 (k0_pay585 (k0_pay578 x10) x15))) (k0_pay766 (k0_pay743 (k0_pay585 (k0_pay578 x10) x15))) (k0_pay767 (k0_pay743 (k0_pay585 (k0_pay578 x10) x15)))) (k0_pay777 (k0_pay743 (k0_pay585 (k0_pay578 x10) x15)) (k0_pay764 (k0_pay743 (k0_pay585 (k0_pay578 x10) x15))) (k0_pay765 (k0_pay743 (k0_pay585 (k0_pay578 x10) x15))) (k0_pay766 (k0_pay743 (k0_pay585 (k0_pay578 x10) x15))) (k0_pay767 (k0_pay743 (k0_pay585 (k0_pay578 x10) x15)))) (k0_pay778 (k0_pay743 (k0_pay585 (k0_pay578 x10) x15)) (k0_pay764 (k0_pay743 (k0_pay585 (k0_pay578 x10) x15))) (k0_pay765 (k0_pay743 (k0_pay585 (k0_pay578 x10) x15))) (k0_pay766 (k0_pay743 (k0_pay585 (k0_pay578 x10) x15))) (k0_pay767 (k0_pay743 (k0_pay585 (k0_pay578 x10) x15)))) (k0_pay779 (k0_pay743 (k0_pay585 (k0_pay578 x10) x15)) (k0_pay764 (k0_pay743 (k0_pay585 (k0_pay578 x10) x15))) (k0_pay765 (k0_pay743 (k0_pay585 (k0_pay578 x10) x15))) (k0_pay766 (k0_pay743 (k0_pay585 (k0_pay578 x10) x15))) (k0_pay767 (k0_pay743 (k0_pay585 (k0_pay578 x10) x15)))) (k0_pay780 (k0_pay743 (k0_pay585 (k0_pay578 x10) x15))) (k0_pay781 (k0_pay743 (k0_pay585 (k0_pay578 x10) x15)) (k0_pay764 (k0_pay743 (k0_pay585 (k0_pay578 x10) x15))) (k0_pay765 (k0_pay743 (k0_pay585 (k0_pay578 x10) x15))) (k0_pay766 (k0_pay743 (k0_pay585 (k0_pay578 x10) x15))) (k0_pay767 (k0_pay743 (k0_pay585 (k0_pay578 x10) x15))))) gain)

theorem out_0_4 (x9 x10 x11 x12 x13 : Vec Ideal S1x16x16x1024 .bf16) (x15 : Vec Ideal S128x128 .bf16) (s : Vec Ideal S1x128x128 .f32) (gain : Vec Ideal S1x128 .f32) : oComp_0_4 x9 x10 x11 x12 x13 x15 s gain =
    gated 0 4 (chunkO 0 4 (k0_pay581 x9) (k0_pay580 (k0_pay579 x13)) (k0_pay582 x11) (k0_pay578 x10) x15 (shapeCast S128x128 s shapeCasts_S1x128x128_S128x128)) gain (k0_pay583 x12) := rfl

/-- The state of head 5 stored after chunk 0, as the kernel computes it. -/
def sComp_0_5 (x10 x11 x13 : Vec Ideal S1x16x16x1024 .bf16) (x15 : Vec Ideal S128x128 .bf16) (s : Vec Ideal S1x128x128 .f32) : FVec Ideal S1x128x128 .f32 :=
  (k0_pay821 (k0_pay786 (k0_pay580 (k0_pay579 x13))) (k0_pay787 (k0_pay582 x11)) (k0_pay788 (k0_pay585 (k0_pay578 x10) x15)) (k0_pay790 (k0_pay585 (k0_pay578 x10) x15)) (k0_pay791 s))

theorem state_0_5 (x10 x11 x13 : Vec Ideal S1x16x16x1024 .bf16) (x15 : Vec Ideal S128x128 .bf16) (s : Vec Ideal S1x128x128 .f32) : sComp_0_5 x10 x11 x13 x15 s =
    shapeCast S1x128x128 (chunkSt 0 5 (k0_pay580 (k0_pay579 x13)) (k0_pay582 x11) (k0_pay578 x10) x15 (shapeCast S128x128 s shapeCasts_S1x128x128_S128x128)) shapeCasts_S128x128_S1x128x128 := rfl

/-- The gated outputs of head 5 on chunk 0, as the kernel computes them. -/
def oComp_0_5 (x9 x10 x11 x12 x13 : Vec Ideal S1x16x16x1024 .bf16) (x15 : Vec Ideal S128x128 .bf16) (s : Vec Ideal S1x128x128 .f32) (gain : Vec Ideal S1x128 .f32) : FVec Ideal S16x8x128 .f32 :=
  (k0_pay822 (k0_pay583 x12) (k0_pay787 (k0_pay582 x11)) (k0_pay792 (k0_pay581 x9) (k0_pay585 (k0_pay578 x10) x15) s) (k0_pay820 (k0_pay584 (F := Ideal)) (k0_pay789 (k0_pay585 (k0_pay578 x10) x15)) (k0_pay794 (k0_pay581 x9)) (k0_pay795 (k0_pay580 (k0_pay579 x13))) (k0_pay817 (k0_pay584 (F := Ideal)) (k0_pay789 (k0_pay585 (k0_pay578 x10) x15)) (k0_pay794 (k0_pay581 x9)) (k0_pay795 (k0_pay580 (k0_pay579 x13))) (k0_pay808 (k0_pay584 (F := Ideal)) (k0_pay789 (k0_pay585 (k0_pay578 x10) x15)) (k0_pay794 (k0_pay581 x9)) (k0_pay795 (k0_pay580 (k0_pay579 x13))) (k0_pay803 (k0_pay584 (F := Ideal)) (k0_pay789 (k0_pay585 (k0_pay578 x10) x15)) (k0_pay794 (k0_pay581 x9)) (k0_pay795 (k0_pay580 (k0_pay579 x13))) (k0_pay800 (k0_pay584 (F := Ideal)) (k0_pay794 (k0_pay581 x9)) (k0_pay795 (k0_pay580 (k0_pay579 x13))) (k0_pay797 (k0_pay584 (F := Ideal)) (k0_pay793 (k0_pay580 (k0_pay579 x13)) (k0_pay581 x9) (k0_pay584 (F := Ideal))) (k0_pay794 (k0_pay581 x9)) (k0_pay795 (k0_pay580 (k0_pay579 x13))) (iota .tc S8x128 32 [0] iota_S8x128_d0_w32 : IVec S8x128 32) (k0_pay796 (k0_pay585 (k0_pay578 x10) x15))) (k0_pay798 (k0_pay789 (k0_pay585 (k0_pay578 x10) x15))) (k0_pay799 (F := Ideal))) (k0_pay801 (k0_pay789 (k0_pay585 (k0_pay578 x10) x15))) (k0_pay802)) (k0_pay804 (k0_pay789 (k0_pay585 (k0_pay578 x10) x15))) (k0_pay805 (k0_pay789 (k0_pay585 (k0_pay578 x10) x15))) (k0_pay806 (k0_pay789 (k0_pay585 (k0_pay578 x10) x15))) (k0_pay807 (k0_pay789 (k0_pay585 (k0_pay578 x10) x15)))) (k0_pay809 (k0_pay789 (k0_pay585 (k0_pay578 x10) x15))) (k0_pay810 (k0_pay789 (k0_pay585 (k0_pay578 x10) x15))) (k0_pay811 (k0_pay789 (k0_pay585 (k0_pay578 x10) x15))) (k0_pay812 (k0_pay789 (k0_pay585 (k0_pay578 x10) x15))) (k0_pay813 (k0_pay789 (k0_pay585 (k0_pay578 x10) x15))) (k0_pay814 (k0_pay789 (k0_pay585 (k0_pay578 x10) x15))) (k0_pay815 (k0_pay789 (k0_pay585 (k0_pay578 x10) x15))) (k0_pay816 (k0_pay789 (k0_pay585 (k0_pay578 x10) x15)))) (k0_pay818 (k0_pay789 (k0_pay585 (k0_pay578 x10) x15))) (k0_pay819 (k0_pay789 (k0_pay585 (k0_pay578 x10) x15)))) gain)

theorem out_0_5 (x9 x10 x11 x12 x13 : Vec Ideal S1x16x16x1024 .bf16) (x15 : Vec Ideal S128x128 .bf16) (s : Vec Ideal S1x128x128 .f32) (gain : Vec Ideal S1x128 .f32) : oComp_0_5 x9 x10 x11 x12 x13 x15 s gain =
    gated 0 5 (chunkO 0 5 (k0_pay581 x9) (k0_pay580 (k0_pay579 x13)) (k0_pay582 x11) (k0_pay578 x10) x15 (shapeCast S128x128 s shapeCasts_S1x128x128_S128x128)) gain (k0_pay583 x12) := rfl

/-- The state of head 6 stored after chunk 0, as the kernel computes it. -/
def sComp_0_6 (x10 x11 x13 : Vec Ideal S1x16x16x1024 .bf16) (x15 : Vec Ideal S128x128 .bf16) (s : Vec Ideal S1x128x128 .f32) : FVec Ideal S1x128x128 .f32 :=
  (k0_pay858 (k0_pay824 (k0_pay580 (k0_pay579 x13))) (k0_pay825 (k0_pay582 x11)) (k0_pay826 (k0_pay585 (k0_pay578 x10) x15)) (k0_pay828 (k0_pay585 (k0_pay578 x10) x15)) (k0_pay829 s))

theorem state_0_6 (x10 x11 x13 : Vec Ideal S1x16x16x1024 .bf16) (x15 : Vec Ideal S128x128 .bf16) (s : Vec Ideal S1x128x128 .f32) : sComp_0_6 x10 x11 x13 x15 s =
    shapeCast S1x128x128 (chunkSt 0 6 (k0_pay580 (k0_pay579 x13)) (k0_pay582 x11) (k0_pay578 x10) x15 (shapeCast S128x128 s shapeCasts_S1x128x128_S128x128)) shapeCasts_S128x128_S1x128x128 := rfl

/-- The gated outputs of head 6 on chunk 0, as the kernel computes them. -/
def oComp_0_6 (x9 x10 x11 x12 x13 : Vec Ideal S1x16x16x1024 .bf16) (x15 : Vec Ideal S128x128 .bf16) (s : Vec Ideal S1x128x128 .f32) (gain : Vec Ideal S1x128 .f32) : FVec Ideal S16x8x128 .f32 :=
  (k0_pay860 (k0_pay583 x12) (k0_pay857 (k0_pay584 (F := Ideal)) (k0_pay825 (k0_pay582 x11)) (k0_pay827 (k0_pay585 (k0_pay578 x10) x15)) (k0_pay830 (k0_pay823 (k0_pay581 x9)) (k0_pay826 (k0_pay585 (k0_pay578 x10) x15)) s) (k0_pay831 (k0_pay823 (k0_pay581 x9))) (k0_pay832 (k0_pay824 (k0_pay580 (k0_pay579 x13)))) (k0_pay844 (k0_pay584 (F := Ideal)) (k0_pay827 (k0_pay585 (k0_pay578 x10) x15)) (k0_pay831 (k0_pay823 (k0_pay581 x9))) (k0_pay832 (k0_pay824 (k0_pay580 (k0_pay579 x13)))) (k0_pay841 (k0_pay584 (F := Ideal)) (k0_pay827 (k0_pay585 (k0_pay578 x10) x15)) (k0_pay831 (k0_pay823 (k0_pay581 x9))) (k0_pay832 (k0_pay824 (k0_pay580 (k0_pay579 x13)))) (k0_pay838 (k0_pay584 (F := Ideal)) (k0_pay827 (k0_pay585 (k0_pay578 x10) x15)) (k0_pay831 (k0_pay823 (k0_pay581 x9))) (k0_pay832 (k0_pay824 (k0_pay580 (k0_pay579 x13)))) (k0_pay834 (k0_pay584 (F := Ideal)) (k0_pay827 (k0_pay585 (k0_pay578 x10) x15)) (k0_pay831 (k0_pay823 (k0_pay581 x9))) (k0_pay832 (k0_pay824 (k0_pay580 (k0_pay579 x13)))) (k0_pay833 (k0_pay584 (F := Ideal)) (k0_pay823 (k0_pay581 x9)) (k0_pay824 (k0_pay580 (k0_pay579 x13))) (k0_pay827 (k0_pay585 (k0_pay578 x10) x15)))) (k0_pay835 (k0_pay827 (k0_pay585 (k0_pay578 x10) x15))) (iota .tc S8x128 32 [0] iota_S8x128_d0_w32 : IVec S8x128 32) (k0_pay836 (k0_pay827 (k0_pay585 (k0_pay578 x10) x15))) (k0_pay837 (k0_pay827 (k0_pay585 (k0_pay578 x10) x15)))) (k0_pay839 (k0_pay827 (k0_pay585 (k0_pay578 x10) x15))) (k0_pay840 (k0_pay827 (k0_pay585 (k0_pay578 x10) x15)))) (k0_pay842 (k0_pay827 (k0_pay585 (k0_pay578 x10) x15))) (k0_pay843 (k0_pay827 (k0_pay585 (k0_pay578 x10) x15)))) (k0_pay847 (k0_pay827 (k0_pay585 (k0_pay578 x10) x15)) (k0_pay845 (k0_pay827 (k0_pay585 (k0_pay578 x10) x15))) (k0_pay846 (k0_pay827 (k0_pay585 (k0_pay578 x10) x15)))) (k0_pay848 (k0_pay827 (k0_pay585 (k0_pay578 x10) x15)) (k0_pay845 (k0_pay827 (k0_pay585 (k0_pay578 x10) x15))) (k0_pay846 (k0_pay827 (k0_pay585 (k0_pay578 x10) x15)))) (k0_pay849 (k0_pay827 (k0_pay585 (k0_pay578 x10) x15)) (k0_pay845 (k0_pay827 (k0_pay585 (k0_pay578 x10) x15))) (k0_pay846 (k0_pay827 (k0_pay585 (k0_pay578 x10) x15)))) (k0_pay850 (k0_pay827 (k0_pay585 (k0_pay578 x10) x15)) (k0_pay845 (k0_pay827 (k0_pay585 (k0_pay578 x10) x15))) (k0_pay846 (k0_pay827 (k0_pay585 (k0_pay578 x10) x15)))) (k0_pay851 (k0_pay827 (k0_pay585 (k0_pay578 x10) x15)) (k0_pay845 (k0_pay827 (k0_pay585 (k0_pay578 x10) x15))) (k0_pay846 (k0_pay827 (k0_pay585 (k0_pay578 x10) x15)))) (k0_pay852 (k0_pay827 (k0_pay585 (k0_pay578 x10) x15)) (k0_pay845 (k0_pay827 (k0_pay585 (k0_pay578 x10) x15))) (k0_pay846 (k0_pay827 (k0_pay585 (k0_pay578 x10) x15)))) (k0_pay853 (k0_pay827 (k0_pay585 (k0_pay578 x10) x15)) (k0_pay845 (k0_pay827 (k0_pay585 (k0_pay578 x10) x15))) (k0_pay846 (k0_pay827 (k0_pay585 (k0_pay578 x10) x15)))) (k0_pay854 (k0_pay827 (k0_pay585 (k0_pay578 x10) x15)) (k0_pay845 (k0_pay827 (k0_pay585 (k0_pay578 x10) x15))) (k0_pay846 (k0_pay827 (k0_pay585 (k0_pay578 x10) x15)))) (k0_pay855 (k0_pay827 (k0_pay585 (k0_pay578 x10) x15)) (k0_pay845 (k0_pay827 (k0_pay585 (k0_pay578 x10) x15))) (k0_pay846 (k0_pay827 (k0_pay585 (k0_pay578 x10) x15)))) (k0_pay856 (k0_pay827 (k0_pay585 (k0_pay578 x10) x15)) (k0_pay845 (k0_pay827 (k0_pay585 (k0_pay578 x10) x15))) (k0_pay846 (k0_pay827 (k0_pay585 (k0_pay578 x10) x15))))) (k0_pay859 (k0_pay584 (F := Ideal)) (k0_pay825 (k0_pay582 x11)) (k0_pay827 (k0_pay585 (k0_pay578 x10) x15)) (k0_pay830 (k0_pay823 (k0_pay581 x9)) (k0_pay826 (k0_pay585 (k0_pay578 x10) x15)) s) (k0_pay831 (k0_pay823 (k0_pay581 x9))) (k0_pay832 (k0_pay824 (k0_pay580 (k0_pay579 x13)))) (k0_pay844 (k0_pay584 (F := Ideal)) (k0_pay827 (k0_pay585 (k0_pay578 x10) x15)) (k0_pay831 (k0_pay823 (k0_pay581 x9))) (k0_pay832 (k0_pay824 (k0_pay580 (k0_pay579 x13)))) (k0_pay841 (k0_pay584 (F := Ideal)) (k0_pay827 (k0_pay585 (k0_pay578 x10) x15)) (k0_pay831 (k0_pay823 (k0_pay581 x9))) (k0_pay832 (k0_pay824 (k0_pay580 (k0_pay579 x13)))) (k0_pay838 (k0_pay584 (F := Ideal)) (k0_pay827 (k0_pay585 (k0_pay578 x10) x15)) (k0_pay831 (k0_pay823 (k0_pay581 x9))) (k0_pay832 (k0_pay824 (k0_pay580 (k0_pay579 x13)))) (k0_pay834 (k0_pay584 (F := Ideal)) (k0_pay827 (k0_pay585 (k0_pay578 x10) x15)) (k0_pay831 (k0_pay823 (k0_pay581 x9))) (k0_pay832 (k0_pay824 (k0_pay580 (k0_pay579 x13)))) (k0_pay833 (k0_pay584 (F := Ideal)) (k0_pay823 (k0_pay581 x9)) (k0_pay824 (k0_pay580 (k0_pay579 x13))) (k0_pay827 (k0_pay585 (k0_pay578 x10) x15)))) (k0_pay835 (k0_pay827 (k0_pay585 (k0_pay578 x10) x15))) (iota .tc S8x128 32 [0] iota_S8x128_d0_w32 : IVec S8x128 32) (k0_pay836 (k0_pay827 (k0_pay585 (k0_pay578 x10) x15))) (k0_pay837 (k0_pay827 (k0_pay585 (k0_pay578 x10) x15)))) (k0_pay839 (k0_pay827 (k0_pay585 (k0_pay578 x10) x15))) (k0_pay840 (k0_pay827 (k0_pay585 (k0_pay578 x10) x15)))) (k0_pay842 (k0_pay827 (k0_pay585 (k0_pay578 x10) x15))) (k0_pay843 (k0_pay827 (k0_pay585 (k0_pay578 x10) x15)))) (k0_pay847 (k0_pay827 (k0_pay585 (k0_pay578 x10) x15)) (k0_pay845 (k0_pay827 (k0_pay585 (k0_pay578 x10) x15))) (k0_pay846 (k0_pay827 (k0_pay585 (k0_pay578 x10) x15)))) (k0_pay848 (k0_pay827 (k0_pay585 (k0_pay578 x10) x15)) (k0_pay845 (k0_pay827 (k0_pay585 (k0_pay578 x10) x15))) (k0_pay846 (k0_pay827 (k0_pay585 (k0_pay578 x10) x15)))) (k0_pay849 (k0_pay827 (k0_pay585 (k0_pay578 x10) x15)) (k0_pay845 (k0_pay827 (k0_pay585 (k0_pay578 x10) x15))) (k0_pay846 (k0_pay827 (k0_pay585 (k0_pay578 x10) x15)))) (k0_pay850 (k0_pay827 (k0_pay585 (k0_pay578 x10) x15)) (k0_pay845 (k0_pay827 (k0_pay585 (k0_pay578 x10) x15))) (k0_pay846 (k0_pay827 (k0_pay585 (k0_pay578 x10) x15)))) (k0_pay851 (k0_pay827 (k0_pay585 (k0_pay578 x10) x15)) (k0_pay845 (k0_pay827 (k0_pay585 (k0_pay578 x10) x15))) (k0_pay846 (k0_pay827 (k0_pay585 (k0_pay578 x10) x15)))) (k0_pay852 (k0_pay827 (k0_pay585 (k0_pay578 x10) x15)) (k0_pay845 (k0_pay827 (k0_pay585 (k0_pay578 x10) x15))) (k0_pay846 (k0_pay827 (k0_pay585 (k0_pay578 x10) x15)))) (k0_pay853 (k0_pay827 (k0_pay585 (k0_pay578 x10) x15)) (k0_pay845 (k0_pay827 (k0_pay585 (k0_pay578 x10) x15))) (k0_pay846 (k0_pay827 (k0_pay585 (k0_pay578 x10) x15)))) (k0_pay854 (k0_pay827 (k0_pay585 (k0_pay578 x10) x15)) (k0_pay845 (k0_pay827 (k0_pay585 (k0_pay578 x10) x15))) (k0_pay846 (k0_pay827 (k0_pay585 (k0_pay578 x10) x15)))) (k0_pay855 (k0_pay827 (k0_pay585 (k0_pay578 x10) x15)) (k0_pay845 (k0_pay827 (k0_pay585 (k0_pay578 x10) x15))) (k0_pay846 (k0_pay827 (k0_pay585 (k0_pay578 x10) x15)))) (k0_pay856 (k0_pay827 (k0_pay585 (k0_pay578 x10) x15)) (k0_pay845 (k0_pay827 (k0_pay585 (k0_pay578 x10) x15))) (k0_pay846 (k0_pay827 (k0_pay585 (k0_pay578 x10) x15))))) (Scalar.ofBits .f32 0x43000000#32 : Ideal .f32) gain)

theorem out_0_6 (x9 x10 x11 x12 x13 : Vec Ideal S1x16x16x1024 .bf16) (x15 : Vec Ideal S128x128 .bf16) (s : Vec Ideal S1x128x128 .f32) (gain : Vec Ideal S1x128 .f32) : oComp_0_6 x9 x10 x11 x12 x13 x15 s gain =
    gated 0 6 (chunkO 0 6 (k0_pay581 x9) (k0_pay580 (k0_pay579 x13)) (k0_pay582 x11) (k0_pay578 x10) x15 (shapeCast S128x128 s shapeCasts_S1x128x128_S128x128)) gain (k0_pay583 x12) := rfl

/-- The state of head 7 stored after chunk 0, as the kernel computes it. -/
def sComp_0_7 (x10 x11 x13 : Vec Ideal S1x16x16x1024 .bf16) (x15 : Vec Ideal S128x128 .bf16) (s : Vec Ideal S1x128x128 .f32) : FVec Ideal S1x128x128 .f32 :=
  (k0_pay898 (k0_pay862 (k0_pay580 (k0_pay579 x13))) (k0_pay863 (k0_pay582 x11)) (k0_pay864 (k0_pay585 (k0_pay578 x10) x15)) (k0_pay866 (k0_pay585 (k0_pay578 x10) x15)) (k0_pay867 s))

theorem state_0_7 (x10 x11 x13 : Vec Ideal S1x16x16x1024 .bf16) (x15 : Vec Ideal S128x128 .bf16) (s : Vec Ideal S1x128x128 .f32) : sComp_0_7 x10 x11 x13 x15 s =
    shapeCast S1x128x128 (chunkSt 0 7 (k0_pay580 (k0_pay579 x13)) (k0_pay582 x11) (k0_pay578 x10) x15 (shapeCast S128x128 s shapeCasts_S1x128x128_S128x128)) shapeCasts_S128x128_S1x128x128 := rfl

/-- The gated outputs of head 7 on chunk 0, as the kernel computes them. -/
def oComp_0_7 (x9 x10 x11 x12 x13 : Vec Ideal S1x16x16x1024 .bf16) (x15 : Vec Ideal S128x128 .bf16) (s : Vec Ideal S1x128x128 .f32) (gain : Vec Ideal S1x128 .f32) : FVec Ideal S16x8x128 .f32 :=
  (k0_pay899 (k0_pay583 x12) (k0_pay584 (F := Ideal)) (k0_pay863 (k0_pay582 x11)) (k0_pay868 (k0_pay581 x9) (k0_pay585 (k0_pay578 x10) x15) s) (k0_pay871 (k0_pay580 (k0_pay579 x13))) (k0_pay888 (k0_pay584 (F := Ideal)) (k0_pay865 (k0_pay585 (k0_pay578 x10) x15)) (k0_pay870 (k0_pay581 x9)) (k0_pay871 (k0_pay580 (k0_pay579 x13))) (k0_pay881 (k0_pay584 (F := Ideal)) (k0_pay865 (k0_pay585 (k0_pay578 x10) x15)) (k0_pay870 (k0_pay581 x9)) (k0_pay871 (k0_pay580 (k0_pay579 x13))) (k0_pay878 (k0_pay584 (F := Ideal)) (k0_pay865 (k0_pay585 (k0_pay578 x10) x15)) (k0_pay870 (k0_pay581 x9)) (k0_pay871 (k0_pay580 (k0_pay579 x13))) (k0_pay876 (k0_pay584 (F := Ideal)) (k0_pay870 (k0_pay581 x9)) (k0_pay871 (k0_pay580 (k0_pay579 x13))) (k0_pay873 (k0_pay584 (F := Ideal)) (k0_pay865 (k0_pay585 (k0_pay578 x10) x15)) (k0_pay869 (k0_pay580 (k0_pay579 x13)) (k0_pay581 x9) (k0_pay584 (F := Ideal))) (k0_pay870 (k0_pay581 x9)) (k0_pay871 (k0_pay580 (k0_pay579 x13))) (k0_pay872 (k0_pay585 (k0_pay578 x10) x15))) (k0_pay874 (k0_pay865 (k0_pay585 (k0_pay578 x10) x15))) (k0_pay875) (0#32 : BitVec 32)) (k0_pay877 (k0_pay865 (k0_pay585 (k0_pay578 x10) x15)))) (k0_pay879 (k0_pay865 (k0_pay585 (k0_pay578 x10) x15))) (k0_pay880 (k0_pay865 (k0_pay585 (k0_pay578 x10) x15)))) (k0_pay882 (k0_pay865 (k0_pay585 (k0_pay578 x10) x15))) (k0_pay883 (k0_pay865 (k0_pay585 (k0_pay578 x10) x15))) (k0_pay884 (k0_pay865 (k0_pay585 (k0_pay578 x10) x15))) (k0_pay885 (k0_pay865 (k0_pay585 (k0_pay578 x10) x15))) (k0_pay886 (k0_pay865 (k0_pay585 (k0_pay578 x10) x15))) (k0_pay887 (k0_pay865 (k0_pay585 (k0_pay578 x10) x15)))) (k0_pay896 (k0_pay865 (k0_pay585 (k0_pay578 x10) x15)) (k0_pay889 (k0_pay865 (k0_pay585 (k0_pay578 x10) x15))) (k0_pay890 (k0_pay865 (k0_pay585 (k0_pay578 x10) x15))) (k0_pay891 (k0_pay865 (k0_pay585 (k0_pay578 x10) x15))) (k0_pay892 (k0_pay865 (k0_pay585 (k0_pay578 x10) x15))) (k0_pay893 (k0_pay865 (k0_pay585 (k0_pay578 x10) x15))) (k0_pay894 (k0_pay865 (k0_pay585 (k0_pay578 x10) x15))) (k0_pay895 (k0_pay865 (k0_pay585 (k0_pay578 x10) x15)))) (k0_pay897 (k0_pay865 (k0_pay585 (k0_pay578 x10) x15)) (k0_pay870 (k0_pay581 x9)) (k0_pay889 (k0_pay865 (k0_pay585 (k0_pay578 x10) x15))) (k0_pay890 (k0_pay865 (k0_pay585 (k0_pay578 x10) x15))) (k0_pay891 (k0_pay865 (k0_pay585 (k0_pay578 x10) x15))) (k0_pay892 (k0_pay865 (k0_pay585 (k0_pay578 x10) x15))) (k0_pay893 (k0_pay865 (k0_pay585 (k0_pay578 x10) x15))) (k0_pay894 (k0_pay865 (k0_pay585 (k0_pay578 x10) x15))) (k0_pay895 (k0_pay865 (k0_pay585 (k0_pay578 x10) x15)))) gain)

theorem out_0_7 (x9 x10 x11 x12 x13 : Vec Ideal S1x16x16x1024 .bf16) (x15 : Vec Ideal S128x128 .bf16) (s : Vec Ideal S1x128x128 .f32) (gain : Vec Ideal S1x128 .f32) : oComp_0_7 x9 x10 x11 x12 x13 x15 s gain =
    gated 0 7 (chunkO 0 7 (k0_pay581 x9) (k0_pay580 (k0_pay579 x13)) (k0_pay582 x11) (k0_pay578 x10) x15 (shapeCast S128x128 s shapeCasts_S1x128x128_S128x128)) gain (k0_pay583 x12) := rfl

end Cert.Hgrn
-- ==== Proof.Heads1.lean ====
module

public import proofs.«01_k».proof.Proof.Chunk
public import Idealize.ShloMosaic.Lib.Pointwise

@[expose] public section
set_option maxRecDepth 16384
noncomputable section
open Idealize.ShloMosaic Idealize.ShloMosaic.TcCoe Idealize.SL.Sem
open Cert.KernelIdeal Cert.KernelIdeal.Gen
namespace Cert.Hgrn

/-- The state of head 0 stored after chunk 1, as the kernel computes it. -/
def sComp_1_0 (x10 x11 x13 : Vec Ideal S1x16x16x1024 .bf16) (x15 : Vec Ideal S128x128 .bf16) (s : Vec Ideal S1x128x128 .f32) : FVec Ideal S1x128x128 .f32 :=
  (k0_pay943 (k0_pay907 (k0_pay580 (k0_pay579 x13))) (k0_pay908 (k0_pay582 x11)) (k0_pay909 x15 (k0_pay901 (k0_pay578 x10)) (k0_pay903 (k0_pay578 x10)) (k0_pay904 (k0_pay578 x10))) (k0_pay911 x15 (k0_pay901 (k0_pay578 x10)) (k0_pay903 (k0_pay578 x10)) (k0_pay904 (k0_pay578 x10))) (k0_pay912 s))

theorem state_1_0 (x10 x11 x13 : Vec Ideal S1x16x16x1024 .bf16) (x15 : Vec Ideal S128x128 .bf16) (s : Vec Ideal S1x128x128 .f32) : sComp_1_0 x10 x11 x13 x15 s =
    shapeCast S1x128x128 (chunkSt 1 0 (k0_pay580 (k0_pay579 x13)) (k0_pay582 x11) (k0_pay578 x10) x15 (shapeCast S128x128 s shapeCasts_S1x128x128_S128x128)) shapeCasts_S128x128_S1x128x128 := rfl

/-- The gated outputs of head 0 on chunk 1, as the kernel computes them. -/
def oComp_1_0 (x9 x10 x11 x12 x13 : Vec Ideal S1x16x16x1024 .bf16) (x15 : Vec Ideal S128x128 .bf16) (s : Vec Ideal S1x128x128 .f32) (gain : Vec Ideal S1x128 .f32) : FVec Ideal S16x8x128 .f32 :=
  (k0_pay944 (k0_pay583 x12) (k0_pay908 (k0_pay582 x11)) (k0_pay913 (k0_pay581 x9) x15 (k0_pay901 (k0_pay578 x10)) (k0_pay903 (k0_pay578 x10)) (k0_pay904 (k0_pay578 x10)) s) (k0_pay942 (k0_pay584 (F := Ideal)) (k0_pay910 x15 (k0_pay901 (k0_pay578 x10)) (k0_pay903 (k0_pay578 x10)) (k0_pay904 (k0_pay578 x10))) (k0_pay915 (k0_pay581 x9)) (k0_pay916 (k0_pay580 (k0_pay579 x13))) (k0_pay938 (k0_pay584 (F := Ideal)) (k0_pay910 x15 (k0_pay901 (k0_pay578 x10)) (k0_pay903 (k0_pay578 x10)) (k0_pay904 (k0_pay578 x10))) (k0_pay915 (k0_pay581 x9)) (k0_pay916 (k0_pay580 (k0_pay579 x13))) (k0_pay928 (k0_pay584 (F := Ideal)) (k0_pay910 x15 (k0_pay901 (k0_pay578 x10)) (k0_pay903 (k0_pay578 x10)) (k0_pay904 (k0_pay578 x10))) (k0_pay915 (k0_pay581 x9)) (k0_pay916 (k0_pay580 (k0_pay579 x13))) (k0_pay924 (k0_pay584 (F := Ideal)) (k0_pay910 x15 (k0_pay901 (k0_pay578 x10)) (k0_pay903 (k0_pay578 x10)) (k0_pay904 (k0_pay578 x10))) (k0_pay915 (k0_pay581 x9)) (k0_pay916 (k0_pay580 (k0_pay579 x13))) (k0_pay921 (k0_pay584 (F := Ideal)) (k0_pay915 (k0_pay581 x9)) (k0_pay916 (k0_pay580 (k0_pay579 x13))) (k0_pay918 (k0_pay584 (F := Ideal)) (k0_pay914 (k0_pay580 (k0_pay579 x13)) (k0_pay581 x9) (k0_pay584 (F := Ideal))) (k0_pay915 (k0_pay581 x9)) (k0_pay916 (k0_pay580 (k0_pay579 x13))) (iota .tc S8x128 32 [0] iota_S8x128_d0_w32 : IVec S8x128 32) (k0_pay917 x15 (k0_pay901 (k0_pay578 x10)) (k0_pay903 (k0_pay578 x10)) (k0_pay904 (k0_pay578 x10))) (4#32 : BitVec 32)) (k0_pay919 (k0_pay910 x15 (k0_pay901 (k0_pay578 x10)) (k0_pay903 (k0_pay578 x10)) (k0_pay904 (k0_pay578 x10)))) (k0_pay920 (F := Ideal))) (k0_pay922 (k0_pay910 x15 (k0_pay901 (k0_pay578 x10)) (k0_pay903 (k0_pay578 x10)) (k0_pay904 (k0_pay578 x10)))) (k0_pay923) (Scalar.ofBits .f32 0x3F800000#32 : Ideal .f32)) (k0_pay925 (k0_pay910 x15 (k0_pay901 (k0_pay578 x10)) (k0_pay903 (k0_pay578 x10)) (k0_pay904 (k0_pay578 x10)))) (k0_pay926 (k0_pay910 x15 (k0_pay901 (k0_pay578 x10)) (k0_pay903 (k0_pay578 x10)) (k0_pay904 (k0_pay578 x10)))) (k0_pay927 (k0_pay910 x15 (k0_pay901 (k0_pay578 x10)) (k0_pay903 (k0_pay578 x10)) (k0_pay904 (k0_pay578 x10))))) (k0_pay929 (k0_pay910 x15 (k0_pay901 (k0_pay578 x10)) (k0_pay903 (k0_pay578 x10)) (k0_pay904 (k0_pay578 x10)))) (k0_pay930 (k0_pay910 x15 (k0_pay901 (k0_pay578 x10)) (k0_pay903 (k0_pay578 x10)) (k0_pay904 (k0_pay578 x10)))) (k0_pay931 (k0_pay910 x15 (k0_pay901 (k0_pay578 x10)) (k0_pay903 (k0_pay578 x10)) (k0_pay904 (k0_pay578 x10)))) (k0_pay932 (k0_pay910 x15 (k0_pay901 (k0_pay578 x10)) (k0_pay903 (k0_pay578 x10)) (k0_pay904 (k0_pay578 x10)))) (k0_pay933 (k0_pay910 x15 (k0_pay901 (k0_pay578 x10)) (k0_pay903 (k0_pay578 x10)) (k0_pay904 (k0_pay578 x10)))) (k0_pay934 (k0_pay910 x15 (k0_pay901 (k0_pay578 x10)) (k0_pay903 (k0_pay578 x10)) (k0_pay904 (k0_pay578 x10)))) (k0_pay935 (k0_pay910 x15 (k0_pay901 (k0_pay578 x10)) (k0_pay903 (k0_pay578 x10)) (k0_pay904 (k0_pay578 x10)))) (k0_pay936 (k0_pay910 x15 (k0_pay901 (k0_pay578 x10)) (k0_pay903 (k0_pay578 x10)) (k0_pay904 (k0_pay578 x10)))) (k0_pay937 (k0_pay910 x15 (k0_pay901 (k0_pay578 x10)) (k0_pay903 (k0_pay578 x10)) (k0_pay904 (k0_pay578 x10))))) (k0_pay939 (k0_pay910 x15 (k0_pay901 (k0_pay578 x10)) (k0_pay903 (k0_pay578 x10)) (k0_pay904 (k0_pay578 x10)))) (k0_pay940 (k0_pay910 x15 (k0_pay901 (k0_pay578 x10)) (k0_pay903 (k0_pay578 x10)) (k0_pay904 (k0_pay578 x10)))) (k0_pay941 (k0_pay910 x15 (k0_pay901 (k0_pay578 x10)) (k0_pay903 (k0_pay578 x10)) (k0_pay904 (k0_pay578 x10))))) (constant S128x128 .f32 0x00000000#32 : FVec Ideal S128x128 .f32) gain)

theorem out_1_0 (x9 x10 x11 x12 x13 : Vec Ideal S1x16x16x1024 .bf16) (x15 : Vec Ideal S128x128 .bf16) (s : Vec Ideal S1x128x128 .f32) (gain : Vec Ideal S1x128 .f32) : oComp_1_0 x9 x10 x11 x12 x13 x15 s gain =
    gated 1 0 (chunkO 1 0 (k0_pay581 x9) (k0_pay580 (k0_pay579 x13)) (k0_pay582 x11) (k0_pay578 x10) x15 (shapeCast S128x128 s shapeCasts_S1x128x128_S128x128)) gain (k0_pay583 x12) := rfl

/-- The state of head 1 stored after chunk 1, as the kernel computes it. -/
def sComp_1_1 (x10 x11 x13 : Vec Ideal S1x16x16x1024 .bf16) (x15 : Vec Ideal S128x128 .bf16) (s : Vec Ideal S1x128x128 .f32) : FVec Ideal S1x128x128 .f32 :=
  (k0_pay983 (k0_pay946 (k0_pay580 (k0_pay579 x13))) (k0_pay947 (k0_pay582 x11)) (k0_pay948 (k0_pay905 x15 (k0_pay901 (k0_pay578 x10)) (k0_pay903 (k0_pay578 x10)) (k0_pay904 (k0_pay578 x10)))) (k0_pay950 (k0_pay905 x15 (k0_pay901 (k0_pay578 x10)) (k0_pay903 (k0_pay578 x10)) (k0_pay904 (k0_pay578 x10)))) (k0_pay951 s))

theorem state_1_1 (x10 x11 x13 : Vec Ideal S1x16x16x1024 .bf16) (x15 : Vec Ideal S128x128 .bf16) (s : Vec Ideal S1x128x128 .f32) : sComp_1_1 x10 x11 x13 x15 s =
    shapeCast S1x128x128 (chunkSt 1 1 (k0_pay580 (k0_pay579 x13)) (k0_pay582 x11) (k0_pay578 x10) x15 (shapeCast S128x128 s shapeCasts_S1x128x128_S128x128)) shapeCasts_S128x128_S1x128x128 := rfl

/-- The gated outputs of head 1 on chunk 1, as the kernel computes them. -/
def oComp_1_1 (x9 x10 x11 x12 x13 : Vec Ideal S1x16x16x1024 .bf16) (x15 : Vec Ideal S128x128 .bf16) (s : Vec Ideal S1x128x128 .f32) (gain : Vec Ideal S1x128 .f32) : FVec Ideal S16x8x128 .f32 :=
  (k0_pay986 (k0_pay583 x12) (k0_pay982 (k0_pay584 (F := Ideal)) (k0_pay947 (k0_pay582 x11)) (k0_pay949 (k0_pay905 x15 (k0_pay901 (k0_pay578 x10)) (k0_pay903 (k0_pay578 x10)) (k0_pay904 (k0_pay578 x10)))) (k0_pay952 (k0_pay945 (k0_pay581 x9)) (k0_pay948 (k0_pay905 x15 (k0_pay901 (k0_pay578 x10)) (k0_pay903 (k0_pay578 x10)) (k0_pay904 (k0_pay578 x10)))) (k0_pay951 s)) (k0_pay953 (k0_pay945 (k0_pay581 x9))) (k0_pay954 (k0_pay946 (k0_pay580 (k0_pay579 x13)))) (k0_pay968 (k0_pay584 (F := Ideal)) (k0_pay949 (k0_pay905 x15 (k0_pay901 (k0_pay578 x10)) (k0_pay903 (k0_pay578 x10)) (k0_pay904 (k0_pay578 x10)))) (k0_pay953 (k0_pay945 (k0_pay581 x9))) (k0_pay954 (k0_pay946 (k0_pay580 (k0_pay579 x13)))) (k0_pay965 (k0_pay584 (F := Ideal)) (k0_pay949 (k0_pay905 x15 (k0_pay901 (k0_pay578 x10)) (k0_pay903 (k0_pay578 x10)) (k0_pay904 (k0_pay578 x10)))) (k0_pay953 (k0_pay945 (k0_pay581 x9))) (k0_pay954 (k0_pay946 (k0_pay580 (k0_pay579 x13)))) (k0_pay961 (k0_pay584 (F := Ideal)) (k0_pay949 (k0_pay905 x15 (k0_pay901 (k0_pay578 x10)) (k0_pay903 (k0_pay578 x10)) (k0_pay904 (k0_pay578 x10)))) (k0_pay953 (k0_pay945 (k0_pay581 x9))) (k0_pay954 (k0_pay946 (k0_pay580 (k0_pay579 x13)))) (k0_pay957 (k0_pay584 (F := Ideal)) (k0_pay949 (k0_pay905 x15 (k0_pay901 (k0_pay578 x10)) (k0_pay903 (k0_pay578 x10)) (k0_pay904 (k0_pay578 x10)))) (k0_pay953 (k0_pay945 (k0_pay581 x9))) (k0_pay954 (k0_pay946 (k0_pay580 (k0_pay579 x13)))) (k0_pay955 (k0_pay584 (F := Ideal)) (k0_pay945 (k0_pay581 x9)) (k0_pay946 (k0_pay580 (k0_pay579 x13))) (k0_pay949 (k0_pay905 x15 (k0_pay901 (k0_pay578 x10)) (k0_pay903 (k0_pay578 x10)) (k0_pay904 (k0_pay578 x10))))) (k0_pay956 (k0_pay949 (k0_pay905 x15 (k0_pay901 (k0_pay578 x10)) (k0_pay903 (k0_pay578 x10)) (k0_pay904 (k0_pay578 x10)))))) (k0_pay958 (k0_pay949 (k0_pay905 x15 (k0_pay901 (k0_pay578 x10)) (k0_pay903 (k0_pay578 x10)) (k0_pay904 (k0_pay578 x10))))) (iota .tc S8x128 32 [0] iota_S8x128_d0_w32 : IVec S8x128 32) (k0_pay959 (k0_pay949 (k0_pay905 x15 (k0_pay901 (k0_pay578 x10)) (k0_pay903 (k0_pay578 x10)) (k0_pay904 (k0_pay578 x10))))) (k0_pay960 (k0_pay949 (k0_pay905 x15 (k0_pay901 (k0_pay578 x10)) (k0_pay903 (k0_pay578 x10)) (k0_pay904 (k0_pay578 x10)))))) (k0_pay962 (k0_pay949 (k0_pay905 x15 (k0_pay901 (k0_pay578 x10)) (k0_pay903 (k0_pay578 x10)) (k0_pay904 (k0_pay578 x10))))) (k0_pay963 (k0_pay949 (k0_pay905 x15 (k0_pay901 (k0_pay578 x10)) (k0_pay903 (k0_pay578 x10)) (k0_pay904 (k0_pay578 x10))))) (k0_pay964 (k0_pay949 (k0_pay905 x15 (k0_pay901 (k0_pay578 x10)) (k0_pay903 (k0_pay578 x10)) (k0_pay904 (k0_pay578 x10)))))) (k0_pay966 (k0_pay949 (k0_pay905 x15 (k0_pay901 (k0_pay578 x10)) (k0_pay903 (k0_pay578 x10)) (k0_pay904 (k0_pay578 x10))))) (k0_pay967 (k0_pay949 (k0_pay905 x15 (k0_pay901 (k0_pay578 x10)) (k0_pay903 (k0_pay578 x10)) (k0_pay904 (k0_pay578 x10)))))) (k0_pay971 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay972 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay973 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay974 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay975 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay976 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay977 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay978 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay979 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay980 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay981 (k0_pay949 (k0_pay905 x15 (k0_pay901 (k0_pay578 x10)) (k0_pay903 (k0_pay578 x10)) (k0_pay904 (k0_pay578 x10)))))) (k0_pay984 (k0_pay584 (F := Ideal)) (k0_pay947 (k0_pay582 x11)) (k0_pay949 (k0_pay905 x15 (k0_pay901 (k0_pay578 x10)) (k0_pay903 (k0_pay578 x10)) (k0_pay904 (k0_pay578 x10)))) (k0_pay952 (k0_pay945 (k0_pay581 x9)) (k0_pay948 (k0_pay905 x15 (k0_pay901 (k0_pay578 x10)) (k0_pay903 (k0_pay578 x10)) (k0_pay904 (k0_pay578 x10)))) (k0_pay951 s)) (k0_pay953 (k0_pay945 (k0_pay581 x9))) (k0_pay954 (k0_pay946 (k0_pay580 (k0_pay579 x13)))) (k0_pay968 (k0_pay584 (F := Ideal)) (k0_pay949 (k0_pay905 x15 (k0_pay901 (k0_pay578 x10)) (k0_pay903 (k0_pay578 x10)) (k0_pay904 (k0_pay578 x10)))) (k0_pay953 (k0_pay945 (k0_pay581 x9))) (k0_pay954 (k0_pay946 (k0_pay580 (k0_pay579 x13)))) (k0_pay965 (k0_pay584 (F := Ideal)) (k0_pay949 (k0_pay905 x15 (k0_pay901 (k0_pay578 x10)) (k0_pay903 (k0_pay578 x10)) (k0_pay904 (k0_pay578 x10)))) (k0_pay953 (k0_pay945 (k0_pay581 x9))) (k0_pay954 (k0_pay946 (k0_pay580 (k0_pay579 x13)))) (k0_pay961 (k0_pay584 (F := Ideal)) (k0_pay949 (k0_pay905 x15 (k0_pay901 (k0_pay578 x10)) (k0_pay903 (k0_pay578 x10)) (k0_pay904 (k0_pay578 x10)))) (k0_pay953 (k0_pay945 (k0_pay581 x9))) (k0_pay954 (k0_pay946 (k0_pay580 (k0_pay579 x13)))) (k0_pay957 (k0_pay584 (F := Ideal)) (k0_pay949 (k0_pay905 x15 (k0_pay901 (k0_pay578 x10)) (k0_pay903 (k0_pay578 x10)) (k0_pay904 (k0_pay578 x10)))) (k0_pay953 (k0_pay945 (k0_pay581 x9))) (k0_pay954 (k0_pay946 (k0_pay580 (k0_pay579 x13)))) (k0_pay955 (k0_pay584 (F := Ideal)) (k0_pay945 (k0_pay581 x9)) (k0_pay946 (k0_pay580 (k0_pay579 x13))) (k0_pay949 (k0_pay905 x15 (k0_pay901 (k0_pay578 x10)) (k0_pay903 (k0_pay578 x10)) (k0_pay904 (k0_pay578 x10))))) (k0_pay956 (k0_pay949 (k0_pay905 x15 (k0_pay901 (k0_pay578 x10)) (k0_pay903 (k0_pay578 x10)) (k0_pay904 (k0_pay578 x10)))))) (k0_pay958 (k0_pay949 (k0_pay905 x15 (k0_pay901 (k0_pay578 x10)) (k0_pay903 (k0_pay578 x10)) (k0_pay904 (k0_pay578 x10))))) (iota .tc S8x128 32 [0] iota_S8x128_d0_w32 : IVec S8x128 32) (k0_pay959 (k0_pay949 (k0_pay905 x15 (k0_pay901 (k0_pay578 x10)) (k0_pay903 (k0_pay578 x10)) (k0_pay904 (k0_pay578 x10))))) (k0_pay960 (k0_pay949 (k0_pay905 x15 (k0_pay901 (k0_pay578 x10)) (k0_pay903 (k0_pay578 x10)) (k0_pay904 (k0_pay578 x10)))))) (k0_pay962 (k0_pay949 (k0_pay905 x15 (k0_pay901 (k0_pay578 x10)) (k0_pay903 (k0_pay578 x10)) (k0_pay904 (k0_pay578 x10))))) (k0_pay963 (k0_pay949 (k0_pay905 x15 (k0_pay901 (k0_pay578 x10)) (k0_pay903 (k0_pay578 x10)) (k0_pay904 (k0_pay578 x10))))) (k0_pay964 (k0_pay949 (k0_pay905 x15 (k0_pay901 (k0_pay578 x10)) (k0_pay903 (k0_pay578 x10)) (k0_pay904 (k0_pay578 x10)))))) (k0_pay966 (k0_pay949 (k0_pay905 x15 (k0_pay901 (k0_pay578 x10)) (k0_pay903 (k0_pay578 x10)) (k0_pay904 (k0_pay578 x10))))) (k0_pay967 (k0_pay949 (k0_pay905 x15 (k0_pay901 (k0_pay578 x10)) (k0_pay903 (k0_pay578 x10)) (k0_pay904 (k0_pay578 x10)))))) (k0_pay971 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay972 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay973 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay974 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay975 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay976 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay977 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay978 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay979 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay980 (k0_pay949 (k0_pay905 x15 (k0_pay901 (k0_pay578 x10)) (k0_pay903 (k0_pay578 x10)) (k0_pay904 (k0_pay578 x10)))) (k0_pay969 (k0_pay949 (k0_pay905 x15 (k0_pay901 (k0_pay578 x10)) (k0_pay903 (k0_pay578 x10)) (k0_pay904 (k0_pay578 x10))))) (k0_pay970 (k0_pay949 (k0_pay905 x15 (k0_pay901 (k0_pay578 x10)) (k0_pay903 (k0_pay578 x10)) (k0_pay904 (k0_pay578 x10)))))) (k0_pay981 (k0_pay949 (k0_pay905 x15 (k0_pay901 (k0_pay578 x10)) (k0_pay903 (k0_pay578 x10)) (k0_pay904 (k0_pay578 x10)))))) (k0_pay985 (F := Ideal)) gain)

theorem out_1_1 (x9 x10 x11 x12 x13 : Vec Ideal S1x16x16x1024 .bf16) (x15 : Vec Ideal S128x128 .bf16) (s : Vec Ideal S1x128x128 .f32) (gain : Vec Ideal S1x128 .f32) : oComp_1_1 x9 x10 x11 x12 x13 x15 s gain =
    gated 1 1 (chunkO 1 1 (k0_pay581 x9) (k0_pay580 (k0_pay579 x13)) (k0_pay582 x11) (k0_pay578 x10) x15 (shapeCast S128x128 s shapeCasts_S1x128x128_S128x128)) gain (k0_pay583 x12) := rfl

/-- The state of head 2 stored after chunk 1, as the kernel computes it. -/
def sComp_1_2 (x10 x11 x13 : Vec Ideal S1x16x16x1024 .bf16) (x15 : Vec Ideal S128x128 .bf16) (s : Vec Ideal S1x128x128 .f32) : FVec Ideal S1x128x128 .f32 :=
  (k0_pay1025 (k0_pay988 (k0_pay580 (k0_pay579 x13))) (k0_pay989 (k0_pay582 x11)) (k0_pay990 (k0_pay905 x15 (k0_pay901 (k0_pay578 x10)) (k0_pay903 (k0_pay578 x10)) (k0_pay904 (k0_pay578 x10)))) (k0_pay992 (k0_pay905 x15 (k0_pay901 (k0_pay578 x10)) (k0_pay903 (k0_pay578 x10)) (k0_pay904 (k0_pay578 x10)))) (k0_pay993 s))

theorem state_1_2 (x10 x11 x13 : Vec Ideal S1x16x16x1024 .bf16) (x15 : Vec Ideal S128x128 .bf16) (s : Vec Ideal S1x128x128 .f32) : sComp_1_2 x10 x11 x13 x15 s =
    shapeCast S1x128x128 (chunkSt 1 2 (k0_pay580 (k0_pay579 x13)) (k0_pay582 x11) (k0_pay578 x10) x15 (shapeCast S128x128 s shapeCasts_S1x128x128_S128x128)) shapeCasts_S128x128_S1x128x128 := rfl

/-- The gated outputs of head 2 on chunk 1, as the kernel computes them. -/
def oComp_1_2 (x9 x10 x11 x12 x13 : Vec Ideal S1x16x16x1024 .bf16) (x15 : Vec Ideal S128x128 .bf16) (s : Vec Ideal S1x128x128 .f32) (gain : Vec Ideal S1x128 .f32) : FVec Ideal S16x8x128 .f32 :=
  (k0_pay1026 (k0_pay583 x12) (k0_pay584 (F := Ideal)) (k0_pay989 (k0_pay582 x11)) (k0_pay994 (k0_pay581 x9) (k0_pay905 x15 (k0_pay901 (k0_pay578 x10)) (k0_pay903 (k0_pay578 x10)) (k0_pay904 (k0_pay578 x10))) s) (k0_pay1014 (k0_pay584 (F := Ideal)) (k0_pay991 (k0_pay905 x15 (k0_pay901 (k0_pay578 x10)) (k0_pay903 (k0_pay578 x10)) (k0_pay904 (k0_pay578 x10)))) (k0_pay996 (k0_pay581 x9)) (k0_pay997 (k0_pay580 (k0_pay579 x13))) (k0_pay1008 (k0_pay584 (F := Ideal)) (k0_pay991 (k0_pay905 x15 (k0_pay901 (k0_pay578 x10)) (k0_pay903 (k0_pay578 x10)) (k0_pay904 (k0_pay578 x10)))) (k0_pay996 (k0_pay581 x9)) (k0_pay997 (k0_pay580 (k0_pay579 x13))) (k0_pay1005 (k0_pay584 (F := Ideal)) (k0_pay991 (k0_pay905 x15 (k0_pay901 (k0_pay578 x10)) (k0_pay903 (k0_pay578 x10)) (k0_pay904 (k0_pay578 x10)))) (k0_pay996 (k0_pay581 x9)) (k0_pay997 (k0_pay580 (k0_pay579 x13))) (k0_pay1003 (k0_pay584 (F := Ideal)) (k0_pay996 (k0_pay581 x9)) (k0_pay997 (k0_pay580 (k0_pay579 x13))) (k0_pay999 (k0_pay584 (F := Ideal)) (k0_pay991 (k0_pay905 x15 (k0_pay901 (k0_pay578 x10)) (k0_pay903 (k0_pay578 x10)) (k0_pay904 (k0_pay578 x10)))) (k0_pay995 (k0_pay580 (k0_pay579 x13)) (k0_pay581 x9) (k0_pay584 (F := Ideal))) (k0_pay996 (k0_pay581 x9)) (k0_pay997 (k0_pay580 (k0_pay579 x13))) (k0_pay998 (k0_pay905 x15 (k0_pay901 (k0_pay578 x10)) (k0_pay903 (k0_pay578 x10)) (k0_pay904 (k0_pay578 x10))))) (k0_pay1000 (k0_pay991 (k0_pay905 x15 (k0_pay901 (k0_pay578 x10)) (k0_pay903 (k0_pay578 x10)) (k0_pay904 (k0_pay578 x10))))) (k0_pay1001) (k0_pay1002)) (k0_pay1004 (k0_pay991 (k0_pay905 x15 (k0_pay901 (k0_pay578 x10)) (k0_pay903 (k0_pay578 x10)) (k0_pay904 (k0_pay578 x10))))) (iota .tc S8x128 32 [0] iota_S8x128_d0_w32 : IVec S8x128 32)) (k0_pay1006 (k0_pay991 (k0_pay905 x15 (k0_pay901 (k0_pay578 x10)) (k0_pay903 (k0_pay578 x10)) (k0_pay904 (k0_pay578 x10))))) (k0_pay1007 (k0_pay991 (k0_pay905 x15 (k0_pay901 (k0_pay578 x10)) (k0_pay903 (k0_pay578 x10)) (k0_pay904 (k0_pay578 x10)))))) (k0_pay1009 (k0_pay991 (k0_pay905 x15 (k0_pay901 (k0_pay578 x10)) (k0_pay903 (k0_pay578 x10)) (k0_pay904 (k0_pay578 x10))))) (k0_pay1010 (k0_pay991 (k0_pay905 x15 (k0_pay901 (k0_pay578 x10)) (k0_pay903 (k0_pay578 x10)) (k0_pay904 (k0_pay578 x10))))) (k0_pay1011 (k0_pay991 (k0_pay905 x15 (k0_pay901 (k0_pay578 x10)) (k0_pay903 (k0_pay578 x10)) (k0_pay904 (k0_pay578 x10))))) (k0_pay1012 (k0_pay991 (k0_pay905 x15 (k0_pay901 (k0_pay578 x10)) (k0_pay903 (k0_pay578 x10)) (k0_pay904 (k0_pay578 x10))))) (k0_pay1013 (k0_pay991 (k0_pay905 x15 (k0_pay901 (k0_pay578 x10)) (k0_pay903 (k0_pay578 x10)) (k0_pay904 (k0_pay578 x10)))))) (k0_pay1023 (k0_pay991 (k0_pay905 x15 (k0_pay901 (k0_pay578 x10)) (k0_pay903 (k0_pay578 x10)) (k0_pay904 (k0_pay578 x10)))) (k0_pay996 (k0_pay581 x9)) (k0_pay1015 (k0_pay991 (k0_pay905 x15 (k0_pay901 (k0_pay578 x10)) (k0_pay903 (k0_pay578 x10)) (k0_pay904 (k0_pay578 x10))))) (k0_pay1016 (k0_pay991 (k0_pay905 x15 (k0_pay901 (k0_pay578 x10)) (k0_pay903 (k0_pay578 x10)) (k0_pay904 (k0_pay578 x10))))) (k0_pay1017 (k0_pay991 (k0_pay905 x15 (k0_pay901 (k0_pay578 x10)) (k0_pay903 (k0_pay578 x10)) (k0_pay904 (k0_pay578 x10))))) (k0_pay1018 (k0_pay991 (k0_pay905 x15 (k0_pay901 (k0_pay578 x10)) (k0_pay903 (k0_pay578 x10)) (k0_pay904 (k0_pay578 x10))))) (k0_pay1019 (k0_pay991 (k0_pay905 x15 (k0_pay901 (k0_pay578 x10)) (k0_pay903 (k0_pay578 x10)) (k0_pay904 (k0_pay578 x10))))) (k0_pay1020 (k0_pay991 (k0_pay905 x15 (k0_pay901 (k0_pay578 x10)) (k0_pay903 (k0_pay578 x10)) (k0_pay904 (k0_pay578 x10))))) (k0_pay1021 (k0_pay991 (k0_pay905 x15 (k0_pay901 (k0_pay578 x10)) (k0_pay903 (k0_pay578 x10)) (k0_pay904 (k0_pay578 x10)))))) (k0_pay1024 (k0_pay991 (k0_pay905 x15 (k0_pay901 (k0_pay578 x10)) (k0_pay903 (k0_pay578 x10)) (k0_pay904 (k0_pay578 x10)))) (k0_pay997 (k0_pay580 (k0_pay579 x13))) (k0_pay1015 (k0_pay991 (k0_pay905 x15 (k0_pay901 (k0_pay578 x10)) (k0_pay903 (k0_pay578 x10)) (k0_pay904 (k0_pay578 x10))))) (k0_pay1016 (k0_pay991 (k0_pay905 x15 (k0_pay901 (k0_pay578 x10)) (k0_pay903 (k0_pay578 x10)) (k0_pay904 (k0_pay578 x10))))) (k0_pay1017 (k0_pay991 (k0_pay905 x15 (k0_pay901 (k0_pay578 x10)) (k0_pay903 (k0_pay578 x10)) (k0_pay904 (k0_pay578 x10))))) (k0_pay1018 (k0_pay991 (k0_pay905 x15 (k0_pay901 (k0_pay578 x10)) (k0_pay903 (k0_pay578 x10)) (k0_pay904 (k0_pay578 x10))))) (k0_pay1019 (k0_pay991 (k0_pay905 x15 (k0_pay901 (k0_pay578 x10)) (k0_pay903 (k0_pay578 x10)) (k0_pay904 (k0_pay578 x10))))) (k0_pay1020 (k0_pay991 (k0_pay905 x15 (k0_pay901 (k0_pay578 x10)) (k0_pay903 (k0_pay578 x10)) (k0_pay904 (k0_pay578 x10))))) (k0_pay1021 (k0_pay991 (k0_pay905 x15 (k0_pay901 (k0_pay578 x10)) (k0_pay903 (k0_pay578 x10)) (k0_pay904 (k0_pay578 x10)))))) gain)

theorem out_1_2 (x9 x10 x11 x12 x13 : Vec Ideal S1x16x16x1024 .bf16) (x15 : Vec Ideal S128x128 .bf16) (s : Vec Ideal S1x128x128 .f32) (gain : Vec Ideal S1x128 .f32) : oComp_1_2 x9 x10 x11 x12 x13 x15 s gain =
    gated 1 2 (chunkO 1 2 (k0_pay581 x9) (k0_pay580 (k0_pay579 x13)) (k0_pay582 x11) (k0_pay578 x10) x15 (shapeCast S128x128 s shapeCasts_S1x128x128_S128x128)) gain (k0_pay583 x12) := rfl

/-- The state of head 3 stored after chunk 1, as the kernel computes it. -/
def sComp_1_3 (x10 x11 x13 : Vec Ideal S1x16x16x1024 .bf16) (x15 : Vec Ideal S128x128 .bf16) (s : Vec Ideal S1x128x128 .f32) : FVec Ideal S1x128x128 .f32 :=
  (k0_pay1064 (k0_pay1063 (k0_pay1028 (k0_pay580 (k0_pay579 x13))) (k0_pay1029 (k0_pay582 x11)) (k0_pay1032 (k0_pay1030 (k0_pay905 x15 (k0_pay901 (k0_pay578 x10)) (k0_pay903 (k0_pay578 x10)) (k0_pay904 (k0_pay578 x10)))) (k0_pay1031 (F := Ideal))) (k0_pay1034 (k0_pay1030 (k0_pay905 x15 (k0_pay901 (k0_pay578 x10)) (k0_pay903 (k0_pay578 x10)) (k0_pay904 (k0_pay578 x10)))) (k0_pay1031 (F := Ideal))) (k0_pay1035 s)))

theorem state_1_3 (x10 x11 x13 : Vec Ideal S1x16x16x1024 .bf16) (x15 : Vec Ideal S128x128 .bf16) (s : Vec Ideal S1x128x128 .f32) : sComp_1_3 x10 x11 x13 x15 s =
    shapeCast S1x128x128 (chunkSt 1 3 (k0_pay580 (k0_pay579 x13)) (k0_pay582 x11) (k0_pay578 x10) x15 (shapeCast S128x128 s shapeCasts_S1x128x128_S128x128)) shapeCasts_S128x128_S1x128x128 := rfl

/-- The gated outputs of head 3 on chunk 1, as the kernel computes them. -/
def oComp_1_3 (x9 x10 x11 x12 x13 : Vec Ideal S1x16x16x1024 .bf16) (x15 : Vec Ideal S128x128 .bf16) (s : Vec Ideal S1x128x128 .f32) (gain : Vec Ideal S1x128 .f32) : FVec Ideal S16x8x128 .f32 :=
  (k0_pay1065 (k0_pay583 x12) (k0_pay1062 (k0_pay584 (F := Ideal)) (k0_pay1029 (k0_pay582 x11)) (k0_pay1033 (k0_pay1030 (k0_pay905 x15 (k0_pay901 (k0_pay578 x10)) (k0_pay903 (k0_pay578 x10)) (k0_pay904 (k0_pay578 x10)))) (k0_pay1031 (F := Ideal))) (k0_pay1036 (k0_pay1027 (k0_pay581 x9)) (k0_pay1030 (k0_pay905 x15 (k0_pay901 (k0_pay578 x10)) (k0_pay903 (k0_pay578 x10)) (k0_pay904 (k0_pay578 x10)))) (k0_pay1031 (F := Ideal)) s) (k0_pay1038 (k0_pay1027 (k0_pay581 x9))) (k0_pay1039 (k0_pay1028 (k0_pay580 (k0_pay579 x13)))) (k0_pay1051 (k0_pay584 (F := Ideal)) (k0_pay1033 (k0_pay1030 (k0_pay905 x15 (k0_pay901 (k0_pay578 x10)) (k0_pay903 (k0_pay578 x10)) (k0_pay904 (k0_pay578 x10)))) (k0_pay1031 (F := Ideal))) (k0_pay1038 (k0_pay1027 (k0_pay581 x9))) (k0_pay1039 (k0_pay1028 (k0_pay580 (k0_pay579 x13)))) (k0_pay1048 (k0_pay584 (F := Ideal)) (k0_pay1033 (k0_pay1030 (k0_pay905 x15 (k0_pay901 (k0_pay578 x10)) (k0_pay903 (k0_pay578 x10)) (k0_pay904 (k0_pay578 x10)))) (k0_pay1031 (F := Ideal))) (k0_pay1038 (k0_pay1027 (k0_pay581 x9))) (k0_pay1039 (k0_pay1028 (k0_pay580 (k0_pay579 x13)))) (k0_pay1043 (k0_pay584 (F := Ideal)) (k0_pay1033 (k0_pay1030 (k0_pay905 x15 (k0_pay901 (k0_pay578 x10)) (k0_pay903 (k0_pay578 x10)) (k0_pay904 (k0_pay578 x10)))) (k0_pay1031 (F := Ideal))) (k0_pay1037 (k0_pay584 (F := Ideal)) (k0_pay1027 (k0_pay581 x9)) (k0_pay1028 (k0_pay580 (k0_pay579 x13)))) (k0_pay1038 (k0_pay1027 (k0_pay581 x9))) (k0_pay1039 (k0_pay1028 (k0_pay580 (k0_pay579 x13)))) (k0_pay1041 (k0_pay1027 (k0_pay581 x9)) (k0_pay1030 (k0_pay905 x15 (k0_pay901 (k0_pay578 x10)) (k0_pay903 (k0_pay578 x10)) (k0_pay904 (k0_pay578 x10)))) (k0_pay1031 (F := Ideal))) (k0_pay1042 (k0_pay1028 (k0_pay580 (k0_pay579 x13))) (k0_pay1030 (k0_pay905 x15 (k0_pay901 (k0_pay578 x10)) (k0_pay903 (k0_pay578 x10)) (k0_pay904 (k0_pay578 x10)))) (k0_pay1031 (F := Ideal)))) (k0_pay1046 (k0_pay584 (F := Ideal))) (k0_pay1047 (k0_pay1033 (k0_pay1030 (k0_pay905 x15 (k0_pay901 (k0_pay578 x10)) (k0_pay903 (k0_pay578 x10)) (k0_pay904 (k0_pay578 x10)))) (k0_pay1031 (F := Ideal))) (k0_pay1038 (k0_pay1027 (k0_pay581 x9))) (k0_pay1039 (k0_pay1028 (k0_pay580 (k0_pay579 x13)))) (k0_pay1044 (k0_pay1033 (k0_pay1030 (k0_pay905 x15 (k0_pay901 (k0_pay578 x10)) (k0_pay903 (k0_pay578 x10)) (k0_pay904 (k0_pay578 x10)))) (k0_pay1031 (F := Ideal)))) (iota .tc S8x128 32 [0] iota_S8x128_d0_w32 : IVec S8x128 32) (k0_pay1045 (k0_pay1033 (k0_pay1030 (k0_pay905 x15 (k0_pay901 (k0_pay578 x10)) (k0_pay903 (k0_pay578 x10)) (k0_pay904 (k0_pay578 x10)))) (k0_pay1031 (F := Ideal)))))) (k0_pay1049 (k0_pay584 (F := Ideal))) (k0_pay1050 (k0_pay1033 (k0_pay1030 (k0_pay905 x15 (k0_pay901 (k0_pay578 x10)) (k0_pay903 (k0_pay578 x10)) (k0_pay904 (k0_pay578 x10)))) (k0_pay1031 (F := Ideal))) (k0_pay1038 (k0_pay1027 (k0_pay581 x9))) (k0_pay1039 (k0_pay1028 (k0_pay580 (k0_pay579 x13)))))) (k0_pay1053 (k0_pay1033 (k0_pay1030 (k0_pay905 x15 (k0_pay901 (k0_pay578 x10)) (k0_pay903 (k0_pay578 x10)) (k0_pay904 (k0_pay578 x10)))) (k0_pay1031 (F := Ideal))) (k0_pay1052 (k0_pay1033 (k0_pay1030 (k0_pay905 x15 (k0_pay901 (k0_pay578 x10)) (k0_pay903 (k0_pay578 x10)) (k0_pay904 (k0_pay578 x10)))) (k0_pay1031 (F := Ideal))))) (k0_pay1054 (k0_pay1033 (k0_pay1030 (k0_pay905 x15 (k0_pay901 (k0_pay578 x10)) (k0_pay903 (k0_pay578 x10)) (k0_pay904 (k0_pay578 x10)))) (k0_pay1031 (F := Ideal))) (k0_pay1052 (k0_pay1033 (k0_pay1030 (k0_pay905 x15 (k0_pay901 (k0_pay578 x10)) (k0_pay903 (k0_pay578 x10)) (k0_pay904 (k0_pay578 x10)))) (k0_pay1031 (F := Ideal))))) (k0_pay1055 (k0_pay1033 (k0_pay1030 (k0_pay905 x15 (k0_pay901 (k0_pay578 x10)) (k0_pay903 (k0_pay578 x10)) (k0_pay904 (k0_pay578 x10)))) (k0_pay1031 (F := Ideal))) (k0_pay1052 (k0_pay1033 (k0_pay1030 (k0_pay905 x15 (k0_pay901 (k0_pay578 x10)) (k0_pay903 (k0_pay578 x10)) (k0_pay904 (k0_pay578 x10)))) (k0_pay1031 (F := Ideal))))) (k0_pay1056 (k0_pay1033 (k0_pay1030 (k0_pay905 x15 (k0_pay901 (k0_pay578 x10)) (k0_pay903 (k0_pay578 x10)) (k0_pay904 (k0_pay578 x10)))) (k0_pay1031 (F := Ideal))) (k0_pay1052 (k0_pay1033 (k0_pay1030 (k0_pay905 x15 (k0_pay901 (k0_pay578 x10)) (k0_pay903 (k0_pay578 x10)) (k0_pay904 (k0_pay578 x10)))) (k0_pay1031 (F := Ideal))))) (k0_pay1057 (k0_pay1033 (k0_pay1030 (k0_pay905 x15 (k0_pay901 (k0_pay578 x10)) (k0_pay903 (k0_pay578 x10)) (k0_pay904 (k0_pay578 x10)))) (k0_pay1031 (F := Ideal))) (k0_pay1052 (k0_pay1033 (k0_pay1030 (k0_pay905 x15 (k0_pay901 (k0_pay578 x10)) (k0_pay903 (k0_pay578 x10)) (k0_pay904 (k0_pay578 x10)))) (k0_pay1031 (F := Ideal))))) (k0_pay1058 (k0_pay1033 (k0_pay1030 (k0_pay905 x15 (k0_pay901 (k0_pay578 x10)) (k0_pay903 (k0_pay578 x10)) (k0_pay904 (k0_pay578 x10)))) (k0_pay1031 (F := Ideal))) (k0_pay1052 (k0_pay1033 (k0_pay1030 (k0_pay905 x15 (k0_pay901 (k0_pay578 x10)) (k0_pay903 (k0_pay578 x10)) (k0_pay904 (k0_pay578 x10)))) (k0_pay1031 (F := Ideal))))) (k0_pay1059 (k0_pay1033 (k0_pay1030 (k0_pay905 x15 (k0_pay901 (k0_pay578 x10)) (k0_pay903 (k0_pay578 x10)) (k0_pay904 (k0_pay578 x10)))) (k0_pay1031 (F := Ideal))) (k0_pay1052 (k0_pay1033 (k0_pay1030 (k0_pay905 x15 (k0_pay901 (k0_pay578 x10)) (k0_pay903 (k0_pay578 x10)) (k0_pay904 (k0_pay578 x10)))) (k0_pay1031 (F := Ideal))))) (k0_pay1060 (k0_pay1033 (k0_pay1030 (k0_pay905 x15 (k0_pay901 (k0_pay578 x10)) (k0_pay903 (k0_pay578 x10)) (k0_pay904 (k0_pay578 x10)))) (k0_pay1031 (F := Ideal))) (k0_pay1052 (k0_pay1033 (k0_pay1030 (k0_pay905 x15 (k0_pay901 (k0_pay578 x10)) (k0_pay903 (k0_pay578 x10)) (k0_pay904 (k0_pay578 x10)))) (k0_pay1031 (F := Ideal))))) (k0_pay1061 (k0_pay1033 (k0_pay1030 (k0_pay905 x15 (k0_pay901 (k0_pay578 x10)) (k0_pay903 (k0_pay578 x10)) (k0_pay904 (k0_pay578 x10)))) (k0_pay1031 (F := Ideal))))) gain)

theorem out_1_3 (x9 x10 x11 x12 x13 : Vec Ideal S1x16x16x1024 .bf16) (x15 : Vec Ideal S128x128 .bf16) (s : Vec Ideal S1x128x128 .f32) (gain : Vec Ideal S1x128 .f32) : oComp_1_3 x9 x10 x11 x12 x13 x15 s gain =
    gated 1 3 (chunkO 1 3 (k0_pay581 x9) (k0_pay580 (k0_pay579 x13)) (k0_pay582 x11) (k0_pay578 x10) x15 (shapeCast S128x128 s shapeCasts_S1x128x128_S128x128)) gain (k0_pay583 x12) := rfl

/-- The state of head 4 stored after chunk 1, as the kernel computes it. -/
def sComp_1_4 (x10 x11 x13 : Vec Ideal S1x16x16x1024 .bf16) (x15 : Vec Ideal S128x128 .bf16) (s : Vec Ideal S1x128x128 .f32) : FVec Ideal S1x128x128 .f32 :=
  (k0_pay1115 (k0_pay1067 (k0_pay580 (k0_pay579 x13))) (k0_pay1068 (k0_pay582 x11)) (k0_pay1069 (k0_pay905 x15 (k0_pay901 (k0_pay578 x10)) (k0_pay903 (k0_pay578 x10)) (k0_pay904 (k0_pay578 x10)))) (k0_pay1071 (k0_pay905 x15 (k0_pay901 (k0_pay578 x10)) (k0_pay903 (k0_pay578 x10)) (k0_pay904 (k0_pay578 x10)))) (k0_pay1072 s))

theorem state_1_4 (x10 x11 x13 : Vec Ideal S1x16x16x1024 .bf16) (x15 : Vec Ideal S128x128 .bf16) (s : Vec Ideal S1x128x128 .f32) : sComp_1_4 x10 x11 x13 x15 s =
    shapeCast S1x128x128 (chunkSt 1 4 (k0_pay580 (k0_pay579 x13)) (k0_pay582 x11) (k0_pay578 x10) x15 (shapeCast S128x128 s shapeCasts_S1x128x128_S128x128)) shapeCasts_S128x128_S1x128x128 := rfl

/-- The gated outputs of head 4 on chunk 1, as the kernel computes them. -/
def oComp_1_4 (x9 x10 x11 x12 x13 : Vec Ideal S1x16x16x1024 .bf16) (x15 : Vec Ideal S128x128 .bf16) (s : Vec Ideal S1x128x128 .f32) (gain : Vec Ideal S1x128 .f32) : FVec Ideal S16x8x128 .f32 :=
  (k0_pay1116 (k0_pay583 x12) (k0_pay584 (F := Ideal)) (k0_pay1068 (k0_pay582 x11)) (k0_pay1073 (k0_pay581 x9) (k0_pay905 x15 (k0_pay901 (k0_pay578 x10)) (k0_pay903 (k0_pay578 x10)) (k0_pay904 (k0_pay578 x10))) s) (k0_pay1077 (k0_pay1066 (k0_pay581 x9))) (k0_pay1078 (k0_pay1067 (k0_pay580 (k0_pay579 x13)))) (k0_pay1091 (k0_pay584 (F := Ideal)) (k0_pay1070 (k0_pay905 x15 (k0_pay901 (k0_pay578 x10)) (k0_pay903 (k0_pay578 x10)) (k0_pay904 (k0_pay578 x10)))) (k0_pay1077 (k0_pay1066 (k0_pay581 x9))) (k0_pay1078 (k0_pay1067 (k0_pay580 (k0_pay579 x13)))) (k0_pay1087 (k0_pay584 (F := Ideal)) (k0_pay1070 (k0_pay905 x15 (k0_pay901 (k0_pay578 x10)) (k0_pay903 (k0_pay578 x10)) (k0_pay904 (k0_pay578 x10)))) (k0_pay1077 (k0_pay1066 (k0_pay581 x9))) (k0_pay1078 (k0_pay1067 (k0_pay580 (k0_pay579 x13)))) (k0_pay1085 (k0_pay584 (F := Ideal)) (k0_pay1070 (k0_pay905 x15 (k0_pay901 (k0_pay578 x10)) (k0_pay903 (k0_pay578 x10)) (k0_pay904 (k0_pay578 x10)))) (k0_pay1077 (k0_pay1066 (k0_pay581 x9))) (k0_pay1078 (k0_pay1067 (k0_pay580 (k0_pay579 x13)))) (k0_pay1081 (k0_pay584 (F := Ideal)) (k0_pay1070 (k0_pay905 x15 (k0_pay901 (k0_pay578 x10)) (k0_pay903 (k0_pay578 x10)) (k0_pay904 (k0_pay578 x10)))) (k0_pay1077 (k0_pay1066 (k0_pay581 x9))) (k0_pay1078 (k0_pay1067 (k0_pay580 (k0_pay579 x13)))) (k0_pay1079 (k0_pay584 (F := Ideal)) (k0_pay1066 (k0_pay581 x9)) (k0_pay1067 (k0_pay580 (k0_pay579 x13))) (k0_pay1070 (k0_pay905 x15 (k0_pay901 (k0_pay578 x10)) (k0_pay903 (k0_pay578 x10)) (k0_pay904 (k0_pay578 x10)))) (k0_pay1074 (k0_pay580 (k0_pay579 x13)) (k0_pay581 x9)) (k0_pay1075 (k0_pay584 (F := Ideal))) (k0_pay1076 (F := Ideal))) (k0_pay1080 (k0_pay1070 (k0_pay905 x15 (k0_pay901 (k0_pay578 x10)) (k0_pay903 (k0_pay578 x10)) (k0_pay904 (k0_pay578 x10)))))) (iota .tc S8x128 32 [0] iota_S8x128_d0_w32 : IVec S8x128 32) (k0_pay1083 (k0_pay1070 (k0_pay905 x15 (k0_pay901 (k0_pay578 x10)) (k0_pay903 (k0_pay578 x10)) (k0_pay904 (k0_pay578 x10))))) (k0_pay1084 (k0_pay1070 (k0_pay905 x15 (k0_pay901 (k0_pay578 x10)) (k0_pay903 (k0_pay578 x10)) (k0_pay904 (k0_pay578 x10)))))) (k0_pay1086 (k0_pay1070 (k0_pay905 x15 (k0_pay901 (k0_pay578 x10)) (k0_pay903 (k0_pay578 x10)) (k0_pay904 (k0_pay578 x10)))))) (k0_pay1088 (k0_pay1070 (k0_pay905 x15 (k0_pay901 (k0_pay578 x10)) (k0_pay903 (k0_pay578 x10)) (k0_pay904 (k0_pay578 x10))))) (k0_pay1089 (k0_pay1070 (k0_pay905 x15 (k0_pay901 (k0_pay578 x10)) (k0_pay903 (k0_pay578 x10)) (k0_pay904 (k0_pay578 x10))))) (k0_pay1090 (k0_pay1070 (k0_pay905 x15 (k0_pay901 (k0_pay578 x10)) (k0_pay903 (k0_pay578 x10)) (k0_pay904 (k0_pay578 x10)))))) (k0_pay1098 (k0_pay1070 (k0_pay905 x15 (k0_pay901 (k0_pay578 x10)) (k0_pay903 (k0_pay578 x10)) (k0_pay904 (k0_pay578 x10)))) (k0_pay1092 (k0_pay1070 (k0_pay905 x15 (k0_pay901 (k0_pay578 x10)) (k0_pay903 (k0_pay578 x10)) (k0_pay904 (k0_pay578 x10))))) (k0_pay1093 (k0_pay1070 (k0_pay905 x15 (k0_pay901 (k0_pay578 x10)) (k0_pay903 (k0_pay578 x10)) (k0_pay904 (k0_pay578 x10))))) (k0_pay1094 (k0_pay1070 (k0_pay905 x15 (k0_pay901 (k0_pay578 x10)) (k0_pay903 (k0_pay578 x10)) (k0_pay904 (k0_pay578 x10))))) (k0_pay1095 (k0_pay1070 (k0_pay905 x15 (k0_pay901 (k0_pay578 x10)) (k0_pay903 (k0_pay578 x10)) (k0_pay904 (k0_pay578 x10))))) (k0_pay1096 (k0_pay1070 (k0_pay905 x15 (k0_pay901 (k0_pay578 x10)) (k0_pay903 (k0_pay578 x10)) (k0_pay904 (k0_pay578 x10))))) (k0_pay1097 (k0_pay1070 (k0_pay905 x15 (k0_pay901 (k0_pay578 x10)) (k0_pay903 (k0_pay578 x10)) (k0_pay904 (k0_pay578 x10)))))) (k0_pay1099 (k0_pay1070 (k0_pay905 x15 (k0_pay901 (k0_pay578 x10)) (k0_pay903 (k0_pay578 x10)) (k0_pay904 (k0_pay578 x10)))) (k0_pay1092 (k0_pay1070 (k0_pay905 x15 (k0_pay901 (k0_pay578 x10)) (k0_pay903 (k0_pay578 x10)) (k0_pay904 (k0_pay578 x10))))) (k0_pay1093 (k0_pay1070 (k0_pay905 x15 (k0_pay901 (k0_pay578 x10)) (k0_pay903 (k0_pay578 x10)) (k0_pay904 (k0_pay578 x10))))) (k0_pay1094 (k0_pay1070 (k0_pay905 x15 (k0_pay901 (k0_pay578 x10)) (k0_pay903 (k0_pay578 x10)) (k0_pay904 (k0_pay578 x10))))) (k0_pay1095 (k0_pay1070 (k0_pay905 x15 (k0_pay901 (k0_pay578 x10)) (k0_pay903 (k0_pay578 x10)) (k0_pay904 (k0_pay578 x10))))) (k0_pay1096 (k0_pay1070 (k0_pay905 x15 (k0_pay901 (k0_pay578 x10)) (k0_pay903 (k0_pay578 x10)) (k0_pay904 (k0_pay578 x10))))) (k0_pay1097 (k0_pay1070 (k0_pay905 x15 (k0_pay901 (k0_pay578 x10)) (k0_pay903 (k0_pay578 x10)) (k0_pay904 (k0_pay578 x10)))))) (k0_pay1100 (k0_pay1070 (k0_pay905 x15 (k0_pay901 (k0_pay578 x10)) (k0_pay903 (k0_pay578 x10)) (k0_pay904 (k0_pay578 x10)))) (k0_pay1092 (k0_pay1070 (k0_pay905 x15 (k0_pay901 (k0_pay578 x10)) (k0_pay903 (k0_pay578 x10)) (k0_pay904 (k0_pay578 x10))))) (k0_pay1093 (k0_pay1070 (k0_pay905 x15 (k0_pay901 (k0_pay578 x10)) (k0_pay903 (k0_pay578 x10)) (k0_pay904 (k0_pay578 x10))))) (k0_pay1094 (k0_pay1070 (k0_pay905 x15 (k0_pay901 (k0_pay578 x10)) (k0_pay903 (k0_pay578 x10)) (k0_pay904 (k0_pay578 x10))))) (k0_pay1095 (k0_pay1070 (k0_pay905 x15 (k0_pay901 (k0_pay578 x10)) (k0_pay903 (k0_pay578 x10)) (k0_pay904 (k0_pay578 x10))))) (k0_pay1096 (k0_pay1070 (k0_pay905 x15 (k0_pay901 (k0_pay578 x10)) (k0_pay903 (k0_pay578 x10)) (k0_pay904 (k0_pay578 x10))))) (k0_pay1097 (k0_pay1070 (k0_pay905 x15 (k0_pay901 (k0_pay578 x10)) (k0_pay903 (k0_pay578 x10)) (k0_pay904 (k0_pay578 x10)))))) (k0_pay1101 (k0_pay1070 (k0_pay905 x15 (k0_pay901 (k0_pay578 x10)) (k0_pay903 (k0_pay578 x10)) (k0_pay904 (k0_pay578 x10)))) (k0_pay1092 (k0_pay1070 (k0_pay905 x15 (k0_pay901 (k0_pay578 x10)) (k0_pay903 (k0_pay578 x10)) (k0_pay904 (k0_pay578 x10))))) (k0_pay1093 (k0_pay1070 (k0_pay905 x15 (k0_pay901 (k0_pay578 x10)) (k0_pay903 (k0_pay578 x10)) (k0_pay904 (k0_pay578 x10))))) (k0_pay1094 (k0_pay1070 (k0_pay905 x15 (k0_pay901 (k0_pay578 x10)) (k0_pay903 (k0_pay578 x10)) (k0_pay904 (k0_pay578 x10))))) (k0_pay1095 (k0_pay1070 (k0_pay905 x15 (k0_pay901 (k0_pay578 x10)) (k0_pay903 (k0_pay578 x10)) (k0_pay904 (k0_pay578 x10))))) (k0_pay1096 (k0_pay1070 (k0_pay905 x15 (k0_pay901 (k0_pay578 x10)) (k0_pay903 (k0_pay578 x10)) (k0_pay904 (k0_pay578 x10))))) (k0_pay1097 (k0_pay1070 (k0_pay905 x15 (k0_pay901 (k0_pay578 x10)) (k0_pay903 (k0_pay578 x10)) (k0_pay904 (k0_pay578 x10)))))) (k0_pay1102 (k0_pay1070 (k0_pay905 x15 (k0_pay901 (k0_pay578 x10)) (k0_pay903 (k0_pay578 x10)) (k0_pay904 (k0_pay578 x10)))) (k0_pay1092 (k0_pay1070 (k0_pay905 x15 (k0_pay901 (k0_pay578 x10)) (k0_pay903 (k0_pay578 x10)) (k0_pay904 (k0_pay578 x10))))) (k0_pay1093 (k0_pay1070 (k0_pay905 x15 (k0_pay901 (k0_pay578 x10)) (k0_pay903 (k0_pay578 x10)) (k0_pay904 (k0_pay578 x10))))) (k0_pay1094 (k0_pay1070 (k0_pay905 x15 (k0_pay901 (k0_pay578 x10)) (k0_pay903 (k0_pay578 x10)) (k0_pay904 (k0_pay578 x10))))) (k0_pay1095 (k0_pay1070 (k0_pay905 x15 (k0_pay901 (k0_pay578 x10)) (k0_pay903 (k0_pay578 x10)) (k0_pay904 (k0_pay578 x10))))) (k0_pay1096 (k0_pay1070 (k0_pay905 x15 (k0_pay901 (k0_pay578 x10)) (k0_pay903 (k0_pay578 x10)) (k0_pay904 (k0_pay578 x10))))) (k0_pay1097 (k0_pay1070 (k0_pay905 x15 (k0_pay901 (k0_pay578 x10)) (k0_pay903 (k0_pay578 x10)) (k0_pay904 (k0_pay578 x10)))))) (k0_pay1103 (k0_pay1070 (k0_pay905 x15 (k0_pay901 (k0_pay578 x10)) (k0_pay903 (k0_pay578 x10)) (k0_pay904 (k0_pay578 x10)))) (k0_pay1092 (k0_pay1070 (k0_pay905 x15 (k0_pay901 (k0_pay578 x10)) (k0_pay903 (k0_pay578 x10)) (k0_pay904 (k0_pay578 x10))))) (k0_pay1093 (k0_pay1070 (k0_pay905 x15 (k0_pay901 (k0_pay578 x10)) (k0_pay903 (k0_pay578 x10)) (k0_pay904 (k0_pay578 x10))))) (k0_pay1094 (k0_pay1070 (k0_pay905 x15 (k0_pay901 (k0_pay578 x10)) (k0_pay903 (k0_pay578 x10)) (k0_pay904 (k0_pay578 x10))))) (k0_pay1095 (k0_pay1070 (k0_pay905 x15 (k0_pay901 (k0_pay578 x10)) (k0_pay903 (k0_pay578 x10)) (k0_pay904 (k0_pay578 x10))))) (k0_pay1096 (k0_pay1070 (k0_pay905 x15 (k0_pay901 (k0_pay578 x10)) (k0_pay903 (k0_pay578 x10)) (k0_pay904 (k0_pay578 x10))))) (k0_pay1097 (k0_pay1070 (k0_pay905 x15 (k0_pay901 (k0_pay578 x10)) (k0_pay903 (k0_pay578 x10)) (k0_pay904 (k0_pay578 x10)))))) (k0_pay1104 (k0_pay1070 (k0_pay905 x15 (k0_pay901 (k0_pay578 x10)) (k0_pay903 (k0_pay578 x10)) (k0_pay904 (k0_pay578 x10)))) (k0_pay1092 (k0_pay1070 (k0_pay905 x15 (k0_pay901 (k0_pay578 x10)) (k0_pay903 (k0_pay578 x10)) (k0_pay904 (k0_pay578 x10))))) (k0_pay1093 (k0_pay1070 (k0_pay905 x15 (k0_pay901 (k0_pay578 x10)) (k0_pay903 (k0_pay578 x10)) (k0_pay904 (k0_pay578 x10))))) (k0_pay1094 (k0_pay1070 (k0_pay905 x15 (k0_pay901 (k0_pay578 x10)) (k0_pay903 (k0_pay578 x10)) (k0_pay904 (k0_pay578 x10))))) (k0_pay1095 (k0_pay1070 (k0_pay905 x15 (k0_pay901 (k0_pay578 x10)) (k0_pay903 (k0_pay578 x10)) (k0_pay904 (k0_pay578 x10))))) (k0_pay1096 (k0_pay1070 (k0_pay905 x15 (k0_pay901 (k0_pay578 x10)) (k0_pay903 (k0_pay578 x10)) (k0_pay904 (k0_pay578 x10))))) (k0_pay1097 (k0_pay1070 (k0_pay905 x15 (k0_pay901 (k0_pay578 x10)) (k0_pay903 (k0_pay578 x10)) (k0_pay904 (k0_pay578 x10)))))) (k0_pay1105 (k0_pay1070 (k0_pay905 x15 (k0_pay901 (k0_pay578 x10)) (k0_pay903 (k0_pay578 x10)) (k0_pay904 (k0_pay578 x10)))) (k0_pay1092 (k0_pay1070 (k0_pay905 x15 (k0_pay901 (k0_pay578 x10)) (k0_pay903 (k0_pay578 x10)) (k0_pay904 (k0_pay578 x10))))) (k0_pay1093 (k0_pay1070 (k0_pay905 x15 (k0_pay901 (k0_pay578 x10)) (k0_pay903 (k0_pay578 x10)) (k0_pay904 (k0_pay578 x10))))) (k0_pay1094 (k0_pay1070 (k0_pay905 x15 (k0_pay901 (k0_pay578 x10)) (k0_pay903 (k0_pay578 x10)) (k0_pay904 (k0_pay578 x10))))) (k0_pay1095 (k0_pay1070 (k0_pay905 x15 (k0_pay901 (k0_pay578 x10)) (k0_pay903 (k0_pay578 x10)) (k0_pay904 (k0_pay578 x10))))) (k0_pay1096 (k0_pay1070 (k0_pay905 x15 (k0_pay901 (k0_pay578 x10)) (k0_pay903 (k0_pay578 x10)) (k0_pay904 (k0_pay578 x10))))) (k0_pay1097 (k0_pay1070 (k0_pay905 x15 (k0_pay901 (k0_pay578 x10)) (k0_pay903 (k0_pay578 x10)) (k0_pay904 (k0_pay578 x10)))))) (k0_pay1106 (k0_pay1070 (k0_pay905 x15 (k0_pay901 (k0_pay578 x10)) (k0_pay903 (k0_pay578 x10)) (k0_pay904 (k0_pay578 x10)))) (k0_pay1092 (k0_pay1070 (k0_pay905 x15 (k0_pay901 (k0_pay578 x10)) (k0_pay903 (k0_pay578 x10)) (k0_pay904 (k0_pay578 x10))))) (k0_pay1093 (k0_pay1070 (k0_pay905 x15 (k0_pay901 (k0_pay578 x10)) (k0_pay903 (k0_pay578 x10)) (k0_pay904 (k0_pay578 x10))))) (k0_pay1094 (k0_pay1070 (k0_pay905 x15 (k0_pay901 (k0_pay578 x10)) (k0_pay903 (k0_pay578 x10)) (k0_pay904 (k0_pay578 x10))))) (k0_pay1095 (k0_pay1070 (k0_pay905 x15 (k0_pay901 (k0_pay578 x10)) (k0_pay903 (k0_pay578 x10)) (k0_pay904 (k0_pay578 x10))))) (k0_pay1096 (k0_pay1070 (k0_pay905 x15 (k0_pay901 (k0_pay578 x10)) (k0_pay903 (k0_pay578 x10)) (k0_pay904 (k0_pay578 x10))))) (k0_pay1097 (k0_pay1070 (k0_pay905 x15 (k0_pay901 (k0_pay578 x10)) (k0_pay903 (k0_pay578 x10)) (k0_pay904 (k0_pay578 x10)))))) (k0_pay1107 (k0_pay1070 (k0_pay905 x15 (k0_pay901 (k0_pay578 x10)) (k0_pay903 (k0_pay578 x10)) (k0_pay904 (k0_pay578 x10)))) (k0_pay1092 (k0_pay1070 (k0_pay905 x15 (k0_pay901 (k0_pay578 x10)) (k0_pay903 (k0_pay578 x10)) (k0_pay904 (k0_pay578 x10))))) (k0_pay1093 (k0_pay1070 (k0_pay905 x15 (k0_pay901 (k0_pay578 x10)) (k0_pay903 (k0_pay578 x10)) (k0_pay904 (k0_pay578 x10))))) (k0_pay1094 (k0_pay1070 (k0_pay905 x15 (k0_pay901 (k0_pay578 x10)) (k0_pay903 (k0_pay578 x10)) (k0_pay904 (k0_pay578 x10))))) (k0_pay1095 (k0_pay1070 (k0_pay905 x15 (k0_pay901 (k0_pay578 x10)) (k0_pay903 (k0_pay578 x10)) (k0_pay904 (k0_pay578 x10))))) (k0_pay1096 (k0_pay1070 (k0_pay905 x15 (k0_pay901 (k0_pay578 x10)) (k0_pay903 (k0_pay578 x10)) (k0_pay904 (k0_pay578 x10))))) (k0_pay1097 (k0_pay1070 (k0_pay905 x15 (k0_pay901 (k0_pay578 x10)) (k0_pay903 (k0_pay578 x10)) (k0_pay904 (k0_pay578 x10)))))) (k0_pay1108 (k0_pay1070 (k0_pay905 x15 (k0_pay901 (k0_pay578 x10)) (k0_pay903 (k0_pay578 x10)) (k0_pay904 (k0_pay578 x10)))) (k0_pay1092 (k0_pay1070 (k0_pay905 x15 (k0_pay901 (k0_pay578 x10)) (k0_pay903 (k0_pay578 x10)) (k0_pay904 (k0_pay578 x10))))) (k0_pay1093 (k0_pay1070 (k0_pay905 x15 (k0_pay901 (k0_pay578 x10)) (k0_pay903 (k0_pay578 x10)) (k0_pay904 (k0_pay578 x10))))) (k0_pay1094 (k0_pay1070 (k0_pay905 x15 (k0_pay901 (k0_pay578 x10)) (k0_pay903 (k0_pay578 x10)) (k0_pay904 (k0_pay578 x10))))) (k0_pay1095 (k0_pay1070 (k0_pay905 x15 (k0_pay901 (k0_pay578 x10)) (k0_pay903 (k0_pay578 x10)) (k0_pay904 (k0_pay578 x10))))) (k0_pay1096 (k0_pay1070 (k0_pay905 x15 (k0_pay901 (k0_pay578 x10)) (k0_pay903 (k0_pay578 x10)) (k0_pay904 (k0_pay578 x10))))) (k0_pay1097 (k0_pay1070 (k0_pay905 x15 (k0_pay901 (k0_pay578 x10)) (k0_pay903 (k0_pay578 x10)) (k0_pay904 (k0_pay578 x10)))))) (k0_pay1109 (k0_pay1070 (k0_pay905 x15 (k0_pay901 (k0_pay578 x10)) (k0_pay903 (k0_pay578 x10)) (k0_pay904 (k0_pay578 x10)))) (k0_pay1092 (k0_pay1070 (k0_pay905 x15 (k0_pay901 (k0_pay578 x10)) (k0_pay903 (k0_pay578 x10)) (k0_pay904 (k0_pay578 x10))))) (k0_pay1093 (k0_pay1070 (k0_pay905 x15 (k0_pay901 (k0_pay578 x10)) (k0_pay903 (k0_pay578 x10)) (k0_pay904 (k0_pay578 x10))))) (k0_pay1094 (k0_pay1070 (k0_pay905 x15 (k0_pay901 (k0_pay578 x10)) (k0_pay903 (k0_pay578 x10)) (k0_pay904 (k0_pay578 x10))))) (k0_pay1095 (k0_pay1070 (k0_pay905 x15 (k0_pay901 (k0_pay578 x10)) (k0_pay903 (k0_pay578 x10)) (k0_pay904 (k0_pay578 x10))))) (k0_pay1096 (k0_pay1070 (k0_pay905 x15 (k0_pay901 (k0_pay578 x10)) (k0_pay903 (k0_pay578 x10)) (k0_pay904 (k0_pay578 x10))))) (k0_pay1097 (k0_pay1070 (k0_pay905 x15 (k0_pay901 (k0_pay578 x10)) (k0_pay903 (k0_pay578 x10)) (k0_pay904 (k0_pay578 x10)))))) (k0_pay1110 (k0_pay1070 (k0_pay905 x15 (k0_pay901 (k0_pay578 x10)) (k0_pay903 (k0_pay578 x10)) (k0_pay904 (k0_pay578 x10)))) (k0_pay1092 (k0_pay1070 (k0_pay905 x15 (k0_pay901 (k0_pay578 x10)) (k0_pay903 (k0_pay578 x10)) (k0_pay904 (k0_pay578 x10))))) (k0_pay1093 (k0_pay1070 (k0_pay905 x15 (k0_pay901 (k0_pay578 x10)) (k0_pay903 (k0_pay578 x10)) (k0_pay904 (k0_pay578 x10))))) (k0_pay1094 (k0_pay1070 (k0_pay905 x15 (k0_pay901 (k0_pay578 x10)) (k0_pay903 (k0_pay578 x10)) (k0_pay904 (k0_pay578 x10))))) (k0_pay1095 (k0_pay1070 (k0_pay905 x15 (k0_pay901 (k0_pay578 x10)) (k0_pay903 (k0_pay578 x10)) (k0_pay904 (k0_pay578 x10))))) (k0_pay1096 (k0_pay1070 (k0_pay905 x15 (k0_pay901 (k0_pay578 x10)) (k0_pay903 (k0_pay578 x10)) (k0_pay904 (k0_pay578 x10))))) (k0_pay1097 (k0_pay1070 (k0_pay905 x15 (k0_pay901 (k0_pay578 x10)) (k0_pay903 (k0_pay578 x10)) (k0_pay904 (k0_pay578 x10)))))) (k0_pay1111 (k0_pay1070 (k0_pay905 x15 (k0_pay901 (k0_pay578 x10)) (k0_pay903 (k0_pay578 x10)) (k0_pay904 (k0_pay578 x10)))) (k0_pay1092 (k0_pay1070 (k0_pay905 x15 (k0_pay901 (k0_pay578 x10)) (k0_pay903 (k0_pay578 x10)) (k0_pay904 (k0_pay578 x10))))) (k0_pay1093 (k0_pay1070 (k0_pay905 x15 (k0_pay901 (k0_pay578 x10)) (k0_pay903 (k0_pay578 x10)) (k0_pay904 (k0_pay578 x10))))) (k0_pay1094 (k0_pay1070 (k0_pay905 x15 (k0_pay901 (k0_pay578 x10)) (k0_pay903 (k0_pay578 x10)) (k0_pay904 (k0_pay578 x10))))) (k0_pay1095 (k0_pay1070 (k0_pay905 x15 (k0_pay901 (k0_pay578 x10)) (k0_pay903 (k0_pay578 x10)) (k0_pay904 (k0_pay578 x10))))) (k0_pay1096 (k0_pay1070 (k0_pay905 x15 (k0_pay901 (k0_pay578 x10)) (k0_pay903 (k0_pay578 x10)) (k0_pay904 (k0_pay578 x10))))) (k0_pay1097 (k0_pay1070 (k0_pay905 x15 (k0_pay901 (k0_pay578 x10)) (k0_pay903 (k0_pay578 x10)) (k0_pay904 (k0_pay578 x10)))))) (k0_pay1112 (k0_pay1070 (k0_pay905 x15 (k0_pay901 (k0_pay578 x10)) (k0_pay903 (k0_pay578 x10)) (k0_pay904 (k0_pay578 x10)))) (k0_pay1092 (k0_pay1070 (k0_pay905 x15 (k0_pay901 (k0_pay578 x10)) (k0_pay903 (k0_pay578 x10)) (k0_pay904 (k0_pay578 x10))))) (k0_pay1093 (k0_pay1070 (k0_pay905 x15 (k0_pay901 (k0_pay578 x10)) (k0_pay903 (k0_pay578 x10)) (k0_pay904 (k0_pay578 x10))))) (k0_pay1094 (k0_pay1070 (k0_pay905 x15 (k0_pay901 (k0_pay578 x10)) (k0_pay903 (k0_pay578 x10)) (k0_pay904 (k0_pay578 x10))))) (k0_pay1095 (k0_pay1070 (k0_pay905 x15 (k0_pay901 (k0_pay578 x10)) (k0_pay903 (k0_pay578 x10)) (k0_pay904 (k0_pay578 x10))))) (k0_pay1096 (k0_pay1070 (k0_pay905 x15 (k0_pay901 (k0_pay578 x10)) (k0_pay903 (k0_pay578 x10)) (k0_pay904 (k0_pay578 x10))))) (k0_pay1097 (k0_pay1070 (k0_pay905 x15 (k0_pay901 (k0_pay578 x10)) (k0_pay903 (k0_pay578 x10)) (k0_pay904 (k0_pay578 x10)))))) (k0_pay1113 (k0_pay1070 (k0_pay905 x15 (k0_pay901 (k0_pay578 x10)) (k0_pay903 (k0_pay578 x10)) (k0_pay904 (k0_pay578 x10)))) (k0_pay1092 (k0_pay1070 (k0_pay905 x15 (k0_pay901 (k0_pay578 x10)) (k0_pay903 (k0_pay578 x10)) (k0_pay904 (k0_pay578 x10))))) (k0_pay1093 (k0_pay1070 (k0_pay905 x15 (k0_pay901 (k0_pay578 x10)) (k0_pay903 (k0_pay578 x10)) (k0_pay904 (k0_pay578 x10))))) (k0_pay1094 (k0_pay1070 (k0_pay905 x15 (k0_pay901 (k0_pay578 x10)) (k0_pay903 (k0_pay578 x10)) (k0_pay904 (k0_pay578 x10))))) (k0_pay1095 (k0_pay1070 (k0_pay905 x15 (k0_pay901 (k0_pay578 x10)) (k0_pay903 (k0_pay578 x10)) (k0_pay904 (k0_pay578 x10))))) (k0_pay1096 (k0_pay1070 (k0_pay905 x15 (k0_pay901 (k0_pay578 x10)) (k0_pay903 (k0_pay578 x10)) (k0_pay904 (k0_pay578 x10))))) (k0_pay1097 (k0_pay1070 (k0_pay905 x15 (k0_pay901 (k0_pay578 x10)) (k0_pay903 (k0_pay578 x10)) (k0_pay904 (k0_pay578 x10)))))) (k0_pay1114 (k0_pay1070 (k0_pay905 x15 (k0_pay901 (k0_pay578 x10)) (k0_pay903 (k0_pay578 x10)) (k0_pay904 (k0_pay578 x10))))) gain)

theorem out_1_4 (x9 x10 x11 x12 x13 : Vec Ideal S1x16x16x1024 .bf16) (x15 : Vec Ideal S128x128 .bf16) (s : Vec Ideal S1x128x128 .f32) (gain : Vec Ideal S1x128 .f32) : oComp_1_4 x9 x10 x11 x12 x13 x15 s gain =
    gated 1 4 (chunkO 1 4 (k0_pay581 x9) (k0_pay580 (k0_pay579 x13)) (k0_pay582 x11) (k0_pay578 x10) x15 (shapeCast S128x128 s shapeCasts_S1x128x128_S128x128)) gain (k0_pay583 x12) := rfl

/-- The state of head 5 stored after chunk 1, as the kernel computes it. -/
def sComp_1_5 (x10 x11 x13 : Vec Ideal S1x16x16x1024 .bf16) (x15 : Vec Ideal S128x128 .bf16) (s : Vec Ideal S1x128x128 .f32) : FVec Ideal S1x128x128 .f32 :=
  (k0_pay1152 (k0_pay1121 (k0_pay582 x11)) (k0_pay1150 (k0_pay1120 (k0_pay1118 (k0_pay580 (k0_pay579 x13)))) (k0_pay1122 (k0_pay905 x15 (k0_pay901 (k0_pay578 x10)) (k0_pay903 (k0_pay578 x10)) (k0_pay904 (k0_pay578 x10)))) (k0_pay1124 (k0_pay905 x15 (k0_pay901 (k0_pay578 x10)) (k0_pay903 (k0_pay578 x10)) (k0_pay904 (k0_pay578 x10))))) (k0_pay1151 (k0_pay1124 (k0_pay905 x15 (k0_pay901 (k0_pay578 x10)) (k0_pay903 (k0_pay578 x10)) (k0_pay904 (k0_pay578 x10)))) (k0_pay1125 s)))

theorem state_1_5 (x10 x11 x13 : Vec Ideal S1x16x16x1024 .bf16) (x15 : Vec Ideal S128x128 .bf16) (s : Vec Ideal S1x128x128 .f32) : sComp_1_5 x10 x11 x13 x15 s =
    shapeCast S1x128x128 (chunkSt 1 5 (k0_pay580 (k0_pay579 x13)) (k0_pay582 x11) (k0_pay578 x10) x15 (shapeCast S128x128 s shapeCasts_S1x128x128_S128x128)) shapeCasts_S128x128_S1x128x128 := rfl

/-- The gated outputs of head 5 on chunk 1, as the kernel computes them. -/
def oComp_1_5 (x9 x10 x11 x12 x13 : Vec Ideal S1x16x16x1024 .bf16) (x15 : Vec Ideal S128x128 .bf16) (s : Vec Ideal S1x128x128 .f32) (gain : Vec Ideal S1x128 .f32) : FVec Ideal S16x8x128 .f32 :=
  (k0_pay1153 (k0_pay583 x12) (k0_pay1149 (k0_pay584 (F := Ideal)) (k0_pay1121 (k0_pay582 x11)) (k0_pay1123 (k0_pay905 x15 (k0_pay901 (k0_pay578 x10)) (k0_pay903 (k0_pay578 x10)) (k0_pay904 (k0_pay578 x10)))) (k0_pay1126 (k0_pay905 x15 (k0_pay901 (k0_pay578 x10)) (k0_pay903 (k0_pay578 x10)) (k0_pay904 (k0_pay578 x10))) (k0_pay1117 (k0_pay581 x9)) s) (k0_pay1128 (k0_pay1117 (k0_pay581 x9))) (k0_pay1129 (k0_pay1118 (k0_pay580 (k0_pay579 x13)))) (k0_pay1143 (k0_pay584 (F := Ideal)) (k0_pay1139 (k0_pay584 (F := Ideal)) (k0_pay1128 (k0_pay1117 (k0_pay581 x9))) (k0_pay1129 (k0_pay1118 (k0_pay580 (k0_pay579 x13)))) (k0_pay1137 (k0_pay584 (F := Ideal)) (k0_pay1123 (k0_pay905 x15 (k0_pay901 (k0_pay578 x10)) (k0_pay903 (k0_pay578 x10)) (k0_pay904 (k0_pay578 x10)))) (k0_pay1128 (k0_pay1117 (k0_pay581 x9))) (k0_pay1129 (k0_pay1118 (k0_pay580 (k0_pay579 x13)))) (k0_pay1135 (k0_pay584 (F := Ideal)) (k0_pay1132 (k0_pay584 (F := Ideal)) (k0_pay1127 (k0_pay584 (F := Ideal)) (k0_pay1117 (k0_pay581 x9)) (k0_pay1118 (k0_pay580 (k0_pay579 x13)))) (k0_pay1128 (k0_pay1117 (k0_pay581 x9))) (k0_pay1129 (k0_pay1118 (k0_pay580 (k0_pay579 x13)))) (k0_pay1130 (k0_pay905 x15 (k0_pay901 (k0_pay578 x10)) (k0_pay903 (k0_pay578 x10)) (k0_pay904 (k0_pay578 x10)))) (k0_pay1131 (F := Ideal))) (k0_pay1133 (k0_pay1123 (k0_pay905 x15 (k0_pay901 (k0_pay578 x10)) (k0_pay903 (k0_pay578 x10)) (k0_pay904 (k0_pay578 x10)))) (k0_pay1128 (k0_pay1117 (k0_pay581 x9))) (k0_pay1129 (k0_pay1118 (k0_pay580 (k0_pay579 x13))))) (k0_pay1134 (F := Ideal))) (k0_pay1136 (k0_pay1123 (k0_pay905 x15 (k0_pay901 (k0_pay578 x10)) (k0_pay903 (k0_pay578 x10)) (k0_pay904 (k0_pay578 x10)))))) (k0_pay1138 (k0_pay1123 (k0_pay905 x15 (k0_pay901 (k0_pay578 x10)) (k0_pay903 (k0_pay578 x10)) (k0_pay904 (k0_pay578 x10)))))) (k0_pay1141 (k0_pay1123 (k0_pay905 x15 (k0_pay901 (k0_pay578 x10)) (k0_pay903 (k0_pay578 x10)) (k0_pay904 (k0_pay578 x10)))) (k0_pay1128 (k0_pay1117 (k0_pay581 x9)))) (k0_pay1142 (k0_pay1123 (k0_pay905 x15 (k0_pay901 (k0_pay578 x10)) (k0_pay903 (k0_pay578 x10)) (k0_pay904 (k0_pay578 x10)))) (k0_pay1129 (k0_pay1118 (k0_pay580 (k0_pay579 x13)))))) (k0_pay1144 (k0_pay1123 (k0_pay905 x15 (k0_pay901 (k0_pay578 x10)) (k0_pay903 (k0_pay578 x10)) (k0_pay904 (k0_pay578 x10))))) (k0_pay1145 (k0_pay1123 (k0_pay905 x15 (k0_pay901 (k0_pay578 x10)) (k0_pay903 (k0_pay578 x10)) (k0_pay904 (k0_pay578 x10))))) (k0_pay1146 (k0_pay1123 (k0_pay905 x15 (k0_pay901 (k0_pay578 x10)) (k0_pay903 (k0_pay578 x10)) (k0_pay904 (k0_pay578 x10))))) (k0_pay1147 (k0_pay1123 (k0_pay905 x15 (k0_pay901 (k0_pay578 x10)) (k0_pay903 (k0_pay578 x10)) (k0_pay904 (k0_pay578 x10))))) (k0_pay1148 (k0_pay1123 (k0_pay905 x15 (k0_pay901 (k0_pay578 x10)) (k0_pay903 (k0_pay578 x10)) (k0_pay904 (k0_pay578 x10)))))) gain)

theorem out_1_5 (x9 x10 x11 x12 x13 : Vec Ideal S1x16x16x1024 .bf16) (x15 : Vec Ideal S128x128 .bf16) (s : Vec Ideal S1x128x128 .f32) (gain : Vec Ideal S1x128 .f32) : oComp_1_5 x9 x10 x11 x12 x13 x15 s gain =
    gated 1 5 (chunkO 1 5 (k0_pay581 x9) (k0_pay580 (k0_pay579 x13)) (k0_pay582 x11) (k0_pay578 x10) x15 (shapeCast S128x128 s shapeCasts_S1x128x128_S128x128)) gain (k0_pay583 x12) := rfl

/-- The state of head 6 stored after chunk 1, as the kernel computes it. -/
def sComp_1_6 (x10 x11 x13 : Vec Ideal S1x16x16x1024 .bf16) (x15 : Vec Ideal S128x128 .bf16) (s : Vec Ideal S1x128x128 .f32) : FVec Ideal S1x128x128 .f32 :=
  (k0_pay1202 (k0_pay1155 (k0_pay580 (k0_pay579 x13))) (k0_pay1156 (k0_pay582 x11)) (k0_pay1157 (k0_pay905 x15 (k0_pay901 (k0_pay578 x10)) (k0_pay903 (k0_pay578 x10)) (k0_pay904 (k0_pay578 x10)))) (k0_pay1159 (k0_pay905 x15 (k0_pay901 (k0_pay578 x10)) (k0_pay903 (k0_pay578 x10)) (k0_pay904 (k0_pay578 x10)))) (k0_pay1160 s))

theorem state_1_6 (x10 x11 x13 : Vec Ideal S1x16x16x1024 .bf16) (x15 : Vec Ideal S128x128 .bf16) (s : Vec Ideal S1x128x128 .f32) : sComp_1_6 x10 x11 x13 x15 s =
    shapeCast S1x128x128 (chunkSt 1 6 (k0_pay580 (k0_pay579 x13)) (k0_pay582 x11) (k0_pay578 x10) x15 (shapeCast S128x128 s shapeCasts_S1x128x128_S128x128)) shapeCasts_S128x128_S1x128x128 := rfl

/-- The gated outputs of head 6 on chunk 1, as the kernel computes them. -/
def oComp_1_6 (x9 x10 x11 x12 x13 : Vec Ideal S1x16x16x1024 .bf16) (x15 : Vec Ideal S128x128 .bf16) (s : Vec Ideal S1x128x128 .f32) (gain : Vec Ideal S1x128 .f32) : FVec Ideal S16x8x128 .f32 :=
  (k0_pay1204 (k0_pay583 x12) (k0_pay1203 (k0_pay584 (F := Ideal)) (k0_pay1156 (k0_pay582 x11)) (k0_pay1158 (k0_pay905 x15 (k0_pay901 (k0_pay578 x10)) (k0_pay903 (k0_pay578 x10)) (k0_pay904 (k0_pay578 x10)))) (k0_pay1161 (k0_pay581 x9) (k0_pay905 x15 (k0_pay901 (k0_pay578 x10)) (k0_pay903 (k0_pay578 x10)) (k0_pay904 (k0_pay578 x10))) s) (k0_pay1163 (k0_pay1154 (k0_pay581 x9))) (k0_pay1164 (k0_pay1155 (k0_pay580 (k0_pay579 x13)))) (k0_pay1182 (k0_pay584 (F := Ideal)) (k0_pay1158 (k0_pay905 x15 (k0_pay901 (k0_pay578 x10)) (k0_pay903 (k0_pay578 x10)) (k0_pay904 (k0_pay578 x10)))) (k0_pay1163 (k0_pay1154 (k0_pay581 x9))) (k0_pay1164 (k0_pay1155 (k0_pay580 (k0_pay579 x13)))) (k0_pay1177 (k0_pay584 (F := Ideal)) (k0_pay1158 (k0_pay905 x15 (k0_pay901 (k0_pay578 x10)) (k0_pay903 (k0_pay578 x10)) (k0_pay904 (k0_pay578 x10)))) (k0_pay1163 (k0_pay1154 (k0_pay581 x9))) (k0_pay1164 (k0_pay1155 (k0_pay580 (k0_pay579 x13)))) (k0_pay1173 (k0_pay584 (F := Ideal)) (k0_pay1158 (k0_pay905 x15 (k0_pay901 (k0_pay578 x10)) (k0_pay903 (k0_pay578 x10)) (k0_pay904 (k0_pay578 x10)))) (k0_pay1163 (k0_pay1154 (k0_pay581 x9))) (k0_pay1164 (k0_pay1155 (k0_pay580 (k0_pay579 x13)))) (k0_pay1169 (k0_pay584 (F := Ideal)) (k0_pay1158 (k0_pay905 x15 (k0_pay901 (k0_pay578 x10)) (k0_pay903 (k0_pay578 x10)) (k0_pay904 (k0_pay578 x10)))) (k0_pay1163 (k0_pay1154 (k0_pay581 x9))) (k0_pay1164 (k0_pay1155 (k0_pay580 (k0_pay579 x13)))) (k0_pay1165 (k0_pay584 (F := Ideal)) (k0_pay1154 (k0_pay581 x9)) (k0_pay1155 (k0_pay580 (k0_pay579 x13))) (k0_pay1158 (k0_pay905 x15 (k0_pay901 (k0_pay578 x10)) (k0_pay903 (k0_pay578 x10)) (k0_pay904 (k0_pay578 x10)))) (k0_pay1162 (k0_pay580 (k0_pay579 x13)) (k0_pay581 x9))) (iota .tc S8x128 32 [0] iota_S8x128_d0_w32 : IVec S8x128 32) (k0_pay1167 (k0_pay1158 (k0_pay905 x15 (k0_pay901 (k0_pay578 x10)) (k0_pay903 (k0_pay578 x10)) (k0_pay904 (k0_pay578 x10))))) (k0_pay1168 (k0_pay1158 (k0_pay905 x15 (k0_pay901 (k0_pay578 x10)) (k0_pay903 (k0_pay578 x10)) (k0_pay904 (k0_pay578 x10)))))) (k0_pay1170 (k0_pay1158 (k0_pay905 x15 (k0_pay901 (k0_pay578 x10)) (k0_pay903 (k0_pay578 x10)) (k0_pay904 (k0_pay578 x10))))) (iota .tc S8x128 32 [0] iota_S8x128_d0_w32 : IVec S8x128 32) (k0_pay1171 (k0_pay1158 (k0_pay905 x15 (k0_pay901 (k0_pay578 x10)) (k0_pay903 (k0_pay578 x10)) (k0_pay904 (k0_pay578 x10))))) (k0_pay1172 (k0_pay1158 (k0_pay905 x15 (k0_pay901 (k0_pay578 x10)) (k0_pay903 (k0_pay578 x10)) (k0_pay904 (k0_pay578 x10))))) (4#32 : BitVec 32)) (k0_pay1175 (k0_pay1158 (k0_pay905 x15 (k0_pay901 (k0_pay578 x10)) (k0_pay903 (k0_pay578 x10)) (k0_pay904 (k0_pay578 x10)))) (k0_pay1163 (k0_pay1154 (k0_pay581 x9)))) (k0_pay1176 (k0_pay1158 (k0_pay905 x15 (k0_pay901 (k0_pay578 x10)) (k0_pay903 (k0_pay578 x10)) (k0_pay904 (k0_pay578 x10)))) (k0_pay1164 (k0_pay1155 (k0_pay580 (k0_pay579 x13)))))) (k0_pay1178 (k0_pay1158 (k0_pay905 x15 (k0_pay901 (k0_pay578 x10)) (k0_pay903 (k0_pay578 x10)) (k0_pay904 (k0_pay578 x10))))) (k0_pay1179 (k0_pay1158 (k0_pay905 x15 (k0_pay901 (k0_pay578 x10)) (k0_pay903 (k0_pay578 x10)) (k0_pay904 (k0_pay578 x10))))) (k0_pay1180 (k0_pay1158 (k0_pay905 x15 (k0_pay901 (k0_pay578 x10)) (k0_pay903 (k0_pay578 x10)) (k0_pay904 (k0_pay578 x10))))) (k0_pay1181 (k0_pay1158 (k0_pay905 x15 (k0_pay901 (k0_pay578 x10)) (k0_pay903 (k0_pay578 x10)) (k0_pay904 (k0_pay578 x10)))))) (k0_pay1187 (k0_pay1158 (k0_pay905 x15 (k0_pay901 (k0_pay578 x10)) (k0_pay903 (k0_pay578 x10)) (k0_pay904 (k0_pay578 x10)))) (k0_pay1183 (k0_pay1158 (k0_pay905 x15 (k0_pay901 (k0_pay578 x10)) (k0_pay903 (k0_pay578 x10)) (k0_pay904 (k0_pay578 x10))))) (k0_pay1184 (k0_pay1158 (k0_pay905 x15 (k0_pay901 (k0_pay578 x10)) (k0_pay903 (k0_pay578 x10)) (k0_pay904 (k0_pay578 x10))))) (k0_pay1185 (k0_pay1158 (k0_pay905 x15 (k0_pay901 (k0_pay578 x10)) (k0_pay903 (k0_pay578 x10)) (k0_pay904 (k0_pay578 x10))))) (k0_pay1186 (k0_pay1158 (k0_pay905 x15 (k0_pay901 (k0_pay578 x10)) (k0_pay903 (k0_pay578 x10)) (k0_pay904 (k0_pay578 x10)))))) (k0_pay1188 (k0_pay1158 (k0_pay905 x15 (k0_pay901 (k0_pay578 x10)) (k0_pay903 (k0_pay578 x10)) (k0_pay904 (k0_pay578 x10)))) (k0_pay1183 (k0_pay1158 (k0_pay905 x15 (k0_pay901 (k0_pay578 x10)) (k0_pay903 (k0_pay578 x10)) (k0_pay904 (k0_pay578 x10))))) (k0_pay1184 (k0_pay1158 (k0_pay905 x15 (k0_pay901 (k0_pay578 x10)) (k0_pay903 (k0_pay578 x10)) (k0_pay904 (k0_pay578 x10))))) (k0_pay1185 (k0_pay1158 (k0_pay905 x15 (k0_pay901 (k0_pay578 x10)) (k0_pay903 (k0_pay578 x10)) (k0_pay904 (k0_pay578 x10))))) (k0_pay1186 (k0_pay1158 (k0_pay905 x15 (k0_pay901 (k0_pay578 x10)) (k0_pay903 (k0_pay578 x10)) (k0_pay904 (k0_pay578 x10)))))) (k0_pay1189 (k0_pay1158 (k0_pay905 x15 (k0_pay901 (k0_pay578 x10)) (k0_pay903 (k0_pay578 x10)) (k0_pay904 (k0_pay578 x10)))) (k0_pay1183 (k0_pay1158 (k0_pay905 x15 (k0_pay901 (k0_pay578 x10)) (k0_pay903 (k0_pay578 x10)) (k0_pay904 (k0_pay578 x10))))) (k0_pay1184 (k0_pay1158 (k0_pay905 x15 (k0_pay901 (k0_pay578 x10)) (k0_pay903 (k0_pay578 x10)) (k0_pay904 (k0_pay578 x10))))) (k0_pay1185 (k0_pay1158 (k0_pay905 x15 (k0_pay901 (k0_pay578 x10)) (k0_pay903 (k0_pay578 x10)) (k0_pay904 (k0_pay578 x10))))) (k0_pay1186 (k0_pay1158 (k0_pay905 x15 (k0_pay901 (k0_pay578 x10)) (k0_pay903 (k0_pay578 x10)) (k0_pay904 (k0_pay578 x10)))))) (k0_pay1190 (k0_pay1158 (k0_pay905 x15 (k0_pay901 (k0_pay578 x10)) (k0_pay903 (k0_pay578 x10)) (k0_pay904 (k0_pay578 x10)))) (k0_pay1183 (k0_pay1158 (k0_pay905 x15 (k0_pay901 (k0_pay578 x10)) (k0_pay903 (k0_pay578 x10)) (k0_pay904 (k0_pay578 x10))))) (k0_pay1184 (k0_pay1158 (k0_pay905 x15 (k0_pay901 (k0_pay578 x10)) (k0_pay903 (k0_pay578 x10)) (k0_pay904 (k0_pay578 x10))))) (k0_pay1185 (k0_pay1158 (k0_pay905 x15 (k0_pay901 (k0_pay578 x10)) (k0_pay903 (k0_pay578 x10)) (k0_pay904 (k0_pay578 x10))))) (k0_pay1186 (k0_pay1158 (k0_pay905 x15 (k0_pay901 (k0_pay578 x10)) (k0_pay903 (k0_pay578 x10)) (k0_pay904 (k0_pay578 x10)))))) (k0_pay1191 (k0_pay1158 (k0_pay905 x15 (k0_pay901 (k0_pay578 x10)) (k0_pay903 (k0_pay578 x10)) (k0_pay904 (k0_pay578 x10)))) (k0_pay1183 (k0_pay1158 (k0_pay905 x15 (k0_pay901 (k0_pay578 x10)) (k0_pay903 (k0_pay578 x10)) (k0_pay904 (k0_pay578 x10))))) (k0_pay1184 (k0_pay1158 (k0_pay905 x15 (k0_pay901 (k0_pay578 x10)) (k0_pay903 (k0_pay578 x10)) (k0_pay904 (k0_pay578 x10))))) (k0_pay1185 (k0_pay1158 (k0_pay905 x15 (k0_pay901 (k0_pay578 x10)) (k0_pay903 (k0_pay578 x10)) (k0_pay904 (k0_pay578 x10))))) (k0_pay1186 (k0_pay1158 (k0_pay905 x15 (k0_pay901 (k0_pay578 x10)) (k0_pay903 (k0_pay578 x10)) (k0_pay904 (k0_pay578 x10)))))) (k0_pay1192 (k0_pay1158 (k0_pay905 x15 (k0_pay901 (k0_pay578 x10)) (k0_pay903 (k0_pay578 x10)) (k0_pay904 (k0_pay578 x10)))) (k0_pay1183 (k0_pay1158 (k0_pay905 x15 (k0_pay901 (k0_pay578 x10)) (k0_pay903 (k0_pay578 x10)) (k0_pay904 (k0_pay578 x10))))) (k0_pay1184 (k0_pay1158 (k0_pay905 x15 (k0_pay901 (k0_pay578 x10)) (k0_pay903 (k0_pay578 x10)) (k0_pay904 (k0_pay578 x10))))) (k0_pay1185 (k0_pay1158 (k0_pay905 x15 (k0_pay901 (k0_pay578 x10)) (k0_pay903 (k0_pay578 x10)) (k0_pay904 (k0_pay578 x10))))) (k0_pay1186 (k0_pay1158 (k0_pay905 x15 (k0_pay901 (k0_pay578 x10)) (k0_pay903 (k0_pay578 x10)) (k0_pay904 (k0_pay578 x10)))))) (k0_pay1193 (k0_pay1158 (k0_pay905 x15 (k0_pay901 (k0_pay578 x10)) (k0_pay903 (k0_pay578 x10)) (k0_pay904 (k0_pay578 x10)))) (k0_pay1183 (k0_pay1158 (k0_pay905 x15 (k0_pay901 (k0_pay578 x10)) (k0_pay903 (k0_pay578 x10)) (k0_pay904 (k0_pay578 x10))))) (k0_pay1184 (k0_pay1158 (k0_pay905 x15 (k0_pay901 (k0_pay578 x10)) (k0_pay903 (k0_pay578 x10)) (k0_pay904 (k0_pay578 x10))))) (k0_pay1185 (k0_pay1158 (k0_pay905 x15 (k0_pay901 (k0_pay578 x10)) (k0_pay903 (k0_pay578 x10)) (k0_pay904 (k0_pay578 x10))))) (k0_pay1186 (k0_pay1158 (k0_pay905 x15 (k0_pay901 (k0_pay578 x10)) (k0_pay903 (k0_pay578 x10)) (k0_pay904 (k0_pay578 x10)))))) (k0_pay1194 (k0_pay1158 (k0_pay905 x15 (k0_pay901 (k0_pay578 x10)) (k0_pay903 (k0_pay578 x10)) (k0_pay904 (k0_pay578 x10)))) (k0_pay1183 (k0_pay1158 (k0_pay905 x15 (k0_pay901 (k0_pay578 x10)) (k0_pay903 (k0_pay578 x10)) (k0_pay904 (k0_pay578 x10))))) (k0_pay1184 (k0_pay1158 (k0_pay905 x15 (k0_pay901 (k0_pay578 x10)) (k0_pay903 (k0_pay578 x10)) (k0_pay904 (k0_pay578 x10))))) (k0_pay1185 (k0_pay1158 (k0_pay905 x15 (k0_pay901 (k0_pay578 x10)) (k0_pay903 (k0_pay578 x10)) (k0_pay904 (k0_pay578 x10))))) (k0_pay1186 (k0_pay1158 (k0_pay905 x15 (k0_pay901 (k0_pay578 x10)) (k0_pay903 (k0_pay578 x10)) (k0_pay904 (k0_pay578 x10)))))) (k0_pay1195 (k0_pay1158 (k0_pay905 x15 (k0_pay901 (k0_pay578 x10)) (k0_pay903 (k0_pay578 x10)) (k0_pay904 (k0_pay578 x10)))) (k0_pay1183 (k0_pay1158 (k0_pay905 x15 (k0_pay901 (k0_pay578 x10)) (k0_pay903 (k0_pay578 x10)) (k0_pay904 (k0_pay578 x10))))) (k0_pay1184 (k0_pay1158 (k0_pay905 x15 (k0_pay901 (k0_pay578 x10)) (k0_pay903 (k0_pay578 x10)) (k0_pay904 (k0_pay578 x10))))) (k0_pay1185 (k0_pay1158 (k0_pay905 x15 (k0_pay901 (k0_pay578 x10)) (k0_pay903 (k0_pay578 x10)) (k0_pay904 (k0_pay578 x10))))) (k0_pay1186 (k0_pay1158 (k0_pay905 x15 (k0_pay901 (k0_pay578 x10)) (k0_pay903 (k0_pay578 x10)) (k0_pay904 (k0_pay578 x10)))))) (k0_pay1196 (k0_pay1158 (k0_pay905 x15 (k0_pay901 (k0_pay578 x10)) (k0_pay903 (k0_pay578 x10)) (k0_pay904 (k0_pay578 x10)))) (k0_pay1183 (k0_pay1158 (k0_pay905 x15 (k0_pay901 (k0_pay578 x10)) (k0_pay903 (k0_pay578 x10)) (k0_pay904 (k0_pay578 x10))))) (k0_pay1184 (k0_pay1158 (k0_pay905 x15 (k0_pay901 (k0_pay578 x10)) (k0_pay903 (k0_pay578 x10)) (k0_pay904 (k0_pay578 x10))))) (k0_pay1185 (k0_pay1158 (k0_pay905 x15 (k0_pay901 (k0_pay578 x10)) (k0_pay903 (k0_pay578 x10)) (k0_pay904 (k0_pay578 x10))))) (k0_pay1186 (k0_pay1158 (k0_pay905 x15 (k0_pay901 (k0_pay578 x10)) (k0_pay903 (k0_pay578 x10)) (k0_pay904 (k0_pay578 x10)))))) (k0_pay1197 (k0_pay1158 (k0_pay905 x15 (k0_pay901 (k0_pay578 x10)) (k0_pay903 (k0_pay578 x10)) (k0_pay904 (k0_pay578 x10)))) (k0_pay1183 (k0_pay1158 (k0_pay905 x15 (k0_pay901 (k0_pay578 x10)) (k0_pay903 (k0_pay578 x10)) (k0_pay904 (k0_pay578 x10))))) (k0_pay1184 (k0_pay1158 (k0_pay905 x15 (k0_pay901 (k0_pay578 x10)) (k0_pay903 (k0_pay578 x10)) (k0_pay904 (k0_pay578 x10))))) (k0_pay1185 (k0_pay1158 (k0_pay905 x15 (k0_pay901 (k0_pay578 x10)) (k0_pay903 (k0_pay578 x10)) (k0_pay904 (k0_pay578 x10))))) (k0_pay1186 (k0_pay1158 (k0_pay905 x15 (k0_pay901 (k0_pay578 x10)) (k0_pay903 (k0_pay578 x10)) (k0_pay904 (k0_pay578 x10)))))) (k0_pay1198 (k0_pay1158 (k0_pay905 x15 (k0_pay901 (k0_pay578 x10)) (k0_pay903 (k0_pay578 x10)) (k0_pay904 (k0_pay578 x10)))) (k0_pay1183 (k0_pay1158 (k0_pay905 x15 (k0_pay901 (k0_pay578 x10)) (k0_pay903 (k0_pay578 x10)) (k0_pay904 (k0_pay578 x10))))) (k0_pay1184 (k0_pay1158 (k0_pay905 x15 (k0_pay901 (k0_pay578 x10)) (k0_pay903 (k0_pay578 x10)) (k0_pay904 (k0_pay578 x10))))) (k0_pay1185 (k0_pay1158 (k0_pay905 x15 (k0_pay901 (k0_pay578 x10)) (k0_pay903 (k0_pay578 x10)) (k0_pay904 (k0_pay578 x10))))) (k0_pay1186 (k0_pay1158 (k0_pay905 x15 (k0_pay901 (k0_pay578 x10)) (k0_pay903 (k0_pay578 x10)) (k0_pay904 (k0_pay578 x10)))))) (k0_pay1199 (k0_pay1158 (k0_pay905 x15 (k0_pay901 (k0_pay578 x10)) (k0_pay903 (k0_pay578 x10)) (k0_pay904 (k0_pay578 x10)))) (k0_pay1183 (k0_pay1158 (k0_pay905 x15 (k0_pay901 (k0_pay578 x10)) (k0_pay903 (k0_pay578 x10)) (k0_pay904 (k0_pay578 x10))))) (k0_pay1184 (k0_pay1158 (k0_pay905 x15 (k0_pay901 (k0_pay578 x10)) (k0_pay903 (k0_pay578 x10)) (k0_pay904 (k0_pay578 x10))))) (k0_pay1185 (k0_pay1158 (k0_pay905 x15 (k0_pay901 (k0_pay578 x10)) (k0_pay903 (k0_pay578 x10)) (k0_pay904 (k0_pay578 x10))))) (k0_pay1186 (k0_pay1158 (k0_pay905 x15 (k0_pay901 (k0_pay578 x10)) (k0_pay903 (k0_pay578 x10)) (k0_pay904 (k0_pay578 x10)))))) (k0_pay1200 (k0_pay1158 (k0_pay905 x15 (k0_pay901 (k0_pay578 x10)) (k0_pay903 (k0_pay578 x10)) (k0_pay904 (k0_pay578 x10)))) (k0_pay1183 (k0_pay1158 (k0_pay905 x15 (k0_pay901 (k0_pay578 x10)) (k0_pay903 (k0_pay578 x10)) (k0_pay904 (k0_pay578 x10))))) (k0_pay1184 (k0_pay1158 (k0_pay905 x15 (k0_pay901 (k0_pay578 x10)) (k0_pay903 (k0_pay578 x10)) (k0_pay904 (k0_pay578 x10))))) (k0_pay1185 (k0_pay1158 (k0_pay905 x15 (k0_pay901 (k0_pay578 x10)) (k0_pay903 (k0_pay578 x10)) (k0_pay904 (k0_pay578 x10))))) (k0_pay1186 (k0_pay1158 (k0_pay905 x15 (k0_pay901 (k0_pay578 x10)) (k0_pay903 (k0_pay578 x10)) (k0_pay904 (k0_pay578 x10)))))) (k0_pay1201 (k0_pay1158 (k0_pay905 x15 (k0_pay901 (k0_pay578 x10)) (k0_pay903 (k0_pay578 x10)) (k0_pay904 (k0_pay578 x10)))))) gain)

theorem out_1_6 (x9 x10 x11 x12 x13 : Vec Ideal S1x16x16x1024 .bf16) (x15 : Vec Ideal S128x128 .bf16) (s : Vec Ideal S1x128x128 .f32) (gain : Vec Ideal S1x128 .f32) : oComp_1_6 x9 x10 x11 x12 x13 x15 s gain =
    gated 1 6 (chunkO 1 6 (k0_pay581 x9) (k0_pay580 (k0_pay579 x13)) (k0_pay582 x11) (k0_pay578 x10) x15 (shapeCast S128x128 s shapeCasts_S1x128x128_S128x128)) gain (k0_pay583 x12) := rfl

/-- The state of head 7 stored after chunk 1, as the kernel computes it. -/
def sComp_1_7 (x10 x11 x13 : Vec Ideal S1x16x16x1024 .bf16) (x15 : Vec Ideal S128x128 .bf16) (s : Vec Ideal S1x128x128 .f32) : FVec Ideal S1x128x128 .f32 :=
  (k0_pay1245 (k0_pay1206 (k0_pay580 (k0_pay579 x13))) (k0_pay1207 (k0_pay582 x11)) (k0_pay1208 (k0_pay905 x15 (k0_pay901 (k0_pay578 x10)) (k0_pay903 (k0_pay578 x10)) (k0_pay904 (k0_pay578 x10)))) (k0_pay1210 (k0_pay905 x15 (k0_pay901 (k0_pay578 x10)) (k0_pay903 (k0_pay578 x10)) (k0_pay904 (k0_pay578 x10)))) (k0_pay1211 s))

theorem state_1_7 (x10 x11 x13 : Vec Ideal S1x16x16x1024 .bf16) (x15 : Vec Ideal S128x128 .bf16) (s : Vec Ideal S1x128x128 .f32) : sComp_1_7 x10 x11 x13 x15 s =
    shapeCast S1x128x128 (chunkSt 1 7 (k0_pay580 (k0_pay579 x13)) (k0_pay582 x11) (k0_pay578 x10) x15 (shapeCast S128x128 s shapeCasts_S1x128x128_S128x128)) shapeCasts_S128x128_S1x128x128 := rfl

/-- The gated outputs of head 7 on chunk 1, as the kernel computes them. -/
def oComp_1_7 (x9 x10 x11 x12 x13 : Vec Ideal S1x16x16x1024 .bf16) (x15 : Vec Ideal S128x128 .bf16) (s : Vec Ideal S1x128x128 .f32) (gain : Vec Ideal S1x128 .f32) : FVec Ideal S16x8x128 .f32 :=
  (k0_pay1246 (k0_pay583 x12) (k0_pay1244 (k0_pay584 (F := Ideal)) (k0_pay1207 (k0_pay582 x11)) (k0_pay1209 (k0_pay905 x15 (k0_pay901 (k0_pay578 x10)) (k0_pay903 (k0_pay578 x10)) (k0_pay904 (k0_pay578 x10)))) (k0_pay1212 (k0_pay581 x9) (k0_pay905 x15 (k0_pay901 (k0_pay578 x10)) (k0_pay903 (k0_pay578 x10)) (k0_pay904 (k0_pay578 x10))) s) (k0_pay1214 (k0_pay581 x9)) (k0_pay1215 (k0_pay580 (k0_pay579 x13))) (k0_pay1240 (k0_pay584 (F := Ideal)) (k0_pay1214 (k0_pay581 x9)) (k0_pay1215 (k0_pay580 (k0_pay579 x13))) (k0_pay1230 (k0_pay584 (F := Ideal)) (k0_pay1209 (k0_pay905 x15 (k0_pay901 (k0_pay578 x10)) (k0_pay903 (k0_pay578 x10)) (k0_pay904 (k0_pay578 x10)))) (k0_pay1214 (k0_pay581 x9)) (k0_pay1215 (k0_pay580 (k0_pay579 x13))) (k0_pay1224 (k0_pay584 (F := Ideal)) (k0_pay1209 (k0_pay905 x15 (k0_pay901 (k0_pay578 x10)) (k0_pay903 (k0_pay578 x10)) (k0_pay904 (k0_pay578 x10)))) (k0_pay1214 (k0_pay581 x9)) (k0_pay1215 (k0_pay580 (k0_pay579 x13))) (k0_pay1220 (k0_pay584 (F := Ideal)) (k0_pay1214 (k0_pay581 x9)) (k0_pay1215 (k0_pay580 (k0_pay579 x13))) (k0_pay1218 (k0_pay584 (F := Ideal)) (k0_pay1213 (k0_pay580 (k0_pay579 x13)) (k0_pay581 x9) (k0_pay584 (F := Ideal))) (k0_pay1214 (k0_pay581 x9)) (k0_pay1215 (k0_pay580 (k0_pay579 x13))) (k0_pay1216 (k0_pay905 x15 (k0_pay901 (k0_pay578 x10)) (k0_pay903 (k0_pay578 x10)) (k0_pay904 (k0_pay578 x10)))) (k0_pay1217)) (k0_pay1219 (k0_pay1209 (k0_pay905 x15 (k0_pay901 (k0_pay578 x10)) (k0_pay903 (k0_pay578 x10)) (k0_pay904 (k0_pay578 x10)))))) (k0_pay1221 (k0_pay1209 (k0_pay905 x15 (k0_pay901 (k0_pay578 x10)) (k0_pay903 (k0_pay578 x10)) (k0_pay904 (k0_pay578 x10))))) (k0_pay1222) (Scalar.ofBits .f32 0xBF800000#32 : Ideal .f32) (k0_pay1223 (F := Ideal))) (k0_pay1225 (k0_pay1209 (k0_pay905 x15 (k0_pay901 (k0_pay578 x10)) (k0_pay903 (k0_pay578 x10)) (k0_pay904 (k0_pay578 x10))))) (k0_pay1226 (k0_pay1209 (k0_pay905 x15 (k0_pay901 (k0_pay578 x10)) (k0_pay903 (k0_pay578 x10)) (k0_pay904 (k0_pay578 x10))))) (k0_pay1227 (k0_pay1209 (k0_pay905 x15 (k0_pay901 (k0_pay578 x10)) (k0_pay903 (k0_pay578 x10)) (k0_pay904 (k0_pay578 x10))))) (k0_pay1228 (k0_pay1209 (k0_pay905 x15 (k0_pay901 (k0_pay578 x10)) (k0_pay903 (k0_pay578 x10)) (k0_pay904 (k0_pay578 x10))))) (k0_pay1229 (k0_pay1209 (k0_pay905 x15 (k0_pay901 (k0_pay578 x10)) (k0_pay903 (k0_pay578 x10)) (k0_pay904 (k0_pay578 x10)))))) (k0_pay1231 (k0_pay1209 (k0_pay905 x15 (k0_pay901 (k0_pay578 x10)) (k0_pay903 (k0_pay578 x10)) (k0_pay904 (k0_pay578 x10))))) (k0_pay1232 (k0_pay1209 (k0_pay905 x15 (k0_pay901 (k0_pay578 x10)) (k0_pay903 (k0_pay578 x10)) (k0_pay904 (k0_pay578 x10))))) (k0_pay1233 (k0_pay1209 (k0_pay905 x15 (k0_pay901 (k0_pay578 x10)) (k0_pay903 (k0_pay578 x10)) (k0_pay904 (k0_pay578 x10))))) (k0_pay1234 (k0_pay1209 (k0_pay905 x15 (k0_pay901 (k0_pay578 x10)) (k0_pay903 (k0_pay578 x10)) (k0_pay904 (k0_pay578 x10))))) (k0_pay1235 (k0_pay1209 (k0_pay905 x15 (k0_pay901 (k0_pay578 x10)) (k0_pay903 (k0_pay578 x10)) (k0_pay904 (k0_pay578 x10))))) (k0_pay1236 (k0_pay1209 (k0_pay905 x15 (k0_pay901 (k0_pay578 x10)) (k0_pay903 (k0_pay578 x10)) (k0_pay904 (k0_pay578 x10))))) (k0_pay1237 (k0_pay1209 (k0_pay905 x15 (k0_pay901 (k0_pay578 x10)) (k0_pay903 (k0_pay578 x10)) (k0_pay904 (k0_pay578 x10))))) (k0_pay1238 (k0_pay1209 (k0_pay905 x15 (k0_pay901 (k0_pay578 x10)) (k0_pay903 (k0_pay578 x10)) (k0_pay904 (k0_pay578 x10))))) (k0_pay1239 (k0_pay1209 (k0_pay905 x15 (k0_pay901 (k0_pay578 x10)) (k0_pay903 (k0_pay578 x10)) (k0_pay904 (k0_pay578 x10)))))) (k0_pay1241 (k0_pay1209 (k0_pay905 x15 (k0_pay901 (k0_pay578 x10)) (k0_pay903 (k0_pay578 x10)) (k0_pay904 (k0_pay578 x10))))) (k0_pay1242 (k0_pay1209 (k0_pay905 x15 (k0_pay901 (k0_pay578 x10)) (k0_pay903 (k0_pay578 x10)) (k0_pay904 (k0_pay578 x10))))) (k0_pay1243 (k0_pay1209 (k0_pay905 x15 (k0_pay901 (k0_pay578 x10)) (k0_pay903 (k0_pay578 x10)) (k0_pay904 (k0_pay578 x10)))))) gain)

theorem out_1_7 (x9 x10 x11 x12 x13 : Vec Ideal S1x16x16x1024 .bf16) (x15 : Vec Ideal S128x128 .bf16) (s : Vec Ideal S1x128x128 .f32) (gain : Vec Ideal S1x128 .f32) : oComp_1_7 x9 x10 x11 x12 x13 x15 s gain =
    gated 1 7 (chunkO 1 7 (k0_pay581 x9) (k0_pay580 (k0_pay579 x13)) (k0_pay582 x11) (k0_pay578 x10) x15 (shapeCast S128x128 s shapeCasts_S1x128x128_S128x128)) gain (k0_pay583 x12) := rfl

end Cert.Hgrn
-- ==== Proof.Stores.lean ====
module

public import proofs.«01_k».proof.Proof.Heads0
public import proofs.«01_k».proof.Proof.Heads1
public import proofs.«01_k».proof.Proof.Spec
public import Idealize.ShloMosaic.Lib.Pointwise

@[expose] public section
set_option maxRecDepth 16384
noncomputable section
open Idealize.ShloMosaic Idealize.ShloMosaic.TcCoe Idealize.SL.Sem
open Cert.KernelIdeal Cert.KernelIdeal.Gen
namespace Cert.Hgrn

/-- What the kernel stores of head 0. -/
theorem full_0 (x10 x11 x13 : Vec Ideal S1x16x16x1024 .bf16) (x15 : Vec Ideal S128x128 .bf16) (S : Vec Ideal S8x128x128 .f32) : sComp_1_0 x10 x11 x13 x15 (sComp_0_0 x10 x11 x13 x15 (View.ld (Val := Elt Ideal) S (Rect.unit (s := S8x128x128) ![0, 0, 0] S1x128x128.size (head_in 0)))) =
    full x10 x11 x13 x15 S 0 := by
  rw [state_0_0, state_1_0]; rfl

theorem both_0 (x9 x10 x11 x12 x13 : Vec Ideal S1x16x16x1024 .bf16) (x14 : Vec Ideal S1x1024 .f32) (x15 : Vec Ideal S128x128 .bf16) (S : Vec Ideal S8x128x128 .f32) : k0_pay1247 (oComp_0_0 x9 x10 x11 x12 x13 x15 (View.ld (Val := Elt Ideal) S (Rect.unit (s := S8x128x128) ![0, 0, 0] S1x128x128.size (head_in 0))) (View.ld (Val := Elt Ideal) x14 (Rect.unit (s := S1x1024) ![0, 0] S1x128.size (gain_in 0))))
    (oComp_1_0 x9 x10 x11 x12 x13 x15 (sComp_0_0 x10 x11 x13 x15 (View.ld (Val := Elt Ideal) S (Rect.unit (s := S8x128x128) ![0, 0, 0] S1x128x128.size (head_in 0)))) (View.ld (Val := Elt Ideal) x14 (Rect.unit (s := S1x1024) ![0, 0] S1x128.size (gain_in 0)))) =
    both x9 x10 x11 x12 x13 x14 x15 S 0 := by
  rw [out_0_0, state_0_0, out_1_0]; rfl

/-- What the kernel stores of head 1. -/
theorem full_1 (x10 x11 x13 : Vec Ideal S1x16x16x1024 .bf16) (x15 : Vec Ideal S128x128 .bf16) (S : Vec Ideal S8x128x128 .f32) : sComp_1_1 x10 x11 x13 x15 (sComp_0_1 x10 x11 x13 x15 (View.ld (Val := Elt Ideal) S (Rect.unit (s := S8x128x128) ![1, 0, 0] S1x128x128.size (head_in 1)))) =
    full x10 x11 x13 x15 S 1 := by
  rw [state_0_1, state_1_1]; rfl

theorem both_1 (x9 x10 x11 x12 x13 : Vec Ideal S1x16x16x1024 .bf16) (x14 : Vec Ideal S1x1024 .f32) (x15 : Vec Ideal S128x128 .bf16) (S : Vec Ideal S8x128x128 .f32) : k0_pay1248 (oComp_0_1 x9 x10 x11 x12 x13 x15 (View.ld (Val := Elt Ideal) S (Rect.unit (s := S8x128x128) ![1, 0, 0] S1x128x128.size (head_in 1))) (View.ld (Val := Elt Ideal) x14 (Rect.unit (s := S1x1024) ![0, 128] S1x128.size (gain_in 1))))
    (oComp_1_1 x9 x10 x11 x12 x13 x15 (sComp_0_1 x10 x11 x13 x15 (View.ld (Val := Elt Ideal) S (Rect.unit (s := S8x128x128) ![1, 0, 0] S1x128x128.size (head_in 1)))) (View.ld (Val := Elt Ideal) x14 (Rect.unit (s := S1x1024) ![0, 128] S1x128.size (gain_in 1)))) =
    both x9 x10 x11 x12 x13 x14 x15 S 1 := by
  rw [out_0_1, state_0_1, out_1_1]; rfl

/-- What the kernel stores of head 2. -/
theorem full_2 (x10 x11 x13 : Vec Ideal S1x16x16x1024 .bf16) (x15 : Vec Ideal S128x128 .bf16) (S : Vec Ideal S8x128x128 .f32) : sComp_1_2 x10 x11 x13 x15 (sComp_0_2 x10 x11 x13 x15 (View.ld (Val := Elt Ideal) S (Rect.unit (s := S8x128x128) ![2, 0, 0] S1x128x128.size (head_in 2)))) =
    full x10 x11 x13 x15 S 2 := by
  rw [state_0_2, state_1_2]; rfl

theorem both_2 (x9 x10 x11 x12 x13 : Vec Ideal S1x16x16x1024 .bf16) (x14 : Vec Ideal S1x1024 .f32) (x15 : Vec Ideal S128x128 .bf16) (S : Vec Ideal S8x128x128 .f32) : k0_pay1249 (oComp_0_2 x9 x10 x11 x12 x13 x15 (View.ld (Val := Elt Ideal) S (Rect.unit (s := S8x128x128) ![2, 0, 0] S1x128x128.size (head_in 2))) (View.ld (Val := Elt Ideal) x14 (Rect.unit (s := S1x1024) ![0, 256] S1x128.size (gain_in 2))))
    (oComp_1_2 x9 x10 x11 x12 x13 x15 (sComp_0_2 x10 x11 x13 x15 (View.ld (Val := Elt Ideal) S (Rect.unit (s := S8x128x128) ![2, 0, 0] S1x128x128.size (head_in 2)))) (View.ld (Val := Elt Ideal) x14 (Rect.unit (s := S1x1024) ![0, 256] S1x128.size (gain_in 2)))) =
    both x9 x10 x11 x12 x13 x14 x15 S 2 := by
  rw [out_0_2, state_0_2, out_1_2]; rfl

/-- What the kernel stores of head 3. -/
theorem full_3 (x10 x11 x13 : Vec Ideal S1x16x16x1024 .bf16) (x15 : Vec Ideal S128x128 .bf16) (S : Vec Ideal S8x128x128 .f32) : sComp_1_3 x10 x11 x13 x15 (sComp_0_3 x10 x11 x13 x15 (View.ld (Val := Elt Ideal) S (Rect.unit (s := S8x128x128) ![3, 0, 0] S1x128x128.size (head_in 3)))) =
    full x10 x11 x13 x15 S 3 := by
  rw [state_0_3, state_1_3]; rfl

theorem both_3 (x9 x10 x11 x12 x13 : Vec Ideal S1x16x16x1024 .bf16) (x14 : Vec Ideal S1x1024 .f32) (x15 : Vec Ideal S128x128 .bf16) (S : Vec Ideal S8x128x128 .f32) : k0_pay1250 (oComp_0_3 x9 x10 x11 x12 x13 x15 (View.ld (Val := Elt Ideal) S (Rect.unit (s := S8x128x128) ![3, 0, 0] S1x128x128.size (head_in 3))) (View.ld (Val := Elt Ideal) x14 (Rect.unit (s := S1x1024) ![0, 384] S1x128.size (gain_in 3))))
    (oComp_1_3 x9 x10 x11 x12 x13 x15 (sComp_0_3 x10 x11 x13 x15 (View.ld (Val := Elt Ideal) S (Rect.unit (s := S8x128x128) ![3, 0, 0] S1x128x128.size (head_in 3)))) (View.ld (Val := Elt Ideal) x14 (Rect.unit (s := S1x1024) ![0, 384] S1x128.size (gain_in 3)))) =
    both x9 x10 x11 x12 x13 x14 x15 S 3 := by
  rw [out_0_3, state_0_3, out_1_3]; rfl

/-- What the kernel stores of head 4. -/
theorem full_4 (x10 x11 x13 : Vec Ideal S1x16x16x1024 .bf16) (x15 : Vec Ideal S128x128 .bf16) (S : Vec Ideal S8x128x128 .f32) : sComp_1_4 x10 x11 x13 x15 (sComp_0_4 x10 x11 x13 x15 (View.ld (Val := Elt Ideal) S (Rect.unit (s := S8x128x128) ![4, 0, 0] S1x128x128.size (head_in 4)))) =
    full x10 x11 x13 x15 S 4 := by
  rw [state_0_4, state_1_4]; rfl

theorem both_4 (x9 x10 x11 x12 x13 : Vec Ideal S1x16x16x1024 .bf16) (x14 : Vec Ideal S1x1024 .f32) (x15 : Vec Ideal S128x128 .bf16) (S : Vec Ideal S8x128x128 .f32) : k0_pay1251 (oComp_0_4 x9 x10 x11 x12 x13 x15 (View.ld (Val := Elt Ideal) S (Rect.unit (s := S8x128x128) ![4, 0, 0] S1x128x128.size (head_in 4))) (View.ld (Val := Elt Ideal) x14 (Rect.unit (s := S1x1024) ![0, 512] S1x128.size (gain_in 4))))
    (oComp_1_4 x9 x10 x11 x12 x13 x15 (sComp_0_4 x10 x11 x13 x15 (View.ld (Val := Elt Ideal) S (Rect.unit (s := S8x128x128) ![4, 0, 0] S1x128x128.size (head_in 4)))) (View.ld (Val := Elt Ideal) x14 (Rect.unit (s := S1x1024) ![0, 512] S1x128.size (gain_in 4)))) =
    both x9 x10 x11 x12 x13 x14 x15 S 4 := by
  rw [out_0_4, state_0_4, out_1_4]; rfl

/-- What the kernel stores of head 5. -/
theorem full_5 (x10 x11 x13 : Vec Ideal S1x16x16x1024 .bf16) (x15 : Vec Ideal S128x128 .bf16) (S : Vec Ideal S8x128x128 .f32) : sComp_1_5 x10 x11 x13 x15 (sComp_0_5 x10 x11 x13 x15 (View.ld (Val := Elt Ideal) S (Rect.unit (s := S8x128x128) ![5, 0, 0] S1x128x128.size (head_in 5)))) =
    full x10 x11 x13 x15 S 5 := by
  rw [state_0_5, state_1_5]; rfl

theorem both_5 (x9 x10 x11 x12 x13 : Vec Ideal S1x16x16x1024 .bf16) (x14 : Vec Ideal S1x1024 .f32) (x15 : Vec Ideal S128x128 .bf16) (S : Vec Ideal S8x128x128 .f32) : k0_pay1252 (oComp_0_5 x9 x10 x11 x12 x13 x15 (View.ld (Val := Elt Ideal) S (Rect.unit (s := S8x128x128) ![5, 0, 0] S1x128x128.size (head_in 5))) (View.ld (Val := Elt Ideal) x14 (Rect.unit (s := S1x1024) ![0, 640] S1x128.size (gain_in 5))))
    (oComp_1_5 x9 x10 x11 x12 x13 x15 (sComp_0_5 x10 x11 x13 x15 (View.ld (Val := Elt Ideal) S (Rect.unit (s := S8x128x128) ![5, 0, 0] S1x128x128.size (head_in 5)))) (View.ld (Val := Elt Ideal) x14 (Rect.unit (s := S1x1024) ![0, 640] S1x128.size (gain_in 5)))) =
    both x9 x10 x11 x12 x13 x14 x15 S 5 := by
  rw [out_0_5, state_0_5, out_1_5]; rfl

/-- What the kernel stores of head 6. -/
theorem full_6 (x10 x11 x13 : Vec Ideal S1x16x16x1024 .bf16) (x15 : Vec Ideal S128x128 .bf16) (S : Vec Ideal S8x128x128 .f32) : sComp_1_6 x10 x11 x13 x15 (sComp_0_6 x10 x11 x13 x15 (View.ld (Val := Elt Ideal) S (Rect.unit (s := S8x128x128) ![6, 0, 0] S1x128x128.size (head_in 6)))) =
    full x10 x11 x13 x15 S 6 := by
  rw [state_0_6, state_1_6]; rfl

theorem both_6 (x9 x10 x11 x12 x13 : Vec Ideal S1x16x16x1024 .bf16) (x14 : Vec Ideal S1x1024 .f32) (x15 : Vec Ideal S128x128 .bf16) (S : Vec Ideal S8x128x128 .f32) : k0_pay1253 (oComp_0_6 x9 x10 x11 x12 x13 x15 (View.ld (Val := Elt Ideal) S (Rect.unit (s := S8x128x128) ![6, 0, 0] S1x128x128.size (head_in 6))) (View.ld (Val := Elt Ideal) x14 (Rect.unit (s := S1x1024) ![0, 768] S1x128.size (gain_in 6))))
    (oComp_1_6 x9 x10 x11 x12 x13 x15 (sComp_0_6 x10 x11 x13 x15 (View.ld (Val := Elt Ideal) S (Rect.unit (s := S8x128x128) ![6, 0, 0] S1x128x128.size (head_in 6)))) (View.ld (Val := Elt Ideal) x14 (Rect.unit (s := S1x1024) ![0, 768] S1x128.size (gain_in 6)))) =
    both x9 x10 x11 x12 x13 x14 x15 S 6 := by
  rw [out_0_6, state_0_6, out_1_6]; rfl

/-- What the kernel stores of head 7. -/
theorem full_7 (x10 x11 x13 : Vec Ideal S1x16x16x1024 .bf16) (x15 : Vec Ideal S128x128 .bf16) (S : Vec Ideal S8x128x128 .f32) : sComp_1_7 x10 x11 x13 x15 (sComp_0_7 x10 x11 x13 x15 (View.ld (Val := Elt Ideal) S (Rect.unit (s := S8x128x128) ![7, 0, 0] S1x128x128.size (head_in 7)))) =
    full x10 x11 x13 x15 S 7 := by
  rw [state_0_7, state_1_7]; rfl

theorem both_7 (x9 x10 x11 x12 x13 : Vec Ideal S1x16x16x1024 .bf16) (x14 : Vec Ideal S1x1024 .f32) (x15 : Vec Ideal S128x128 .bf16) (S : Vec Ideal S8x128x128 .f32) : k0_pay1254 (oComp_0_7 x9 x10 x11 x12 x13 x15 (View.ld (Val := Elt Ideal) S (Rect.unit (s := S8x128x128) ![7, 0, 0] S1x128x128.size (head_in 7))) (View.ld (Val := Elt Ideal) x14 (Rect.unit (s := S1x1024) ![0, 896] S1x128.size (gain_in 7))))
    (oComp_1_7 x9 x10 x11 x12 x13 x15 (sComp_0_7 x10 x11 x13 x15 (View.ld (Val := Elt Ideal) S (Rect.unit (s := S8x128x128) ![7, 0, 0] S1x128x128.size (head_in 7)))) (View.ld (Val := Elt Ideal) x14 (Rect.unit (s := S1x1024) ![0, 896] S1x128.size (gain_in 7)))) =
    both x9 x10 x11 x12 x13 x14 x15 S 7 := by
  rw [out_0_7, state_0_7, out_1_7]; rfl

end Cert.Hgrn
-- ==== Proof.CaseA.lean ====
module

public import proofs.«01_k».proof.Proof.Spec
public import proofs.«01_k».proof.Proof.Gen.KernelIdeal.Frame.RunA
public import proofs.«01_k».proof.Proof.Stores
public import Idealize.ShloMosaic.Lib.Pipeline.ReadBack
public import Idealize.ShloMosaic.Lib.Pipeline.ValueKit

@[expose] public section
set_option maxRecDepth 16384
noncomputable section
open Idealize.ShloMosaic Idealize.ShloMosaic.TcCoe Idealize.SL.Sem
open Cert.KernelIdeal Cert.KernelIdeal.Gen
namespace Cert.Hgrn

/-- The states' stores of a point of case A. -/
theorem states_A (c : Dev nD) (i : grid0.Coords) (arg1 : Memref sig .tc .vmem S1x16x1x16x1024 .bf16) (harg1 : arg1.IsWhole) (arg2 : Memref sig .tc .vmem S1x16x1x16x1024 .bf16) (harg2 : arg2.IsWhole) (arg3 : Memref sig .tc .vmem S1x16x1x16x1024 .bf16) (harg3 : arg3.IsWhole) (arg4 : Memref sig .tc .vmem S1x4x1x64x1024 .bf16) (harg4 : arg4.IsWhole) (arg5 : Memref sig .tc .vmem S1x4x1x64x1024 .bf16) (harg5 : arg5.IsWhole) (arg6 : Memref sig .tc .vmem S1x4x1x64x1024 .bf16) (harg6 : arg6.IsWhole) (arg7 : Memref sig .tc .vmem S1x1x1x256x1024 .bf16) (harg7 : arg7.IsWhole) (arg8 : Memref sig .tc .vmem S1x1x1x256x1024 .bf16) (harg8 : arg8.IsWhole) (arg9 : Memref sig .tc .vmem S1x1x1x256x1024 .bf16) (harg9 : arg9.IsWhole) (arg10 : Memref sig .tc .vmem S1x16x16x1024 .bf16) (harg10 : arg10.IsWhole) (arg11 : Memref sig .tc .vmem S1x16x16x1024 .bf16) (harg11 : arg11.IsWhole) (arg12 : Memref sig .tc .vmem S1x16x16x1024 .bf16) (harg12 : arg12.IsWhole) (arg13 : Memref sig .tc .vmem S1x16x16x1024 .bf16) (harg13 : arg13.IsWhole) (arg14 : Memref sig .tc .vmem S1x16x16x1024 .bf16) (harg14 : arg14.IsWhole) (arg15 : Memref sig .tc .vmem S1x1024 .f32) (harg15 : arg15.IsWhole) (arg16 : Memref sig .tc .vmem S128x128 .bf16) (harg16 : arg16.IsWhole) (arg17 : Memref sig .tc .vmem S1x16x1x16x1024 .bf16) (harg17 : arg17.IsWhole) (arg18 : Memref sig .tc .vmem S1x16x1x16x128 .f32) (harg18 : arg18.IsWhole) (arg19 : Memref sig .tc .vmem S1x4x1x64x1024 .bf16) (harg19 : arg19.IsWhole) (arg20 : Memref sig .tc .vmem S1x4x1x64x128 .f32) (harg20 : arg20.IsWhole) (arg21 : Memref sig .tc .vmem S1x1x1x256x1024 .bf16) (harg21 : arg21.IsWhole) (arg22 : Memref sig .tc .vmem S1x1x1x256x128 .f32) (harg22 : arg22.IsWhole) (arg23 : Memref sig .tc .vmem S1x16x16x1024 .bf16) (harg23 : arg23.IsWhole) (arg24 : Memref sig .tc .vmem S384x1024 .bf16) (harg24 : arg24.IsWhole) (arg25 : Memref sig .tc .vmem S384x1024 .bf16) (harg25 : arg25.IsWhole) (arg26 : Memref sig .tc .vmem S384x1024 .bf16) (harg26 : arg26.IsWhole) (arg27 : Memref sig .tc .vmem S384x1024 .bf16) (harg27 : arg27.IsWhole) (arg28 : Memref sig .tc .vmem S384x1024 .bf16) (harg28 : arg28.IsWhole) (arg29 : Memref sig .tc .vmem S384x1024 .bf16) (harg29 : arg29.IsWhole) (arg30 : Memref sig .tc .vmem S8x128x128 .f32) (harg30 : arg30.IsWhole) (hc0 : cond0_0 i) (hc1 : ¬cond0_1 i) (hc2 : cond0_2 i) (hc3 : ¬cond0_3 i) (hc4 : cond0_4 i) (hc5 : ¬cond0_5 i) (hc6 : cond0_6 i)
    (x0 : Vec Ideal S1x16x1x16x1024 .bf16) (x1 : Vec Ideal S1x16x1x16x1024 .bf16) (x2 : Vec Ideal S1x16x1x16x1024 .bf16) (x3 : Vec Ideal S1x4x1x64x1024 .bf16) (x4 : Vec Ideal S1x4x1x64x1024 .bf16) (x5 : Vec Ideal S1x4x1x64x1024 .bf16) (x6 : Vec Ideal S1x1x1x256x1024 .bf16) (x7 : Vec Ideal S1x1x1x256x1024 .bf16) (x8 : Vec Ideal S1x1x1x256x1024 .bf16) (x9 : Vec Ideal S1x16x16x1024 .bf16) (x10 : Vec Ideal S1x16x16x1024 .bf16) (x11 : Vec Ideal S1x16x16x1024 .bf16) (x12 : Vec Ideal S1x16x16x1024 .bf16) (x13 : Vec Ideal S1x16x16x1024 .bf16) (x14 : Vec Ideal S1x1024 .f32) (x15 : Vec Ideal S128x128 .bf16) :
    ∃ L, (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15).2.2.2.2.2.2.2.2.2.2.2.2.2.1 =
      states x10 x11 x13 x15 (k0_pay13 (F := Ideal)) ++ L := by
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld,
    Memref.IsWhole.read_unread]
  exact ⟨_, rfl⟩

/-- The outputs' stores of a point of case A. -/
theorem outputs_A (c : Dev nD) (i : grid0.Coords) (arg1 : Memref sig .tc .vmem S1x16x1x16x1024 .bf16) (harg1 : arg1.IsWhole) (arg2 : Memref sig .tc .vmem S1x16x1x16x1024 .bf16) (harg2 : arg2.IsWhole) (arg3 : Memref sig .tc .vmem S1x16x1x16x1024 .bf16) (harg3 : arg3.IsWhole) (arg4 : Memref sig .tc .vmem S1x4x1x64x1024 .bf16) (harg4 : arg4.IsWhole) (arg5 : Memref sig .tc .vmem S1x4x1x64x1024 .bf16) (harg5 : arg5.IsWhole) (arg6 : Memref sig .tc .vmem S1x4x1x64x1024 .bf16) (harg6 : arg6.IsWhole) (arg7 : Memref sig .tc .vmem S1x1x1x256x1024 .bf16) (harg7 : arg7.IsWhole) (arg8 : Memref sig .tc .vmem S1x1x1x256x1024 .bf16) (harg8 : arg8.IsWhole) (arg9 : Memref sig .tc .vmem S1x1x1x256x1024 .bf16) (harg9 : arg9.IsWhole) (arg10 : Memref sig .tc .vmem S1x16x16x1024 .bf16) (harg10 : arg10.IsWhole) (arg11 : Memref sig .tc .vmem S1x16x16x1024 .bf16) (harg11 : arg11.IsWhole) (arg12 : Memref sig .tc .vmem S1x16x16x1024 .bf16) (harg12 : arg12.IsWhole) (arg13 : Memref sig .tc .vmem S1x16x16x1024 .bf16) (harg13 : arg13.IsWhole) (arg14 : Memref sig .tc .vmem S1x16x16x1024 .bf16) (harg14 : arg14.IsWhole) (arg15 : Memref sig .tc .vmem S1x1024 .f32) (harg15 : arg15.IsWhole) (arg16 : Memref sig .tc .vmem S128x128 .bf16) (harg16 : arg16.IsWhole) (arg17 : Memref sig .tc .vmem S1x16x1x16x1024 .bf16) (harg17 : arg17.IsWhole) (arg18 : Memref sig .tc .vmem S1x16x1x16x128 .f32) (harg18 : arg18.IsWhole) (arg19 : Memref sig .tc .vmem S1x4x1x64x1024 .bf16) (harg19 : arg19.IsWhole) (arg20 : Memref sig .tc .vmem S1x4x1x64x128 .f32) (harg20 : arg20.IsWhole) (arg21 : Memref sig .tc .vmem S1x1x1x256x1024 .bf16) (harg21 : arg21.IsWhole) (arg22 : Memref sig .tc .vmem S1x1x1x256x128 .f32) (harg22 : arg22.IsWhole) (arg23 : Memref sig .tc .vmem S1x16x16x1024 .bf16) (harg23 : arg23.IsWhole) (arg24 : Memref sig .tc .vmem S384x1024 .bf16) (harg24 : arg24.IsWhole) (arg25 : Memref sig .tc .vmem S384x1024 .bf16) (harg25 : arg25.IsWhole) (arg26 : Memref sig .tc .vmem S384x1024 .bf16) (harg26 : arg26.IsWhole) (arg27 : Memref sig .tc .vmem S384x1024 .bf16) (harg27 : arg27.IsWhole) (arg28 : Memref sig .tc .vmem S384x1024 .bf16) (harg28 : arg28.IsWhole) (arg29 : Memref sig .tc .vmem S384x1024 .bf16) (harg29 : arg29.IsWhole) (arg30 : Memref sig .tc .vmem S8x128x128 .f32) (harg30 : arg30.IsWhole) (hc0 : cond0_0 i) (hc1 : ¬cond0_1 i) (hc2 : cond0_2 i) (hc3 : ¬cond0_3 i) (hc4 : cond0_4 i) (hc5 : ¬cond0_5 i) (hc6 : cond0_6 i)
    (x0 : Vec Ideal S1x16x1x16x1024 .bf16) (x1 : Vec Ideal S1x16x1x16x1024 .bf16) (x2 : Vec Ideal S1x16x1x16x1024 .bf16) (x3 : Vec Ideal S1x4x1x64x1024 .bf16) (x4 : Vec Ideal S1x4x1x64x1024 .bf16) (x5 : Vec Ideal S1x4x1x64x1024 .bf16) (x6 : Vec Ideal S1x1x1x256x1024 .bf16) (x7 : Vec Ideal S1x1x1x256x1024 .bf16) (x8 : Vec Ideal S1x1x1x256x1024 .bf16) (x9 : Vec Ideal S1x16x16x1024 .bf16) (x10 : Vec Ideal S1x16x16x1024 .bf16) (x11 : Vec Ideal S1x16x16x1024 .bf16) (x12 : Vec Ideal S1x16x16x1024 .bf16) (x13 : Vec Ideal S1x16x16x1024 .bf16) (x14 : Vec Ideal S1x1024 .f32) (x15 : Vec Ideal S128x128 .bf16) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15).2.2.2.2.2.2.1 = outputs x9 x10 x11 x12 x13 x14 x15 (k0_pay13 (F := Ideal)) := by
  frame_open
  simp (disch := decide) only [↓ View.readCov_skip, ↓ View.readCov_cons_toLoadRect, ↓ View.readCov_fill]
  dsimp only [View.readAt_eq_ld]
  refine Eq.trans (b := outputs (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (k0_pay13 (F := Ideal))) ?_ ?_
  · refine congrArg₂ List.cons (congrArg (Sigma.mk _) ?_) ?_
    · exact both_7 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (k0_pay13 (F := Ideal))
    refine congrArg₂ List.cons (congrArg (Sigma.mk _) ?_) ?_
    · exact both_6 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (k0_pay13 (F := Ideal))
    refine congrArg₂ List.cons (congrArg (Sigma.mk _) ?_) ?_
    · exact both_5 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (k0_pay13 (F := Ideal))
    refine congrArg₂ List.cons (congrArg (Sigma.mk _) ?_) ?_
    · exact both_4 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (k0_pay13 (F := Ideal))
    refine congrArg₂ List.cons (congrArg (Sigma.mk _) ?_) ?_
    · exact both_3 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (k0_pay13 (F := Ideal))
    refine congrArg₂ List.cons (congrArg (Sigma.mk _) ?_) ?_
    · exact both_2 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (k0_pay13 (F := Ideal))
    refine congrArg₂ List.cons (congrArg (Sigma.mk _) ?_) ?_
    · exact both_1 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (k0_pay13 (F := Ideal))
    refine congrArg₂ List.cons (congrArg (Sigma.mk _) ?_) ?_
    · exact both_0 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (k0_pay13 (F := Ideal))
    rfl
  · simp (disch := decide) only [View.ld_unit_lit', Memref.IsWhole.read_unread]
end Cert.Hgrn
-- ==== Proof.CaseB.lean ====
module

public import proofs.«01_k».proof.Proof.Spec
public import proofs.«01_k».proof.Proof.Gen.KernelIdeal.Frame.RunB
public import proofs.«01_k».proof.Proof.Stores
public import Idealize.ShloMosaic.Lib.Pipeline.ReadBack
public import Idealize.ShloMosaic.Lib.Pipeline.ValueKit

@[expose] public section
set_option maxRecDepth 16384
noncomputable section
open Idealize.ShloMosaic Idealize.ShloMosaic.TcCoe Idealize.SL.Sem
open Cert.KernelIdeal Cert.KernelIdeal.Gen
namespace Cert.Hgrn

/-- The states' stores of a point of case B. -/
theorem states_B (c : Dev nD) (i : grid0.Coords) (arg1 : Memref sig .tc .vmem S1x16x1x16x1024 .bf16) (harg1 : arg1.IsWhole) (arg2 : Memref sig .tc .vmem S1x16x1x16x1024 .bf16) (harg2 : arg2.IsWhole) (arg3 : Memref sig .tc .vmem S1x16x1x16x1024 .bf16) (harg3 : arg3.IsWhole) (arg4 : Memref sig .tc .vmem S1x4x1x64x1024 .bf16) (harg4 : arg4.IsWhole) (arg5 : Memref sig .tc .vmem S1x4x1x64x1024 .bf16) (harg5 : arg5.IsWhole) (arg6 : Memref sig .tc .vmem S1x4x1x64x1024 .bf16) (harg6 : arg6.IsWhole) (arg7 : Memref sig .tc .vmem S1x1x1x256x1024 .bf16) (harg7 : arg7.IsWhole) (arg8 : Memref sig .tc .vmem S1x1x1x256x1024 .bf16) (harg8 : arg8.IsWhole) (arg9 : Memref sig .tc .vmem S1x1x1x256x1024 .bf16) (harg9 : arg9.IsWhole) (arg10 : Memref sig .tc .vmem S1x16x16x1024 .bf16) (harg10 : arg10.IsWhole) (arg11 : Memref sig .tc .vmem S1x16x16x1024 .bf16) (harg11 : arg11.IsWhole) (arg12 : Memref sig .tc .vmem S1x16x16x1024 .bf16) (harg12 : arg12.IsWhole) (arg13 : Memref sig .tc .vmem S1x16x16x1024 .bf16) (harg13 : arg13.IsWhole) (arg14 : Memref sig .tc .vmem S1x16x16x1024 .bf16) (harg14 : arg14.IsWhole) (arg15 : Memref sig .tc .vmem S1x1024 .f32) (harg15 : arg15.IsWhole) (arg16 : Memref sig .tc .vmem S128x128 .bf16) (harg16 : arg16.IsWhole) (arg17 : Memref sig .tc .vmem S1x16x1x16x1024 .bf16) (harg17 : arg17.IsWhole) (arg18 : Memref sig .tc .vmem S1x16x1x16x128 .f32) (harg18 : arg18.IsWhole) (arg19 : Memref sig .tc .vmem S1x4x1x64x1024 .bf16) (harg19 : arg19.IsWhole) (arg20 : Memref sig .tc .vmem S1x4x1x64x128 .f32) (harg20 : arg20.IsWhole) (arg21 : Memref sig .tc .vmem S1x1x1x256x1024 .bf16) (harg21 : arg21.IsWhole) (arg22 : Memref sig .tc .vmem S1x1x1x256x128 .f32) (harg22 : arg22.IsWhole) (arg23 : Memref sig .tc .vmem S1x16x16x1024 .bf16) (harg23 : arg23.IsWhole) (arg24 : Memref sig .tc .vmem S384x1024 .bf16) (harg24 : arg24.IsWhole) (arg25 : Memref sig .tc .vmem S384x1024 .bf16) (harg25 : arg25.IsWhole) (arg26 : Memref sig .tc .vmem S384x1024 .bf16) (harg26 : arg26.IsWhole) (arg27 : Memref sig .tc .vmem S384x1024 .bf16) (harg27 : arg27.IsWhole) (arg28 : Memref sig .tc .vmem S384x1024 .bf16) (harg28 : arg28.IsWhole) (arg29 : Memref sig .tc .vmem S384x1024 .bf16) (harg29 : arg29.IsWhole) (arg30 : Memref sig .tc .vmem S8x128x128 .f32) (harg30 : arg30.IsWhole) (hc0 : ¬cond0_0 i) (hc1 : cond0_1 i) (hc2 : ¬cond0_2 i) (hc3 : cond0_3 i) (hc4 : ¬cond0_4 i) (hc5 : cond0_5 i) (hc6 : ¬cond0_6 i)
    (x0 : Vec Ideal S1x16x1x16x1024 .bf16) (x1 : Vec Ideal S1x16x1x16x1024 .bf16) (x2 : Vec Ideal S1x16x1x16x1024 .bf16) (x3 : Vec Ideal S1x4x1x64x1024 .bf16) (x4 : Vec Ideal S1x4x1x64x1024 .bf16) (x5 : Vec Ideal S1x4x1x64x1024 .bf16) (x6 : Vec Ideal S1x1x1x256x1024 .bf16) (x7 : Vec Ideal S1x1x1x256x1024 .bf16) (x8 : Vec Ideal S1x1x1x256x1024 .bf16) (x9 : Vec Ideal S1x16x16x1024 .bf16) (x10 : Vec Ideal S1x16x16x1024 .bf16) (x11 : Vec Ideal S1x16x16x1024 .bf16) (x12 : Vec Ideal S1x16x16x1024 .bf16) (x13 : Vec Ideal S1x16x16x1024 .bf16) (x14 : Vec Ideal S1x1024 .f32) (x15 : Vec Ideal S128x128 .bf16) (xs0 : Vec Ideal S384x1024 .bf16) (xs1 : Vec Ideal S384x1024 .bf16) (xs2 : Vec Ideal S384x1024 .bf16) (xs3 : Vec Ideal S384x1024 .bf16) (xs4 : Vec Ideal S384x1024 .bf16) (xs5 : Vec Ideal S384x1024 .bf16) (xs6 : Vec Ideal S8x128x128 .f32) :
    ∃ L, (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs2 xs3 xs4 xs5 xs6).2.2.2.2.2.2.2.2.2.2.2.2.2.1 =
      states x10 x11 x13 x15 xs6 ++ L := by
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld,
    Memref.IsWhole.read_unread]
  exact ⟨_, rfl⟩

/-- The outputs' stores of a point of case B. -/
theorem outputs_B (c : Dev nD) (i : grid0.Coords) (arg1 : Memref sig .tc .vmem S1x16x1x16x1024 .bf16) (harg1 : arg1.IsWhole) (arg2 : Memref sig .tc .vmem S1x16x1x16x1024 .bf16) (harg2 : arg2.IsWhole) (arg3 : Memref sig .tc .vmem S1x16x1x16x1024 .bf16) (harg3 : arg3.IsWhole) (arg4 : Memref sig .tc .vmem S1x4x1x64x1024 .bf16) (harg4 : arg4.IsWhole) (arg5 : Memref sig .tc .vmem S1x4x1x64x1024 .bf16) (harg5 : arg5.IsWhole) (arg6 : Memref sig .tc .vmem S1x4x1x64x1024 .bf16) (harg6 : arg6.IsWhole) (arg7 : Memref sig .tc .vmem S1x1x1x256x1024 .bf16) (harg7 : arg7.IsWhole) (arg8 : Memref sig .tc .vmem S1x1x1x256x1024 .bf16) (harg8 : arg8.IsWhole) (arg9 : Memref sig .tc .vmem S1x1x1x256x1024 .bf16) (harg9 : arg9.IsWhole) (arg10 : Memref sig .tc .vmem S1x16x16x1024 .bf16) (harg10 : arg10.IsWhole) (arg11 : Memref sig .tc .vmem S1x16x16x1024 .bf16) (harg11 : arg11.IsWhole) (arg12 : Memref sig .tc .vmem S1x16x16x1024 .bf16) (harg12 : arg12.IsWhole) (arg13 : Memref sig .tc .vmem S1x16x16x1024 .bf16) (harg13 : arg13.IsWhole) (arg14 : Memref sig .tc .vmem S1x16x16x1024 .bf16) (harg14 : arg14.IsWhole) (arg15 : Memref sig .tc .vmem S1x1024 .f32) (harg15 : arg15.IsWhole) (arg16 : Memref sig .tc .vmem S128x128 .bf16) (harg16 : arg16.IsWhole) (arg17 : Memref sig .tc .vmem S1x16x1x16x1024 .bf16) (harg17 : arg17.IsWhole) (arg18 : Memref sig .tc .vmem S1x16x1x16x128 .f32) (harg18 : arg18.IsWhole) (arg19 : Memref sig .tc .vmem S1x4x1x64x1024 .bf16) (harg19 : arg19.IsWhole) (arg20 : Memref sig .tc .vmem S1x4x1x64x128 .f32) (harg20 : arg20.IsWhole) (arg21 : Memref sig .tc .vmem S1x1x1x256x1024 .bf16) (harg21 : arg21.IsWhole) (arg22 : Memref sig .tc .vmem S1x1x1x256x128 .f32) (harg22 : arg22.IsWhole) (arg23 : Memref sig .tc .vmem S1x16x16x1024 .bf16) (harg23 : arg23.IsWhole) (arg24 : Memref sig .tc .vmem S384x1024 .bf16) (harg24 : arg24.IsWhole) (arg25 : Memref sig .tc .vmem S384x1024 .bf16) (harg25 : arg25.IsWhole) (arg26 : Memref sig .tc .vmem S384x1024 .bf16) (harg26 : arg26.IsWhole) (arg27 : Memref sig .tc .vmem S384x1024 .bf16) (harg27 : arg27.IsWhole) (arg28 : Memref sig .tc .vmem S384x1024 .bf16) (harg28 : arg28.IsWhole) (arg29 : Memref sig .tc .vmem S384x1024 .bf16) (harg29 : arg29.IsWhole) (arg30 : Memref sig .tc .vmem S8x128x128 .f32) (harg30 : arg30.IsWhole) (hc0 : ¬cond0_0 i) (hc1 : cond0_1 i) (hc2 : ¬cond0_2 i) (hc3 : cond0_3 i) (hc4 : ¬cond0_4 i) (hc5 : cond0_5 i) (hc6 : ¬cond0_6 i)
    (x0 : Vec Ideal S1x16x1x16x1024 .bf16) (x1 : Vec Ideal S1x16x1x16x1024 .bf16) (x2 : Vec Ideal S1x16x1x16x1024 .bf16) (x3 : Vec Ideal S1x4x1x64x1024 .bf16) (x4 : Vec Ideal S1x4x1x64x1024 .bf16) (x5 : Vec Ideal S1x4x1x64x1024 .bf16) (x6 : Vec Ideal S1x1x1x256x1024 .bf16) (x7 : Vec Ideal S1x1x1x256x1024 .bf16) (x8 : Vec Ideal S1x1x1x256x1024 .bf16) (x9 : Vec Ideal S1x16x16x1024 .bf16) (x10 : Vec Ideal S1x16x16x1024 .bf16) (x11 : Vec Ideal S1x16x16x1024 .bf16) (x12 : Vec Ideal S1x16x16x1024 .bf16) (x13 : Vec Ideal S1x16x16x1024 .bf16) (x14 : Vec Ideal S1x1024 .f32) (x15 : Vec Ideal S128x128 .bf16) (xs0 : Vec Ideal S384x1024 .bf16) (xs1 : Vec Ideal S384x1024 .bf16) (xs2 : Vec Ideal S384x1024 .bf16) (xs3 : Vec Ideal S384x1024 .bf16) (xs4 : Vec Ideal S384x1024 .bf16) (xs5 : Vec Ideal S384x1024 .bf16) (xs6 : Vec Ideal S8x128x128 .f32) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs2 xs3 xs4 xs5 xs6).2.2.2.2.2.2.1 = outputs x9 x10 x11 x12 x13 x14 x15 xs6 := by
  frame_open
  simp (disch := decide) only [↓ View.readCov_skip, ↓ View.readCov_cons_toLoadRect, ↓ View.readCov_fill]
  dsimp only [View.readAt_eq_ld]
  refine Eq.trans (b := outputs (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))) ?_ ?_
  · refine congrArg₂ List.cons (congrArg (Sigma.mk _) ?_) ?_
    · exact both_7 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_6 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_5 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_4 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_3 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_2 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_1 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_0 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    rfl
  · simp (disch := decide) only [View.ld_unit_lit', Memref.IsWhole.read_unread]
end Cert.Hgrn
-- ==== Proof.CaseC.lean ====
module

public import proofs.«01_k».proof.Proof.Spec
public import proofs.«01_k».proof.Proof.Gen.KernelIdeal.Frame.RunC
public import proofs.«01_k».proof.Proof.Stores
public import Idealize.ShloMosaic.Lib.Pipeline.ReadBack
public import Idealize.ShloMosaic.Lib.Pipeline.ValueKit

@[expose] public section
set_option maxRecDepth 16384
noncomputable section
open Idealize.ShloMosaic Idealize.ShloMosaic.TcCoe Idealize.SL.Sem
open Cert.KernelIdeal Cert.KernelIdeal.Gen
namespace Cert.Hgrn

/-- The states' stores of a point of case C. -/
theorem states_C (c : Dev nD) (i : grid0.Coords) (arg1 : Memref sig .tc .vmem S1x16x1x16x1024 .bf16) (harg1 : arg1.IsWhole) (arg2 : Memref sig .tc .vmem S1x16x1x16x1024 .bf16) (harg2 : arg2.IsWhole) (arg3 : Memref sig .tc .vmem S1x16x1x16x1024 .bf16) (harg3 : arg3.IsWhole) (arg4 : Memref sig .tc .vmem S1x4x1x64x1024 .bf16) (harg4 : arg4.IsWhole) (arg5 : Memref sig .tc .vmem S1x4x1x64x1024 .bf16) (harg5 : arg5.IsWhole) (arg6 : Memref sig .tc .vmem S1x4x1x64x1024 .bf16) (harg6 : arg6.IsWhole) (arg7 : Memref sig .tc .vmem S1x1x1x256x1024 .bf16) (harg7 : arg7.IsWhole) (arg8 : Memref sig .tc .vmem S1x1x1x256x1024 .bf16) (harg8 : arg8.IsWhole) (arg9 : Memref sig .tc .vmem S1x1x1x256x1024 .bf16) (harg9 : arg9.IsWhole) (arg10 : Memref sig .tc .vmem S1x16x16x1024 .bf16) (harg10 : arg10.IsWhole) (arg11 : Memref sig .tc .vmem S1x16x16x1024 .bf16) (harg11 : arg11.IsWhole) (arg12 : Memref sig .tc .vmem S1x16x16x1024 .bf16) (harg12 : arg12.IsWhole) (arg13 : Memref sig .tc .vmem S1x16x16x1024 .bf16) (harg13 : arg13.IsWhole) (arg14 : Memref sig .tc .vmem S1x16x16x1024 .bf16) (harg14 : arg14.IsWhole) (arg15 : Memref sig .tc .vmem S1x1024 .f32) (harg15 : arg15.IsWhole) (arg16 : Memref sig .tc .vmem S128x128 .bf16) (harg16 : arg16.IsWhole) (arg17 : Memref sig .tc .vmem S1x16x1x16x1024 .bf16) (harg17 : arg17.IsWhole) (arg18 : Memref sig .tc .vmem S1x16x1x16x128 .f32) (harg18 : arg18.IsWhole) (arg19 : Memref sig .tc .vmem S1x4x1x64x1024 .bf16) (harg19 : arg19.IsWhole) (arg20 : Memref sig .tc .vmem S1x4x1x64x128 .f32) (harg20 : arg20.IsWhole) (arg21 : Memref sig .tc .vmem S1x1x1x256x1024 .bf16) (harg21 : arg21.IsWhole) (arg22 : Memref sig .tc .vmem S1x1x1x256x128 .f32) (harg22 : arg22.IsWhole) (arg23 : Memref sig .tc .vmem S1x16x16x1024 .bf16) (harg23 : arg23.IsWhole) (arg24 : Memref sig .tc .vmem S384x1024 .bf16) (harg24 : arg24.IsWhole) (arg25 : Memref sig .tc .vmem S384x1024 .bf16) (harg25 : arg25.IsWhole) (arg26 : Memref sig .tc .vmem S384x1024 .bf16) (harg26 : arg26.IsWhole) (arg27 : Memref sig .tc .vmem S384x1024 .bf16) (harg27 : arg27.IsWhole) (arg28 : Memref sig .tc .vmem S384x1024 .bf16) (harg28 : arg28.IsWhole) (arg29 : Memref sig .tc .vmem S384x1024 .bf16) (harg29 : arg29.IsWhole) (arg30 : Memref sig .tc .vmem S8x128x128 .f32) (harg30 : arg30.IsWhole) (hc0 : ¬cond0_0 i) (hc1 : cond0_1 i) (hc2 : ¬cond0_2 i) (hc3 : cond0_3 i) (hc4 : cond0_4 i) (hc5 : ¬cond0_5 i) (hc6 : ¬cond0_6 i)
    (x0 : Vec Ideal S1x16x1x16x1024 .bf16) (x1 : Vec Ideal S1x16x1x16x1024 .bf16) (x2 : Vec Ideal S1x16x1x16x1024 .bf16) (x3 : Vec Ideal S1x4x1x64x1024 .bf16) (x4 : Vec Ideal S1x4x1x64x1024 .bf16) (x5 : Vec Ideal S1x4x1x64x1024 .bf16) (x6 : Vec Ideal S1x1x1x256x1024 .bf16) (x7 : Vec Ideal S1x1x1x256x1024 .bf16) (x8 : Vec Ideal S1x1x1x256x1024 .bf16) (x9 : Vec Ideal S1x16x16x1024 .bf16) (x10 : Vec Ideal S1x16x16x1024 .bf16) (x11 : Vec Ideal S1x16x16x1024 .bf16) (x12 : Vec Ideal S1x16x16x1024 .bf16) (x13 : Vec Ideal S1x16x16x1024 .bf16) (x14 : Vec Ideal S1x1024 .f32) (x15 : Vec Ideal S128x128 .bf16) (xs0 : Vec Ideal S384x1024 .bf16) (xs1 : Vec Ideal S384x1024 .bf16) (xs2 : Vec Ideal S384x1024 .bf16) (xs3 : Vec Ideal S384x1024 .bf16) (xs6 : Vec Ideal S8x128x128 .f32) :
    ∃ L, (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs2 xs3 xs6).2.2.2.2.2.2.2.2.2.2.2.2.2.1 =
      states x10 x11 x13 x15 xs6 ++ L := by
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld,
    Memref.IsWhole.read_unread]
  exact ⟨_, rfl⟩

/-- The outputs' stores of a point of case C. -/
theorem outputs_C (c : Dev nD) (i : grid0.Coords) (arg1 : Memref sig .tc .vmem S1x16x1x16x1024 .bf16) (harg1 : arg1.IsWhole) (arg2 : Memref sig .tc .vmem S1x16x1x16x1024 .bf16) (harg2 : arg2.IsWhole) (arg3 : Memref sig .tc .vmem S1x16x1x16x1024 .bf16) (harg3 : arg3.IsWhole) (arg4 : Memref sig .tc .vmem S1x4x1x64x1024 .bf16) (harg4 : arg4.IsWhole) (arg5 : Memref sig .tc .vmem S1x4x1x64x1024 .bf16) (harg5 : arg5.IsWhole) (arg6 : Memref sig .tc .vmem S1x4x1x64x1024 .bf16) (harg6 : arg6.IsWhole) (arg7 : Memref sig .tc .vmem S1x1x1x256x1024 .bf16) (harg7 : arg7.IsWhole) (arg8 : Memref sig .tc .vmem S1x1x1x256x1024 .bf16) (harg8 : arg8.IsWhole) (arg9 : Memref sig .tc .vmem S1x1x1x256x1024 .bf16) (harg9 : arg9.IsWhole) (arg10 : Memref sig .tc .vmem S1x16x16x1024 .bf16) (harg10 : arg10.IsWhole) (arg11 : Memref sig .tc .vmem S1x16x16x1024 .bf16) (harg11 : arg11.IsWhole) (arg12 : Memref sig .tc .vmem S1x16x16x1024 .bf16) (harg12 : arg12.IsWhole) (arg13 : Memref sig .tc .vmem S1x16x16x1024 .bf16) (harg13 : arg13.IsWhole) (arg14 : Memref sig .tc .vmem S1x16x16x1024 .bf16) (harg14 : arg14.IsWhole) (arg15 : Memref sig .tc .vmem S1x1024 .f32) (harg15 : arg15.IsWhole) (arg16 : Memref sig .tc .vmem S128x128 .bf16) (harg16 : arg16.IsWhole) (arg17 : Memref sig .tc .vmem S1x16x1x16x1024 .bf16) (harg17 : arg17.IsWhole) (arg18 : Memref sig .tc .vmem S1x16x1x16x128 .f32) (harg18 : arg18.IsWhole) (arg19 : Memref sig .tc .vmem S1x4x1x64x1024 .bf16) (harg19 : arg19.IsWhole) (arg20 : Memref sig .tc .vmem S1x4x1x64x128 .f32) (harg20 : arg20.IsWhole) (arg21 : Memref sig .tc .vmem S1x1x1x256x1024 .bf16) (harg21 : arg21.IsWhole) (arg22 : Memref sig .tc .vmem S1x1x1x256x128 .f32) (harg22 : arg22.IsWhole) (arg23 : Memref sig .tc .vmem S1x16x16x1024 .bf16) (harg23 : arg23.IsWhole) (arg24 : Memref sig .tc .vmem S384x1024 .bf16) (harg24 : arg24.IsWhole) (arg25 : Memref sig .tc .vmem S384x1024 .bf16) (harg25 : arg25.IsWhole) (arg26 : Memref sig .tc .vmem S384x1024 .bf16) (harg26 : arg26.IsWhole) (arg27 : Memref sig .tc .vmem S384x1024 .bf16) (harg27 : arg27.IsWhole) (arg28 : Memref sig .tc .vmem S384x1024 .bf16) (harg28 : arg28.IsWhole) (arg29 : Memref sig .tc .vmem S384x1024 .bf16) (harg29 : arg29.IsWhole) (arg30 : Memref sig .tc .vmem S8x128x128 .f32) (harg30 : arg30.IsWhole) (hc0 : ¬cond0_0 i) (hc1 : cond0_1 i) (hc2 : ¬cond0_2 i) (hc3 : cond0_3 i) (hc4 : cond0_4 i) (hc5 : ¬cond0_5 i) (hc6 : ¬cond0_6 i)
    (x0 : Vec Ideal S1x16x1x16x1024 .bf16) (x1 : Vec Ideal S1x16x1x16x1024 .bf16) (x2 : Vec Ideal S1x16x1x16x1024 .bf16) (x3 : Vec Ideal S1x4x1x64x1024 .bf16) (x4 : Vec Ideal S1x4x1x64x1024 .bf16) (x5 : Vec Ideal S1x4x1x64x1024 .bf16) (x6 : Vec Ideal S1x1x1x256x1024 .bf16) (x7 : Vec Ideal S1x1x1x256x1024 .bf16) (x8 : Vec Ideal S1x1x1x256x1024 .bf16) (x9 : Vec Ideal S1x16x16x1024 .bf16) (x10 : Vec Ideal S1x16x16x1024 .bf16) (x11 : Vec Ideal S1x16x16x1024 .bf16) (x12 : Vec Ideal S1x16x16x1024 .bf16) (x13 : Vec Ideal S1x16x16x1024 .bf16) (x14 : Vec Ideal S1x1024 .f32) (x15 : Vec Ideal S128x128 .bf16) (xs0 : Vec Ideal S384x1024 .bf16) (xs1 : Vec Ideal S384x1024 .bf16) (xs2 : Vec Ideal S384x1024 .bf16) (xs3 : Vec Ideal S384x1024 .bf16) (xs6 : Vec Ideal S8x128x128 .f32) :
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs2 xs3 xs6).2.2.2.2.2.2.1 = outputs x9 x10 x11 x12 x13 x14 x15 xs6 := by
  frame_open
  simp (disch := decide) only [↓ View.readCov_skip, ↓ View.readCov_cons_toLoadRect, ↓ View.readCov_fill]
  dsimp only [View.readAt_eq_ld]
  refine Eq.trans (b := outputs (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))) ?_ ?_
  · refine congrArg₂ List.cons (congrArg (Sigma.mk _) ?_) ?_
    · exact both_7 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_6 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_5 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_4 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_3 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_2 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_1 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_0 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    rfl
  · simp (disch := decide) only [View.ld_unit_lit', Memref.IsWhole.read_unread]
end Cert.Hgrn
-- ==== Proof.CaseD.lean ====
module

public import proofs.«01_k».proof.Proof.Spec
public import proofs.«01_k».proof.Proof.Gen.KernelIdeal.Frame.RunD
public import proofs.«01_k».proof.Proof.Stores
public import Idealize.ShloMosaic.Lib.Pipeline.ReadBack
public import Idealize.ShloMosaic.Lib.Pipeline.ValueKit

@[expose] public section
set_option maxRecDepth 16384
noncomputable section
open Idealize.ShloMosaic Idealize.ShloMosaic.TcCoe Idealize.SL.Sem
open Cert.KernelIdeal Cert.KernelIdeal.Gen
namespace Cert.Hgrn

/-- The states' stores of a point of case D. -/
theorem states_D (c : Dev nD) (i : grid0.Coords) (arg1 : Memref sig .tc .vmem S1x16x1x16x1024 .bf16) (harg1 : arg1.IsWhole) (arg2 : Memref sig .tc .vmem S1x16x1x16x1024 .bf16) (harg2 : arg2.IsWhole) (arg3 : Memref sig .tc .vmem S1x16x1x16x1024 .bf16) (harg3 : arg3.IsWhole) (arg4 : Memref sig .tc .vmem S1x4x1x64x1024 .bf16) (harg4 : arg4.IsWhole) (arg5 : Memref sig .tc .vmem S1x4x1x64x1024 .bf16) (harg5 : arg5.IsWhole) (arg6 : Memref sig .tc .vmem S1x4x1x64x1024 .bf16) (harg6 : arg6.IsWhole) (arg7 : Memref sig .tc .vmem S1x1x1x256x1024 .bf16) (harg7 : arg7.IsWhole) (arg8 : Memref sig .tc .vmem S1x1x1x256x1024 .bf16) (harg8 : arg8.IsWhole) (arg9 : Memref sig .tc .vmem S1x1x1x256x1024 .bf16) (harg9 : arg9.IsWhole) (arg10 : Memref sig .tc .vmem S1x16x16x1024 .bf16) (harg10 : arg10.IsWhole) (arg11 : Memref sig .tc .vmem S1x16x16x1024 .bf16) (harg11 : arg11.IsWhole) (arg12 : Memref sig .tc .vmem S1x16x16x1024 .bf16) (harg12 : arg12.IsWhole) (arg13 : Memref sig .tc .vmem S1x16x16x1024 .bf16) (harg13 : arg13.IsWhole) (arg14 : Memref sig .tc .vmem S1x16x16x1024 .bf16) (harg14 : arg14.IsWhole) (arg15 : Memref sig .tc .vmem S1x1024 .f32) (harg15 : arg15.IsWhole) (arg16 : Memref sig .tc .vmem S128x128 .bf16) (harg16 : arg16.IsWhole) (arg17 : Memref sig .tc .vmem S1x16x1x16x1024 .bf16) (harg17 : arg17.IsWhole) (arg18 : Memref sig .tc .vmem S1x16x1x16x128 .f32) (harg18 : arg18.IsWhole) (arg19 : Memref sig .tc .vmem S1x4x1x64x1024 .bf16) (harg19 : arg19.IsWhole) (arg20 : Memref sig .tc .vmem S1x4x1x64x128 .f32) (harg20 : arg20.IsWhole) (arg21 : Memref sig .tc .vmem S1x1x1x256x1024 .bf16) (harg21 : arg21.IsWhole) (arg22 : Memref sig .tc .vmem S1x1x1x256x128 .f32) (harg22 : arg22.IsWhole) (arg23 : Memref sig .tc .vmem S1x16x16x1024 .bf16) (harg23 : arg23.IsWhole) (arg24 : Memref sig .tc .vmem S384x1024 .bf16) (harg24 : arg24.IsWhole) (arg25 : Memref sig .tc .vmem S384x1024 .bf16) (harg25 : arg25.IsWhole) (arg26 : Memref sig .tc .vmem S384x1024 .bf16) (harg26 : arg26.IsWhole) (arg27 : Memref sig .tc .vmem S384x1024 .bf16) (harg27 : arg27.IsWhole) (arg28 : Memref sig .tc .vmem S384x1024 .bf16) (harg28 : arg28.IsWhole) (arg29 : Memref sig .tc .vmem S384x1024 .bf16) (harg29 : arg29.IsWhole) (arg30 : Memref sig .tc .vmem S8x128x128 .f32) (harg30 : arg30.IsWhole) (hc0 : ¬cond0_0 i) (hc1 : cond0_1 i) (hc2 : cond0_2 i) (hc3 : ¬cond0_3 i) (hc4 : cond0_4 i) (hc5 : ¬cond0_5 i) (hc6 : ¬cond0_6 i)
    (x0 : Vec Ideal S1x16x1x16x1024 .bf16) (x1 : Vec Ideal S1x16x1x16x1024 .bf16) (x2 : Vec Ideal S1x16x1x16x1024 .bf16) (x3 : Vec Ideal S1x4x1x64x1024 .bf16) (x4 : Vec Ideal S1x4x1x64x1024 .bf16) (x5 : Vec Ideal S1x4x1x64x1024 .bf16) (x6 : Vec Ideal S1x1x1x256x1024 .bf16) (x7 : Vec Ideal S1x1x1x256x1024 .bf16) (x8 : Vec Ideal S1x1x1x256x1024 .bf16) (x9 : Vec Ideal S1x16x16x1024 .bf16) (x10 : Vec Ideal S1x16x16x1024 .bf16) (x11 : Vec Ideal S1x16x16x1024 .bf16) (x12 : Vec Ideal S1x16x16x1024 .bf16) (x13 : Vec Ideal S1x16x16x1024 .bf16) (x14 : Vec Ideal S1x1024 .f32) (x15 : Vec Ideal S128x128 .bf16) (xs0 : Vec Ideal S384x1024 .bf16) (xs1 : Vec Ideal S384x1024 .bf16) (xs6 : Vec Ideal S8x128x128 .f32) :
    ∃ L, (kernelRun0_D (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs6).2.2.2.2.2.2.2.2.2.2.2.2.2.1 =
      states x10 x11 x13 x15 xs6 ++ L := by
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld,
    Memref.IsWhole.read_unread]
  exact ⟨_, rfl⟩

/-- The outputs' stores of a point of case D. -/
theorem outputs_D (c : Dev nD) (i : grid0.Coords) (arg1 : Memref sig .tc .vmem S1x16x1x16x1024 .bf16) (harg1 : arg1.IsWhole) (arg2 : Memref sig .tc .vmem S1x16x1x16x1024 .bf16) (harg2 : arg2.IsWhole) (arg3 : Memref sig .tc .vmem S1x16x1x16x1024 .bf16) (harg3 : arg3.IsWhole) (arg4 : Memref sig .tc .vmem S1x4x1x64x1024 .bf16) (harg4 : arg4.IsWhole) (arg5 : Memref sig .tc .vmem S1x4x1x64x1024 .bf16) (harg5 : arg5.IsWhole) (arg6 : Memref sig .tc .vmem S1x4x1x64x1024 .bf16) (harg6 : arg6.IsWhole) (arg7 : Memref sig .tc .vmem S1x1x1x256x1024 .bf16) (harg7 : arg7.IsWhole) (arg8 : Memref sig .tc .vmem S1x1x1x256x1024 .bf16) (harg8 : arg8.IsWhole) (arg9 : Memref sig .tc .vmem S1x1x1x256x1024 .bf16) (harg9 : arg9.IsWhole) (arg10 : Memref sig .tc .vmem S1x16x16x1024 .bf16) (harg10 : arg10.IsWhole) (arg11 : Memref sig .tc .vmem S1x16x16x1024 .bf16) (harg11 : arg11.IsWhole) (arg12 : Memref sig .tc .vmem S1x16x16x1024 .bf16) (harg12 : arg12.IsWhole) (arg13 : Memref sig .tc .vmem S1x16x16x1024 .bf16) (harg13 : arg13.IsWhole) (arg14 : Memref sig .tc .vmem S1x16x16x1024 .bf16) (harg14 : arg14.IsWhole) (arg15 : Memref sig .tc .vmem S1x1024 .f32) (harg15 : arg15.IsWhole) (arg16 : Memref sig .tc .vmem S128x128 .bf16) (harg16 : arg16.IsWhole) (arg17 : Memref sig .tc .vmem S1x16x1x16x1024 .bf16) (harg17 : arg17.IsWhole) (arg18 : Memref sig .tc .vmem S1x16x1x16x128 .f32) (harg18 : arg18.IsWhole) (arg19 : Memref sig .tc .vmem S1x4x1x64x1024 .bf16) (harg19 : arg19.IsWhole) (arg20 : Memref sig .tc .vmem S1x4x1x64x128 .f32) (harg20 : arg20.IsWhole) (arg21 : Memref sig .tc .vmem S1x1x1x256x1024 .bf16) (harg21 : arg21.IsWhole) (arg22 : Memref sig .tc .vmem S1x1x1x256x128 .f32) (harg22 : arg22.IsWhole) (arg23 : Memref sig .tc .vmem S1x16x16x1024 .bf16) (harg23 : arg23.IsWhole) (arg24 : Memref sig .tc .vmem S384x1024 .bf16) (harg24 : arg24.IsWhole) (arg25 : Memref sig .tc .vmem S384x1024 .bf16) (harg25 : arg25.IsWhole) (arg26 : Memref sig .tc .vmem S384x1024 .bf16) (harg26 : arg26.IsWhole) (arg27 : Memref sig .tc .vmem S384x1024 .bf16) (harg27 : arg27.IsWhole) (arg28 : Memref sig .tc .vmem S384x1024 .bf16) (harg28 : arg28.IsWhole) (arg29 : Memref sig .tc .vmem S384x1024 .bf16) (harg29 : arg29.IsWhole) (arg30 : Memref sig .tc .vmem S8x128x128 .f32) (harg30 : arg30.IsWhole) (hc0 : ¬cond0_0 i) (hc1 : cond0_1 i) (hc2 : cond0_2 i) (hc3 : ¬cond0_3 i) (hc4 : cond0_4 i) (hc5 : ¬cond0_5 i) (hc6 : ¬cond0_6 i)
    (x0 : Vec Ideal S1x16x1x16x1024 .bf16) (x1 : Vec Ideal S1x16x1x16x1024 .bf16) (x2 : Vec Ideal S1x16x1x16x1024 .bf16) (x3 : Vec Ideal S1x4x1x64x1024 .bf16) (x4 : Vec Ideal S1x4x1x64x1024 .bf16) (x5 : Vec Ideal S1x4x1x64x1024 .bf16) (x6 : Vec Ideal S1x1x1x256x1024 .bf16) (x7 : Vec Ideal S1x1x1x256x1024 .bf16) (x8 : Vec Ideal S1x1x1x256x1024 .bf16) (x9 : Vec Ideal S1x16x16x1024 .bf16) (x10 : Vec Ideal S1x16x16x1024 .bf16) (x11 : Vec Ideal S1x16x16x1024 .bf16) (x12 : Vec Ideal S1x16x16x1024 .bf16) (x13 : Vec Ideal S1x16x16x1024 .bf16) (x14 : Vec Ideal S1x1024 .f32) (x15 : Vec Ideal S128x128 .bf16) (xs0 : Vec Ideal S384x1024 .bf16) (xs1 : Vec Ideal S384x1024 .bf16) (xs6 : Vec Ideal S8x128x128 .f32) :
    (kernelRun0_D (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs6).2.2.2.2.2.2.1 = outputs x9 x10 x11 x12 x13 x14 x15 xs6 := by
  frame_open
  simp (disch := decide) only [↓ View.readCov_skip, ↓ View.readCov_cons_toLoadRect, ↓ View.readCov_fill]
  dsimp only [View.readAt_eq_ld]
  refine Eq.trans (b := outputs (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))) ?_ ?_
  · refine congrArg₂ List.cons (congrArg (Sigma.mk _) ?_) ?_
    · exact both_7 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_6 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_5 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_4 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_3 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_2 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_1 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    refine congrArg₂ List.cons (congrArg (Sigma.mk _) ?_) ?_
    · exact both_0 (View.ld (View.read (Elt Ideal) arg10.view (harg10.unread x9)) (Rect.unit ![0, 0, 0, 0] ![1, 16, 16, 1024] inb_S1x16x16x1024_S1x16x16x1024_0_0_0_0)) (View.ld (View.read (Elt Ideal) arg11.view (harg11.unread x10)) (Rect.unit ![0, 0, 0, 0] ![1, 16, 16, 1024] inb_S1x16x16x1024_S1x16x16x1024_0_0_0_0)) (View.ld (View.read (Elt Ideal) arg12.view (harg12.unread x11)) (Rect.unit ![0, 0, 0, 0] ![1, 16, 16, 1024] inb_S1x16x16x1024_S1x16x16x1024_0_0_0_0)) (View.ld (View.read (Elt Ideal) arg13.view (harg13.unread x12)) (Rect.unit ![0, 0, 0, 0] ![1, 16, 16, 1024] inb_S1x16x16x1024_S1x16x16x1024_0_0_0_0)) (View.ld (View.read (Elt Ideal) arg14.view (harg14.unread x13)) (Rect.unit ![0, 0, 0, 0] ![1, 16, 16, 1024] inb_S1x16x16x1024_S1x16x16x1024_0_0_0_0)) (View.read (Elt Ideal) arg15.view (harg15.unread x14)) (View.ld (View.read (Elt Ideal) arg16.view (harg16.unread x15)) (Rect.unit ![0, 0] ![128, 128] inb_S128x128_S128x128_0_0)) (View.read (Elt Ideal) arg30.view (harg30.unread xs6))
    rfl
  · simp (disch := decide) only [View.ld_unit_lit', Memref.IsWhole.read_unread]
end Cert.Hgrn
-- ==== Proof.Cells.lean ====
module

public import proofs.«01_k».proof.Proof.CaseA
public import proofs.«01_k».proof.Proof.CaseB
public import proofs.«01_k».proof.Proof.CaseC
public import proofs.«01_k».proof.Proof.CaseD
public import proofs.«01_k».proof.Proof.Gen.KernelIdeal.Frame
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
open Cert.KernelIdeal Cert.KernelIdeal.Gen
namespace Cert.Hgrn

/-- The output block of a point of case A. -/
theorem block_A (c : Dev nD) (i : grid0.Coords) (arg1 : Memref sig .tc .vmem S1x16x1x16x1024 .bf16) (harg1 : arg1.IsWhole) (arg2 : Memref sig .tc .vmem S1x16x1x16x1024 .bf16) (harg2 : arg2.IsWhole) (arg3 : Memref sig .tc .vmem S1x16x1x16x1024 .bf16) (harg3 : arg3.IsWhole) (arg4 : Memref sig .tc .vmem S1x4x1x64x1024 .bf16) (harg4 : arg4.IsWhole) (arg5 : Memref sig .tc .vmem S1x4x1x64x1024 .bf16) (harg5 : arg5.IsWhole) (arg6 : Memref sig .tc .vmem S1x4x1x64x1024 .bf16) (harg6 : arg6.IsWhole) (arg7 : Memref sig .tc .vmem S1x1x1x256x1024 .bf16) (harg7 : arg7.IsWhole) (arg8 : Memref sig .tc .vmem S1x1x1x256x1024 .bf16) (harg8 : arg8.IsWhole) (arg9 : Memref sig .tc .vmem S1x1x1x256x1024 .bf16) (harg9 : arg9.IsWhole) (arg10 : Memref sig .tc .vmem S1x16x16x1024 .bf16) (harg10 : arg10.IsWhole) (arg11 : Memref sig .tc .vmem S1x16x16x1024 .bf16) (harg11 : arg11.IsWhole) (arg12 : Memref sig .tc .vmem S1x16x16x1024 .bf16) (harg12 : arg12.IsWhole) (arg13 : Memref sig .tc .vmem S1x16x16x1024 .bf16) (harg13 : arg13.IsWhole) (arg14 : Memref sig .tc .vmem S1x16x16x1024 .bf16) (harg14 : arg14.IsWhole) (arg15 : Memref sig .tc .vmem S1x1024 .f32) (harg15 : arg15.IsWhole) (arg16 : Memref sig .tc .vmem S128x128 .bf16) (harg16 : arg16.IsWhole) (arg17 : Memref sig .tc .vmem S1x16x1x16x1024 .bf16) (harg17 : arg17.IsWhole) (arg18 : Memref sig .tc .vmem S1x16x1x16x128 .f32) (harg18 : arg18.IsWhole) (arg19 : Memref sig .tc .vmem S1x4x1x64x1024 .bf16) (harg19 : arg19.IsWhole) (arg20 : Memref sig .tc .vmem S1x4x1x64x128 .f32) (harg20 : arg20.IsWhole) (arg21 : Memref sig .tc .vmem S1x1x1x256x1024 .bf16) (harg21 : arg21.IsWhole) (arg22 : Memref sig .tc .vmem S1x1x1x256x128 .f32) (harg22 : arg22.IsWhole) (arg23 : Memref sig .tc .vmem S1x16x16x1024 .bf16) (harg23 : arg23.IsWhole) (arg24 : Memref sig .tc .vmem S384x1024 .bf16) (harg24 : arg24.IsWhole) (arg25 : Memref sig .tc .vmem S384x1024 .bf16) (harg25 : arg25.IsWhole) (arg26 : Memref sig .tc .vmem S384x1024 .bf16) (harg26 : arg26.IsWhole) (arg27 : Memref sig .tc .vmem S384x1024 .bf16) (harg27 : arg27.IsWhole) (arg28 : Memref sig .tc .vmem S384x1024 .bf16) (harg28 : arg28.IsWhole) (arg29 : Memref sig .tc .vmem S384x1024 .bf16) (harg29 : arg29.IsWhole) (arg30 : Memref sig .tc .vmem S8x128x128 .f32) (harg30 : arg30.IsWhole) (hc0 : cond0_0 i) (hc1 : ¬cond0_1 i) (hc2 : cond0_2 i) (hc3 : ¬cond0_3 i) (hc4 : cond0_4 i) (hc5 : ¬cond0_5 i) (hc6 : cond0_6 i)
    (x0 : Vec Ideal S1x16x1x16x1024 .bf16) (x1 : Vec Ideal S1x16x1x16x1024 .bf16) (x2 : Vec Ideal S1x16x1x16x1024 .bf16) (x3 : Vec Ideal S1x4x1x64x1024 .bf16) (x4 : Vec Ideal S1x4x1x64x1024 .bf16) (x5 : Vec Ideal S1x4x1x64x1024 .bf16) (x6 : Vec Ideal S1x1x1x256x1024 .bf16) (x7 : Vec Ideal S1x1x1x256x1024 .bf16) (x8 : Vec Ideal S1x1x1x256x1024 .bf16) (x9 : Vec Ideal S1x16x16x1024 .bf16) (x10 : Vec Ideal S1x16x16x1024 .bf16) (x11 : Vec Ideal S1x16x16x1024 .bf16) (x12 : Vec Ideal S1x16x16x1024 .bf16) (x13 : Vec Ideal S1x16x16x1024 .bf16) (x14 : Vec Ideal S1x1024 .f32) (x15 : Vec Ideal S128x128 .bf16) :
    out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 = View.canon (outputs x9 x10 x11 x12 x13 x14 x15 (k0_pay13 (F := Ideal))) :=
  (View.read_writes_junk_eq_canon _ _).trans (congrArg View.canon (outputs_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15))

/-- The carried states after a point of case A. -/
theorem scratch_A (c : Dev nD) (i : grid0.Coords) (arg1 : Memref sig .tc .vmem S1x16x1x16x1024 .bf16) (harg1 : arg1.IsWhole) (arg2 : Memref sig .tc .vmem S1x16x1x16x1024 .bf16) (harg2 : arg2.IsWhole) (arg3 : Memref sig .tc .vmem S1x16x1x16x1024 .bf16) (harg3 : arg3.IsWhole) (arg4 : Memref sig .tc .vmem S1x4x1x64x1024 .bf16) (harg4 : arg4.IsWhole) (arg5 : Memref sig .tc .vmem S1x4x1x64x1024 .bf16) (harg5 : arg5.IsWhole) (arg6 : Memref sig .tc .vmem S1x4x1x64x1024 .bf16) (harg6 : arg6.IsWhole) (arg7 : Memref sig .tc .vmem S1x1x1x256x1024 .bf16) (harg7 : arg7.IsWhole) (arg8 : Memref sig .tc .vmem S1x1x1x256x1024 .bf16) (harg8 : arg8.IsWhole) (arg9 : Memref sig .tc .vmem S1x1x1x256x1024 .bf16) (harg9 : arg9.IsWhole) (arg10 : Memref sig .tc .vmem S1x16x16x1024 .bf16) (harg10 : arg10.IsWhole) (arg11 : Memref sig .tc .vmem S1x16x16x1024 .bf16) (harg11 : arg11.IsWhole) (arg12 : Memref sig .tc .vmem S1x16x16x1024 .bf16) (harg12 : arg12.IsWhole) (arg13 : Memref sig .tc .vmem S1x16x16x1024 .bf16) (harg13 : arg13.IsWhole) (arg14 : Memref sig .tc .vmem S1x16x16x1024 .bf16) (harg14 : arg14.IsWhole) (arg15 : Memref sig .tc .vmem S1x1024 .f32) (harg15 : arg15.IsWhole) (arg16 : Memref sig .tc .vmem S128x128 .bf16) (harg16 : arg16.IsWhole) (arg17 : Memref sig .tc .vmem S1x16x1x16x1024 .bf16) (harg17 : arg17.IsWhole) (arg18 : Memref sig .tc .vmem S1x16x1x16x128 .f32) (harg18 : arg18.IsWhole) (arg19 : Memref sig .tc .vmem S1x4x1x64x1024 .bf16) (harg19 : arg19.IsWhole) (arg20 : Memref sig .tc .vmem S1x4x1x64x128 .f32) (harg20 : arg20.IsWhole) (arg21 : Memref sig .tc .vmem S1x1x1x256x1024 .bf16) (harg21 : arg21.IsWhole) (arg22 : Memref sig .tc .vmem S1x1x1x256x128 .f32) (harg22 : arg22.IsWhole) (arg23 : Memref sig .tc .vmem S1x16x16x1024 .bf16) (harg23 : arg23.IsWhole) (arg24 : Memref sig .tc .vmem S384x1024 .bf16) (harg24 : arg24.IsWhole) (arg25 : Memref sig .tc .vmem S384x1024 .bf16) (harg25 : arg25.IsWhole) (arg26 : Memref sig .tc .vmem S384x1024 .bf16) (harg26 : arg26.IsWhole) (arg27 : Memref sig .tc .vmem S384x1024 .bf16) (harg27 : arg27.IsWhole) (arg28 : Memref sig .tc .vmem S384x1024 .bf16) (harg28 : arg28.IsWhole) (arg29 : Memref sig .tc .vmem S384x1024 .bf16) (harg29 : arg29.IsWhole) (arg30 : Memref sig .tc .vmem S8x128x128 .f32) (harg30 : arg30.IsWhole) (hc0 : cond0_0 i) (hc1 : ¬cond0_1 i) (hc2 : cond0_2 i) (hc3 : ¬cond0_3 i) (hc4 : cond0_4 i) (hc5 : ¬cond0_5 i) (hc6 : cond0_6 i)
    (x0 : Vec Ideal S1x16x1x16x1024 .bf16) (x1 : Vec Ideal S1x16x1x16x1024 .bf16) (x2 : Vec Ideal S1x16x1x16x1024 .bf16) (x3 : Vec Ideal S1x4x1x64x1024 .bf16) (x4 : Vec Ideal S1x4x1x64x1024 .bf16) (x5 : Vec Ideal S1x4x1x64x1024 .bf16) (x6 : Vec Ideal S1x1x1x256x1024 .bf16) (x7 : Vec Ideal S1x1x1x256x1024 .bf16) (x8 : Vec Ideal S1x1x1x256x1024 .bf16) (x9 : Vec Ideal S1x16x16x1024 .bf16) (x10 : Vec Ideal S1x16x16x1024 .bf16) (x11 : Vec Ideal S1x16x16x1024 .bf16) (x12 : Vec Ideal S1x16x16x1024 .bf16) (x13 : Vec Ideal S1x16x16x1024 .bf16) (x14 : Vec Ideal S1x1024 .f32) (x15 : Vec Ideal S128x128 .bf16) :
    ∃ L, sout0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 = View.canon (states x10 x11 x13 x15 (k0_pay13 (F := Ideal)) ++ L) := by
  obtain ⟨L, hL⟩ := states_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15
  exact ⟨L, (View.read_writes_junk_eq_canon _ _).trans (congrArg View.canon hL)⟩

/-- The output block of a point of case B. -/
theorem block_B (c : Dev nD) (i : grid0.Coords) (arg1 : Memref sig .tc .vmem S1x16x1x16x1024 .bf16) (harg1 : arg1.IsWhole) (arg2 : Memref sig .tc .vmem S1x16x1x16x1024 .bf16) (harg2 : arg2.IsWhole) (arg3 : Memref sig .tc .vmem S1x16x1x16x1024 .bf16) (harg3 : arg3.IsWhole) (arg4 : Memref sig .tc .vmem S1x4x1x64x1024 .bf16) (harg4 : arg4.IsWhole) (arg5 : Memref sig .tc .vmem S1x4x1x64x1024 .bf16) (harg5 : arg5.IsWhole) (arg6 : Memref sig .tc .vmem S1x4x1x64x1024 .bf16) (harg6 : arg6.IsWhole) (arg7 : Memref sig .tc .vmem S1x1x1x256x1024 .bf16) (harg7 : arg7.IsWhole) (arg8 : Memref sig .tc .vmem S1x1x1x256x1024 .bf16) (harg8 : arg8.IsWhole) (arg9 : Memref sig .tc .vmem S1x1x1x256x1024 .bf16) (harg9 : arg9.IsWhole) (arg10 : Memref sig .tc .vmem S1x16x16x1024 .bf16) (harg10 : arg10.IsWhole) (arg11 : Memref sig .tc .vmem S1x16x16x1024 .bf16) (harg11 : arg11.IsWhole) (arg12 : Memref sig .tc .vmem S1x16x16x1024 .bf16) (harg12 : arg12.IsWhole) (arg13 : Memref sig .tc .vmem S1x16x16x1024 .bf16) (harg13 : arg13.IsWhole) (arg14 : Memref sig .tc .vmem S1x16x16x1024 .bf16) (harg14 : arg14.IsWhole) (arg15 : Memref sig .tc .vmem S1x1024 .f32) (harg15 : arg15.IsWhole) (arg16 : Memref sig .tc .vmem S128x128 .bf16) (harg16 : arg16.IsWhole) (arg17 : Memref sig .tc .vmem S1x16x1x16x1024 .bf16) (harg17 : arg17.IsWhole) (arg18 : Memref sig .tc .vmem S1x16x1x16x128 .f32) (harg18 : arg18.IsWhole) (arg19 : Memref sig .tc .vmem S1x4x1x64x1024 .bf16) (harg19 : arg19.IsWhole) (arg20 : Memref sig .tc .vmem S1x4x1x64x128 .f32) (harg20 : arg20.IsWhole) (arg21 : Memref sig .tc .vmem S1x1x1x256x1024 .bf16) (harg21 : arg21.IsWhole) (arg22 : Memref sig .tc .vmem S1x1x1x256x128 .f32) (harg22 : arg22.IsWhole) (arg23 : Memref sig .tc .vmem S1x16x16x1024 .bf16) (harg23 : arg23.IsWhole) (arg24 : Memref sig .tc .vmem S384x1024 .bf16) (harg24 : arg24.IsWhole) (arg25 : Memref sig .tc .vmem S384x1024 .bf16) (harg25 : arg25.IsWhole) (arg26 : Memref sig .tc .vmem S384x1024 .bf16) (harg26 : arg26.IsWhole) (arg27 : Memref sig .tc .vmem S384x1024 .bf16) (harg27 : arg27.IsWhole) (arg28 : Memref sig .tc .vmem S384x1024 .bf16) (harg28 : arg28.IsWhole) (arg29 : Memref sig .tc .vmem S384x1024 .bf16) (harg29 : arg29.IsWhole) (arg30 : Memref sig .tc .vmem S8x128x128 .f32) (harg30 : arg30.IsWhole) (hc0 : ¬cond0_0 i) (hc1 : cond0_1 i) (hc2 : ¬cond0_2 i) (hc3 : cond0_3 i) (hc4 : ¬cond0_4 i) (hc5 : cond0_5 i) (hc6 : ¬cond0_6 i)
    (x0 : Vec Ideal S1x16x1x16x1024 .bf16) (x1 : Vec Ideal S1x16x1x16x1024 .bf16) (x2 : Vec Ideal S1x16x1x16x1024 .bf16) (x3 : Vec Ideal S1x4x1x64x1024 .bf16) (x4 : Vec Ideal S1x4x1x64x1024 .bf16) (x5 : Vec Ideal S1x4x1x64x1024 .bf16) (x6 : Vec Ideal S1x1x1x256x1024 .bf16) (x7 : Vec Ideal S1x1x1x256x1024 .bf16) (x8 : Vec Ideal S1x1x1x256x1024 .bf16) (x9 : Vec Ideal S1x16x16x1024 .bf16) (x10 : Vec Ideal S1x16x16x1024 .bf16) (x11 : Vec Ideal S1x16x16x1024 .bf16) (x12 : Vec Ideal S1x16x16x1024 .bf16) (x13 : Vec Ideal S1x16x16x1024 .bf16) (x14 : Vec Ideal S1x1024 .f32) (x15 : Vec Ideal S128x128 .bf16) (xs0 : Vec Ideal S384x1024 .bf16) (xs1 : Vec Ideal S384x1024 .bf16) (xs2 : Vec Ideal S384x1024 .bf16) (xs3 : Vec Ideal S384x1024 .bf16) (xs4 : Vec Ideal S384x1024 .bf16) (xs5 : Vec Ideal S384x1024 .bf16) (xs6 : Vec Ideal S8x128x128 .f32) :
    out0_B_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs2 xs3 xs4 xs5 xs6 = View.canon (outputs x9 x10 x11 x12 x13 x14 x15 xs6) :=
  (View.read_writes_junk_eq_canon _ _).trans (congrArg View.canon (outputs_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs2 xs3 xs4 xs5 xs6))

/-- The carried states after a point of case B. -/
theorem scratch_B (c : Dev nD) (i : grid0.Coords) (arg1 : Memref sig .tc .vmem S1x16x1x16x1024 .bf16) (harg1 : arg1.IsWhole) (arg2 : Memref sig .tc .vmem S1x16x1x16x1024 .bf16) (harg2 : arg2.IsWhole) (arg3 : Memref sig .tc .vmem S1x16x1x16x1024 .bf16) (harg3 : arg3.IsWhole) (arg4 : Memref sig .tc .vmem S1x4x1x64x1024 .bf16) (harg4 : arg4.IsWhole) (arg5 : Memref sig .tc .vmem S1x4x1x64x1024 .bf16) (harg5 : arg5.IsWhole) (arg6 : Memref sig .tc .vmem S1x4x1x64x1024 .bf16) (harg6 : arg6.IsWhole) (arg7 : Memref sig .tc .vmem S1x1x1x256x1024 .bf16) (harg7 : arg7.IsWhole) (arg8 : Memref sig .tc .vmem S1x1x1x256x1024 .bf16) (harg8 : arg8.IsWhole) (arg9 : Memref sig .tc .vmem S1x1x1x256x1024 .bf16) (harg9 : arg9.IsWhole) (arg10 : Memref sig .tc .vmem S1x16x16x1024 .bf16) (harg10 : arg10.IsWhole) (arg11 : Memref sig .tc .vmem S1x16x16x1024 .bf16) (harg11 : arg11.IsWhole) (arg12 : Memref sig .tc .vmem S1x16x16x1024 .bf16) (harg12 : arg12.IsWhole) (arg13 : Memref sig .tc .vmem S1x16x16x1024 .bf16) (harg13 : arg13.IsWhole) (arg14 : Memref sig .tc .vmem S1x16x16x1024 .bf16) (harg14 : arg14.IsWhole) (arg15 : Memref sig .tc .vmem S1x1024 .f32) (harg15 : arg15.IsWhole) (arg16 : Memref sig .tc .vmem S128x128 .bf16) (harg16 : arg16.IsWhole) (arg17 : Memref sig .tc .vmem S1x16x1x16x1024 .bf16) (harg17 : arg17.IsWhole) (arg18 : Memref sig .tc .vmem S1x16x1x16x128 .f32) (harg18 : arg18.IsWhole) (arg19 : Memref sig .tc .vmem S1x4x1x64x1024 .bf16) (harg19 : arg19.IsWhole) (arg20 : Memref sig .tc .vmem S1x4x1x64x128 .f32) (harg20 : arg20.IsWhole) (arg21 : Memref sig .tc .vmem S1x1x1x256x1024 .bf16) (harg21 : arg21.IsWhole) (arg22 : Memref sig .tc .vmem S1x1x1x256x128 .f32) (harg22 : arg22.IsWhole) (arg23 : Memref sig .tc .vmem S1x16x16x1024 .bf16) (harg23 : arg23.IsWhole) (arg24 : Memref sig .tc .vmem S384x1024 .bf16) (harg24 : arg24.IsWhole) (arg25 : Memref sig .tc .vmem S384x1024 .bf16) (harg25 : arg25.IsWhole) (arg26 : Memref sig .tc .vmem S384x1024 .bf16) (harg26 : arg26.IsWhole) (arg27 : Memref sig .tc .vmem S384x1024 .bf16) (harg27 : arg27.IsWhole) (arg28 : Memref sig .tc .vmem S384x1024 .bf16) (harg28 : arg28.IsWhole) (arg29 : Memref sig .tc .vmem S384x1024 .bf16) (harg29 : arg29.IsWhole) (arg30 : Memref sig .tc .vmem S8x128x128 .f32) (harg30 : arg30.IsWhole) (hc0 : ¬cond0_0 i) (hc1 : cond0_1 i) (hc2 : ¬cond0_2 i) (hc3 : cond0_3 i) (hc4 : ¬cond0_4 i) (hc5 : cond0_5 i) (hc6 : ¬cond0_6 i)
    (x0 : Vec Ideal S1x16x1x16x1024 .bf16) (x1 : Vec Ideal S1x16x1x16x1024 .bf16) (x2 : Vec Ideal S1x16x1x16x1024 .bf16) (x3 : Vec Ideal S1x4x1x64x1024 .bf16) (x4 : Vec Ideal S1x4x1x64x1024 .bf16) (x5 : Vec Ideal S1x4x1x64x1024 .bf16) (x6 : Vec Ideal S1x1x1x256x1024 .bf16) (x7 : Vec Ideal S1x1x1x256x1024 .bf16) (x8 : Vec Ideal S1x1x1x256x1024 .bf16) (x9 : Vec Ideal S1x16x16x1024 .bf16) (x10 : Vec Ideal S1x16x16x1024 .bf16) (x11 : Vec Ideal S1x16x16x1024 .bf16) (x12 : Vec Ideal S1x16x16x1024 .bf16) (x13 : Vec Ideal S1x16x16x1024 .bf16) (x14 : Vec Ideal S1x1024 .f32) (x15 : Vec Ideal S128x128 .bf16) (xs0 : Vec Ideal S384x1024 .bf16) (xs1 : Vec Ideal S384x1024 .bf16) (xs2 : Vec Ideal S384x1024 .bf16) (xs3 : Vec Ideal S384x1024 .bf16) (xs4 : Vec Ideal S384x1024 .bf16) (xs5 : Vec Ideal S384x1024 .bf16) (xs6 : Vec Ideal S8x128x128 .f32) :
    ∃ L, sout0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs2 xs3 xs4 xs5 xs6 = View.canon (states x10 x11 x13 x15 xs6 ++ L) := by
  obtain ⟨L, hL⟩ := states_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs2 xs3 xs4 xs5 xs6
  exact ⟨L, (View.read_writes_junk_eq_canon _ _).trans (congrArg View.canon hL)⟩

/-- The output block of a point of case C. -/
theorem block_C (c : Dev nD) (i : grid0.Coords) (arg1 : Memref sig .tc .vmem S1x16x1x16x1024 .bf16) (harg1 : arg1.IsWhole) (arg2 : Memref sig .tc .vmem S1x16x1x16x1024 .bf16) (harg2 : arg2.IsWhole) (arg3 : Memref sig .tc .vmem S1x16x1x16x1024 .bf16) (harg3 : arg3.IsWhole) (arg4 : Memref sig .tc .vmem S1x4x1x64x1024 .bf16) (harg4 : arg4.IsWhole) (arg5 : Memref sig .tc .vmem S1x4x1x64x1024 .bf16) (harg5 : arg5.IsWhole) (arg6 : Memref sig .tc .vmem S1x4x1x64x1024 .bf16) (harg6 : arg6.IsWhole) (arg7 : Memref sig .tc .vmem S1x1x1x256x1024 .bf16) (harg7 : arg7.IsWhole) (arg8 : Memref sig .tc .vmem S1x1x1x256x1024 .bf16) (harg8 : arg8.IsWhole) (arg9 : Memref sig .tc .vmem S1x1x1x256x1024 .bf16) (harg9 : arg9.IsWhole) (arg10 : Memref sig .tc .vmem S1x16x16x1024 .bf16) (harg10 : arg10.IsWhole) (arg11 : Memref sig .tc .vmem S1x16x16x1024 .bf16) (harg11 : arg11.IsWhole) (arg12 : Memref sig .tc .vmem S1x16x16x1024 .bf16) (harg12 : arg12.IsWhole) (arg13 : Memref sig .tc .vmem S1x16x16x1024 .bf16) (harg13 : arg13.IsWhole) (arg14 : Memref sig .tc .vmem S1x16x16x1024 .bf16) (harg14 : arg14.IsWhole) (arg15 : Memref sig .tc .vmem S1x1024 .f32) (harg15 : arg15.IsWhole) (arg16 : Memref sig .tc .vmem S128x128 .bf16) (harg16 : arg16.IsWhole) (arg17 : Memref sig .tc .vmem S1x16x1x16x1024 .bf16) (harg17 : arg17.IsWhole) (arg18 : Memref sig .tc .vmem S1x16x1x16x128 .f32) (harg18 : arg18.IsWhole) (arg19 : Memref sig .tc .vmem S1x4x1x64x1024 .bf16) (harg19 : arg19.IsWhole) (arg20 : Memref sig .tc .vmem S1x4x1x64x128 .f32) (harg20 : arg20.IsWhole) (arg21 : Memref sig .tc .vmem S1x1x1x256x1024 .bf16) (harg21 : arg21.IsWhole) (arg22 : Memref sig .tc .vmem S1x1x1x256x128 .f32) (harg22 : arg22.IsWhole) (arg23 : Memref sig .tc .vmem S1x16x16x1024 .bf16) (harg23 : arg23.IsWhole) (arg24 : Memref sig .tc .vmem S384x1024 .bf16) (harg24 : arg24.IsWhole) (arg25 : Memref sig .tc .vmem S384x1024 .bf16) (harg25 : arg25.IsWhole) (arg26 : Memref sig .tc .vmem S384x1024 .bf16) (harg26 : arg26.IsWhole) (arg27 : Memref sig .tc .vmem S384x1024 .bf16) (harg27 : arg27.IsWhole) (arg28 : Memref sig .tc .vmem S384x1024 .bf16) (harg28 : arg28.IsWhole) (arg29 : Memref sig .tc .vmem S384x1024 .bf16) (harg29 : arg29.IsWhole) (arg30 : Memref sig .tc .vmem S8x128x128 .f32) (harg30 : arg30.IsWhole) (hc0 : ¬cond0_0 i) (hc1 : cond0_1 i) (hc2 : ¬cond0_2 i) (hc3 : cond0_3 i) (hc4 : cond0_4 i) (hc5 : ¬cond0_5 i) (hc6 : ¬cond0_6 i)
    (x0 : Vec Ideal S1x16x1x16x1024 .bf16) (x1 : Vec Ideal S1x16x1x16x1024 .bf16) (x2 : Vec Ideal S1x16x1x16x1024 .bf16) (x3 : Vec Ideal S1x4x1x64x1024 .bf16) (x4 : Vec Ideal S1x4x1x64x1024 .bf16) (x5 : Vec Ideal S1x4x1x64x1024 .bf16) (x6 : Vec Ideal S1x1x1x256x1024 .bf16) (x7 : Vec Ideal S1x1x1x256x1024 .bf16) (x8 : Vec Ideal S1x1x1x256x1024 .bf16) (x9 : Vec Ideal S1x16x16x1024 .bf16) (x10 : Vec Ideal S1x16x16x1024 .bf16) (x11 : Vec Ideal S1x16x16x1024 .bf16) (x12 : Vec Ideal S1x16x16x1024 .bf16) (x13 : Vec Ideal S1x16x16x1024 .bf16) (x14 : Vec Ideal S1x1024 .f32) (x15 : Vec Ideal S128x128 .bf16) (xs0 : Vec Ideal S384x1024 .bf16) (xs1 : Vec Ideal S384x1024 .bf16) (xs2 : Vec Ideal S384x1024 .bf16) (xs3 : Vec Ideal S384x1024 .bf16) (xs6 : Vec Ideal S8x128x128 .f32) :
    out0_C_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs2 xs3 xs6 = View.canon (outputs x9 x10 x11 x12 x13 x14 x15 xs6) :=
  (View.read_writes_junk_eq_canon _ _).trans (congrArg View.canon (outputs_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs2 xs3 xs6))

/-- The carried states after a point of case C. -/
theorem scratch_C (c : Dev nD) (i : grid0.Coords) (arg1 : Memref sig .tc .vmem S1x16x1x16x1024 .bf16) (harg1 : arg1.IsWhole) (arg2 : Memref sig .tc .vmem S1x16x1x16x1024 .bf16) (harg2 : arg2.IsWhole) (arg3 : Memref sig .tc .vmem S1x16x1x16x1024 .bf16) (harg3 : arg3.IsWhole) (arg4 : Memref sig .tc .vmem S1x4x1x64x1024 .bf16) (harg4 : arg4.IsWhole) (arg5 : Memref sig .tc .vmem S1x4x1x64x1024 .bf16) (harg5 : arg5.IsWhole) (arg6 : Memref sig .tc .vmem S1x4x1x64x1024 .bf16) (harg6 : arg6.IsWhole) (arg7 : Memref sig .tc .vmem S1x1x1x256x1024 .bf16) (harg7 : arg7.IsWhole) (arg8 : Memref sig .tc .vmem S1x1x1x256x1024 .bf16) (harg8 : arg8.IsWhole) (arg9 : Memref sig .tc .vmem S1x1x1x256x1024 .bf16) (harg9 : arg9.IsWhole) (arg10 : Memref sig .tc .vmem S1x16x16x1024 .bf16) (harg10 : arg10.IsWhole) (arg11 : Memref sig .tc .vmem S1x16x16x1024 .bf16) (harg11 : arg11.IsWhole) (arg12 : Memref sig .tc .vmem S1x16x16x1024 .bf16) (harg12 : arg12.IsWhole) (arg13 : Memref sig .tc .vmem S1x16x16x1024 .bf16) (harg13 : arg13.IsWhole) (arg14 : Memref sig .tc .vmem S1x16x16x1024 .bf16) (harg14 : arg14.IsWhole) (arg15 : Memref sig .tc .vmem S1x1024 .f32) (harg15 : arg15.IsWhole) (arg16 : Memref sig .tc .vmem S128x128 .bf16) (harg16 : arg16.IsWhole) (arg17 : Memref sig .tc .vmem S1x16x1x16x1024 .bf16) (harg17 : arg17.IsWhole) (arg18 : Memref sig .tc .vmem S1x16x1x16x128 .f32) (harg18 : arg18.IsWhole) (arg19 : Memref sig .tc .vmem S1x4x1x64x1024 .bf16) (harg19 : arg19.IsWhole) (arg20 : Memref sig .tc .vmem S1x4x1x64x128 .f32) (harg20 : arg20.IsWhole) (arg21 : Memref sig .tc .vmem S1x1x1x256x1024 .bf16) (harg21 : arg21.IsWhole) (arg22 : Memref sig .tc .vmem S1x1x1x256x128 .f32) (harg22 : arg22.IsWhole) (arg23 : Memref sig .tc .vmem S1x16x16x1024 .bf16) (harg23 : arg23.IsWhole) (arg24 : Memref sig .tc .vmem S384x1024 .bf16) (harg24 : arg24.IsWhole) (arg25 : Memref sig .tc .vmem S384x1024 .bf16) (harg25 : arg25.IsWhole) (arg26 : Memref sig .tc .vmem S384x1024 .bf16) (harg26 : arg26.IsWhole) (arg27 : Memref sig .tc .vmem S384x1024 .bf16) (harg27 : arg27.IsWhole) (arg28 : Memref sig .tc .vmem S384x1024 .bf16) (harg28 : arg28.IsWhole) (arg29 : Memref sig .tc .vmem S384x1024 .bf16) (harg29 : arg29.IsWhole) (arg30 : Memref sig .tc .vmem S8x128x128 .f32) (harg30 : arg30.IsWhole) (hc0 : ¬cond0_0 i) (hc1 : cond0_1 i) (hc2 : ¬cond0_2 i) (hc3 : cond0_3 i) (hc4 : cond0_4 i) (hc5 : ¬cond0_5 i) (hc6 : ¬cond0_6 i)
    (x0 : Vec Ideal S1x16x1x16x1024 .bf16) (x1 : Vec Ideal S1x16x1x16x1024 .bf16) (x2 : Vec Ideal S1x16x1x16x1024 .bf16) (x3 : Vec Ideal S1x4x1x64x1024 .bf16) (x4 : Vec Ideal S1x4x1x64x1024 .bf16) (x5 : Vec Ideal S1x4x1x64x1024 .bf16) (x6 : Vec Ideal S1x1x1x256x1024 .bf16) (x7 : Vec Ideal S1x1x1x256x1024 .bf16) (x8 : Vec Ideal S1x1x1x256x1024 .bf16) (x9 : Vec Ideal S1x16x16x1024 .bf16) (x10 : Vec Ideal S1x16x16x1024 .bf16) (x11 : Vec Ideal S1x16x16x1024 .bf16) (x12 : Vec Ideal S1x16x16x1024 .bf16) (x13 : Vec Ideal S1x16x16x1024 .bf16) (x14 : Vec Ideal S1x1024 .f32) (x15 : Vec Ideal S128x128 .bf16) (xs0 : Vec Ideal S384x1024 .bf16) (xs1 : Vec Ideal S384x1024 .bf16) (xs2 : Vec Ideal S384x1024 .bf16) (xs3 : Vec Ideal S384x1024 .bf16) (xs6 : Vec Ideal S8x128x128 .f32) :
    ∃ L, sout0_C_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs2 xs3 xs6 = View.canon (states x10 x11 x13 x15 xs6 ++ L) := by
  obtain ⟨L, hL⟩ := states_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs2 xs3 xs6
  exact ⟨L, (View.read_writes_junk_eq_canon _ _).trans (congrArg View.canon hL)⟩

/-- The output block of a point of case D. -/
theorem block_D (c : Dev nD) (i : grid0.Coords) (arg1 : Memref sig .tc .vmem S1x16x1x16x1024 .bf16) (harg1 : arg1.IsWhole) (arg2 : Memref sig .tc .vmem S1x16x1x16x1024 .bf16) (harg2 : arg2.IsWhole) (arg3 : Memref sig .tc .vmem S1x16x1x16x1024 .bf16) (harg3 : arg3.IsWhole) (arg4 : Memref sig .tc .vmem S1x4x1x64x1024 .bf16) (harg4 : arg4.IsWhole) (arg5 : Memref sig .tc .vmem S1x4x1x64x1024 .bf16) (harg5 : arg5.IsWhole) (arg6 : Memref sig .tc .vmem S1x4x1x64x1024 .bf16) (harg6 : arg6.IsWhole) (arg7 : Memref sig .tc .vmem S1x1x1x256x1024 .bf16) (harg7 : arg7.IsWhole) (arg8 : Memref sig .tc .vmem S1x1x1x256x1024 .bf16) (harg8 : arg8.IsWhole) (arg9 : Memref sig .tc .vmem S1x1x1x256x1024 .bf16) (harg9 : arg9.IsWhole) (arg10 : Memref sig .tc .vmem S1x16x16x1024 .bf16) (harg10 : arg10.IsWhole) (arg11 : Memref sig .tc .vmem S1x16x16x1024 .bf16) (harg11 : arg11.IsWhole) (arg12 : Memref sig .tc .vmem S1x16x16x1024 .bf16) (harg12 : arg12.IsWhole) (arg13 : Memref sig .tc .vmem S1x16x16x1024 .bf16) (harg13 : arg13.IsWhole) (arg14 : Memref sig .tc .vmem S1x16x16x1024 .bf16) (harg14 : arg14.IsWhole) (arg15 : Memref sig .tc .vmem S1x1024 .f32) (harg15 : arg15.IsWhole) (arg16 : Memref sig .tc .vmem S128x128 .bf16) (harg16 : arg16.IsWhole) (arg17 : Memref sig .tc .vmem S1x16x1x16x1024 .bf16) (harg17 : arg17.IsWhole) (arg18 : Memref sig .tc .vmem S1x16x1x16x128 .f32) (harg18 : arg18.IsWhole) (arg19 : Memref sig .tc .vmem S1x4x1x64x1024 .bf16) (harg19 : arg19.IsWhole) (arg20 : Memref sig .tc .vmem S1x4x1x64x128 .f32) (harg20 : arg20.IsWhole) (arg21 : Memref sig .tc .vmem S1x1x1x256x1024 .bf16) (harg21 : arg21.IsWhole) (arg22 : Memref sig .tc .vmem S1x1x1x256x128 .f32) (harg22 : arg22.IsWhole) (arg23 : Memref sig .tc .vmem S1x16x16x1024 .bf16) (harg23 : arg23.IsWhole) (arg24 : Memref sig .tc .vmem S384x1024 .bf16) (harg24 : arg24.IsWhole) (arg25 : Memref sig .tc .vmem S384x1024 .bf16) (harg25 : arg25.IsWhole) (arg26 : Memref sig .tc .vmem S384x1024 .bf16) (harg26 : arg26.IsWhole) (arg27 : Memref sig .tc .vmem S384x1024 .bf16) (harg27 : arg27.IsWhole) (arg28 : Memref sig .tc .vmem S384x1024 .bf16) (harg28 : arg28.IsWhole) (arg29 : Memref sig .tc .vmem S384x1024 .bf16) (harg29 : arg29.IsWhole) (arg30 : Memref sig .tc .vmem S8x128x128 .f32) (harg30 : arg30.IsWhole) (hc0 : ¬cond0_0 i) (hc1 : cond0_1 i) (hc2 : cond0_2 i) (hc3 : ¬cond0_3 i) (hc4 : cond0_4 i) (hc5 : ¬cond0_5 i) (hc6 : ¬cond0_6 i)
    (x0 : Vec Ideal S1x16x1x16x1024 .bf16) (x1 : Vec Ideal S1x16x1x16x1024 .bf16) (x2 : Vec Ideal S1x16x1x16x1024 .bf16) (x3 : Vec Ideal S1x4x1x64x1024 .bf16) (x4 : Vec Ideal S1x4x1x64x1024 .bf16) (x5 : Vec Ideal S1x4x1x64x1024 .bf16) (x6 : Vec Ideal S1x1x1x256x1024 .bf16) (x7 : Vec Ideal S1x1x1x256x1024 .bf16) (x8 : Vec Ideal S1x1x1x256x1024 .bf16) (x9 : Vec Ideal S1x16x16x1024 .bf16) (x10 : Vec Ideal S1x16x16x1024 .bf16) (x11 : Vec Ideal S1x16x16x1024 .bf16) (x12 : Vec Ideal S1x16x16x1024 .bf16) (x13 : Vec Ideal S1x16x16x1024 .bf16) (x14 : Vec Ideal S1x1024 .f32) (x15 : Vec Ideal S128x128 .bf16) (xs0 : Vec Ideal S384x1024 .bf16) (xs1 : Vec Ideal S384x1024 .bf16) (xs6 : Vec Ideal S8x128x128 .f32) :
    out0_D_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs6 = View.canon (outputs x9 x10 x11 x12 x13 x14 x15 xs6) :=
  (View.read_writes_junk_eq_canon _ _).trans (congrArg View.canon (outputs_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs6))

/-- The carried states after a point of case D. -/
theorem scratch_D (c : Dev nD) (i : grid0.Coords) (arg1 : Memref sig .tc .vmem S1x16x1x16x1024 .bf16) (harg1 : arg1.IsWhole) (arg2 : Memref sig .tc .vmem S1x16x1x16x1024 .bf16) (harg2 : arg2.IsWhole) (arg3 : Memref sig .tc .vmem S1x16x1x16x1024 .bf16) (harg3 : arg3.IsWhole) (arg4 : Memref sig .tc .vmem S1x4x1x64x1024 .bf16) (harg4 : arg4.IsWhole) (arg5 : Memref sig .tc .vmem S1x4x1x64x1024 .bf16) (harg5 : arg5.IsWhole) (arg6 : Memref sig .tc .vmem S1x4x1x64x1024 .bf16) (harg6 : arg6.IsWhole) (arg7 : Memref sig .tc .vmem S1x1x1x256x1024 .bf16) (harg7 : arg7.IsWhole) (arg8 : Memref sig .tc .vmem S1x1x1x256x1024 .bf16) (harg8 : arg8.IsWhole) (arg9 : Memref sig .tc .vmem S1x1x1x256x1024 .bf16) (harg9 : arg9.IsWhole) (arg10 : Memref sig .tc .vmem S1x16x16x1024 .bf16) (harg10 : arg10.IsWhole) (arg11 : Memref sig .tc .vmem S1x16x16x1024 .bf16) (harg11 : arg11.IsWhole) (arg12 : Memref sig .tc .vmem S1x16x16x1024 .bf16) (harg12 : arg12.IsWhole) (arg13 : Memref sig .tc .vmem S1x16x16x1024 .bf16) (harg13 : arg13.IsWhole) (arg14 : Memref sig .tc .vmem S1x16x16x1024 .bf16) (harg14 : arg14.IsWhole) (arg15 : Memref sig .tc .vmem S1x1024 .f32) (harg15 : arg15.IsWhole) (arg16 : Memref sig .tc .vmem S128x128 .bf16) (harg16 : arg16.IsWhole) (arg17 : Memref sig .tc .vmem S1x16x1x16x1024 .bf16) (harg17 : arg17.IsWhole) (arg18 : Memref sig .tc .vmem S1x16x1x16x128 .f32) (harg18 : arg18.IsWhole) (arg19 : Memref sig .tc .vmem S1x4x1x64x1024 .bf16) (harg19 : arg19.IsWhole) (arg20 : Memref sig .tc .vmem S1x4x1x64x128 .f32) (harg20 : arg20.IsWhole) (arg21 : Memref sig .tc .vmem S1x1x1x256x1024 .bf16) (harg21 : arg21.IsWhole) (arg22 : Memref sig .tc .vmem S1x1x1x256x128 .f32) (harg22 : arg22.IsWhole) (arg23 : Memref sig .tc .vmem S1x16x16x1024 .bf16) (harg23 : arg23.IsWhole) (arg24 : Memref sig .tc .vmem S384x1024 .bf16) (harg24 : arg24.IsWhole) (arg25 : Memref sig .tc .vmem S384x1024 .bf16) (harg25 : arg25.IsWhole) (arg26 : Memref sig .tc .vmem S384x1024 .bf16) (harg26 : arg26.IsWhole) (arg27 : Memref sig .tc .vmem S384x1024 .bf16) (harg27 : arg27.IsWhole) (arg28 : Memref sig .tc .vmem S384x1024 .bf16) (harg28 : arg28.IsWhole) (arg29 : Memref sig .tc .vmem S384x1024 .bf16) (harg29 : arg29.IsWhole) (arg30 : Memref sig .tc .vmem S8x128x128 .f32) (harg30 : arg30.IsWhole) (hc0 : ¬cond0_0 i) (hc1 : cond0_1 i) (hc2 : cond0_2 i) (hc3 : ¬cond0_3 i) (hc4 : cond0_4 i) (hc5 : ¬cond0_5 i) (hc6 : ¬cond0_6 i)
    (x0 : Vec Ideal S1x16x1x16x1024 .bf16) (x1 : Vec Ideal S1x16x1x16x1024 .bf16) (x2 : Vec Ideal S1x16x1x16x1024 .bf16) (x3 : Vec Ideal S1x4x1x64x1024 .bf16) (x4 : Vec Ideal S1x4x1x64x1024 .bf16) (x5 : Vec Ideal S1x4x1x64x1024 .bf16) (x6 : Vec Ideal S1x1x1x256x1024 .bf16) (x7 : Vec Ideal S1x1x1x256x1024 .bf16) (x8 : Vec Ideal S1x1x1x256x1024 .bf16) (x9 : Vec Ideal S1x16x16x1024 .bf16) (x10 : Vec Ideal S1x16x16x1024 .bf16) (x11 : Vec Ideal S1x16x16x1024 .bf16) (x12 : Vec Ideal S1x16x16x1024 .bf16) (x13 : Vec Ideal S1x16x16x1024 .bf16) (x14 : Vec Ideal S1x1024 .f32) (x15 : Vec Ideal S128x128 .bf16) (xs0 : Vec Ideal S384x1024 .bf16) (xs1 : Vec Ideal S384x1024 .bf16) (xs6 : Vec Ideal S8x128x128 .f32) :
    ∃ L, sout0_D_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs6 = View.canon (states x10 x11 x13 x15 xs6 ++ L) := by
  obtain ⟨L, hL⟩ := states_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 hc3 hc4 hc5 hc6 x0 x1 x2 x3 x4 x5 x6 x7 x8 x9 x10 x11 x12 x13 x14 x15 xs0 xs1 xs6
  exact ⟨L, (View.read_writes_junk_eq_canon _ _).trans (congrArg View.canon hL)⟩

end Cert.Hgrn
-- ==== Proof.Grid.lean ====
module

public import proofs.«01_k».proof.Proof.Reads
public import proofs.«01_k».proof.Proof.Cells
public import Idealize.ShloMosaic.Lib.Pointwise
public import Idealize.ShloMosaic.Lib.Pipeline.ValueKit

@[expose] public section
set_option backward.proofsInPublic true
set_option maxRecDepth 16384
noncomputable section
open Idealize.ShloMosaic Idealize.ShloMosaic.TcCoe Idealize.SL.Sem
open Cert.KernelIdeal Cert.KernelIdeal.Gen
namespace Cert.Hgrn

/-! The grid points in order: the carried states and the blocks written. -/

variable (m : (ℓ : Loc nD τ sig) → Buf (Elt Ideal) ℓ) (c : Dev nD)

/-- The states a point starts from: none at a batch's first point, else what the point before left. -/
def before (t : Fin cfg0.N) : Vec Ideal S8x128x128 .f32 :=
  if t.val % 32 = 0 then k0_pay13 (F := Ideal) else (outsAt0 m c (t.val - 1) (Nat.lt_of_le_of_lt (Nat.sub_le _ _) t.isLt)).2.2.2.2.2.2.2.2.2.2.2.2.2

/-- What a point leaves in its output block and in the carried scratch. -/
def Leaves (t : Fin cfg0.N) : Prop :=
  (outsAt0 m c t.val t.isLt).2.2.2.2.2.2.1 = View.canon (outputs (iblk m c 9 t) (iblk m c 10 t) (iblk m c 11 t) (iblk m c 12 t) (iblk m c 13 t) (iblk m c 14 t) (iblk m c 15 t) (before m c t))
  ∧ ∃ L, (outsAt0 m c t.val t.isLt).2.2.2.2.2.2.2.2.2.2.2.2.2 = View.canon (states (iblk m c 10 t) (iblk m c 11 t) (iblk m c 13 t) (iblk m c 15 t) (before m c t) ++ L)

theorem out_A (t : Fin cfg0.N) (h0 : t.val % 32 = 0) (h1 : ¬¬(t.val % 32 = 0)) (h2 : t.val % 8 = 0) (h3 : ¬¬(t.val % 8 = 0)) (h4 : t.val % 2 = 0) (h5 : ¬t.val % 2 = 1) (h6 : t.val % 32 = 0) :
    (outsAt0 m c t.val t.isLt).2.2.2.2.2.2.1 = out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) ((hcond0_2 t).mpr h2) (fun h => h3 ((hcond0_3 t).mp h)) ((hcond0_4 t).mpr h4) (fun h => h5 ((hcond0_5 t).mp h)) ((hcond0_6 t).mpr h6) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by
  rw [outsAt0_A m c t h0 h1 h2 h3 h4 h5 h6]

theorem sout_A (t : Fin cfg0.N) (h0 : t.val % 32 = 0) (h1 : ¬¬(t.val % 32 = 0)) (h2 : t.val % 8 = 0) (h3 : ¬¬(t.val % 8 = 0)) (h4 : t.val % 2 = 0) (h5 : ¬t.val % 2 = 1) (h6 : t.val % 32 = 0) :
    (outsAt0 m c t.val t.isLt).2.2.2.2.2.2.2.2.2.2.2.2.2 = sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) ((hcond0_2 t).mpr h2) (fun h => h3 ((hcond0_3 t).mp h)) ((hcond0_4 t).mpr h4) (fun h => h5 ((hcond0_5 t).mp h)) ((hcond0_6 t).mpr h6) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by
  rw [outsAt0_A m c t h0 h1 h2 h3 h4 h5 h6]

theorem leaves_A (t : Fin cfg0.N) (h0 : t.val % 32 = 0) (h1 : ¬¬(t.val % 32 = 0)) (h2 : t.val % 8 = 0) (h3 : ¬¬(t.val % 8 = 0)) (h4 : t.val % 2 = 0) (h5 : ¬t.val % 2 = 1) (h6 : t.val % 32 = 0) : Leaves m c t := by
  have hb : before m c t = (k0_pay13 (F := Ideal)) := if_pos h0
  rw [Leaves, hb, out_A m c t h0 h1 h2 h3 h4 h5 h6, sout_A m c t h0 h1 h2 h3 h4 h5 h6]
  exact ⟨block_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) ((hcond0_2 t).mpr h2) (fun h => h3 ((hcond0_3 t).mp h)) ((hcond0_4 t).mpr h4) (fun h => h5 ((hcond0_5 t).mp h)) ((hcond0_6 t).mpr h6) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) ((hcond0_2 t).mpr h2) (fun h => h3 ((hcond0_3 t).mp h)) ((hcond0_4 t).mpr h4) (fun h => h5 ((hcond0_5 t).mp h)) ((hcond0_6 t).mpr h6) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)⟩

theorem out_B (t : Fin cfg0.N) (h0 : ¬t.val % 32 = 0) (h1 : ¬(t.val % 32 = 0)) (h2 : ¬t.val % 8 = 0) (h3 : ¬(t.val % 8 = 0)) (h4 : ¬t.val % 2 = 0) (h5 : t.val % 2 = 1) (h6 : ¬t.val % 32 = 0) :
    (outsAt0 m c t.val t.isLt).2.2.2.2.2.2.1 = out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2 := by
  rw [outsAt0_B m c t h0 h1 h2 h3 h4 h5 h6]

theorem sout_B (t : Fin cfg0.N) (h0 : ¬t.val % 32 = 0) (h1 : ¬(t.val % 32 = 0)) (h2 : ¬t.val % 8 = 0) (h3 : ¬(t.val % 8 = 0)) (h4 : ¬t.val % 2 = 0) (h5 : t.val % 2 = 1) (h6 : ¬t.val % 32 = 0) :
    (outsAt0 m c t.val t.isLt).2.2.2.2.2.2.2.2.2.2.2.2.2 = sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2 := by
  rw [outsAt0_B m c t h0 h1 h2 h3 h4 h5 h6]

theorem leaves_B (t : Fin cfg0.N) (h0 : ¬t.val % 32 = 0) (h1 : ¬(t.val % 32 = 0)) (h2 : ¬t.val % 8 = 0) (h3 : ¬(t.val % 8 = 0)) (h4 : ¬t.val % 2 = 0) (h5 : t.val % 2 = 1) (h6 : ¬t.val % 32 = 0) : Leaves m c t := by
  have hb : before m c t = ((outsAt0 m c (t.val - 1) (Nat.lt_of_le_of_lt (Nat.sub_le _ _) t.isLt)).2.2.2.2.2.2.2.2.2.2.2.2.2) := if_neg h0
  rw [Leaves, hb, out_B m c t h0 h1 h2 h3 h4 h5 h6, sout_B m c t h0 h1 h2 h3 h4 h5 h6]
  exact ⟨block_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, scratch_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2⟩

theorem out_C (t : Fin cfg0.N) (h0 : ¬t.val % 32 = 0) (h1 : ¬(t.val % 32 = 0)) (h2 : ¬t.val % 8 = 0) (h3 : ¬(t.val % 8 = 0)) (h4 : t.val % 2 = 0) (h5 : ¬t.val % 2 = 1) (h6 : ¬t.val % 32 = 0) :
    (outsAt0 m c t.val t.isLt).2.2.2.2.2.2.1 = out0_C_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) ((hcond0_3 t).mpr h3) ((hcond0_4 t).mpr h4) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.2.2 := by
  rw [outsAt0_C m c t h0 h1 h2 h3 h4 h5 h6]

theorem sout_C (t : Fin cfg0.N) (h0 : ¬t.val % 32 = 0) (h1 : ¬(t.val % 32 = 0)) (h2 : ¬t.val % 8 = 0) (h3 : ¬(t.val % 8 = 0)) (h4 : t.val % 2 = 0) (h5 : ¬t.val % 2 = 1) (h6 : ¬t.val % 32 = 0) :
    (outsAt0 m c t.val t.isLt).2.2.2.2.2.2.2.2.2.2.2.2.2 = sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) ((hcond0_3 t).mpr h3) ((hcond0_4 t).mpr h4) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.2.2 := by
  rw [outsAt0_C m c t h0 h1 h2 h3 h4 h5 h6]

theorem leaves_C (t : Fin cfg0.N) (h0 : ¬t.val % 32 = 0) (h1 : ¬(t.val % 32 = 0)) (h2 : ¬t.val % 8 = 0) (h3 : ¬(t.val % 8 = 0)) (h4 : t.val % 2 = 0) (h5 : ¬t.val % 2 = 1) (h6 : ¬t.val % 32 = 0) : Leaves m c t := by
  have hb : before m c t = ((outsAt0 m c (t.val - 1) (Nat.lt_of_le_of_lt (Nat.sub_le _ _) t.isLt)).2.2.2.2.2.2.2.2.2.2.2.2.2) := if_neg h0
  rw [Leaves, hb, out_C m c t h0 h1 h2 h3 h4 h5 h6, sout_C m c t h0 h1 h2 h3 h4 h5 h6]
  exact ⟨block_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) ((hcond0_3 t).mpr h3) ((hcond0_4 t).mpr h4) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.2.2, scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) ((hcond0_3 t).mpr h3) ((hcond0_4 t).mpr h4) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.2.2⟩

theorem out_D (t : Fin cfg0.N) (h0 : ¬t.val % 32 = 0) (h1 : ¬(t.val % 32 = 0)) (h2 : t.val % 8 = 0) (h3 : ¬¬(t.val % 8 = 0)) (h4 : t.val % 2 = 0) (h5 : ¬t.val % 2 = 1) (h6 : ¬t.val % 32 = 0) :
    (outsAt0 m c t.val t.isLt).2.2.2.2.2.2.1 = out0_D_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) ((hcond0_2 t).mpr h2) (fun h => h3 ((hcond0_3 t).mp h)) ((hcond0_4 t).mpr h4) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.2.2.2.2 := by
  rw [outsAt0_D m c t h0 h1 h2 h3 h4 h5 h6]

theorem sout_D (t : Fin cfg0.N) (h0 : ¬t.val % 32 = 0) (h1 : ¬(t.val % 32 = 0)) (h2 : t.val % 8 = 0) (h3 : ¬¬(t.val % 8 = 0)) (h4 : t.val % 2 = 0) (h5 : ¬t.val % 2 = 1) (h6 : ¬t.val % 32 = 0) :
    (outsAt0 m c t.val t.isLt).2.2.2.2.2.2.2.2.2.2.2.2.2 = sout0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) ((hcond0_2 t).mpr h2) (fun h => h3 ((hcond0_3 t).mp h)) ((hcond0_4 t).mpr h4) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.2.2.2.2 := by
  rw [outsAt0_D m c t h0 h1 h2 h3 h4 h5 h6]

theorem leaves_D (t : Fin cfg0.N) (h0 : ¬t.val % 32 = 0) (h1 : ¬(t.val % 32 = 0)) (h2 : t.val % 8 = 0) (h3 : ¬¬(t.val % 8 = 0)) (h4 : t.val % 2 = 0) (h5 : ¬t.val % 2 = 1) (h6 : ¬t.val % 32 = 0) : Leaves m c t := by
  have hb : before m c t = ((outsAt0 m c (t.val - 1) (Nat.lt_of_le_of_lt (Nat.sub_le _ _) t.isLt)).2.2.2.2.2.2.2.2.2.2.2.2.2) := if_neg h0
  rw [Leaves, hb, out_D m c t h0 h1 h2 h3 h4 h5 h6, sout_D m c t h0 h1 h2 h3 h4 h5 h6]
  exact ⟨block_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) ((hcond0_2 t).mpr h2) (fun h => h3 ((hcond0_3 t).mp h)) ((hcond0_4 t).mpr h4) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.2.2.2.2, scratch_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) ((hcond0_2 t).mpr h2) (fun h => h3 ((hcond0_3 t).mp h)) ((hcond0_4 t).mpr h4) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.2.2.2.2⟩

theorem leaves (t : Fin cfg0.N) : Leaves m c t := by
  by_cases h0 : t.val % 32 = 0
  · exact leaves_A m c t h0 (by omega) (by omega) (by omega) (by omega) (by omega) h0
  by_cases h2 : t.val % 8 = 0
  · exact leaves_D m c t h0 (by omega) (by omega) (by omega) (by omega) (by omega) h0
  by_cases h5 : t.val % 2 = 1
  · exact leaves_B m c t h0 (by omega) (by omega) (by omega) (by omega) (by omega) h0
  · exact leaves_C m c t h0 (by omega) (by omega) (by omega) (by omega) (by omega) h0

theorem carry_zero (g k v : ℕ → Fin 1024 → ℝ) : Carry (k0_pay13 (F := Ideal)) 0 g k v := by
  intro h e d
  have e0 : k0_pay13 (F := Ideal) (ix3 h e d) = Ideal.ofBits .f32 0x00000000#32 := by
    pointwise [k0_pay13]
  rw [e0, Ideal.ofBits_zero_f32]
  rfl

section
variable (q g k v : Fin 2 → ℕ → Fin 1024 → ℝ)
  (hq : ∀ b (t : Fin 8192) (d : Fin 1024), m ((c.tc : Thread nD τ).loc main_arg0) (ix3 b t ⟨9216 + d.val, by omega⟩) = ((q b t.val d : ℝ) : EReal))
  (hg : ∀ b (t : Fin 8192) (d : Fin 1024), m ((c.tc : Thread nD τ).loc main_arg0) (ix3 b t ⟨10240 + d.val, by omega⟩) = ((g b t.val d : ℝ) : EReal))
  (hv : ∀ b (t : Fin 8192) (d : Fin 1024), m ((c.tc : Thread nD τ).loc main_arg0) (ix3 b t ⟨11264 + d.val, by omega⟩) = ((v b t.val d : ℝ) : EReal))
  (hk : ∀ b (t : Fin 8192) (d : Fin 1024), m ((c.tc : Thread nD τ).loc main_arg1) (ix3 b t d) = ((k b t.val d : ℝ) : EReal))

/-- The batch of a grid point. -/
def batch (t : Fin cfg0.N) : Fin 2 := ⟨t.val / 32, by have := points t; omega⟩

include hq in
theorem rows_q (t : Fin cfg0.N) : Rows (iblk m c 9 t) (256 * (t.val % 32)) (q (batch t)) := fun r s d =>
  (block9 m c t r s d).trans (hq _ _ _)

include hg in
theorem rows_g (t : Fin cfg0.N) : Rows (iblk m c 10 t) (256 * (t.val % 32)) (g (batch t)) := fun r s d =>
  (block10 m c t r s d).trans (hg _ _ _)

include hv in
theorem rows_v (t : Fin cfg0.N) : Rows (iblk m c 11 t) (256 * (t.val % 32)) (v (batch t)) := fun r s d =>
  (block11 m c t r s d).trans (hv _ _ _)

include hk in
theorem rows_k (t : Fin cfg0.N) : Rows (iblk m c 13 t) (256 * (t.val % 32)) (k (batch t)) := fun r s d =>
  (block13 m c t r s d).trans (hk _ _ _)

include hg hv hk in
theorem carried : ∀ (n : ℕ) (hn : n < cfg0.N),
    Carry (before m c ⟨n, hn⟩) (256 * (n % 32)) (g (batch ⟨n, hn⟩)) (k (batch ⟨n, hn⟩)) (v (batch ⟨n, hn⟩))
  | 0, hn => by
    rw [show before m c ⟨0, hn⟩ = k0_pay13 (F := Ideal) from if_pos rfl]
    exact carry_zero _ _ _
  | n + 1, hn => by
    by_cases h0 : (n + 1) % 32 = 0
    · rw [show before m c ⟨n + 1, hn⟩ = k0_pay13 (F := Ideal) from if_pos h0, h0]
      exact carry_zero _ _ _
    · have hn' : n < cfg0.N := Nat.lt_of_succ_lt hn
      obtain ⟨-, L, hL⟩ := leaves m c ⟨n, hn'⟩
      have hp : before m c ⟨n + 1, hn⟩ = (outsAt0 m c n hn').2.2.2.2.2.2.2.2.2.2.2.2.2 := if_neg h0
      have hc := carry_next (iblk m c 10 ⟨n, hn'⟩) (iblk m c 11 ⟨n, hn'⟩) (iblk m c 13 ⟨n, hn'⟩) (iblk m c 15 ⟨n, hn'⟩)
        (before m c ⟨n, hn'⟩) _ _ _ _ (rows_g m c g hg ⟨n, hn'⟩) (rows_v m c v hv ⟨n, hn'⟩) (rows_k m c k hk ⟨n, hn'⟩)
        (block15 m c ⟨n, hn'⟩) (carried n hn') L
      rw [← hL] at hc
      rw [hp, show batch ⟨n + 1, hn⟩ = batch ⟨n, hn'⟩ from Fin.ext (by simp only [batch]; omega),
        show 256 * ((n + 1) % 32) = 256 * (n % 32) + 256 by omega]
      exact hc

include hq hg hv hk in
/-- What a point leaves in its output block. -/
theorem written (t : Fin cfg0.N) (h : Fin 8) (r s : Fin 16) (e : Fin 128) :
    (outsAt0 m c t.val t.isLt).2.2.2.2.2.2.1 (ix4 0 r s ⟨128 * h.val + e.val, by omega⟩)
      = scaled (tokenRow (q (batch t)) (g (batch t)) (k (batch t)) (v (batch t)) h
            (256 * (t.val % 32) + (16 * s.val + r.val)))
          (m ((c.tc : Thread nD τ).loc main_arg2) (ix2 0 ⟨128 * h.val + e.val, by omega⟩))
          (m ((c.tc : Thread nD τ).loc main_arg0) (ix3 (batch t) ⟨256 * (t.val % 32) + (16 * s.val + r.val), by omega⟩
            ⟨12288 + (128 * h.val + e.val), by omega⟩)) e := by
  rw [(leaves m c t).1]
  refine (canon_outputs (iblk m c 9 t) (iblk m c 10 t) (iblk m c 11 t) (iblk m c 12 t) (iblk m c 13 t) (iblk m c 14 t)
    (iblk m c 15 t) (before m c t) _ _ _ _ _ (rows_q m c q hq t) (rows_g m c g hg t) (rows_v m c v hv t)
    (rows_k m c k hk t) (block15 m c t) (carried m c g k v hg hv hk t.val t.isLt) h r s e).trans ?_
  rw [block12 m c t, block14 m c t]
  rfl

end
end Cert.Hgrn
-- ==== Proof.Final.lean ====
module

public import proofs.«01_k».proof.Proof.Grid
public import Idealize.ShloMosaic.Lib.Pipeline.Value
public import Idealize.ShloMosaic.Lib.Pointwise
public import Idealize.ShloMosaic.Lib.Pipeline.ValueKit

@[expose] public section
set_option backward.proofsInPublic true
set_option maxRecDepth 16384
noncomputable section
open Idealize.ShloMosaic Idealize.ShloMosaic.TcCoe Idealize.SL.Sem
open Cert.KernelIdeal Cert.KernelIdeal.Gen
namespace Cert.Hgrn

/-! The result array after the run, block by block. -/

variable (m : (ℓ : Loc nD τ sig) → Buf (Elt Ideal) ℓ) (ρ : Dev nD → PrngReg) (c : Dev nD)
variable (q g k v : Fin 2 → ℕ → Fin 1024 → ℝ)
  (hq : ∀ b (t : Fin 8192) (d : Fin 1024), m ((c.tc : Thread nD τ).loc main_arg0) (ix3 b t ⟨9216 + d.val, by omega⟩) = ((q b t.val d : ℝ) : EReal))
  (hg : ∀ b (t : Fin 8192) (d : Fin 1024), m ((c.tc : Thread nD τ).loc main_arg0) (ix3 b t ⟨10240 + d.val, by omega⟩) = ((g b t.val d : ℝ) : EReal))
  (hv : ∀ b (t : Fin 8192) (d : Fin 1024), m ((c.tc : Thread nD τ).loc main_arg0) (ix3 b t ⟨11264 + d.val, by omega⟩) = ((v b t.val d : ℝ) : EReal))
  (hk : ∀ b (t : Fin 8192) (d : Fin 1024), m ((c.tc : Thread nD τ).loc main_arg1) (ix3 b t d) = ((k b t.val d : ℝ) : EReal))

/-- The result at batch `b`, row `r` of segment `s`, column `j`. -/
def cellOf (b : Fin 2) (r : Fin 16) (s : Fin 512) (j : Fin 1024) : EReal :=
  scaled (tokenRow (q b) (g b) (k b) (v b) ⟨j.val / 128, by omega⟩ (16 * s.val + r.val))
    (m ((c.tc : Thread nD τ).loc main_arg2) (ix2 0 j))
    (m ((c.tc : Thread nD τ).loc main_arg0) (ix3 b ⟨16 * s.val + r.val, by omega⟩ ⟨12288 + j.val, by omega⟩))
    ⟨j.val % 128, by omega⟩

/-- The result array. -/
def resultOf : Buf (Elt Ideal) ((c.tc : Thread nD τ).loc main_v7_6) :=
  fun i : S2x16x512x1024.Idx => cellOf m c q g k v (i 0) (i 1) (i 2) (i 3)

include hq hg hv hk in
theorem written_at (t : Fin cfg0.N) (r s : Fin 16) (j : Fin 1024) :
    (outsAt0 m c t.val t.isLt).2.2.2.2.2.2.1 (ix4 0 r s j)
      = cellOf m c q g k v (batch t) r ⟨16 * (t.val % 32) + s.val, by omega⟩ j := by
  have e := written m c q g k v hq hg hv hk t ⟨j.val / 128, by omega⟩ r s ⟨j.val % 128, by omega⟩
  have hj : 128 * (j.val / 128) + j.val % 128 = j.val := by omega
  have hn : 256 * (t.val % 32) + (16 * s.val + r.val) = 16 * (16 * (t.val % 32) + s.val) + r.val := by omega
  simp only [hj, hn] at e
  exact e

theorem index22 : ∀ t : Fin cfg0.N, win0_22.index t (0 : Fin 4) = t.val / 32 ∧ win0_22.index t (1 : Fin 4) = 0
    ∧ win0_22.index t (2 : Fin 4) = t.val % 32 ∧ win0_22.index t (3 : Fin 4) = 0 :=
  (by decide +kernel : ∀ t : Fin grid0.N, _)

theorem flushes22 : ∀ t : Fin cfg0.N, (cfg0.win 22).flush t = true :=
  (by decide +kernel : ∀ t : Fin grid0.N, win0_22.flush t = true)

include hq hg hv hk in
/-- What a point writes back is its block of the result. -/
theorem flushed_block (t : Fin cfg0.N) :
    (dats m 0 c).flushed 22 t = ((cfg0.win 22).blk t).view.read (Elt Ideal) (resultOf m c q g k v) := by
  show (cfg0.win 22).cut (grid0.coords t) ((dats m 0 c).after 22 t) = _
  rw [after0_22]
  have ht := points t
  obtain ⟨e0, e1, e2, e3⟩ := index22 t
  funext y
  have hy0 : (y 0).val < 1 := (y 0).isLt
  have hy1 : (y 1).val < 16 := (y 1).isLt
  have hy2 : (y 2).val < 16 := (y 2).isLt
  have hy3 : (y 3).val < 1024 := (y 3).isLt
  have hx : (cfg0.win 22).xinj (grid0.coords t) y
      = ix4 (n0 := 1) (n1 := 16) (n2 := 16) (n3 := 1024) 0 ⟨(y 1).val, hy1⟩ ⟨(y 2).val, hy2⟩ ⟨(y 3).val, hy3⟩ := by
    funext a; apply Fin.ext
    match a with
    | ⟨0, _⟩ => show (y 0).val = 0; omega
    | ⟨1, _⟩ => rfl
    | ⟨2, _⟩ => rfl
    | ⟨3, _⟩ => rfl
  have he : ((cfg0.win 22).blk t).view.emb y = ix4 (n0 := 2) (n1 := 16) (n2 := 512) (n3 := 1024) (batch t) ⟨(y 1).val, hy1⟩
      ⟨16 * (t.val % 32) + (y 2).val, by omega⟩ ⟨(y 3).val, hy3⟩ := by
    funext a; apply Fin.ext
    match a with
    | ⟨0, _⟩ => show win0_22.index t (0 : Fin 4) * 1 + 1 * (y 0).val = t.val / 32; omega
    | ⟨1, _⟩ => show win0_22.index t (1 : Fin 4) * 16 + 1 * (y 1).val = (y 1).val; omega
    | ⟨2, _⟩ => show win0_22.index t (2 : Fin 4) * 16 + 1 * (y 2).val = 16 * (t.val % 32) + (y 2).val; omega
    | ⟨3, _⟩ => show win0_22.index t (3 : Fin 4) * 1024 + 1 * (y 3).val = (y 3).val; omega
  show (outsAt0 m c t.val t.isLt).2.2.2.2.2.2.1 ((cfg0.win 22).xinj (grid0.coords t) y)
    = resultOf m c q g k v (((cfg0.win 22).blk t).view.emb y)
  rw [hx, he]
  exact written_at m c q g k v hq hg hv hk t _ _ _

/-- The point whose block holds an index of the result. -/
theorem covered22 (i : S2x16x512x1024.Idx) :
    ∃ t : Fin cfg0.N, (cfg0.win 22).flush t = true ∧ i ∈ ((cfg0.win 22).blk t).view.set := by
  have h0 : (i 0).val < 2 := (i 0).isLt
  have h1 : (i 1).val < 16 := (i 1).isLt
  have h2 : (i 2).val < 512 := (i 2).isLt
  have h3 : (i 3).val < 1024 := (i 3).isLt
  have hN : 32 * (i 0).val + (i 2).val / 16 < cfg0.N := lt_of_lt_of_eq (by omega) N_0.symm
  obtain ⟨t, ht⟩ : ∃ t : Fin cfg0.N, t.val = 32 * (i 0).val + (i 2).val / 16 := ⟨⟨_, hN⟩, rfl⟩
  refine ⟨t, flushes22 t, ?_⟩
  obtain ⟨e0, e1, e2, e3⟩ := index22 t
  show i ∈ ((View.whole main_v7_6).slice (win0_22.rect t)).set
  rw [View.set_slice_whole, Rect.mem_set_unit]
  intro a
  match a with
  | ⟨0, _⟩ => show win0_22.index t (0 : Fin 4) * 1 ≤ (i 0).val ∧ (i 0).val < win0_22.index t (0 : Fin 4) * 1 + 1; omega
  | ⟨1, _⟩ => show win0_22.index t (1 : Fin 4) * 16 ≤ (i 1).val ∧ (i 1).val < win0_22.index t (1 : Fin 4) * 16 + 16; omega
  | ⟨2, _⟩ => show win0_22.index t (2 : Fin 4) * 16 ≤ (i 2).val ∧ (i 2).val < win0_22.index t (2 : Fin 4) * 16 + 16; omega
  | ⟨3, _⟩ => show win0_22.index t (3 : Fin 4) * 1024 ≤ (i 3).val ∧ (i 3).val < win0_22.index t (3 : Fin 4) * 1024 + 1024; omega

include hq hg hv hk in
theorem result_array : (dats m 0 c).arrAt 22 cfg0.N = resultOf m c q g k v :=
  (dats m 0 c).arrAt_eq_of_cover 22 _ (fun t _ => flushed_block m c q g k v hq hg hv hk t) (fun i => covered22 i)

/-- The run, with the result array named. -/
theorem run_result (R : (c : Dev nD) → Buf (Elt Ideal) ((c.tc : Thread nD τ).loc main_v7_6))
    (hR : ∀ c, (dats m 0 c).arrAt 22 cfg0.N = R c) :
    θ_run defs (onTc (τ := τ) (main (F := Ideal))) ⟨m, fun _ => 0, ρ⟩ fun r => ∀ c : Dev nD,
      r.2.mem ((c.tc : Thread nD τ).loc main_v7_6) = R c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 22).trans (hR c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 14).trans (((dats m 0 c).arrAt_in 14 rfl _).trans ((A_eq m c 14).trans (V_main_arg2 m c)))⟩)
    (run_main m ρ)

end Cert.Hgrn
-- ==== Proof.RefValue.lean ====
module

public import proofs.«01_k».proof.Proof.Gen.ReferenceIdeal.Run
public import proofs.«01_k».proof.Proof.Chunk
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
open Idealize.ShloMosaic.StableHlo
open Cert.ReferenceIdeal Cert.ReferenceIdeal.Gen Cert.ReferenceIdeal.Value
namespace Cert.Hgrn

/-! The reference: the recurrence token by token. -/

/-- One head's lanes of one batch's rows. -/
def hd (x : Fin 2 → ℕ → Fin 1024 → ℝ) (b : Fin 2) (h : Fin 8) (t : ℕ) (d : Fin 128) : ℝ :=
  x b t ⟨128 * h.val + d.val, by omega⟩

theorem start_val (k : ℕ) (hk : k < 8192) : (BitVec.ofNat 32 k).toInt = (k : ℤ) := by
  rw [BitVec.toInt_ofNat']
  norm_num [Int.bmod]
  omega

/-- Where a trip's slices start. -/
def starts (n : (⟨S_, .i32⟩ : BufTy).Contents (Elt Ideal)) : Fin 4 → ℤ :=
  fun k => (((![n, constantI S_ 32 0#32, constantI S_ 32 0#32, constantI S_ 32 0#32] : Fin 4 → (⟨S_, .i32⟩ : BufTy).Contents (Elt Ideal))) k (Shape.Idx.first h_S_)).toInt

theorem clamp_at (n : (⟨S_, .i32⟩ : BufTy).Contents (Elt Ideal)) (k : Fin 8192)
    (hn : n = fun _ => BitVec.ofNat 32 k.val) (hs : S1x2x8x128.rank = S8192x2x8x128.rank) :
    Host.clampedStart S8192x2x8x128 S1x2x8x128 hs (starts n) = ![k.val, 0, 0, 0] := by
  subst hn
  have hk := start_val k.val k.isLt
  funext a
  fin_cases a
  · show (min (max (BitVec.ofNat 32 k.val).toInt 0) ((8192 - 1 : ℕ) : ℤ)).toNat = k.val
    rw [hk]; omega
  · rfl
  · rfl
  · rfl

/-- The slice that a trip takes of an array over all tokens: its own token's. -/
def tok (x : FVec Ideal S8192x2x8x128 .f32) (n : (⟨S_, .i32⟩ : BufTy).Contents (Elt Ideal)) : FVec Ideal S2x8x128 .f32 :=
  shapeCast S2x8x128 (Host.dynamicSlice S1x2x8x128 x (starts n) sliceFits_S8192x2x8x128_S1x2x8x128)
    shapeCasts_S1x2x8x128_S2x8x128

theorem tok_at (x : FVec Ideal S8192x2x8x128 .f32) (n : (⟨S_, .i32⟩ : BufTy).Contents (Elt Ideal)) (k : Fin 8192)
    (hn : n = fun _ => BitVec.ofNat 32 k.val) (b : Fin 2) (h : Fin 8) (d : Fin 128) :
    tok x n (ix3 b h d) = x (ix4 k b h d) := by
  have hc := clamp_at n k hn rfl
  pointwise [tok]
  congr 1
  funext a
  apply Fin.ext
  fin_cases a
  · show Host.clampedStart S8192x2x8x128 S1x2x8x128 rfl (starts n) 0 + 0 = k.val
    rw [hc]; rfl
  · show Host.clampedStart S8192x2x8x128 S1x2x8x128 rfl (starts n) 1 + b.val = b.val
    rw [hc]; exact Nat.zero_add _
  · show Host.clampedStart S8192x2x8x128 S1x2x8x128 rfl (starts n) 2 + h.val = h.val
    rw [hc]; exact Nat.zero_add _
  · show Host.clampedStart S8192x2x8x128 S1x2x8x128 rfl (starts n) 3 + d.val = d.val
    rw [hc]; exact Nat.zero_add _

/-- The state after one token. -/
def nextState (g k v : FVec Ideal S2x8x128 .f32) (st : FVec Ideal S2x8x128x128 .f32) : FVec Ideal S2x8x128x128 .f32 :=
  addf (mulf (broadcastInDim S2x8x128x128 ![0, 1, 2, 3] bcast_S2x8x128x1_S2x8x128x128_0_1_2_3 (broadcastInDim S2x8x128x1 ![0, 1, 2] bcast_S2x8x128_S2x8x128x1_0_1_2 (Host.exp g))) st)
    (mulf (broadcastInDim S2x8x128x128 ![0, 1, 2, 3] bcast_S2x8x128x1_S2x8x128x128_0_1_2_3 (broadcastInDim S2x8x128x1 ![0, 1, 2] bcast_S2x8x128_S2x8x128x1_0_1_2 k))
      (broadcastInDim S2x8x128x128 ![0, 1, 2, 3] bcast_S2x8x1x128_S2x8x128x128_0_1_2_3 (broadcastInDim S2x8x1x128 ![0, 1, 3] bcast_S2x8x128_S2x8x1x128_0_1_3 v)))

theorem nextState_at (g k v : FVec Ideal S2x8x128 .f32) (st : FVec Ideal S2x8x128x128 .f32)
    (b : Fin 2) (h : Fin 8) (d e : Fin 128) :
    nextState g k v st (ix4 b h d e)
      = Ideal.exp (g (ix3 b h d)) * st (ix4 b h d e) + k (ix3 b h d) * v (ix3 b h e) := by
  pointwise [nextState]

/-- The token's output: the query's product with the state. -/
def outTok (q : FVec Ideal S2x8x128 .f32) (st : FVec Ideal S2x8x128x128 .f32) : FVec Ideal S1x2x8x128 .f32 :=
  broadcastInDim S1x2x8x128 ![1, 2, 3] bcast_S2x8x128_S1x2x8x128_1_2_3
    (Host.dotGeneral dot_S2x8x128_S2x8x128x128_S2x8x128_2_2_n_3_01_01 none q st)

theorem outTok_at (q : FVec Ideal S2x8x128 .f32) (st : FVec Ideal S2x8x128x128 .f32) (a : Fin 1)
    (b : Fin 2) (h : Fin 8) (e : Fin 128) :
    outTok q st (ix4 a b h e) = ∑ d : Fin 128, q (ix3 b h d) * st (ix4 b h d e) := by
  pointwise [outTok]

/-- The outputs with one token's row put in. -/
def putTok (x : FVec Ideal S8192x2x8x128 .f32) (n : (⟨S_, .i32⟩ : BufTy).Contents (Elt Ideal)) (u : FVec Ideal S1x2x8x128 .f32) :
    Vec Ideal S8192x2x8x128 .f32 :=
  Host.dynamicUpdateSlice x u (starts n) updateFits_S8192x2x8x128_S1x2x8x128

theorem putTok_at (x : FVec Ideal S8192x2x8x128 .f32) (n : (⟨S_, .i32⟩ : BufTy).Contents (Elt Ideal)) (u : FVec Ideal S1x2x8x128 .f32)
    (k : Fin 8192) (hn : n = fun _ => BitVec.ofNat 32 k.val) (t : Fin 8192) (b : Fin 2) (h : Fin 8) (e : Fin 128) :
    putTok x n u (ix4 t b h e) = if t = k then u (ix4 0 b h e) else x (ix4 t b h e) := by
  have hc := clamp_at n k hn rfl
  have c0 := congrFun hc 0
  have c1 := congrFun hc 1
  have c2 := congrFun hc 2
  have c3 := congrFun hc 3
  pointwise [putTok]
  have d0 : Host.clampedStart S8192x2x8x128 S1x2x8x128 rfl (starts n) 0 = k.val := c0
  have d1 : Host.clampedStart S8192x2x8x128 S1x2x8x128 rfl (starts n) 1 = 0 := c1
  have d2 : Host.clampedStart S8192x2x8x128 S1x2x8x128 rfl (starts n) 2 = 0 := c2
  have d3 : Host.clampedStart S8192x2x8x128 S1x2x8x128 rfl (starts n) 3 = 0 := c3
  by_cases htk : t = k
  · rw [if_pos htk, dif_pos (by rw [d0, d1, d2, d3, htk]; omega)]
    congr 2
    · apply Fin.ext; show t.val - _ = 0; rw [d0, htk]; exact Nat.sub_self _
  · have : t.val ≠ k.val := fun h => htk (Fin.ext h)
    rw [if_neg htk, dif_neg (by rw [d0, d1, d2, d3]; omega)]

/-- What the loop's buffers hold before trip `k`: the operands' lanes, the count, the state and the outputs of the
    tokens before `k`. -/
structure Inv (q g kk v : Fin 2 → ℕ → Fin 1024 → ℝ) (k : ℕ) (V : Valuation τ sig (Elt Ideal)) : Prop where
  query : ∀ (t : Fin 8192) (b : Fin 2) (h : Fin 8) (d : Fin 128),
    V (Proc.devRef .tc main_v17_0) (ix4 t b h d) = ((hd q b h t.val d : ℝ) : EReal)
  gate : ∀ (t : Fin 8192) (b : Fin 2) (h : Fin 8) (d : Fin 128),
    V (Proc.devRef .tc main_v17_1) (ix4 t b h d) = ((hd g b h t.val d : ℝ) : EReal)
  key : ∀ (t : Fin 8192) (b : Fin 2) (h : Fin 8) (d : Fin 128),
    V (Proc.devRef .tc main_v17_2) (ix4 t b h d) = ((hd kk b h t.val d : ℝ) : EReal)
  value : ∀ (t : Fin 8192) (b : Fin 2) (h : Fin 8) (d : Fin 128),
    V (Proc.devRef .tc main_v17_3) (ix4 t b h d) = ((hd v b h t.val d : ℝ) : EReal)
  count : V (Proc.devRef .tc main_v17_4) = fun _ => BitVec.ofNat 32 k
  state : ∀ (b : Fin 2) (h : Fin 8) (d e : Fin 128),
    V (Proc.devRef .tc main_v17_5) (ix4 b h d e) = ((St (hd g b h) (hd kk b h) (hd v b h) k d e : ℝ) : EReal)
  out : ∀ (t : Fin 8192) (b : Fin 2) (h : Fin 8) (e : Fin 128), t.val < k →
    V (Proc.devRef .tc main_v17_6) (ix4 t b h e)
      = ((∑ d, hd q b h t.val d * St (hd g b h) (hd kk b h) (hd v b h) (t.val + 1) d e : ℝ) : EReal)

variable {q g kk v : Fin 2 → ℕ → Fin 1024 → ℝ}

theorem state_step {k : ℕ} (hk : k < 8192) {V : Valuation τ sig (Elt Ideal)} (H : Inv q g kk v k V)
    (b : Fin 2) (h : Fin 8) (d e : Fin 128) :
    res_main_while0b_v53 V (ix4 b h d e)
      = ((St (hd g b h) (hd kk b h) (hd v b h) (k + 1) d e : ℝ) : EReal) := by
  have e0 : res_main_while0b_v53 V = nextState (tok (V (Proc.devRef .tc main_v17_1)) (V (Proc.devRef .tc main_v17_4)))
      (tok (V (Proc.devRef .tc main_v17_2)) (V (Proc.devRef .tc main_v17_4)))
      (tok (V (Proc.devRef .tc main_v17_3)) (V (Proc.devRef .tc main_v17_4))) (V (Proc.devRef .tc main_v17_5)) := rfl
  rw [e0, nextState_at, tok_at _ _ ⟨k, hk⟩ H.count, tok_at _ _ ⟨k, hk⟩ H.count, tok_at _ _ ⟨k, hk⟩ H.count]
  rw [H.gate, H.key, H.value, H.state]
  simp only [St, EReal.coe_add, EReal.coe_mul]
  rfl

theorem inv_step {k : ℕ} (hk : k < 8192) {V : Valuation τ sig (Elt Ideal)} (H : Inv q g kk v k V) :
    Inv q g kk v (k + 1) (STEP V) where
  query := by rw [STEP_main_v17_0]; exact H.query
  gate := by rw [STEP_main_v17_1]; exact H.gate
  key := by rw [STEP_main_v17_2]; exact H.key
  value := by rw [STEP_main_v17_3]; exact H.value
  count := by
    rw [STEP_main_v17_4, step_main_v17_4, H.count]
    funext i
    show BitVec.ofNat 32 k + 1#32 = _
    rw [BitVec.ofNat_add]
  state b h d e := by
    rw [STEP_main_v17_5]
    exact state_step hk H b h d e
  out t b h e ht := by
    rw [STEP_main_v17_6]
    have e0 : step_main_v17_6 V = putTok (V (Proc.devRef .tc main_v17_6)) (V (Proc.devRef .tc main_v17_4))
        (outTok (tok (V (Proc.devRef .tc main_v17_0)) (V (Proc.devRef .tc main_v17_4))) (res_main_while0b_v53 V)) := rfl
    rw [e0, putTok_at _ _ _ ⟨k, hk⟩ H.count]
    by_cases htk : t = ⟨k, hk⟩
    · rw [if_pos htk, outTok_at]
      subst htk
      have e1 : ∀ d : Fin 128, (tok (V (Proc.devRef .tc main_v17_0)) (V (Proc.devRef .tc main_v17_4)) (ix3 b h d) : EReal)
          * res_main_while0b_v53 V (ix4 b h d e)
          = ((hd q b h k d * St (hd g b h) (hd kk b h) (hd v b h) (k + 1) d e : ℝ) : EReal) := fun d => by
        rw [tok_at _ _ ⟨k, hk⟩ H.count, H.query, state_step hk H]
        exact (EReal.coe_mul _ _).symm
      rw [Finset.sum_congr rfl fun d _ => e1 d]
      exact (coe_sum Finset.univ fun d : Fin 128 => hd q b h k d * St (hd g b h) (hd kk b h) (hd v b h) (k + 1) d e).symm
    · rw [if_neg htk]
      exact H.out t b h e (by have : t.val ≠ k := fun h => htk (Fin.ext h); omega)

theorem inv_iter {V : Valuation τ sig (Elt Ideal)} (H : Inv q g kk v 0 V) : ∀ k, k ≤ 8192 →
    Inv q g kk v k (STEP^[k] V)
  | 0, _ => H
  | k + 1, hk => by
    rw [Function.iterate_succ_apply']
    exact inv_step (by omega) (inv_iter H k (by omega))

/-- The heads of an array, token by token. -/
def heads (x : FVec Ideal S2x8192x1024 .f32) : FVec Ideal S8192x2x8x128 .f32 :=
  transpose S8192x2x8x128 [1, 0, 2, 3] (shapeCast S2x8192x8x128 x shapeCasts_S2x8192x1024_S2x8192x8x128)
    transposes_S2x8192x8x128_S8192x2x8x128_1_0_2_3

theorem heads_at (x : FVec Ideal S2x8192x1024 .f32) (t : Fin 8192) (b : Fin 2) (h : Fin 8) (d : Fin 128) :
    heads x (ix4 t b h d) = x (ix3 b t ⟨128 * h.val + d.val, by omega⟩) := by
  pointwise [heads]
  congr 2
  apply Fin.ext
  show h.val * 128 + d.val = 128 * h.val + d.val
  omega

/-- Columns of the projections. -/
def cols (o : ℕ) (ho : S2x8192x17408.Slices ![0, 0, o] S2x8192x1024) (x : FVec Ideal S2x8192x17408 .bf16) :
    FVec Ideal S2x8192x1024 .f32 :=
  extf .f32 (extractStridedSlice S2x8192x1024 ![0, 0, o] x ho) bitsLt_bf16_f32

theorem cols_at (o : ℕ) (ho) (x : FVec Ideal S2x8192x17408 .bf16) (b : Fin 2) (t : Fin 8192) (d : Fin 1024)
    (hd : o + d.val < 17408) : cols o ho x (ix3 b t d) = x (ix3 b t ⟨o + d.val, hd⟩) := by
  pointwise [cols]

variable (m : (ℓ : Loc nD τ sig) → ℓ.ty.Contents (Elt Ideal)) (c : Dev nD)

/-- What the loop starts from. -/
theorem inv_entry
    (hq : ∀ b (t : Fin 8192) (d : Fin 1024), m ((c.tc : Thread nD τ).loc main_arg0) (ix3 b t ⟨9216 + d.val, by omega⟩) = ((q b t.val d : ℝ) : EReal))
    (hg : ∀ b (t : Fin 8192) (d : Fin 1024), m ((c.tc : Thread nD τ).loc main_arg0) (ix3 b t ⟨10240 + d.val, by omega⟩) = ((g b t.val d : ℝ) : EReal))
    (hv : ∀ b (t : Fin 8192) (d : Fin 1024), m ((c.tc : Thread nD τ).loc main_arg0) (ix3 b t ⟨11264 + d.val, by omega⟩) = ((v b t.val d : ℝ) : EReal))
    (hk : ∀ b (t : Fin 8192) (d : Fin 1024), m ((c.tc : Thread nD τ).loc main_arg1) (ix3 b t d) = ((kk b t.val d : ℝ) : EReal)) :
    Inv q g kk v 0 (entryContents preI m c) := by
  refine ⟨?_, ?_, ?_, ?_, ?_, ?_, ?_⟩
  · intro t b h d
    have e0 : entryContents preI m c (Proc.devRef .tc main_v17_0)
        = heads (cols 9216 slices_S2x8192x17408_S2x8192x1024_0_0_9216 (m ((c.tc : Thread nD τ).loc main_arg0))) := by
      simp only [entryContents, afterL_cons, afterL_nil]; after_reads_simp; rfl
    rw [e0, heads_at, cols_at _ _ _ _ _ _ (by simp only []; omega)]
    exact hq b t _
  · intro t b h d
    have e0 : entryContents preI m c (Proc.devRef .tc main_v17_1)
        = heads (cols 10240 slices_S2x8192x17408_S2x8192x1024_0_0_10240 (m ((c.tc : Thread nD τ).loc main_arg0))) := by
      simp only [entryContents, afterL_cons, afterL_nil]; after_reads_simp; rfl
    rw [e0, heads_at, cols_at _ _ _ _ _ _ (by simp only []; omega)]
    exact hg b t _
  · intro t b h d
    have e0 : entryContents preI m c (Proc.devRef .tc main_v17_2)
        = heads (extf .f32 (m ((c.tc : Thread nD τ).loc main_arg1) : FVec Ideal S2x8192x1024 .bf16) bitsLt_bf16_f32) := by
      simp only [entryContents, afterL_cons, afterL_nil]; after_reads_simp; rfl
    rw [e0, heads_at]
    exact hk b t _
  · intro t b h d
    have e0 : entryContents preI m c (Proc.devRef .tc main_v17_3)
        = heads (cols 11264 slices_S2x8192x17408_S2x8192x1024_0_0_11264 (m ((c.tc : Thread nD τ).loc main_arg0))) := by
      simp only [entryContents, afterL_cons, afterL_nil]; after_reads_simp; rfl
    rw [e0, heads_at, cols_at _ _ _ _ _ _ (by simp only []; omega)]
    exact hv b t _
  · exact ctr_entry m c
  · intro b h d e
    simp only [entryContents, afterL_cons, afterL_nil]; after_reads_simp
    show id (broadcastInDim S2x8x128x128 ![] bcast_S_S2x8x128x128 (constant S_ .f32 0x00000000#32)) (ix4 b h d e) = _
    pointwise
    exact Ideal.ofBits_zero_f32
  · intro t b h e ht
    omega

/-- What is made of one row of one head at the end: divided by its root mean square, times the gain and the gate. -/
def normed (o : Fin 128 → EReal) (gain gate : EReal) (e : Fin 128) : EReal :=
  o e * FloatOps.rsqrt (F := Ideal) (φ := .f32) (Ideal.div (∑ x, o x * o x)
    (Ideal.ofBits .f32 0x43000000#32) + Ideal.ofBits .f32 0x358637BD#32) * gain * gate

/-- The output's row at token `t` of head `h`. -/
def outRow (q g kk v : Fin 2 → ℕ → Fin 1024 → ℝ) (b : Fin 2) (h : Fin 8) (t : ℕ) (e : Fin 128) : EReal :=
  ((∑ d, hd q b h t d * St (hd g b h) (hd kk b h) (hd v b h) (t + 1) d e : ℝ) : EReal)

theorem out_at {V : Valuation τ sig (Elt Ideal)} (H : Inv q g kk v 8192 V) (b : Fin 2) (r : Fin 16) (s : Fin 512)
    (h : Fin 8) (e : Fin 128) :
    out_main_v39 V (ix4 b r s ⟨128 * h.val + e.val, by omega⟩)
      = normed (outRow q g kk v b h (16 * s.val + r.val))
          (V (Proc.devRef .tc main_arg2) (ix2 0 ⟨128 * h.val + e.val, by omega⟩))
          (V (Proc.devRef .tc main_arg0) (ix3 b ⟨16 * s.val + r.val, by omega⟩ ⟨12288 + (128 * h.val + e.val), by omega⟩)) e := by
  have h6 := H.out ⟨16 * s.val + r.val, by omega⟩ b h
  unfold out_main_v39
  generalize V (Proc.devRef .tc main_v17_6) = X6 at h6 ⊢
  generalize V (Proc.devRef .tc main_arg2) = X2
  generalize V (Proc.devRef .tc main_arg0) = X0
  have e1 : s.val * 16 + r.val = 16 * s.val + r.val := by omega
  have e2 : h.val * 128 + e.val = 128 * h.val + e.val := by omega
  pointwise
  simp only [e1, e2]
  have h7 : ∀ x : Fin 128, X6 (ix4 ⟨16 * s.val + r.val, by omega⟩ b h x) = outRow q g kk v b h (16 * s.val + r.val) x :=
    fun x => h6 x (by simp only []; omega)
  simp only [h7]
  rfl

end Cert.Hgrn
-- ==== Proof.Claims.lean ====
module

public import proofs.«01_k».proof.Proof.Finite
public import proofs.«01_k».proof.Proof.Final
public import proofs.«01_k».proof.Proof.RefValue
public import proofs.«01_k».proof.Proof.Gen.Kernel.Frame
public import Idealize.ShloMosaic.Lib.Quiescent

@[expose] public section
set_option backward.proofsInPublic true
set_option maxRecDepth 16384
noncomputable section
open Idealize.ShloMosaic Idealize.ShloMosaic.TcCoe Idealize.SL.Sem
open Idealize.ShloMosaic.StableHlo
namespace Cert.Hgrn

/-! The claims. -/

/-- The reference's result at one place is the kernel's. -/
theorem cell_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (c : Dev KernelIdeal.nD) (q g k v : Fin 2 → ℕ → Fin 1024 → ℝ)
    (H : Inv q g k v 8192 (ReferenceIdeal.Value.STEP^[8192] (entryContents ReferenceIdeal.Value.preI m' c)))
    (e0 : m' ((c.tc : Thread ReferenceIdeal.nD ReferenceIdeal.τ).loc ReferenceIdeal.main_arg0)
      = m ((c.tc : Thread KernelIdeal.nD KernelIdeal.τ).loc KernelIdeal.main_arg0))
    (e2 : m' ((c.tc : Thread ReferenceIdeal.nD ReferenceIdeal.τ).loc ReferenceIdeal.main_arg2)
      = m ((c.tc : Thread KernelIdeal.nD KernelIdeal.τ).loc KernelIdeal.main_arg2))
    (b : Fin 2) (r : Fin 16) (s : Fin 512) (j : Fin 1024) :
    ReferenceIdeal.Value.out_main_v39 (ReferenceIdeal.Value.STEP^[8192] (entryContents ReferenceIdeal.Value.preI m' c)) (ix4 b r s j)
      = cellOf m c q g k v b r s j := by
  obtain ⟨h, e, rfl⟩ : ∃ (h : Fin 8) (e : Fin 128), j = ⟨128 * h.val + e.val, by omega⟩ :=
    ⟨⟨j.val / 128, by omega⟩, ⟨j.val % 128, by omega⟩, Fin.ext (Nat.div_add_mod _ _).symm⟩
  have a0 := (ReferenceIdeal.Value.iter_main_arg0 m' c 8192).trans e0
  have a2 := (ReferenceIdeal.Value.iter_main_arg2 m' c 8192).trans e2
  rw [out_at H b r s h e, a0, a2]
  have h1 : (⟨(128 * h.val + e.val) / 128, by omega⟩ : Fin 8) = h := Fin.ext (by show (128 * h.val + e.val) / 128 = h.val; omega)
  have h2 : (⟨(128 * h.val + e.val) % 128, by omega⟩ : Fin 128) = e := Fin.ext (by show (128 * h.val + e.val) % 128 = e.val; omega)
  unfold cellOf
  simp only [h1, h2]
  rfl

theorem algebraic : Cert.algebraic_KernelIdeal_ReferenceIdeal_pre_finite := by
  intro m ρ m' ρ' hpre hagree
  let A0 := fun c : Dev KernelIdeal.nD => m ((c.tc : Thread KernelIdeal.nD KernelIdeal.τ).loc KernelIdeal.main_arg0)
  let A1 := fun c : Dev KernelIdeal.nD => m ((c.tc : Thread KernelIdeal.nD KernelIdeal.τ).loc KernelIdeal.main_arg1)
  let q := fun c => reals 17408 9216 (by omega) (A0 c)
  let g := fun c => reals 17408 10240 (by omega) (A0 c)
  let v := fun c => reals 17408 11264 (by omega) (A0 c)
  let k := fun c => reals 1024 0 (by omega) (A1 c)
  have col := fun c => finite_proj (A0 c) (A1 c) (m ((c.tc : Thread KernelIdeal.nD KernelIdeal.τ).loc KernelIdeal.main_arg2)) (hpre c).1
  have hq : ∀ c b (t : Fin 8192) (d : Fin 1024), A0 c (ix3 b t ⟨9216 + d.val, by omega⟩) = ((q c b t.val d : ℝ) : EReal) :=
    fun c => reals_at 17408 9216 (by omega) (A0 c) (fun b t d => col c b t ⟨d.val, by omega⟩)
  have hg : ∀ c b (t : Fin 8192) (d : Fin 1024), A0 c (ix3 b t ⟨10240 + d.val, by omega⟩) = ((g c b t.val d : ℝ) : EReal) :=
    fun c => reals_at 17408 10240 (by omega) (A0 c) (fun b t d => by
      have h := col c b t ⟨1024 + d.val, by omega⟩
      have e : (⟨9216 + (1024 + d.val), by omega⟩ : Fin 17408) = ⟨10240 + d.val, by omega⟩ := Fin.ext (by simp only []; omega)
      rw [← e]; exact h)
  have hv : ∀ c b (t : Fin 8192) (d : Fin 1024), A0 c (ix3 b t ⟨11264 + d.val, by omega⟩) = ((v c b t.val d : ℝ) : EReal) :=
    fun c => reals_at 17408 11264 (by omega) (A0 c) (fun b t d => by
      have h := col c b t ⟨2048 + d.val, by omega⟩
      have e : (⟨9216 + (2048 + d.val), by omega⟩ : Fin 17408) = ⟨11264 + d.val, by omega⟩ := Fin.ext (by simp only []; omega)
      rw [← e]; exact h)
  have hk : ∀ c b (t : Fin 8192) (d : Fin 1024), A1 c (ix3 b t d) = ((k c b t.val d : ℝ) : EReal) := fun c b t d => by
    have e : (⟨0 + d.val, by omega⟩ : Fin 1024) = d := Fin.ext (Nat.zero_add _)
    have h := reals_at 1024 0 (by omega) (A1 c) (fun b t d => finite_keep (A0 c) (A1 c)
      (m ((c.tc : Thread KernelIdeal.nD KernelIdeal.τ).loc KernelIdeal.main_arg2)) (hpre c).2 b t ⟨0 + d.val, by omega⟩) b t d
    rw [e] at h
    exact h
  refine ⟨fun c => resultOf m c (q c) (g c) (k c) (v c),
    run_result m ρ _ (fun c => result_array m c (q c) (g c) (k c) (v c) (hq c) (hg c) (hv c) (hk c)), ?_⟩
  refine (θ_run Cert.ReferenceIdeal.defs _ _).mono (fun _ h c => ⟨(h c).1.trans ?_, (h c).2⟩)
    (Cert.ReferenceIdeal.Value.run (F := Ideal) m' ρ')
  obtain ⟨e0, e1, e2⟩ := hagree c
  have H := inv_iter (inv_entry (q := q c) (g := g c) (kk := k c) (v := v c) m' c
    (fun b t d => (congrFun e0 _).trans (hq c b t d)) (fun b t d => (congrFun e0 _).trans (hg c b t d))
    (fun b t d => (congrFun e0 _).trans (hv c b t d)) (fun b t d => (congrFun e1 _).trans (hk c b t d))) 8192 le_rfl
  funext i
  have hi : i = ix4 (i 0) (i 1) (i 2) (i 3) := by funext a; fin_cases a <;> rfl
  rw [hi]
  exact cell_eq m m' c _ _ _ _ H e0 e2 (i 0) (i 1) (i 2) (i 3)

theorem preserves : Cert.preserves_Kernel_KernelIdeal :=
  IdealRules.named_const.statement Cert.KernelIdeal.κ "log2e" .f32 0x3FB8AA3B#32 (((Real.log 2)⁻¹ : ℝ) : EReal) rfl

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference_finite : Cert.quiescent_ReferenceIdeal_pre_finite := fun m ρ _ => frame_reference m ρ trivial

end Cert.Hgrn
-- ==== Proof.Down.lean ====
module

public import proofs.«01_k».proof.Defs
public import proofs.«01_k».proof.Proof.Gen.Down.Frame
public import proofs.«01_k».proof.Proof.Gen.DownIdeal.Value
public import proofs.«01_k».proof.Proof.Gen.DownReferenceIdeal.Run
public import Idealize.ShloMosaic.Lib.Pointwise
public import Idealize.ShloMosaic.Lib.Pipeline.ValueKit
public import Idealize.ShloMosaic.Lib.Quiescent

@[expose] public section
set_option backward.proofsInPublic true
set_option maxRecDepth 16384
noncomputable section
open Idealize.ShloMosaic Idealize.ShloMosaic.TcCoe Idealize.SL.Sem
open Idealize.ShloMosaic.StableHlo
namespace Cert.SwigluOut

/-! The down projection of the SwiGLU: the hidden units times the weights, normalized by row, scaled and added to the residual. -/

/-- One entry of the result, from a row of hidden units, the weights, the residual and the gain. -/
def outCell (a : Fin 5632 → EReal) (w : Fin 5632 → Fin 2048 → EReal) (h1 gain : EReal) (j : Fin 2048) : EReal :=
  h1 + (∑ x, a x * w x j)
    * Ideal.rsqrt (Ideal.div (∑ y, (∑ x, a x * w x y) * ∑ x, a x * w x y) (Ideal.ofBits FTy.f32 1157627904#32)
        + Ideal.ofBits FTy.f32 897988541#32)
    * gain

section Ref
open Cert.DownReferenceIdeal Cert.DownReferenceIdeal.Gen

/-- The reference's result at one place. -/
theorem ref_at (a0 : FVec Ideal S16384x5632 .bf16) (a1 : FVec Ideal S5632x2048 .f32) (a2 : FVec Ideal S16384x2048 .f32)
    (a3 : FVec Ideal S1x2048 .f32) (r : Fin 16384) (j : Fin 2048) :
    addf a2 (mulf (mulf (Host.dotGeneral dot_S16384x5632_S5632x2048_S16384x2048_1_0_0_1_n_n none (extf .f32 a0 bitsLt_bf16_f32) a1) (broadcastInDim S16384x2048 ![0, 1] bcast_S16384x1_S16384x2048_0_1 (Host.rsqrt (addf (Host.divf (broadcastInDim S16384x1 ![0] bcast_S16384_S16384x1_0 (Host.reduceAdd (mulf (Host.dotGeneral dot_S16384x5632_S5632x2048_S16384x2048_1_0_0_1_n_n none (extf .f32 a0 bitsLt_bf16_f32) a1) (Host.dotGeneral dot_S16384x5632_S5632x2048_S16384x2048_1_0_0_1_n_n none (extf .f32 a0 bitsLt_bf16_f32) a1)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 a3)) (ix2 r j)
      = outCell (fun x => a0 (ix2 r x)) (fun x y => a1 (ix2 x y)) (a2 (ix2 r j)) (a3 (ix2 0 j)) j := by
  pointwise
  rfl

end Ref

section Kernel
open Cert.DownIdeal Cert.DownIdeal.Gen

/-- What the kernel stores, at one place of its block. -/
theorem pay_at (x0 : Vec Ideal S512x5632 .bf16) (x1 : Vec Ideal S5632x2048 .bf16) (x2 : Vec Ideal S512x2048 .f32)
    (x3 : Vec Ideal S1x2048 .f32) (r : Fin 512) (j : Fin 2048) :
    k0_pay1 x0 x1 x2 x3 (ix2 r j)
      = outCell (fun x => x0 (ix2 r x)) (fun x y => x1 (ix2 x y)) (x2 (ix2 r j)) (x3 (ix2 0 j)) j := by
  pointwise [k0_pay1]
  rfl

theorem out_at (x0 : Vec Ideal S512x5632 .bf16) (x1 : Vec Ideal S5632x2048 .bf16) (x2 : Vec Ideal S512x2048 .f32)
    (x3 : Vec Ideal S1x2048 .f32) (r : Fin 512) (j : Fin 2048) :
    out0_4 x0 x1 x2 x3 (ix2 r j)
      = outCell (fun x => x0 (ix2 r x)) (fun x y => x1 (ix2 x y)) (x2 (ix2 r j)) (x3 (ix2 0 j)) j := by
  have h : ∀ n : ℕ × ℕ, (![0, 0] : Fin 2 → Nat) = fun _ => 0 := fun _ => by funext a; fin_cases a <;> rfl
  have e : out0_4 x0 x1 x2 x3 = k0_pay1 x0 x1 x2 x3 := by
    unfold out0_4
    rw [View.ld_unit_zero (h (0, 0)), View.ld_unit_zero (h (0, 0)), View.ld_unit_zero (h (0, 0)), View.ld_unit_zero (h (0, 0)),
      View.canon_unit_zero (h (0, 0))]
  rw [e, pay_at]

variable (m : (ℓ : Loc nD τ sig) → Buf (Elt Ideal) ℓ) (c : Dev nD)

theorem points (t : Fin cfg0.N) : t.val < 32 := lt_of_lt_of_eq t.isLt N_0

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)

theorem block0 (t : Fin cfg0.N) (r : Fin 512) (x : Fin 5632) :
    (iblk m c 0 t : Vec Ideal S512x5632 .bf16) (ix2 r x) = m ((c.tc : Thread nD τ).loc main_arg0)
      (ix2 (n0 := 16384) (n1 := 5632) ⟨512 * t.val + r.val, by have := points t; omega⟩ x) := by
  have ht := points t
  obtain ⟨e0, e1⟩ := index0 t
  have e : ((cfg0.win 0).blk t).view.emb (ix2 (n0 := 512) (n1 := 5632) r x)
      = ix2 (n0 := 16384) (n1 := 5632) ⟨512 * t.val + r.val, by omega⟩ x := by
    funext a; apply Fin.ext
    match a with
    | ⟨0, _⟩ => show win0_0.index t (0 : Fin 2) * 512 + 1 * r.val = 512 * t.val + r.val; omega
    | ⟨1, _⟩ => show win0_0.index t (1 : Fin 2) * 5632 + 1 * x.val = x.val; omega
  show V m c main_arg0 (((cfg0.win 0).blk t).view.emb (ix2 (n0 := 512) (n1 := 5632) r x)) = _
  rw [e, V_main_arg0]

theorem entry_weights : V m c main_v0 = (truncf .bf16 (m ((c.tc : Thread nD τ).loc main_arg1) : FVec Ideal S5632x2048 .f32) bitsLt_bf16_f32 : FVec Ideal S5632x2048 .bf16) := by
  entry_read
  rfl

theorem block1 (t : Fin cfg0.N) (x : Fin 5632) (j : Fin 2048) :
    (iblk m c 1 t : Vec Ideal S5632x2048 .bf16) (ix2 x j) = m ((c.tc : Thread nD τ).loc main_arg1)
      (ix2 (n0 := 5632) (n1 := 2048) x j) := by
  obtain ⟨e0, e1⟩ := index1 t
  have e : ((cfg0.win 1).blk t).view.emb (ix2 (n0 := 5632) (n1 := 2048) x j) = ix2 (n0 := 5632) (n1 := 2048) x j := by
    funext a; apply Fin.ext
    match a with
    | ⟨0, _⟩ => show win0_1.index t (0 : Fin 2) * 5632 + 1 * x.val = x.val; omega
    | ⟨1, _⟩ => show win0_1.index t (1 : Fin 2) * 2048 + 1 * j.val = j.val; omega
  show V m c main_v0 (((cfg0.win 1).blk t).view.emb (ix2 (n0 := 5632) (n1 := 2048) x j)) = _
  rw [e, entry_weights]
  rfl

theorem block2 (t : Fin cfg0.N) (r : Fin 512) (j : Fin 2048) :
    (iblk m c 2 t : Vec Ideal S512x2048 .f32) (ix2 r j) = m ((c.tc : Thread nD τ).loc main_arg2)
      (ix2 (n0 := 16384) (n1 := 2048) ⟨512 * t.val + r.val, by have := points t; omega⟩ j) := by
  have ht := points t
  obtain ⟨e0, e1⟩ := index2 t
  have e : ((cfg0.win 2).blk t).view.emb (ix2 (n0 := 512) (n1 := 2048) r j)
      = ix2 (n0 := 16384) (n1 := 2048) ⟨512 * t.val + r.val, by omega⟩ j := by
    funext a; apply Fin.ext
    match a with
    | ⟨0, _⟩ => show win0_2.index t (0 : Fin 2) * 512 + 1 * r.val = 512 * t.val + r.val; omega
    | ⟨1, _⟩ => show win0_2.index t (1 : Fin 2) * 2048 + 1 * j.val = j.val; omega
  show V m c main_arg2 (((cfg0.win 2).blk t).view.emb (ix2 (n0 := 512) (n1 := 2048) r j)) = _
  rw [e, V_main_arg2]

theorem block3 (t : Fin cfg0.N) (j : Fin 2048) :
    (iblk m c 3 t : Vec Ideal S1x2048 .f32) (ix2 0 j) = m ((c.tc : Thread nD τ).loc main_arg3)
      (ix2 (n0 := 1) (n1 := 2048) 0 j) := by
  obtain ⟨e0, e1⟩ := index3 t
  have e : ((cfg0.win 3).blk t).view.emb (ix2 (n0 := 1) (n1 := 2048) 0 j) = ix2 (n0 := 1) (n1 := 2048) 0 j := by
    funext a; apply Fin.ext
    match a with
    | ⟨0, _⟩ => show win0_3.index t (0 : Fin 2) * 1 + 1 * 0 = 0; omega
    | ⟨1, _⟩ => show win0_3.index t (1 : Fin 2) * 2048 + 1 * j.val = j.val; omega
  show V m c main_arg3 (((cfg0.win 3).blk t).view.emb (ix2 (n0 := 1) (n1 := 2048) 0 j)) = _
  rw [e, V_main_arg3]

/-- The result array. -/
def resultOf : Buf (Elt Ideal) ((c.tc : Thread nD τ).loc main_v1) :=
  fun i : S16384x2048.Idx => outCell (fun x => m ((c.tc : Thread nD τ).loc main_arg0) (ix2 (n0 := 16384) (n1 := 5632) (i 0) x))
    (fun x y => m ((c.tc : Thread nD τ).loc main_arg1) (ix2 (n0 := 5632) (n1 := 2048) x y))
    (m ((c.tc : Thread nD τ).loc main_arg2) (ix2 (n0 := 16384) (n1 := 2048) (i 0) (i 1)))
    (m ((c.tc : Thread nD τ).loc main_arg3) (ix2 (n0 := 1) (n1 := 2048) 0 (i 1))) (i 1)

theorem flushes4 : ∀ t : Fin cfg0.N, (cfg0.win 4).flush t = true :=
  (by decide +kernel : ∀ t : Fin grid0.N, win0_4.flush t = true)

/-- What a point writes back is its block of the result. -/
theorem flushed_block (t : Fin cfg0.N) :
    (dats m 0 c).flushed 4 t = ((cfg0.win 4).blk t).view.read (Elt Ideal) (resultOf m c) := by
  rw [Cert.DownIdeal.Value.flushed4]
  have ht := points t
  obtain ⟨e0, e1⟩ := index4 t
  funext y
  have hy0 : (y 0).val < 512 := (y 0).isLt
  have hy1 : (y 1).val < 2048 := (y 1).isLt
  have hx : (cfg0.win 4).xinj (grid0.coords t) y = ix2 (n0 := 512) (n1 := 2048) ⟨(y 0).val, hy0⟩ ⟨(y 1).val, hy1⟩ := by
    funext a; apply Fin.ext
    match a with
    | ⟨0, _⟩ => rfl
    | ⟨1, _⟩ => rfl
  have he : ((cfg0.win 4).blk t).view.emb y
      = ix2 (n0 := 16384) (n1 := 2048) ⟨512 * t.val + (y 0).val, by omega⟩ ⟨(y 1).val, hy1⟩ := by
    funext a; apply Fin.ext
    match a with
    | ⟨0, _⟩ => show win0_4.index t (0 : Fin 2) * 512 + 1 * (y 0).val = 512 * t.val + (y 0).val; omega
    | ⟨1, _⟩ => show win0_4.index t (1 : Fin 2) * 2048 + 1 * (y 1).val = (y 1).val; omega
  show out0_4 (iblk m c 0 t) (iblk m c 1 t) (iblk m c 2 t) (iblk m c 3 t) ((cfg0.win 4).xinj (grid0.coords t) y)
    = resultOf m c (((cfg0.win 4).blk t).view.emb y)
  rw [hx, he, out_at]
  simp only [block0, block1, block2, block3]
  rfl

/-- The point whose block holds an index of the result. -/
theorem covered4 (i : S16384x2048.Idx) :
    ∃ t : Fin cfg0.N, (cfg0.win 4).flush t = true ∧ i ∈ ((cfg0.win 4).blk t).view.set := by
  have h0 : (i 0).val < 16384 := (i 0).isLt
  have h1 : (i 1).val < 2048 := (i 1).isLt
  have hN : (i 0).val / 512 < cfg0.N := lt_of_lt_of_eq (by omega) N_0.symm
  obtain ⟨t, ht⟩ : ∃ t : Fin cfg0.N, t.val = (i 0).val / 512 := ⟨⟨_, hN⟩, rfl⟩
  refine ⟨t, flushes4 t, ?_⟩
  obtain ⟨e0, e1⟩ := index4 t
  show i ∈ ((View.whole main_v1).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

theorem result_array : (dats m 0 c).arrAt 4 cfg0.N = resultOf m c :=
  (dats m 0 c).arrAt_eq_of_cover 4 _ (fun t _ => flushed_block m c t) (fun i => covered4 i)

end Kernel

/-! The claims. -/

theorem algebraic : Cert.algebraic_DownIdeal_DownReferenceIdeal := by
  intro m ρ m' ρ' hpre hagree
  refine ⟨fun c => resultOf m c, (θ_run Cert.DownIdeal.defs _ _).mono
    (fun _ h c => ⟨(h c).1.trans (result_array m c), (h c).2⟩) (Cert.DownIdeal.Value.run_blocks m ρ), ?_⟩
  refine (θ_run Cert.DownReferenceIdeal.defs _ _).mono (fun _ h c => ⟨(h c).1.trans ?_, (h c).2⟩)
    (Cert.DownReferenceIdeal.Value.run (F := Ideal) m' ρ')
  obtain ⟨e0, e1, e2, e3⟩ := hagree c
  funext i
  have hi : i = ix2 (i 0) (i 1) := by funext a; fin_cases a <;> rfl
  rw [hi, e0, e1, e2, e3]
  exact ref_at _ _ _ _ (i 0) (i 1)

theorem preserves : Cert.preserves_Down_DownIdeal := trivial

theorem frame_kernel : Cert.quiescent_Down := fun m ρ _ => Cert.Down.Gen.frame m ρ

theorem frame_ideal : Cert.quiescent_DownIdeal := fun m ρ _ => Cert.DownIdeal.Gen.frame m ρ

theorem frame_reference : Cert.quiescent_DownReferenceIdeal := fun m ρ _ =>
  (θ_run Cert.DownReferenceIdeal.defs _ _).mono
    (fun r h => ⟨fun c => (h c).2, Idealize.ShloMosaic.sem_eq_zero_of_no_sems (by decide) r.2⟩)
    (Cert.DownReferenceIdeal.Value.run (F := Ideal) m ρ)

end Cert.SwigluOut
-- ==== Proof.HiddenCases.lean ====
module

public import proofs.«01_k».proof.Proof.Gen.HiddenIdeal.Frame
public import Idealize.ShloMosaic.Lib.Pointwise
public import Idealize.ShloMosaic.Lib.Pipeline.ReadBack
public import Idealize.ShloMosaic.Lib.Pipeline.Value
public import Idealize.ShloMosaic.Lib.Pipeline.ValueKit

@[expose] public section
set_option backward.proofsInPublic true
set_option maxRecDepth 16384
noncomputable section
open Idealize.ShloMosaic Idealize.ShloMosaic.TcCoe Idealize.SL.Sem
open Cert.HiddenIdeal Cert.HiddenIdeal.Gen
namespace Cert.SwigluHidden

/-! What a grid point of the SwiGLU's first half leaves in its blocks and in the carried weights. -/

/-- The hidden block of a point that takes its weights in. -/
theorem hidden_A (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S32x2048 .f32) (harg5 : arg5.IsWhole) (arg6 : Memref sig .tc .vmem S1024x512 .bf16) (harg6 : arg6.IsWhole) (arg7 : Memref sig .tc .vmem S32x2048 .bf16) (harg7 : arg7.IsWhole) (arg8 : Memref sig .tc .vmem S2048x512 .bf16) (harg8 : arg8.IsWhole) (arg9 : Memref sig .tc .vmem S2048x512 .bf16) (harg9 : arg9.IsWhole) (hc0 : cond0_0 i)
    (x0 : Vec Ideal S1024x2048 .bf16) (x1 : Vec Ideal S2048x512 .f32) (x2 : Vec Ideal S2048x512 .f32) (x3 : Vec Ideal S32x2048 .f32) :
    out0_A_4 (F := Ideal) c i arg2 harg2 arg3 harg3 arg4 harg4 arg5 harg5 arg6 harg6 arg7 harg7 arg8 harg8 arg9 harg9 hc0 x0 x1 x2 x3 = k0_pay4 x0 (k0_pay1 x1) (k0_pay2 x2) := by
  refine (View.read_writes_junk_eq_canon _ _).trans ?_
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld,
    Memref.IsWhole.read_unread, View.canon_cons_unit_lit']

/-- The block of cast weights of such a point. -/
theorem side_A (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S32x2048 .f32) (harg5 : arg5.IsWhole) (arg6 : Memref sig .tc .vmem S1024x512 .bf16) (harg6 : arg6.IsWhole) (arg7 : Memref sig .tc .vmem S32x2048 .bf16) (harg7 : arg7.IsWhole) (arg8 : Memref sig .tc .vmem S2048x512 .bf16) (harg8 : arg8.IsWhole) (arg9 : Memref sig .tc .vmem S2048x512 .bf16) (harg9 : arg9.IsWhole) (hc0 : cond0_0 i)
    (x0 : Vec Ideal S1024x2048 .bf16) (x1 : Vec Ideal S2048x512 .f32) (x2 : Vec Ideal S2048x512 .f32) (x3 : Vec Ideal S32x2048 .f32) :
    out0_A_5 (F := Ideal) c i arg2 harg2 arg3 harg3 arg4 harg4 arg5 harg5 arg6 harg6 arg7 harg7 arg8 harg8 arg9 harg9 hc0 x0 x1 x2 x3 = k0_pay3 x3 := by
  refine (View.read_writes_junk_eq_canon _ _).trans ?_
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld,
    Memref.IsWhole.read_unread, View.canon_cons_unit_lit']

/-- The gate weights such a point keeps. -/
theorem gate_A (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S32x2048 .f32) (harg5 : arg5.IsWhole) (arg6 : Memref sig .tc .vmem S1024x512 .bf16) (harg6 : arg6.IsWhole) (arg7 : Memref sig .tc .vmem S32x2048 .bf16) (harg7 : arg7.IsWhole) (arg8 : Memref sig .tc .vmem S2048x512 .bf16) (harg8 : arg8.IsWhole) (arg9 : Memref sig .tc .vmem S2048x512 .bf16) (harg9 : arg9.IsWhole) (hc0 : cond0_0 i)
    (x0 : Vec Ideal S1024x2048 .bf16) (x1 : Vec Ideal S2048x512 .f32) (x2 : Vec Ideal S2048x512 .f32) (x3 : Vec Ideal S32x2048 .f32) :
    sout0_A_0 (F := Ideal) c i arg2 harg2 arg3 harg3 arg4 harg4 arg5 harg5 arg6 harg6 arg7 harg7 arg8 harg8 arg9 harg9 hc0 x0 x1 x2 x3 = k0_pay1 x1 := by
  refine (View.read_writes_junk_eq_canon _ _).trans ?_
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld,
    Memref.IsWhole.read_unread, View.canon_cons_unit_lit']

/-- The up weights such a point keeps. -/
theorem up_A (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S32x2048 .f32) (harg5 : arg5.IsWhole) (arg6 : Memref sig .tc .vmem S1024x512 .bf16) (harg6 : arg6.IsWhole) (arg7 : Memref sig .tc .vmem S32x2048 .bf16) (harg7 : arg7.IsWhole) (arg8 : Memref sig .tc .vmem S2048x512 .bf16) (harg8 : arg8.IsWhole) (arg9 : Memref sig .tc .vmem S2048x512 .bf16) (harg9 : arg9.IsWhole) (hc0 : cond0_0 i)
    (x0 : Vec Ideal S1024x2048 .bf16) (x1 : Vec Ideal S2048x512 .f32) (x2 : Vec Ideal S2048x512 .f32) (x3 : Vec Ideal S32x2048 .f32) :
    sout0_A_1 (F := Ideal) c i arg2 harg2 arg3 harg3 arg4 harg4 arg5 harg5 arg6 harg6 arg7 harg7 arg8 harg8 arg9 harg9 hc0 x0 x1 x2 x3 = k0_pay2 x2 := by
  refine (View.read_writes_junk_eq_canon _ _).trans ?_
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld,
    Memref.IsWhole.read_unread, View.canon_cons_unit_lit']

/-- The hidden block of a point that finds its weights kept. -/
theorem hidden_B (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S32x2048 .f32) (harg5 : arg5.IsWhole) (arg6 : Memref sig .tc .vmem S1024x512 .bf16) (harg6 : arg6.IsWhole) (arg7 : Memref sig .tc .vmem S32x2048 .bf16) (harg7 : arg7.IsWhole) (arg8 : Memref sig .tc .vmem S2048x512 .bf16) (harg8 : arg8.IsWhole) (arg9 : Memref sig .tc .vmem S2048x512 .bf16) (harg9 : arg9.IsWhole) (hc0 : ¬cond0_0 i)
    (x0 : Vec Ideal S1024x2048 .bf16) (x1 : Vec Ideal S2048x512 .f32) (x2 : Vec Ideal S2048x512 .f32) (x3 : Vec Ideal S32x2048 .f32) (xs0 : Vec Ideal S2048x512 .bf16) (xs1 : Vec Ideal S2048x512 .bf16) :
    out0_B_4 (F := Ideal) c i arg2 harg2 arg3 harg3 arg4 harg4 arg5 harg5 arg6 harg6 arg7 harg7 arg8 harg8 arg9 harg9 hc0 x0 x1 x2 x3 xs0 xs1 = k0_pay4 x0 xs0 xs1 := by
  refine (View.read_writes_junk_eq_canon _ _).trans ?_
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld,
    Memref.IsWhole.read_unread, View.canon_cons_unit_lit']

/-- The block of cast weights of such a point. -/
theorem side_B (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S32x2048 .f32) (harg5 : arg5.IsWhole) (arg6 : Memref sig .tc .vmem S1024x512 .bf16) (harg6 : arg6.IsWhole) (arg7 : Memref sig .tc .vmem S32x2048 .bf16) (harg7 : arg7.IsWhole) (arg8 : Memref sig .tc .vmem S2048x512 .bf16) (harg8 : arg8.IsWhole) (arg9 : Memref sig .tc .vmem S2048x512 .bf16) (harg9 : arg9.IsWhole) (hc0 : ¬cond0_0 i)
    (x0 : Vec Ideal S1024x2048 .bf16) (x1 : Vec Ideal S2048x512 .f32) (x2 : Vec Ideal S2048x512 .f32) (x3 : Vec Ideal S32x2048 .f32) (xs0 : Vec Ideal S2048x512 .bf16) (xs1 : Vec Ideal S2048x512 .bf16) :
    out0_B_5 (F := Ideal) c i arg2 harg2 arg3 harg3 arg4 harg4 arg5 harg5 arg6 harg6 arg7 harg7 arg8 harg8 arg9 harg9 hc0 x0 x1 x2 x3 xs0 xs1 = k0_pay3 x3 := by
  refine (View.read_writes_junk_eq_canon _ _).trans ?_
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld,
    Memref.IsWhole.read_unread, View.canon_cons_unit_lit']

end Cert.SwigluHidden
-- ==== Proof.Hidden.lean ====
module

public import proofs.«01_k».proof.Defs
public import proofs.«01_k».proof.Proof.HiddenCases
public import proofs.«01_k».proof.Proof.Gen.Hidden.Frame
public import proofs.«01_k».proof.Proof.Gen.HiddenReferenceIdeal.Run
public import Idealize.ShloMosaic.Lib.IdealHost
public import Idealize.ShloMosaic.Lib.Quiescent

@[expose] public section
set_option backward.proofsInPublic true
set_option maxRecDepth 16384
noncomputable section
open Idealize.ShloMosaic Idealize.ShloMosaic.TcCoe Idealize.SL.Sem
open Idealize.ShloMosaic.StableHlo
namespace Cert.SwigluHidden

/-! The first half of the SwiGLU: the rows times the gate and the up weights, the gate passed through the sigmoid unit. -/

/-! ### The sigmoid unit -/

theorem half : Ideal.ofBits .f32 0x3F000000#32 = (((1 : ℝ) / 2 : ℝ) : EReal) := by
  simp [Ideal.ofBits, Ideal.ieee, -EReal.coe_mul]; norm_num

/-- The sigmoid through the hyperbolic tangent, on the reals. -/
theorem sigmoid_tanh (x : ℝ) : 1 / 2 * Real.tanh (1 / 2 * x) + 1 / 2 = (1 + Real.exp (-x))⁻¹ := by
  have hx : Real.exp (-x) = Real.exp (-(1 / 2 * x)) * Real.exp (-(1 / 2 * x)) := by rw [← Real.exp_add]; congr 1; ring
  have hm : Real.exp (1 / 2 * x) * Real.exp (-(1 / 2 * x)) = 1 := by rw [← Real.exp_add]; simp
  have hp := Real.exp_pos (1 / 2 * x)
  have hq := Real.exp_pos (-(1 / 2 * x))
  rw [Real.tanh_eq_sinh_div_cosh, Real.sinh_eq, Real.cosh_eq, hx]
  generalize Real.exp (1 / 2 * x) = p at *
  generalize Real.exp (-(1 / 2 * x)) = q at *
  have hs : p + q ≠ 0 := by positivity
  have hs' : 1 + q * q ≠ 0 := by positivity
  field_simp
  linear_combination 2 * q * hm

/-- The sigmoid through the hyperbolic tangent, at every value. -/
theorem sigmoid_eq (v : EReal) :
    Ideal.ofBits .f32 0x3F000000#32 * Ideal.tanh (Ideal.ofBits .f32 0x3F000000#32 * v) + Ideal.ofBits .f32 0x3F000000#32
      = Ideal.div 1 (1 + Ideal.exp (-v)) := by
  rw [half]
  show _ = Ideal.logistic v
  have hpos : (0 : ℝ) < 1 / 2 := by norm_num
  induction v with
  | bot =>
    rw [EReal.coe_mul_bot_of_pos hpos, Ideal.tanh_bot, Ideal.logistic_bot, show (-1 : EReal) = ((-1 : ℝ) : EReal) from rfl,
      ← EReal.coe_mul, ← EReal.coe_add, ← EReal.coe_zero]
    norm_num
  | top =>
    rw [EReal.coe_mul_top_of_pos hpos, Ideal.tanh_top, Ideal.logistic_top, mul_one, ← EReal.coe_add, ← EReal.coe_one]
    norm_num
  | coe x =>
    rw [← EReal.coe_mul, Ideal.tanh_coe, ← EReal.coe_mul, ← EReal.coe_add, Ideal.logistic_coe, sigmoid_tanh]

/-- One hidden unit, from a row and the two columns of weights. -/
def hiddenCell (a g u : Fin 2048 → EReal) : EReal :=
  (∑ x, a x * g x) * Ideal.div 1 (1 + Ideal.exp (-∑ x, a x * g x)) * ∑ x, a x * u x

section Ref
open Cert.HiddenReferenceIdeal Cert.HiddenReferenceIdeal.Gen

/-- The reference's hidden units at one place. -/
theorem ref_at (a0 : FVec Ideal S16384x2048 .bf16) (a1 : FVec Ideal S2048x11264 .f32) (r : Fin 16384) (j : Fin 5632) :
   truncf .bf16 (mulf (mulf (extractStridedSlice S16384x5632 ![0, 0] (Host.dotGeneral dot_S16384x2048_S2048x11264_S16384x11264_1_0_0_1_n_n none (extf .f32 a0 bitsLt_bf16_f32) a1) slices_S16384x11264_S16384x5632_0_0) (Host.divf (broadcastInDim S16384x5632 ![] bcast_S_S16384x5632 (constant S_ .f32 0x3F800000#32)) (addf (broadcastInDim S16384x5632 ![] bcast_S_S16384x5632 (constant S_ .f32 0x3F800000#32)) (Host.exp (Host.negf (extractStridedSlice S16384x5632 ![0, 0] (Host.dotGeneral dot_S16384x2048_S2048x11264_S16384x11264_1_0_0_1_n_n none (extf .f32 a0 bitsLt_bf16_f32) a1) slices_S16384x11264_S16384x5632_0_0)))))) (extractStridedSlice S16384x5632 ![0, 5632] (Host.dotGeneral dot_S16384x2048_S2048x11264_S16384x11264_1_0_0_1_n_n none (extf .f32 a0 bitsLt_bf16_f32) a1) slices_S16384x11264_S16384x5632_0_5632)) bitsLt_bf16_f32 (ix2 r j)
      = hiddenCell (fun x => a0 (ix2 r x)) (fun x => a1 (ix2 x ⟨j.val, by omega⟩)) (fun x => a1 (ix2 x ⟨5632 + j.val, by omega⟩)) := by
  pointwise
  rfl

end Ref

section Kernel
open Cert.HiddenIdeal Cert.HiddenIdeal.Gen

/-- What the kernel stores, at one place of its block. -/
theorem pay_at (x0 : Vec Ideal S1024x2048 .bf16) (x1 x2 : Vec Ideal S2048x512 .bf16) (r : Fin 1024) (j : Fin 512) :
    k0_pay4 x0 x1 x2 (ix2 r j) = hiddenCell (fun x => x0 (ix2 r x)) (fun x => x1 (ix2 x j)) (fun x => x2 (ix2 x j)) := by
  pointwise [k0_pay4]
  rw [hiddenCell, ← sigmoid_eq]

theorem pay1_at (x : Vec Ideal S2048x512 .f32) (r : Fin 2048) (j : Fin 512) : k0_pay1 x (ix2 r j) = x (ix2 r j) := by
  pointwise [k0_pay1]

theorem pay2_at (x : Vec Ideal S2048x512 .f32) (r : Fin 2048) (j : Fin 512) : k0_pay2 x (ix2 r j) = x (ix2 r j) := by
  pointwise [k0_pay2]

theorem pay3_at (x : Vec Ideal S32x2048 .f32) (r : Fin 32) (j : Fin 2048) : k0_pay3 x (ix2 r j) = x (ix2 r j) := by
  pointwise [k0_pay3]

variable (m : (ℓ : Loc nD τ sig) → Buf (Elt Ideal) ℓ) (ρ : Dev nD → PrngReg) (c : Dev nD)

theorem points (t : Fin cfg0.N) : t.val < 176 := lt_of_lt_of_eq t.isLt N_0

/-- The point that took in the weights a point works with. -/
def lead (t : Fin cfg0.N) : Fin cfg0.N := ⟨16 * (t.val / 16), lt_of_le_of_lt (Nat.mul_div_le _ _) t.isLt⟩

/-- What a point that takes its weights in leaves. -/
theorem at_A (t : Fin cfg0.N) (h0 : t.val % 16 = 0) : outsAt0 m c t.val t.isLt
    = (k0_pay4 (iblk m c 0 t) (k0_pay1 (iblk m c 1 t)) (k0_pay2 (iblk m c 2 t)), k0_pay3 (iblk m c 3 t),
      k0_pay1 (iblk m c 1 t), k0_pay2 (iblk m c 2 t)) := by
  rw [outsAt0_A m c t h0, hidden_A, side_A, gate_A, up_A]

/-- What a point that finds its weights kept leaves. -/
theorem at_B (t : Fin cfg0.N) (h0 : ¬t.val % 16 = 0) : outsAt0 m c t.val t.isLt
    = (k0_pay4 (iblk m c 0 t) (outsAt0 m c (t.val - 1) (Nat.lt_of_le_of_lt (Nat.sub_le _ _) t.isLt)).2.2.1
        (outsAt0 m c (t.val - 1) (Nat.lt_of_le_of_lt (Nat.sub_le _ _) t.isLt)).2.2.2, k0_pay3 (iblk m c 3 t),
      (outsAt0 m c (t.val - 1) (Nat.lt_of_le_of_lt (Nat.sub_le _ _) t.isLt)).2.2.1,
      (outsAt0 m c (t.val - 1) (Nat.lt_of_le_of_lt (Nat.sub_le _ _) t.isLt)).2.2.2) := by
  rw [outsAt0_B m c t h0, hidden_B, side_B, sout0_B_0, sout0_B_1]

/-- The weights kept after a point are those its leading point took in. -/
theorem kept (n : ℕ) : ∀ t : Fin cfg0.N, t.val = n → (outsAt0 m c t.val t.isLt).2.2.1 = k0_pay1 (iblk m c 1 (lead t))
    ∧ (outsAt0 m c t.val t.isLt).2.2.2 = k0_pay2 (iblk m c 2 (lead t)) := by
  induction n with
  | zero =>
    intro t ht
    have hl : lead t = t := Fin.ext (by show 16 * (t.val / 16) = t.val; omega)
    rw [at_A m c t (by omega), hl]
    exact ⟨rfl, rfl⟩
  | succ n ih =>
    intro t ht
    by_cases h0 : t.val % 16 = 0
    · have hl : lead t = t := Fin.ext (by show 16 * (t.val / 16) = t.val; omega)
      rw [at_A m c t h0, hl]
      exact ⟨rfl, rfl⟩
    · have hl : lead ⟨t.val - 1, Nat.lt_of_le_of_lt (Nat.sub_le _ _) t.isLt⟩ = lead t :=
        Fin.ext (by show 16 * ((t.val - 1) / 16) = 16 * (t.val / 16); omega)
      have k := ih ⟨t.val - 1, Nat.lt_of_le_of_lt (Nat.sub_le _ _) t.isLt⟩ (by show t.val - 1 = n; omega)
      rw [hl] at k
      rw [at_B m c t h0]
      exact k

/-- What a point leaves in its two output blocks. -/
theorem leaves (t : Fin cfg0.N) :
    (outsAt0 m c t.val t.isLt).1 = k0_pay4 (iblk m c 0 t) (k0_pay1 (iblk m c 1 (lead t))) (k0_pay2 (iblk m c 2 (lead t)))
    ∧ (outsAt0 m c t.val t.isLt).2.1 = k0_pay3 (iblk m c 3 t) := by
  by_cases h0 : t.val % 16 = 0
  · have hl : lead t = t := Fin.ext (by show 16 * (t.val / 16) = t.val; omega)
    rw [at_A m c t h0, hl]
    exact ⟨rfl, rfl⟩
  · have hl : lead ⟨t.val - 1, Nat.lt_of_le_of_lt (Nat.sub_le _ _) t.isLt⟩ = lead t :=
      Fin.ext (by show 16 * ((t.val - 1) / 16) = 16 * (t.val / 16); omega)
    have k := kept m c (t.val - 1) ⟨t.val - 1, Nat.lt_of_le_of_lt (Nat.sub_le _ _) t.isLt⟩ rfl
    rw [hl] at k
    rw [at_B m c t h0]
    refine ⟨?_, rfl⟩
    show k0_pay4 _ _ _ = _
    rw [k.1, k.2]

theorem index0 : ∀ t : Fin cfg0.N, win0_0.index t (0 : Fin 2) = t.val % 16 ∧ win0_0.index t (1 : Fin 2) = 0 :=
  (by decide +kernel : ∀ t : Fin grid0.N, _)
theorem index1 : ∀ t : Fin cfg0.N, t.val % 16 = 0 → win0_1.index t (0 : Fin 2) = 0 ∧ win0_1.index t (1 : Fin 2) = t.val / 16 :=
  (by decide +kernel : ∀ t : Fin grid0.N, _)
theorem index2 : ∀ t : Fin cfg0.N, t.val % 16 = 0 → win0_2.index t (0 : Fin 2) = 0 ∧ win0_2.index t (1 : Fin 2) = 11 + t.val / 16 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val % 16 ∧ win0_4.index t (1 : Fin 2) = t.val / 16 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)

theorem block0 (t : Fin cfg0.N) (r : Fin 1024) (x : Fin 2048) :
    (iblk m c 0 t : Vec Ideal S1024x2048 .bf16) (ix2 r x) = m ((c.tc : Thread nD τ).loc main_arg0)
      (ix2 (n0 := 16384) (n1 := 2048) ⟨1024 * (t.val % 16) + r.val, by omega⟩ x) := by
  obtain ⟨e0, e1⟩ := index0 t
  have e : ((cfg0.win 0).blk t).view.emb (ix2 (n0 := 1024) (n1 := 2048) r x)
      = ix2 (n0 := 16384) (n1 := 2048) ⟨1024 * (t.val % 16) + r.val, by omega⟩ x := by
    funext a; apply Fin.ext
    match a with
    | ⟨0, _⟩ => show win0_0.index t (0 : Fin 2) * 1024 + 1 * r.val = 1024 * (t.val % 16) + r.val; omega
    | ⟨1, _⟩ => show win0_0.index t (1 : Fin 2) * 2048 + 1 * x.val = x.val; omega
  show V m c main_arg0 (((cfg0.win 0).blk t).view.emb (ix2 (n0 := 1024) (n1 := 2048) r x)) = _
  rw [e, V_main_arg0]

theorem block1 (t : Fin cfg0.N) (x : Fin 2048) (j : Fin 512) :
    (iblk m c 1 (lead t) : Vec Ideal S2048x512 .f32) (ix2 x j) = m ((c.tc : Thread nD τ).loc main_arg1)
      (ix2 (n0 := 2048) (n1 := 11264) x ⟨512 * (t.val / 16) + j.val, by have := points t; omega⟩) := by
  have ht := points t
  have hl : (lead t).val = 16 * (t.val / 16) := rfl
  obtain ⟨e0, e1⟩ := index1 (lead t) (by omega)
  have e : ((cfg0.win 1).blk (lead t)).view.emb (ix2 (n0 := 2048) (n1 := 512) x j)
      = ix2 (n0 := 2048) (n1 := 11264) x ⟨512 * (t.val / 16) + j.val, by omega⟩ := by
    funext a; apply Fin.ext
    match a with
    | ⟨0, _⟩ => show win0_1.index (lead t) (0 : Fin 2) * 2048 + 1 * x.val = x.val; omega
    | ⟨1, _⟩ => show win0_1.index (lead t) (1 : Fin 2) * 512 + 1 * j.val = 512 * (t.val / 16) + j.val; omega
  show V m c main_arg1 (((cfg0.win 1).blk (lead t)).view.emb (ix2 (n0 := 2048) (n1 := 512) x j)) = _
  rw [e, V_main_arg1]

theorem block2 (t : Fin cfg0.N) (x : Fin 2048) (j : Fin 512) :
    (iblk m c 2 (lead t) : Vec Ideal S2048x512 .f32) (ix2 x j) = m ((c.tc : Thread nD τ).loc main_arg1)
      (ix2 (n0 := 2048) (n1 := 11264) x ⟨5632 + (512 * (t.val / 16) + j.val), by have := points t; omega⟩) := by
  have ht := points t
  have hl : (lead t).val = 16 * (t.val / 16) := rfl
  obtain ⟨e0, e1⟩ := index2 (lead t) (by omega)
  have e : ((cfg0.win 2).blk (lead t)).view.emb (ix2 (n0 := 2048) (n1 := 512) x j)
      = ix2 (n0 := 2048) (n1 := 11264) x ⟨5632 + (512 * (t.val / 16) + j.val), by omega⟩ := by
    funext a; apply Fin.ext
    match a with
    | ⟨0, _⟩ => show win0_2.index (lead t) (0 : Fin 2) * 2048 + 1 * x.val = x.val; omega
    | ⟨1, _⟩ => show win0_2.index (lead t) (1 : Fin 2) * 512 + 1 * j.val = 5632 + (512 * (t.val / 16) + j.val); omega
  show V m c main_arg1 (((cfg0.win 2).blk (lead t)).view.emb (ix2 (n0 := 2048) (n1 := 512) x j)) = _
  rw [e, V_main_arg1]

theorem block3 (t : Fin cfg0.N) (r : Fin 32) (j : Fin 2048) :
    (iblk m c 3 t : Vec Ideal S32x2048 .f32) (ix2 r j) = m ((c.tc : Thread nD τ).loc main_arg2)
      (ix2 (n0 := 5632) (n1 := 2048) ⟨32 * t.val + r.val, by have := points t; omega⟩ j) := by
  have ht := points t
  obtain ⟨e0, e1⟩ := index3 t
  have e : ((cfg0.win 3).blk t).view.emb (ix2 (n0 := 32) (n1 := 2048) r j)
      = ix2 (n0 := 5632) (n1 := 2048) ⟨32 * t.val + r.val, by omega⟩ j := by
    funext a; apply Fin.ext
    match a with
    | ⟨0, _⟩ => show win0_3.index t (0 : Fin 2) * 32 + 1 * r.val = 32 * t.val + r.val; omega
    | ⟨1, _⟩ => show win0_3.index t (1 : Fin 2) * 2048 + 1 * j.val = j.val; omega
  show V m c main_arg2 (((cfg0.win 3).blk t).view.emb (ix2 (n0 := 32) (n1 := 2048) r j)) = _
  rw [e, V_main_arg2]

/-- The hidden units. -/
def hiddenOf : Buf (Elt Ideal) ((c.tc : Thread nD τ).loc main_v0_0) :=
  fun i : S16384x5632.Idx => hiddenCell (fun x => m ((c.tc : Thread nD τ).loc main_arg0) (ix2 (n0 := 16384) (n1 := 2048) (i 0) x))
    (fun x => m ((c.tc : Thread nD τ).loc main_arg1) (ix2 (n0 := 2048) (n1 := 11264) x ⟨(i 1).val, lt_trans (i 1).isLt (by decide)⟩))
    (fun x => m ((c.tc : Thread nD τ).loc main_arg1) (ix2 (n0 := 2048) (n1 := 11264) x ⟨5632 + (i 1).val, Nat.add_lt_add_left (i 1).isLt 5632⟩))

/-- The down projection's weights, cast. -/
def sideOf : Buf (Elt Ideal) ((c.tc : Thread nD τ).loc main_v0_1) :=
  fun i : S5632x2048.Idx => m ((c.tc : Thread nD τ).loc main_arg2) i

theorem flushes4 : ∀ t : Fin cfg0.N, (cfg0.win 4).flush t = true :=
  (by decide +kernel : ∀ t : Fin grid0.N, win0_4.flush t = true)
theorem flushes5 : ∀ t : Fin cfg0.N, (cfg0.win 5).flush t = true :=
  (by decide +kernel : ∀ t : Fin grid0.N, win0_5.flush t = true)

/-- What a point writes back is its block of the hidden units. -/
theorem flushed_hidden (t : Fin cfg0.N) :
    (dats m 0 c).flushed 4 t = ((cfg0.win 4).blk t).view.read (Elt Ideal) (hiddenOf m c) := by
  show (cfg0.win 4).cut (grid0.coords t) ((dats m 0 c).after 4 t) = _
  rw [after0_4, (leaves m c t).1]
  have ht := points t
  obtain ⟨e0, e1⟩ := index4 t
  funext y
  have hy0 : (y 0).val < 1024 := (y 0).isLt
  have hy1 : (y 1).val < 512 := (y 1).isLt
  have hx : (cfg0.win 4).xinj (grid0.coords t) y = ix2 (n0 := 1024) (n1 := 512) ⟨(y 0).val, hy0⟩ ⟨(y 1).val, hy1⟩ := by
    funext a; apply Fin.ext
    match a with
    | ⟨0, _⟩ => rfl
    | ⟨1, _⟩ => rfl
  have he : ((cfg0.win 4).blk t).view.emb y = ix2 (n0 := 16384) (n1 := 5632) ⟨1024 * (t.val % 16) + (y 0).val, by omega⟩
      ⟨512 * (t.val / 16) + (y 1).val, by omega⟩ := by
    funext a; apply Fin.ext
    match a with
    | ⟨0, _⟩ => show win0_4.index t (0 : Fin 2) * 1024 + 1 * (y 0).val = 1024 * (t.val % 16) + (y 0).val; omega
    | ⟨1, _⟩ => show win0_4.index t (1 : Fin 2) * 512 + 1 * (y 1).val = 512 * (t.val / 16) + (y 1).val; omega
  show k0_pay4 (iblk m c 0 t) (k0_pay1 (iblk m c 1 (lead t))) (k0_pay2 (iblk m c 2 (lead t))) ((cfg0.win 4).xinj (grid0.coords t) y)
    = hiddenOf m c (((cfg0.win 4).blk t).view.emb y)
  rw [hx, he, pay_at]
  simp only [pay1_at, pay2_at, block0, block1, block2]
  rfl

/-- What a point writes back is its block of the cast weights. -/
theorem flushed_side (t : Fin cfg0.N) :
    (dats m 0 c).flushed 5 t = ((cfg0.win 5).blk t).view.read (Elt Ideal) (sideOf m c) := by
  show (cfg0.win 5).cut (grid0.coords t) ((dats m 0 c).after 5 t) = _
  rw [after0_5, (leaves m c t).2]
  have ht := points t
  obtain ⟨e0, e1⟩ := index5 t
  funext y
  have hy0 : (y 0).val < 32 := (y 0).isLt
  have hy1 : (y 1).val < 2048 := (y 1).isLt
  have hx : (cfg0.win 5).xinj (grid0.coords t) y = ix2 (n0 := 32) (n1 := 2048) ⟨(y 0).val, hy0⟩ ⟨(y 1).val, hy1⟩ := by
    funext a; apply Fin.ext
    match a with
    | ⟨0, _⟩ => rfl
    | ⟨1, _⟩ => rfl
  have he : ((cfg0.win 5).blk t).view.emb y = ix2 (n0 := 5632) (n1 := 2048) ⟨32 * t.val + (y 0).val, by omega⟩ ⟨(y 1).val, hy1⟩ := by
    funext a; apply Fin.ext
    match a with
    | ⟨0, _⟩ => show win0_5.index t (0 : Fin 2) * 32 + 1 * (y 0).val = 32 * t.val + (y 0).val; omega
    | ⟨1, _⟩ => show win0_5.index t (1 : Fin 2) * 2048 + 1 * (y 1).val = (y 1).val; omega
  show k0_pay3 (iblk m c 3 t) ((cfg0.win 5).xinj (grid0.coords t) y) = sideOf m c (((cfg0.win 5).blk t).view.emb y)
  rw [hx, he, pay3_at, block3]
  rfl

/-- The point whose block holds an index of the hidden units. -/
theorem covered4 (i : S16384x5632.Idx) :
    ∃ t : Fin cfg0.N, (cfg0.win 4).flush t = true ∧ i ∈ ((cfg0.win 4).blk t).view.set := by
  have h0 : (i 0).val < 16384 := (i 0).isLt
  have h1 : (i 1).val < 5632 := (i 1).isLt
  have hN : 16 * ((i 1).val / 512) + (i 0).val / 1024 < cfg0.N := lt_of_lt_of_eq (by omega) N_0.symm
  obtain ⟨t, ht⟩ : ∃ t : Fin cfg0.N, t.val = 16 * ((i 1).val / 512) + (i 0).val / 1024 := ⟨⟨_, hN⟩, rfl⟩
  refine ⟨t, flushes4 t, ?_⟩
  obtain ⟨e0, e1⟩ := index4 t
  show i ∈ ((View.whole main_v0_0).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- The point whose block holds an index of the cast weights. -/
theorem covered5 (i : S5632x2048.Idx) :
    ∃ t : Fin cfg0.N, (cfg0.win 5).flush t = true ∧ i ∈ ((cfg0.win 5).blk t).view.set := by
  have h0 : (i 0).val < 5632 := (i 0).isLt
  have h1 : (i 1).val < 2048 := (i 1).isLt
  have hN : (i 0).val / 32 < cfg0.N := lt_of_lt_of_eq (by omega) N_0.symm
  obtain ⟨t, ht⟩ : ∃ t : Fin cfg0.N, t.val = (i 0).val / 32 := ⟨⟨_, hN⟩, rfl⟩
  refine ⟨t, flushes5 t, ?_⟩
  obtain ⟨e0, e1⟩ := index5 t
  show i ∈ ((View.whole main_v0_1).slice (win0_5.rect t)).set
  rw [View.set_slice_whole, Rect.mem_set_unit]
  intro a
  match a with
  | ⟨0, _⟩ => show win0_5.index t (0 : Fin 2) * 32 ≤ (i 0).val ∧ (i 0).val < win0_5.index t (0 : Fin 2) * 32 + 32; omega
  | ⟨1, _⟩ => show win0_5.index t (1 : Fin 2) * 2048 ≤ (i 1).val ∧ (i 1).val < win0_5.index t (1 : Fin 2) * 2048 + 2048; omega

theorem hidden_array : (dats m 0 c).arrAt 4 cfg0.N = hiddenOf m c :=
  (dats m 0 c).arrAt_eq_of_cover 4 _ (fun t _ => flushed_hidden m c t) (fun i => covered4 i)

theorem side_array : (dats m 0 c).arrAt 5 cfg0.N = sideOf m c :=
  (dats m 0 c).arrAt_eq_of_cover 5 _ (fun t _ => flushed_side m c t) (fun i => covered5 i)

/-- The run, with the result arrays named. -/
theorem run_result : θ_run defs (onTc (τ := τ) (main (F := Ideal))) ⟨m, fun _ => 0, ρ⟩ fun r => ∀ c : Dev nD,
      r.2.mem ((c.tc : Thread nD τ).loc main_v0_0) = hiddenOf m c
      ∧ r.2.mem ((c.tc : Thread nD τ).loc main_v0_1) = sideOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 4).trans (hidden_array m c), ((h c).1 5).trans (side_array m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c)))⟩)
    (run_main m ρ)

end Kernel

/-! The claims. -/

theorem algebraic : Cert.algebraic_HiddenIdeal_HiddenReferenceIdeal := by
  intro m ρ m' ρ' hpre hagree
  refine ⟨fun c => hiddenOf m c, fun c => sideOf m c, run_result m ρ, ?_⟩
  refine (θ_run Cert.HiddenReferenceIdeal.defs _ _).mono (fun _ h c => ⟨(h c).1.trans ?_, (h c).2.1.trans ?_, (h c).2.2⟩)
    (Cert.HiddenReferenceIdeal.Value.run (F := Ideal) m' ρ')
  · obtain ⟨e0, e1, e2⟩ := hagree c
    funext i
    have hi : i = ix2 (i 0) (i 1) := by funext a; fin_cases a <;> rfl
    rw [hi, e0, e1]
    exact ref_at _ _ (i 0) (i 1)
  · obtain ⟨e0, e1, e2⟩ := hagree c
    rw [e2]
    rfl

theorem preserves : Cert.preserves_Hidden_HiddenIdeal := trivial

theorem frame_kernel : Cert.quiescent_Hidden := fun m ρ _ => Cert.Hidden.Gen.frame m ρ

theorem frame_ideal : Cert.quiescent_HiddenIdeal := fun m ρ _ => Cert.HiddenIdeal.Gen.frame m ρ

theorem frame_reference : Cert.quiescent_HiddenReferenceIdeal := fun m ρ _ =>
  (θ_run Cert.HiddenReferenceIdeal.defs _ _).mono
    (fun r h => ⟨fun c => (h c).2.2, Idealize.ShloMosaic.sem_eq_zero_of_no_sems (by decide) r.2⟩)
    (Cert.HiddenReferenceIdeal.Value.run (F := Ideal) m ρ)

end Cert.SwigluHidden
-- ==== Proof.ProjRuns.lean ====
module

public import proofs.«01_k».proof.Proof.Gen.ProjectIdeal.Launch
public import proofs.«01_k».proof.Proof.Gen.ProjectIdeal.Skeleton
public import proofs.«01_k».proof.Proof.Gen.ProjectIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 5 rfl).trans ((hA c 5).trans (V_main_arg5 m c))⟩) h

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 17 = 0 :=
  (fun t => by
    have ht : t.val < 272 := Nat.lt_of_lt_of_eq t.isLt N_0
    have e0 : (grid0.coords t 0).val = t.val / 17 % 16 := Pipeline.Grid.coords_val t 0 (by decide) rfl
    have e1 : (grid0.coords t 1).val = t.val / 1 % 17 := Pipeline.Grid.coords_val t 1 (by decide) rfl
    simp only [cond0_0, e0, e1]
    word_cmp
   : ∀ t : Fin grid0.N, cond0_0 (grid0.coords t) ↔ t.val % 17 = 0)

abbrev cond0_1 (i : grid0.Coords) : Prop := k0_cond2 i = 1#1
theorem hcond0_1 : ∀ t : Fin cfg0.N, cond0_1 (grid0.coords t) ↔ t.val % 17 ≤ 5 :=
  (by decide +kernel : ∀ t : Fin grid0.N, cond0_1 (grid0.coords t) ↔ t.val % 17 ≤ 5)

abbrev cond0_2 (i : grid0.Coords) : Prop := k0_cond3 i = 1#1
theorem hcond0_2 : ∀ t : Fin cfg0.N, cond0_2 (grid0.coords t) ↔ (t.val % 17 = 9 ∨ t.val % 17 = 12) :=
  (fun t => by
    have ht : t.val < 272 := Nat.lt_of_lt_of_eq t.isLt N_0
    have e0 : (grid0.coords t 0).val = t.val / 17 % 16 := Pipeline.Grid.coords_val t 0 (by decide) rfl
    have e1 : (grid0.coords t 1).val = t.val / 1 % 17 := Pipeline.Grid.coords_val t 1 (by decide) rfl
    simp only [cond0_2, k0_cond3, e0, e1]
    word_cmp
   : ∀ t : Fin grid0.N, cond0_2 (grid0.coords t) ↔ (t.val % 17 = 9 ∨ t.val % 17 = 12))

abbrev cond0_3 (i : grid0.Coords) : Prop := k0_cond4 i = 1#1
theorem hcond0_3 : ∀ t : Fin cfg0.N, cond0_3 (grid0.coords t) ↔ (t.val % 17 = 6 ∨ t.val % 17 = 7 ∨ t.val % 17 = 8 ∨ t.val % 17 = 11 ∨ t.val % 17 = 13 ∨ t.val % 17 = 14 ∨ t.val % 17 = 15 ∨ t.val % 17 = 16) :=
  (by decide +kernel : ∀ t : Fin grid0.N, cond0_3 (grid0.coords t) ↔ (t.val % 17 = 6 ∨ t.val % 17 = 7 ∨ t.val % 17 = 8 ∨ t.val % 17 = 11 ∨ t.val % 17 = 13 ∨ t.val % 17 = 14 ∨ t.val % 17 = 15 ∨ t.val % 17 = 16))

abbrev cond0_4 (i : grid0.Coords) : Prop := k0_cond5 i = 1#1
theorem hcond0_4 : ∀ t : Fin cfg0.N, cond0_4 (grid0.coords t) ↔ t.val % 17 = 10 :=
  (fun t => by
    have ht : t.val < 272 := Nat.lt_of_lt_of_eq t.isLt N_0
    have e0 : (grid0.coords t 0).val = t.val / 17 % 16 := Pipeline.Grid.coords_val t 0 (by decide) rfl
    have e1 : (grid0.coords t 1).val = t.val / 1 % 17 := Pipeline.Grid.coords_val t 1 (by decide) rfl
    simp only [cond0_4, k0_cond5, e0, e1]
    word_cmp
   : ∀ t : Fin grid0.N, cond0_4 (grid0.coords t) ↔ t.val % 17 = 10)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

abbrev conds0_A (i : grid0.Coords) : Prop := cond0_0 i ∧ cond0_1 i ∧ ¬cond0_2 i ∧ ¬cond0_3 i ∧ ¬cond0_4 i
instance conds0_A.dec (i : grid0.Coords) : Decidable (conds0_A i) :=
  @instDecidableAnd _ _ inferInstance (@instDecidableAnd _ _ inferInstance (@instDecidableAnd _ _ inferInstance (@instDecidableAnd _ _ inferInstance inferInstance)))
abbrev conds0_B (i : grid0.Coords) : Prop := ¬cond0_0 i ∧ cond0_1 i ∧ ¬cond0_2 i ∧ ¬cond0_3 i ∧ ¬cond0_4 i
instance conds0_B.dec (i : grid0.Coords) : Decidable (conds0_B i) :=
  @instDecidableAnd _ _ inferInstance (@instDecidableAnd _ _ inferInstance (@instDecidableAnd _ _ inferInstance (@instDecidableAnd _ _ inferInstance inferInstance)))
abbrev conds0_C (i : grid0.Coords) : Prop := ¬cond0_0 i ∧ ¬cond0_1 i ∧ ¬cond0_2 i ∧ cond0_3 i ∧ ¬cond0_4 i
instance conds0_C.dec (i : grid0.Coords) : Decidable (conds0_C i) :=
  @instDecidableAnd _ _ inferInstance (@instDecidableAnd _ _ inferInstance (@instDecidableAnd _ _ inferInstance (@instDecidableAnd _ _ inferInstance inferInstance)))
abbrev conds0_D (i : grid0.Coords) : Prop := ¬cond0_0 i ∧ ¬cond0_1 i ∧ cond0_2 i ∧ ¬cond0_3 i ∧ ¬cond0_4 i
instance conds0_D.dec (i : grid0.Coords) : Decidable (conds0_D i) :=
  @instDecidableAnd _ _ inferInstance (@instDecidableAnd _ _ inferInstance (@instDecidableAnd _ _ inferInstance (@instDecidableAnd _ _ inferInstance inferInstance)))
abbrev conds0_E (i : grid0.Coords) : Prop := ¬cond0_0 i ∧ ¬cond0_1 i ∧ ¬cond0_2 i ∧ ¬cond0_3 i ∧ cond0_4 i
instance conds0_E.dec (i : grid0.Coords) : Decidable (conds0_E i) :=
  @instDecidableAnd _ _ inferInstance (@instDecidableAnd _ _ inferInstance (@instDecidableAnd _ _ inferInstance (@instDecidableAnd _ _ inferInstance inferInstance)))
theorem liveAt0_6_A : ∀ t : Fin cfg0.N, cond0_0 (grid0.coords t) → cond0_1 (grid0.coords t) → ¬cond0_2 (grid0.coords t) → ¬cond0_3 (grid0.coords t) → ¬cond0_4 (grid0.coords t) → cfg0.idle 6 (grid0.coords t) = false :=
  fun t h0 h1 h2 h3 h4 => (by decide +kernel : ∀ t : Fin cfg0.N, conds0_A (grid0.coords t) → cfg0.idle 6 (grid0.coords t) = false) t ⟨h0, h1, h2, h3, h4⟩
theorem liveAt0_6_B : ∀ t : Fin cfg0.N, ¬cond0_0 (grid0.coords t) → cond0_1 (grid0.coords t) → ¬cond0_2 (grid0.coords t) → ¬cond0_3 (grid0.coords t) → ¬cond0_4 (grid0.coords t) → cfg0.idle 6 (grid0.coords t) = false :=
  fun t h0 h1 h2 h3 h4 => (by decide +kernel : ∀ t : Fin cfg0.N, conds0_B (grid0.coords t) → cfg0.idle 6 (grid0.coords t) = false) t ⟨h0, h1, h2, h3, h4⟩
theorem liveAt0_6_C : ∀ t : Fin cfg0.N, ¬cond0_0 (grid0.coords t) → ¬cond0_1 (grid0.coords t) → ¬cond0_2 (grid0.coords t) → cond0_3 (grid0.coords t) → ¬cond0_4 (grid0.coords t) → cfg0.idle 6 (grid0.coords t) = false :=
  fun t h0 h1 h2 h3 h4 => (by decide +kernel : ∀ t : Fin cfg0.N, conds0_C (grid0.coords t) → cfg0.idle 6 (grid0.coords t) = false) t ⟨h0, h1, h2, h3, h4⟩
theorem liveAt0_6_D : ∀ t : Fin cfg0.N, ¬cond0_0 (grid0.coords t) → ¬cond0_1 (grid0.coords t) → cond0_2 (grid0.coords t) → ¬cond0_3 (grid0.coords t) → ¬cond0_4 (grid0.coords t) → cfg0.idle 6 (grid0.coords t) = false :=
  fun t h0 h1 h2 h3 h4 => (by decide +kernel : ∀ t : Fin cfg0.N, conds0_D (grid0.coords t) → cfg0.idle 6 (grid0.coords t) = false) t ⟨h0, h1, h2, h3, h4⟩
theorem liveAt0_6_E : ∀ t : Fin cfg0.N, ¬cond0_0 (grid0.coords t) → ¬cond0_1 (grid0.coords t) → ¬cond0_2 (grid0.coords t) → ¬cond0_3 (grid0.coords t) → cond0_4 (grid0.coords t) → cfg0.idle 6 (grid0.coords t) = false :=
  fun t h0 h1 h2 h3 h4 => (by decide +kernel : ∀ t : Fin cfg0.N, conds0_E (grid0.coords t) → cfg0.idle 6 (grid0.coords t) = false) t ⟨h0, h1, h2, h3, h4⟩

abbrev VO0_6 : View sig .tc .vmem S1x16x64x1024 .bf16 := (Memref.whole cc0_stg6_0 : Memref sig .tc .vmem S1x16x64x1024 .bf16).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x64x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x64x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x64x1024 .bf16 := win0_7.stage (cfg0.slots t 7)
abbrev hs0_7 (t : Fin cfg0.N) : (ms0_7 t).IsWhole := hstage0_7 ((cfg0.slots t 7).cast nbuf0_7)
abbrev scM0_0 : Memref sig .tc .vmem S1024x2048 .bf16 := Memref.whole cc0_scratch0
abbrev VS0_0 : View sig .tc .vmem S1024x2048 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.ProjectIdeal.Gen

end
-- ==== Proof.ProjRunA.lean ====
module

public import proofs.«01_k».proof.Proof.ProjRuns

@[expose] public section

set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1044000 in
noncomputable def kernelRun0_A (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x1024 .f32) (harg5 : arg5.IsWhole) (arg6 : Memref sig .tc .vmem S16x64x256 .f32) (harg6 : arg6.IsWhole) (arg7 : Memref sig .tc .vmem S2x1024 .f32) (harg7 : arg7.IsWhole) (arg8 : Memref sig .tc .vmem S1x16x64x1024 .bf16) (harg8 : arg8.IsWhole) (arg9 : Memref sig .tc .vmem S1x16x64x1024 .bf16) (harg9 : arg9.IsWhole) (arg10 : Memref sig .tc .vmem S1024x2048 .bf16) (harg10 : arg10.IsWhole) (hc0 : cond0_0 i) (hc1 : cond0_1 i) (hc2 : ¬cond0_2 i) (hc3 : ¬cond0_3 i) (hc4 : ¬cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) :
    Σ' (L6 : List (View.Piece (Elt F) S1x16x64x1024 .bf16)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ (∃ f, arg10.view.loc (c : Thread nD τ) ↦[arg10.view.set]{fullShare} arg10.view.writes (Elt F) f LS0)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, ?_, fun E K => ?run⟩
  case run =>
    simp only [cc0_in_proj_eq_skeleton]; unfold cc0_in_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _, _; isplitr; swap; · iexact H7
      ipureintro; rfl
    iexists _; iexact HS0

end Cert.ProjectIdeal.Gen

end
-- ==== Proof.ProjRunB.lean ====
module

public import proofs.«01_k».proof.Proof.ProjRunA

@[expose] public section

set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x1024 .f32) (harg5 : arg5.IsWhole) (arg6 : Memref sig .tc .vmem S16x64x256 .f32) (harg6 : arg6.IsWhole) (arg7 : Memref sig .tc .vmem S2x1024 .f32) (harg7 : arg7.IsWhole) (arg8 : Memref sig .tc .vmem S1x16x64x1024 .bf16) (harg8 : arg8.IsWhole) (arg9 : Memref sig .tc .vmem S1x16x64x1024 .bf16) (harg9 : arg9.IsWhole) (arg10 : Memref sig .tc .vmem S1024x2048 .bf16) (harg10 : arg10.IsWhole) (hc0 : ¬cond0_0 i) (hc1 : cond0_1 i) (hc2 : ¬cond0_2 i) (hc3 : ¬cond0_3 i) (hc4 : ¬cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (xs0 : Vec F S1024x2048 .bf16) :
    Σ' (L6 : List (View.Piece (Elt F) S1x16x64x1024 .bf16)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ owns (c : Thread nD τ) arg10 fullShare xs0) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, [], fun E K => ?run⟩
  case run =>
    simp only [cc0_in_proj_eq_skeleton]; unfold cc0_in_proj_skel
    simp only [k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _, _; isplitr; swap; · iexact H7
      ipureintro; rfl
    iexists _; isplitr; · ipureintro; exact harg10.read_unread _
    iexact HS0

end Cert.ProjectIdeal.Gen

end
-- ==== Proof.ProjRunC.lean ====
module

public import proofs.«01_k».proof.Proof.ProjRunB

@[expose] public section

set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x1024 .f32) (harg5 : arg5.IsWhole) (arg6 : Memref sig .tc .vmem S16x64x256 .f32) (harg6 : arg6.IsWhole) (arg7 : Memref sig .tc .vmem S2x1024 .f32) (harg7 : arg7.IsWhole) (arg8 : Memref sig .tc .vmem S1x16x64x1024 .bf16) (harg8 : arg8.IsWhole) (arg9 : Memref sig .tc .vmem S1x16x64x1024 .bf16) (harg9 : arg9.IsWhole) (arg10 : Memref sig .tc .vmem S1024x2048 .bf16) (harg10 : arg10.IsWhole) (hc0 : ¬cond0_0 i) (hc1 : ¬cond0_1 i) (hc2 : ¬cond0_2 i) (hc3 : cond0_3 i) (hc4 : ¬cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (xs0 : Vec F S1024x2048 .bf16) :
    Σ' (L6 : List (View.Piece (Elt F) S1x16x64x1024 .bf16)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ owns (c : Thread nD τ) arg10 fullShare xs0) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, [], fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _, _; isplitr; swap; · iexact H7
      ipureintro; rfl
    iexists _; isplitr; · ipureintro; exact harg10.read_unread _
    iexact HS0

end Cert.ProjectIdeal.Gen

end
-- ==== Proof.ProjRunD.lean ====
module

public import proofs.«01_k».proof.Proof.ProjRunC

@[expose] public section

set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_D (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x1024 .f32) (harg5 : arg5.IsWhole) (arg6 : Memref sig .tc .vmem S16x64x256 .f32) (harg6 : arg6.IsWhole) (arg7 : Memref sig .tc .vmem S2x1024 .f32) (harg7 : arg7.IsWhole) (arg8 : Memref sig .tc .vmem S1x16x64x1024 .bf16) (harg8 : arg8.IsWhole) (arg9 : Memref sig .tc .vmem S1x16x64x1024 .bf16) (harg9 : arg9.IsWhole) (arg10 : Memref sig .tc .vmem S1024x2048 .bf16) (harg10 : arg10.IsWhole) (hc0 : ¬cond0_0 i) (hc1 : ¬cond0_1 i) (hc2 : cond0_2 i) (hc3 : ¬cond0_3 i) (hc4 : ¬cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (xs0 : Vec F S1024x2048 .bf16) :
    Σ' (L6 : List (View.Piece (Elt F) S1x16x64x1024 .bf16)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ owns (c : Thread nD τ) arg10 fullShare xs0) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, [], fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _, _; isplitr; swap; · iexact H7
      ipureintro; rfl
    iexists _; isplitr; · ipureintro; exact harg10.read_unread _
    iexact HS0

end Cert.ProjectIdeal.Gen

end
-- ==== Proof.ProjRunE.lean ====
module

public import proofs.«01_k».proof.Proof.ProjRunD

@[expose] public section

set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_E (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x1024 .f32) (harg5 : arg5.IsWhole) (arg6 : Memref sig .tc .vmem S16x64x256 .f32) (harg6 : arg6.IsWhole) (arg7 : Memref sig .tc .vmem S2x1024 .f32) (harg7 : arg7.IsWhole) (arg8 : Memref sig .tc .vmem S1x16x64x1024 .bf16) (harg8 : arg8.IsWhole) (arg9 : Memref sig .tc .vmem S1x16x64x1024 .bf16) (harg9 : arg9.IsWhole) (arg10 : Memref sig .tc .vmem S1024x2048 .bf16) (harg10 : arg10.IsWhole) (hc0 : ¬cond0_0 i) (hc1 : ¬cond0_1 i) (hc2 : ¬cond0_2 i) (hc3 : ¬cond0_3 i) (hc4 : cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (xs0 : Vec F S1024x2048 .bf16) :
    Σ' (L6 : List (View.Piece (Elt F) S1x16x64x1024 .bf16)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ owns (c : Thread nD τ) arg10 fullShare xs0) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, [], fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _, _; isplitr; swap; · iexact H7
      ipureintro; rfl
    iexists _; isplitr; · ipureintro; exact harg10.read_unread _
    iexact HS0

end Cert.ProjectIdeal.Gen

end
-- ==== Proof.ProjFrame.lean ====
module

public import proofs.«01_k».proof.Proof.ProjRunE
public import Idealize.ShloMosaic.Lib.Claim

@[expose] public section

set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x1024 .f32) (harg5 : arg5.IsWhole) (arg6 : Memref sig .tc .vmem S16x64x256 .f32) (harg6 : arg6.IsWhole) (arg7 : Memref sig .tc .vmem S2x1024 .f32) (harg7 : arg7.IsWhole) (arg8 : Memref sig .tc .vmem S1x16x64x1024 .bf16) (harg8 : arg8.IsWhole) (arg9 : Memref sig .tc .vmem S1x16x64x1024 .bf16) (harg9 : arg9.IsWhole) (arg10 : Memref sig .tc .vmem S1024x2048 .bf16) (harg10 : arg10.IsWhole)
include c i arg2 harg2 arg3 harg3 arg4 harg4 arg5 harg5 arg6 harg6 arg7 harg7 arg8 harg8 arg9 harg9 arg10 harg10

theorem cover0_A_6 (hc0 : cond0_0 i) (hc1 : cond0_1 i) (hc2 : ¬cond0_2 i) (hc3 : ¬cond0_3 i) (hc4 : ¬cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (y : S1x16x64x1024.Idx) :
    ∃ pc ∈ (kernelRun0_A c i arg2 harg2 arg3 harg3 arg4 harg4 arg5 harg5 arg6 harg6 arg7 harg7 arg8 harg8 arg9 harg9 arg10 harg10 hc0 hc1 hc2 hc3 hc4 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 hc4 x0 x1 x2 x3 x4 x5).1 S1x16x64x1024.size (by sl_kernel_rfl) y

def out0_A_6 (hc0 : cond0_0 i) (hc1 : cond0_1 i) (hc2 : ¬cond0_2 i) (hc3 : ¬cond0_3 i) (hc4 : ¬cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) : Vec F S1x16x64x1024 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 hc2 hc3 hc4 x0 x1 x2 x3 x4 x5).1)

theorem scover0_A_0 (hc0 : cond0_0 i) (hc1 : cond0_1 i) (hc2 : ¬cond0_2 i) (hc3 : ¬cond0_3 i) (hc4 : ¬cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (y : S1024x2048.Idx) :
    ∃ pc ∈ (kernelRun0_A c i arg2 harg2 arg3 harg3 arg4 harg4 arg5 harg5 arg6 harg6 arg7 harg7 arg8 harg8 arg9 harg9 arg10 harg10 hc0 hc1 hc2 hc3 hc4 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 hc4 x0 x1 x2 x3 x4 x5).2.1 S16x2048.size (by sl_kernel_rfl) y

def sout0_A_0 (hc0 : cond0_0 i) (hc1 : cond0_1 i) (hc2 : ¬cond0_2 i) (hc3 : ¬cond0_3 i) (hc4 : ¬cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 hc2 hc3 hc4 x0 x1 x2 x3 x4 x5).2.1)

theorem cover0_B_6 (hc0 : ¬cond0_0 i) (hc1 : cond0_1 i) (hc2 : ¬cond0_2 i) (hc3 : ¬cond0_3 i) (hc4 : ¬cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (xs0 : Vec F S1024x2048 .bf16) (y : S1x16x64x1024.Idx) :
    ∃ pc ∈ (kernelRun0_B c i arg2 harg2 arg3 harg3 arg4 harg4 arg5 harg5 arg6 harg6 arg7 harg7 arg8 harg8 arg9 harg9 arg10 harg10 hc0 hc1 hc2 hc3 hc4 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 arg10 harg10 hc0 hc1 hc2 hc3 hc4 x0 x1 x2 x3 x4 x5 xs0).1 S1x16x64x1024.size (by sl_kernel_rfl) y

def out0_B_6 (hc0 : ¬cond0_0 i) (hc1 : cond0_1 i) (hc2 : ¬cond0_2 i) (hc3 : ¬cond0_3 i) (hc4 : ¬cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (xs0 : Vec F S1024x2048 .bf16) : Vec F S1x16x64x1024 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 hc2 hc3 hc4 x0 x1 x2 x3 x4 x5 xs0).1)

theorem cover0_C_6 (hc0 : ¬cond0_0 i) (hc1 : ¬cond0_1 i) (hc2 : ¬cond0_2 i) (hc3 : cond0_3 i) (hc4 : ¬cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (xs0 : Vec F S1024x2048 .bf16) (y : S1x16x64x1024.Idx) :
    ∃ pc ∈ (kernelRun0_C c i arg2 harg2 arg3 harg3 arg4 harg4 arg5 harg5 arg6 harg6 arg7 harg7 arg8 harg8 arg9 harg9 arg10 harg10 hc0 hc1 hc2 hc3 hc4 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 arg10 harg10 hc0 hc1 hc2 hc3 hc4 x0 x1 x2 x3 x4 x5 xs0).1 S1x16x64x1024.size (by sl_kernel_rfl) y

def out0_C_6 (hc0 : ¬cond0_0 i) (hc1 : ¬cond0_1 i) (hc2 : ¬cond0_2 i) (hc3 : cond0_3 i) (hc4 : ¬cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (xs0 : Vec F S1024x2048 .bf16) : Vec F S1x16x64x1024 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 hc2 hc3 hc4 x0 x1 x2 x3 x4 x5 xs0).1)

theorem cover0_D_6 (hc0 : ¬cond0_0 i) (hc1 : ¬cond0_1 i) (hc2 : cond0_2 i) (hc3 : ¬cond0_3 i) (hc4 : ¬cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (xs0 : Vec F S1024x2048 .bf16) (y : S1x16x64x1024.Idx) :
    ∃ pc ∈ (kernelRun0_D c i arg2 harg2 arg3 harg3 arg4 harg4 arg5 harg5 arg6 harg6 arg7 harg7 arg8 harg8 arg9 harg9 arg10 harg10 hc0 hc1 hc2 hc3 hc4 x0 x1 x2 x3 x4 x5 xs0).1, y ∈ pc.1.set :=
  View.cover_of_tiledL (kernelRun0_D c i arg2 harg2 arg3 harg3 arg4 harg4 arg5 harg5 arg6 harg6 arg7 harg7 arg8 harg8 arg9 harg9 arg10 harg10 hc0 hc1 hc2 hc3 hc4 x0 x1 x2 x3 x4 x5 xs0).1 S1x16x64x1024.size (by sl_kernel_rfl) y

def out0_D_6 (hc0 : ¬cond0_0 i) (hc1 : ¬cond0_1 i) (hc2 : cond0_2 i) (hc3 : ¬cond0_3 i) (hc4 : ¬cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (xs0 : Vec F S1024x2048 .bf16) : Vec F S1x16x64x1024 .bf16 :=
  VO0_6.read (Elt F) (VO0_6.writes (Elt F) VO0_6.junk (kernelRun0_D c i arg2 harg2 arg3 harg3 arg4 harg4 arg5 harg5 arg6 harg6 arg7 harg7 arg8 harg8 arg9 harg9 arg10 harg10 hc0 hc1 hc2 hc3 hc4 x0 x1 x2 x3 x4 x5 xs0).1)

theorem cover0_E_6 (hc0 : ¬cond0_0 i) (hc1 : ¬cond0_1 i) (hc2 : ¬cond0_2 i) (hc3 : ¬cond0_3 i) (hc4 : cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (xs0 : Vec F S1024x2048 .bf16) (y : S1x16x64x1024.Idx) :
    ∃ pc ∈ (kernelRun0_E c i arg2 harg2 arg3 harg3 arg4 harg4 arg5 harg5 arg6 harg6 arg7 harg7 arg8 harg8 arg9 harg9 arg10 harg10 hc0 hc1 hc2 hc3 hc4 x0 x1 x2 x3 x4 x5 xs0).1, y ∈ pc.1.set :=
  View.cover_of_tiledL (kernelRun0_E c i arg2 harg2 arg3 harg3 arg4 harg4 arg5 harg5 arg6 harg6 arg7 harg7 arg8 harg8 arg9 harg9 arg10 harg10 hc0 hc1 hc2 hc3 hc4 x0 x1 x2 x3 x4 x5 xs0).1 S1x16x64x1024.size (by sl_kernel_rfl) y

def out0_E_6 (hc0 : ¬cond0_0 i) (hc1 : ¬cond0_1 i) (hc2 : ¬cond0_2 i) (hc3 : ¬cond0_3 i) (hc4 : cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (xs0 : Vec F S1024x2048 .bf16) : Vec F S1x16x64x1024 .bf16 :=
  VO0_6.read (Elt F) (VO0_6.writes (Elt F) VO0_6.junk (kernelRun0_E c i arg2 harg2 arg3 harg3 arg4 harg4 arg5 harg5 arg6 harg6 arg7 harg7 arg8 harg8 arg9 harg9 arg10 harg10 hc0 hc1 hc2 hc3 hc4 x0 x1 x2 x3 x4 x5 xs0).1)

end

def sout0_B_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x1024 .f32) (harg5 : arg5.IsWhole) (arg6 : Memref sig .tc .vmem S16x64x256 .f32) (harg6 : arg6.IsWhole) (arg7 : Memref sig .tc .vmem S2x1024 .f32) (harg7 : arg7.IsWhole) (arg8 : Memref sig .tc .vmem S1x16x64x1024 .bf16) (harg8 : arg8.IsWhole) (arg9 : Memref sig .tc .vmem S1x16x64x1024 .bf16) (harg9 : arg9.IsWhole) (arg10 : Memref sig .tc .vmem S1024x2048 .bf16) (harg10 : arg10.IsWhole) (hc0 : ¬cond0_0 i) (hc1 : cond0_1 i) (hc2 : ¬cond0_2 i) (hc3 : ¬cond0_3 i) (hc4 : ¬cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (xs0 : Vec F S1024x2048 .bf16) : Vec F S1024x2048 .bf16 := xs0

def sout0_C_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x1024 .f32) (harg5 : arg5.IsWhole) (arg6 : Memref sig .tc .vmem S16x64x256 .f32) (harg6 : arg6.IsWhole) (arg7 : Memref sig .tc .vmem S2x1024 .f32) (harg7 : arg7.IsWhole) (arg8 : Memref sig .tc .vmem S1x16x64x1024 .bf16) (harg8 : arg8.IsWhole) (arg9 : Memref sig .tc .vmem S1x16x64x1024 .bf16) (harg9 : arg9.IsWhole) (arg10 : Memref sig .tc .vmem S1024x2048 .bf16) (harg10 : arg10.IsWhole) (hc0 : ¬cond0_0 i) (hc1 : ¬cond0_1 i) (hc2 : ¬cond0_2 i) (hc3 : cond0_3 i) (hc4 : ¬cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (xs0 : Vec F S1024x2048 .bf16) : Vec F S1024x2048 .bf16 := xs0

def sout0_D_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x1024 .f32) (harg5 : arg5.IsWhole) (arg6 : Memref sig .tc .vmem S16x64x256 .f32) (harg6 : arg6.IsWhole) (arg7 : Memref sig .tc .vmem S2x1024 .f32) (harg7 : arg7.IsWhole) (arg8 : Memref sig .tc .vmem S1x16x64x1024 .bf16) (harg8 : arg8.IsWhole) (arg9 : Memref sig .tc .vmem S1x16x64x1024 .bf16) (harg9 : arg9.IsWhole) (arg10 : Memref sig .tc .vmem S1024x2048 .bf16) (harg10 : arg10.IsWhole) (hc0 : ¬cond0_0 i) (hc1 : ¬cond0_1 i) (hc2 : cond0_2 i) (hc3 : ¬cond0_3 i) (hc4 : ¬cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (xs0 : Vec F S1024x2048 .bf16) : Vec F S1024x2048 .bf16 := xs0

def sout0_E_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x1024 .f32) (harg5 : arg5.IsWhole) (arg6 : Memref sig .tc .vmem S16x64x256 .f32) (harg6 : arg6.IsWhole) (arg7 : Memref sig .tc .vmem S2x1024 .f32) (harg7 : arg7.IsWhole) (arg8 : Memref sig .tc .vmem S1x16x64x1024 .bf16) (harg8 : arg8.IsWhole) (arg9 : Memref sig .tc .vmem S1x16x64x1024 .bf16) (harg9 : arg9.IsWhole) (arg10 : Memref sig .tc .vmem S1024x2048 .bf16) (harg10 : arg10.IsWhole) (hc0 : ¬cond0_0 i) (hc1 : ¬cond0_1 i) (hc2 : ¬cond0_2 i) (hc3 : ¬cond0_3 i) (hc4 : cond0_4 i)
    (x0 : Vec F S512x2048 .f32) (x1 : Vec F S512x2048 .f32) (x2 : Vec F S1x2048 .f32) (x3 : Vec F S2048x1024 .f32) (x4 : Vec F S16x64x256 .f32) (x5 : Vec F S2x1024 .f32) (xs0 : Vec F S1024x2048 .bf16) : Vec F S1024x2048 .bf16 := xs0

def outsAt0 (c : Dev nD) : (n : ℕ) → n < cfg0.N → Vec F S1x16x64x1024 .bf16 × Vec F S1024x2048 .bf16
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 17 = 0 then
      if h1 : (n + 1) % 17 ≤ 5 then
        if h2 : ((n + 1) % 17 = 9 ∨ (n + 1) % 17 = 12) then
          False.elim (by have hN : n + 1 < 272 := lt_of_lt_of_eq hn (show cfg0.N = 272 from N_0); omega)
        else
          if h3 : ((n + 1) % 17 = 6 ∨ (n + 1) % 17 = 7 ∨ (n + 1) % 17 = 8 ∨ (n + 1) % 17 = 11 ∨ (n + 1) % 17 = 13 ∨ (n + 1) % 17 = 14 ∨ (n + 1) % 17 = 15 ∨ (n + 1) % 17 = 16) then
            False.elim (by have hN : n + 1 < 272 := lt_of_lt_of_eq hn (show cfg0.N = 272 from N_0); omega)
          else
            if h4 : (n + 1) % 17 = 10 then
              False.elim (by have hN : n + 1 < 272 := lt_of_lt_of_eq hn (show cfg0.N = 272 from N_0); omega)
            else
              (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
      else
        False.elim (by have hN : n + 1 < 272 := lt_of_lt_of_eq hn (show cfg0.N = 272 from N_0); omega)
    else
      if h1 : (n + 1) % 17 ≤ 5 then
        if h2 : ((n + 1) % 17 = 9 ∨ (n + 1) % 17 = 12) then
          False.elim (by have hN : n + 1 < 272 := lt_of_lt_of_eq hn (show cfg0.N = 272 from N_0); omega)
        else
          if h3 : ((n + 1) % 17 = 6 ∨ (n + 1) % 17 = 7 ∨ (n + 1) % 17 = 8 ∨ (n + 1) % 17 = 11 ∨ (n + 1) % 17 = 13 ∨ (n + 1) % 17 = 14 ∨ (n + 1) % 17 = 15 ∨ (n + 1) % 17 = 16) then
            False.elim (by have hN : n + 1 < 272 := lt_of_lt_of_eq hn (show cfg0.N = 272 from N_0); omega)
          else
            if h4 : (n + 1) % 17 = 10 then
              False.elim (by have hN : n + 1 < 272 := lt_of_lt_of_eq hn (show cfg0.N = 272 from N_0); omega)
            else
              (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
      else
        if h2 : ((n + 1) % 17 = 9 ∨ (n + 1) % 17 = 12) then
          if h3 : ((n + 1) % 17 = 6 ∨ (n + 1) % 17 = 7 ∨ (n + 1) % 17 = 8 ∨ (n + 1) % 17 = 11 ∨ (n + 1) % 17 = 13 ∨ (n + 1) % 17 = 14 ∨ (n + 1) % 17 = 15 ∨ (n + 1) % 17 = 16) then
            False.elim (by have hN : n + 1 < 272 := lt_of_lt_of_eq hn (show cfg0.N = 272 from N_0); omega)
          else
            if h4 : (n + 1) % 17 = 10 then
              False.elim (by have hN : n + 1 < 272 := lt_of_lt_of_eq hn (show cfg0.N = 272 from N_0); omega)
            else
              (out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
        else
          if h3 : ((n + 1) % 17 = 6 ∨ (n + 1) % 17 = 7 ∨ (n + 1) % 17 = 8 ∨ (n + 1) % 17 = 11 ∨ (n + 1) % 17 = 13 ∨ (n + 1) % 17 = 14 ∨ (n + 1) % 17 = 15 ∨ (n + 1) % 17 = 16) then
            if h4 : (n + 1) % 17 = 10 then
              False.elim (by have hN : n + 1 < 272 := lt_of_lt_of_eq hn (show cfg0.N = 272 from N_0); omega)
            else
              (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
          else
            if h4 : (n + 1) % 17 = 10 then
              (out0_E_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
            else
              False.elim (by have hN : n + 1 < 272 := lt_of_lt_of_eq hn (show cfg0.N = 272 from N_0); omega)

theorem outsAt0_A (c : Dev nD) (t : Fin cfg0.N) (h0 : t.val % 17 = 0) (h1 : t.val % 17 ≤ 5) (h2 : ¬(t.val % 17 = 9 ∨ t.val % 17 = 12)) (h3 : ¬(t.val % 17 = 6 ∨ t.val % 17 = 7 ∨ t.val % 17 = 8 ∨ t.val % 17 = 11 ∨ t.val % 17 = 13 ∨ t.val % 17 = 14 ∨ t.val % 17 = 15 ∨ t.val % 17 = 16)) (h4 : ¬t.val % 17 = 10) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_pos h1).trans ((dif_neg h2).trans ((dif_neg h3).trans ((dif_neg h4).trans rfl))))

theorem outsAt0_B (c : Dev nD) (t : Fin cfg0.N) (h0 : ¬t.val % 17 = 0) (h1 : t.val % 17 ≤ 5) (h2 : ¬(t.val % 17 = 9 ∨ t.val % 17 = 12)) (h3 : ¬(t.val % 17 = 6 ∨ t.val % 17 = 7 ∨ t.val % 17 = 8 ∨ t.val % 17 = 11 ∨ t.val % 17 = 13 ∨ t.val % 17 = 14 ∨ t.val % 17 = 15 ∨ t.val % 17 = 16)) (h4 : ¬t.val % 17 = 10) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_neg h4).trans rfl))))

theorem outsAt0_C (c : Dev nD) (t : Fin cfg0.N) (h0 : ¬t.val % 17 = 0) (h1 : ¬t.val % 17 ≤ 5) (h2 : ¬(t.val % 17 = 9 ∨ t.val % 17 = 12)) (h3 : (t.val % 17 = 6 ∨ t.val % 17 = 7 ∨ t.val % 17 = 8 ∨ t.val % 17 = 11 ∨ t.val % 17 = 13 ∨ t.val % 17 = 14 ∨ t.val % 17 = 15 ∨ t.val % 17 = 16)) (h4 : ¬t.val % 17 = 10) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

theorem outsAt0_D (c : Dev nD) (t : Fin cfg0.N) (h0 : ¬t.val % 17 = 0) (h1 : ¬t.val % 17 ≤ 5) (h2 : (t.val % 17 = 9 ∨ t.val % 17 = 12)) (h3 : ¬(t.val % 17 = 6 ∨ t.val % 17 = 7 ∨ t.val % 17 = 8 ∨ t.val % 17 = 11 ∨ t.val % 17 = 13 ∨ t.val % 17 = 14 ∨ t.val % 17 = 15 ∨ t.val % 17 = 16)) (h4 : ¬t.val % 17 = 10) :
    outsAt0 m c t.val t.isLt = (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans rfl))))

theorem outsAt0_E (c : Dev nD) (t : Fin cfg0.N) (h0 : ¬t.val % 17 = 0) (h1 : ¬t.val % 17 ≤ 5) (h2 : ¬(t.val % 17 = 9 ∨ t.val % 17 = 12)) (h3 : ¬(t.val % 17 = 6 ∨ t.val % 17 = 7 ∨ t.val % 17 = 8 ∨ t.val % 17 = 11 ∨ t.val % 17 = 13 ∨ t.val % 17 = 14 ∨ t.val % 17 = 15 ∨ t.val % 17 = 16)) (h4 : t.val % 17 = 10) :
    outsAt0 m c t.val t.isLt = (out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans rfl))))

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

def forgets0 : Fin 8 → Bool := fun w => w.val == 7
theorem forgets0_6 : forgets0 (6 : Fin 8) = false := by decide

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, h⟩ => Pipeline.Dat.unnamed (cfg := cfg0) ⟨7, h⟩ t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d))

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 272 := lt_of_lt_of_eq t.isLt (show cfg0.N = 272 from N_0)
  by_cases h0 : t.val % 17 = 0
  · by_cases h1 : t.val % 17 ≤ 5
    · by_cases h2 : (t.val % 17 = 9 ∨ t.val % 17 = 12)
      · exfalso; omega
      · by_cases h3 : (t.val % 17 = 6 ∨ t.val % 17 = 7 ∨ t.val % 17 = 8 ∨ t.val % 17 = 11 ∨ t.val % 17 = 13 ∨ t.val % 17 = 14 ∨ t.val % 17 = 15 ∨ t.val % 17 = 16)
        · exfalso; omega
        · by_cases h4 : t.val % 17 = 10
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h)) (fun h => h3 ((hcond0_3 t).mp h)) (fun h => h4 ((hcond0_4 t).mp h))], after0_6]
            by_cases hz : t.val = 0
            · rw [PhiS_castSucc m c t, PhiS_zero m c _ _ hz, PhiA0_eq]
              rw [outsAt0_A m c t h0 h1 h2 h3 h4]
              unfold out0_A_6 sout0_A_0; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_A c (grid0.coords t) _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t)).2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexists _; iexact H7
              isplitl [HS0]; · iexact HS0
              iintro ⟨H0, H1, H2, H3, H4, H5, ⟨%e6, H6⟩, H7, ⟨%es0, HS0⟩⟩
              isplitl [HS0 Hg]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]
              · unfold owns; iexists _; isplitr
                swap; · iexact H6
                ipureintro; exact View.read_writes_of_cover _ _ _ _ _ (cover0_A_6 c _ _ _ _ _ _ _ _ _ _ _ _ _ _ _ _ _ _ _ _ _ _ _ _ _ _ _ _ _ _)
              iexact H7
            · rw [PhiS_castSucc m c t, PhiS_pos m c _ _ hz]
              rw [outsAt0_A m c t h0 h1 h2 h3 h4]
              unfold out0_A_6 sout0_A_0; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_A c (grid0.coords t) _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t)).2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexists _; iexact H7
              isplitl [HS0]; · iexists _; iexact HS0
              iintro ⟨H0, H1, H2, H3, H4, H5, ⟨%e6, H6⟩, H7, ⟨%es0, HS0⟩⟩
              isplitl [HS0 Hg]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]
              · unfold owns; iexists _; isplitr
                swap; · iexact H6
                ipureintro; exact View.read_writes_of_cover _ _ _ _ _ (cover0_A_6 c _ _ _ _ _ _ _ _ _ _ _ _ _ _ _ _ _ _ _ _ _ _ _ _ _ _ _ _ _ _)
              iexact H7
    · exfalso; omega
  · by_cases h1 : t.val % 17 ≤ 5
    · by_cases h2 : (t.val % 17 = 9 ∨ t.val % 17 = 12)
      · exfalso; omega
      · by_cases h3 : (t.val % 17 = 6 ∨ t.val % 17 = 7 ∨ t.val % 17 = 8 ∨ t.val % 17 = 11 ∨ t.val % 17 = 13 ∨ t.val % 17 = 14 ∨ t.val % 17 = 15 ∨ t.val % 17 = 16)
        · exfalso; omega
        · by_cases h4 : t.val % 17 = 10
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1) (fun h => h2 ((hcond0_2 t).mp h)) (fun h => h3 ((hcond0_3 t).mp h)) (fun h => h4 ((hcond0_4 t).mp h))], after0_6]
            by_cases hz : t.val = 0
            · exfalso; have hN : t.val < 272 := lt_of_lt_of_eq t.isLt (show cfg0.N = 272 from N_0); omega
            · rw [PhiS_castSucc m c t, PhiS_pos m c _ _ hz]
              rw [outsAt0_B m c t h0 h1 h2 h3 h4]
              unfold out0_B_6 sout0_B_0; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_B c (grid0.coords t) _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) _).2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexists _; iexact H7
              isplitl [HS0]; · iexact HS0
              iintro ⟨H0, H1, H2, H3, H4, H5, ⟨%e6, H6⟩, H7, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]
              · unfold owns; iexists _; isplitr
                swap; · iexact H6
                ipureintro; exact View.read_writes_of_cover _ _ _ _ _ (cover0_B_6 c _ _ _ _ _ _ _ _ _ _ _ _ _ _ _ _ _ _ _ _ _ _ _ _ _ _ _ _ _ _ _)
              iexact H7
    · by_cases h2 : (t.val % 17 = 9 ∨ t.val % 17 = 12)
      · by_cases h3 : (t.val % 17 = 6 ∨ t.val % 17 = 7 ∨ t.val % 17 = 8 ∨ t.val % 17 = 11 ∨ t.val % 17 = 13 ∨ t.val % 17 = 14 ∨ t.val % 17 = 15 ∨ t.val % 17 = 16)
        · exfalso; omega
        · by_cases h4 : t.val % 17 = 10
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6_D t (fun h => h0 ((hcond0_0 t).mp h)) (fun h => h1 ((hcond0_1 t).mp h)) ((hcond0_2 t).mpr h2) (fun h => h3 ((hcond0_3 t).mp h)) (fun h => h4 ((hcond0_4 t).mp h))], after0_6]
            by_cases hz : t.val = 0
            · exfalso; have hN : t.val < 272 := lt_of_lt_of_eq t.isLt (show cfg0.N = 272 from N_0); omega
            · rw [PhiS_castSucc m c t, PhiS_pos m c _ _ hz]
              rw [outsAt0_D m c t h0 h1 h2 h3 h4]
              unfold out0_D_6 sout0_D_0; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_D c (grid0.coords t) _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) _).2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexists _; iexact H7
              isplitl [HS0]; · iexact HS0
              iintro ⟨H0, H1, H2, H3, H4, H5, ⟨%e6, H6⟩, H7, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]
              · unfold owns; iexists _; isplitr
                swap; · iexact H6
                ipureintro; exact View.read_writes_of_cover _ _ _ _ _ (cover0_D_6 c _ _ _ _ _ _ _ _ _ _ _ _ _ _ _ _ _ _ _ _ _ _ _ _ _ _ _ _ _ _ _)
              iexact H7
      · by_cases h3 : (t.val % 17 = 6 ∨ t.val % 17 = 7 ∨ t.val % 17 = 8 ∨ t.val % 17 = 11 ∨ t.val % 17 = 13 ∨ t.val % 17 = 14 ∨ t.val % 17 = 15 ∨ t.val % 17 = 16)
        · by_cases h4 : t.val % 17 = 10
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6_C t (fun h => h0 ((hcond0_0 t).mp h)) (fun h => h1 ((hcond0_1 t).mp h)) (fun h => h2 ((hcond0_2 t).mp h)) ((hcond0_3 t).mpr h3) (fun h => h4 ((hcond0_4 t).mp h))], after0_6]
            by_cases hz : t.val = 0
            · exfalso; have hN : t.val < 272 := lt_of_lt_of_eq t.isLt (show cfg0.N = 272 from N_0); omega
            · rw [PhiS_castSucc m c t, PhiS_pos m c _ _ hz]
              rw [outsAt0_C m c t h0 h1 h2 h3 h4]
              unfold out0_C_6 sout0_C_0; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_C c (grid0.coords t) _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) _).2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexists _; iexact H7
              isplitl [HS0]; · iexact HS0
              iintro ⟨H0, H1, H2, H3, H4, H5, ⟨%e6, H6⟩, H7, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]
              · unfold owns; iexists _; isplitr
                swap; · iexact H6
                ipureintro; exact View.read_writes_of_cover _ _ _ _ _ (cover0_C_6 c _ _ _ _ _ _ _ _ _ _ _ _ _ _ _ _ _ _ _ _ _ _ _ _ _ _ _ _ _ _ _)
              iexact H7
        · by_cases h4 : t.val % 17 = 10
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6_E t (fun h => h0 ((hcond0_0 t).mp h)) (fun h => h1 ((hcond0_1 t).mp h)) (fun h => h2 ((hcond0_2 t).mp h)) (fun h => h3 ((hcond0_3 t).mp h)) ((hcond0_4 t).mpr h4)], after0_6]
            by_cases hz : t.val = 0
            · exfalso; have hN : t.val < 272 := lt_of_lt_of_eq t.isLt (show cfg0.N = 272 from N_0); omega
            · rw [PhiS_castSucc m c t, PhiS_pos m c _ _ hz]
              rw [outsAt0_E m c t h0 h1 h2 h3 h4]
              unfold out0_E_6 sout0_E_0; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_E c (grid0.coords t) _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) _).2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexists _; iexact H7
              isplitl [HS0]; · iexact HS0
              iintro ⟨H0, H1, H2, H3, H4, H5, ⟨%e6, H6⟩, H7, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]
              · unfold owns; iexists _; isplitr
                swap; · iexact H6
                ipureintro; exact View.read_writes_of_cover _ _ _ _ _ (cover0_E_6 c _ _ _ _ _ _ _ _ _ _ _ _ _ _ _ _ _ _ _ _ _ _ _ _ _ _ _ _ _ _ _)
              iexact H7
          · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 272 := N_0; omega)

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.ProjectIdeal.Gen

end
-- ==== Proof.ProjScratch.lean ====
module

public import proofs.«01_k».proof.Proof.Gen.ProjectIdeal.Skeleton
public import Idealize.ShloMosaic.Lib.Pointwise

@[expose] public section
set_option backward.proofsInPublic true
set_option maxRecDepth 16384
noncomputable section
open Idealize.ShloMosaic Idealize.ShloMosaic.TcCoe Idealize.SL.Sem
open Cert.ProjectIdeal Cert.ProjectIdeal.Gen
namespace Cert.Projection

/-! The normed rows of a row block, regrouped by the residue of their token. -/

/-- A row after the norm and the gain. -/
def normed (x g : Fin 2048 → EReal) (d : Fin 2048) : EReal :=
  x d * Ideal.rsqrt (Ideal.div (∑ k, x k * x k) (Ideal.ofBits .f32 0x45000000#32) + Ideal.ofBits .f32 0x358637BD#32) * g d

/-- The token of a group that a row of the regrouped rows holds. -/
def swapped (p : Fin 256) : Fin 256 := ⟨16 * (p.val % 16) + p.val / 16, by omega⟩

theorem place : ∀ p : Fin 256, (((BitVec.ofNat 32 p.val) &&& 15#32) <<< 4 ||| ((BitVec.ofNat 32 p.val) >>> 4)) = BitVec.ofNat 32 (swapped p).val := by
  decide +kernel

theorem pay10_at (p q : Fin 256) : k0_pay10 (F := Ideal) (ix2 p q) = if q = swapped p then 1 else 0 := by
  have e : ∀ p : Fin 256, IntOp.ori (IntOp.shli ArithUnit.vector (IntOp.andi (BitVec.ofNat 32 p.val) 15#32) 4#32)
      (IntOp.shrui ArithUnit.vector (BitVec.ofNat 32 p.val) 4#32) = BitVec.ofNat 32 (swapped p).val := by decide +kernel
  pointwise [k0_pay10]
  rw [e]
  have h : (BitVec.ofNat 32 (swapped p).val = BitVec.ofNat 32 q.val) ↔ q = swapped p := by
    rw [← BitVec.toNat_inj, BitVec.toNat_ofNat, BitVec.toNat_ofNat, Nat.mod_eq_of_lt (by omega), Nat.mod_eq_of_lt (by omega), Fin.ext_iff]
    exact eq_comm
  by_cases hq : q = swapped p
  · simp [hq, Scalar.select, IntOp.cmpi]
  · have hb : (BitVec.ofNat 32 (swapped p).val == BitVec.ofNat 32 q.val) = false := beq_eq_false_iff_ne.mpr fun e => hq (h.mp e)
    simp [hq, Scalar.select, IntOp.cmpi, hb]

theorem group_at (g : Vec Ideal S1x2048 .f32) (x : Vec Ideal S256x2048 .f32) (p : Fin 256) (d : Fin 2048) :
    k0_pay11 g x (ix2 p d) = normed (fun k => x (ix2 (swapped p) k)) (fun k => g (ix2 0 k)) d := by
  pointwise [k0_pay11]
  simp only [pay10_at, ite_mul, one_mul, zero_mul, Finset.sum_ite_eq', Finset.sum_ite_eq, Finset.mem_univ, if_true]
  rfl

theorem group_at1 (g : Vec Ideal S1x2048 .f32) (x : Vec Ideal S256x2048 .f32) : k0_pay29 k0_pay10 g x = k0_pay11 g x := rfl
theorem group_at2 (g : Vec Ideal S1x2048 .f32) (x : Vec Ideal S256x2048 .f32) : k0_pay48 k0_pay10 g x (k0_pay47 x) = k0_pay11 g x := rfl
theorem group_at3 (g : Vec Ideal S1x2048 .f32) (x : Vec Ideal S256x2048 .f32) : k0_pay66 k0_pay10 g x = k0_pay11 g x := rfl

theorem rows_at (u : Vec Ideal S1024x2048 .bf16) (w : Vec Ideal S2048x1024 .f32) (b : Fin 16) (r : Fin 64) (n : Fin 1024) :
    k0_pay6 u w (ix4 0 b r n) = ∑ k : Fin 2048, u (ix2 ⟨b.val * 64 + r.val, by omega⟩ k) * w (ix2 k n) := by
  pointwise [k0_pay6]

/-- The token a row of the regrouped block holds. -/
def tokenOf (a : Fin 1024) : Fin 1024 := ⟨16 * (a.val % 64) + a.val / 64, by omega⟩

/-- The regrouped block, from the two halves of a row block and the gain. -/
def regrouped (x0 x1 : Vec Ideal S512x2048 .f32) (g : Vec Ideal S1x2048 .f32) : Vec Ideal S1024x2048 .bf16 := fun i =>
  normed (fun k => if h : (tokenOf (i 0)).val < 512 then x0 (ix2 ⟨(tokenOf (i 0)).val, h⟩ k) else x1 (ix2 ⟨(tokenOf (i 0)).val - 512, by have := (tokenOf (i 0)).isLt; omega⟩ k))
    (fun k => g (ix2 0 k)) (i 1)

theorem regrouped_lo (x0 x1 : Vec Ideal S512x2048 .f32) (g : Vec Ideal S1x2048 .f32) (o : ℕ) (ho : o = 0 ∨ o = 256)
    (inb : ∀ a, (![o, 0] : Fin 2 → ℕ) a + (![256, 2048] : Fin 2 → ℕ) a ≤ S512x2048.size a) (p : Fin 256) (d : Fin 2048) (y : S1024x2048.Idx)
    (h0 : (y 0).val = 64 * (p.val / 16) + o / 16 + p.val % 16) (h1 : (y 1).val = d.val) :
    k0_pay11 g (View.ld x0 (Rect.unit (s := S512x2048) ![o, 0] ![256, 2048] inb)) (ix2 p d) = regrouped x0 x1 g y := by
  rw [group_at]
  have hp := p.isLt
  have ht : (tokenOf (y 0)).val = o + (swapped p).val := by
    show 16 * ((y 0).val % 64) + (y 0).val / 64 = o + (16 * (p.val % 16) + p.val / 16)
    omega
  have hs := (swapped p).isLt
  have hlt : (tokenOf (y 0)).val < 512 := by omega
  unfold regrouped
  have hd : y 1 = d := Fin.ext h1
  rw [hd]
  congr 1
  funext k
  rw [dif_pos hlt]
  show x0 _ = x0 _
  congr 1
  funext a
  fin_cases a
  · apply Fin.ext
    show o + 1 * (swapped p).val = (tokenOf (y 0)).val
    omega
  · apply Fin.ext
    show 0 + 1 * k.val = k.val
    omega

theorem regrouped_hi (x0 x1 : Vec Ideal S512x2048 .f32) (g : Vec Ideal S1x2048 .f32) (o : ℕ) (ho : o = 0 ∨ o = 256)
    (inb : ∀ a, (![o, 0] : Fin 2 → ℕ) a + (![256, 2048] : Fin 2 → ℕ) a ≤ S512x2048.size a) (p : Fin 256) (d : Fin 2048) (y : S1024x2048.Idx)
    (h0 : (y 0).val = 64 * (p.val / 16) + 32 + o / 16 + p.val % 16) (h1 : (y 1).val = d.val) :
    k0_pay11 g (View.ld x1 (Rect.unit (s := S512x2048) ![o, 0] ![256, 2048] inb)) (ix2 p d) = regrouped x0 x1 g y := by
  rw [group_at]
  have hp := p.isLt
  have ht : (tokenOf (y 0)).val = 512 + o + (swapped p).val := by
    show 16 * ((y 0).val % 64) + (y 0).val / 64 = 512 + o + (16 * (p.val % 16) + p.val / 16)
    omega
  have hs := (swapped p).isLt
  have hlt : ¬ (tokenOf (y 0)).val < 512 := by omega
  unfold regrouped
  have hd : y 1 = d := Fin.ext h1
  rw [hd]
  congr 1
  funext k
  rw [dif_neg hlt]
  show x1 _ = x1 _
  congr 1
  funext a
  fin_cases a
  · apply Fin.ext
    show o + 1 * (swapped p).val = (tokenOf (y 0)).val - 512
    omega
  · apply Fin.ext
    show 0 + 1 * k.val = k.val
    omega

end Cert.Projection
-- ==== Proof.ProjScratchA.lean ====
module

public import proofs.«01_k».proof.Proof.ProjRunA
public import proofs.«01_k».proof.Proof.ProjScratch
public import Idealize.ShloMosaic.Lib.Pointwise
public import Idealize.ShloMosaic.Lib.Pipeline.ReadBack
public import Idealize.ShloMosaic.Lib.Pipeline.Value
public import Idealize.ShloMosaic.Lib.Pipeline.ValueKit

@[expose] public section
set_option backward.proofsInPublic true
set_option maxRecDepth 16384
set_option maxHeartbeats 4000000
noncomputable section
open Idealize.ShloMosaic Idealize.ShloMosaic.TcCoe Idealize.SL.Sem
open Cert.ProjectIdeal Cert.ProjectIdeal.Gen
namespace Cert.Projection

theorem pieces_A (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x1024 .f32) (harg5 : arg5.IsWhole) (arg6 : Memref sig .tc .vmem S16x64x256 .f32) (harg6 : arg6.IsWhole) (arg7 : Memref sig .tc .vmem S2x1024 .f32) (harg7 : arg7.IsWhole) (arg8 : Memref sig .tc .vmem S1x16x64x1024 .bf16) (harg8 : arg8.IsWhole) (arg9 : Memref sig .tc .vmem S1x16x64x1024 .bf16) (harg9 : arg9.IsWhole) (arg10 : Memref sig .tc .vmem S1024x2048 .bf16) (harg10 : arg10.IsWhole) (hc0 : cond0_0 i) (hc1 : cond0_1 i) (hc2 : ¬cond0_2 i) (hc3 : ¬cond0_3 i) (hc4 : ¬cond0_4 i)
    (x0 : Vec Ideal S512x2048 .f32) (x1 : Vec Ideal S512x2048 .f32) (x2 : Vec Ideal S1x2048 .f32) (x3 : Vec Ideal S2048x1024 .f32) (x4 : Vec Ideal S16x64x256 .f32) (x5 : Vec Ideal S2x1024 .f32) :
    View.PiecesOf (regrouped x0 x1 x2) (kernelRun0_A (F := Ideal) c i arg2 harg2 arg3 harg3 arg4 harg4 arg5 harg5 arg6 harg6 arg7 harg7 arg8 harg8 arg9 harg9 arg10 harg10 hc0 hc1 hc2 hc3 hc4 x0 x1 x2 x3 x4 x5).2.1 := by
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld,
    Memref.IsWhole.read_unread, View.canon_cons_unit_lit']
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, True.intro⟩
  iterate 16
    focus
      intro x
      have h : (x 0).val < 16 := (x 0).isLt
      rw [← ix2_eta x]
      pointwise [k0_pay1, k0_pay2, k0_pay3, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay67, k0_pay68, k0_pay69, k0_pay70, k0_pay71, k0_pay72, k0_pay73, k0_pay74, k0_pay75, k0_pay76, k0_pay77, k0_pay78, k0_pay79, k0_pay80]
      try rw [ix2_eta x]
      refine regrouped_hi _ _ _ 256 (Or.inr rfl) _ _ _ _ ?_ ?_
      · show _ + 1 * (x 0).val = _
        (try dsimp [Rect.unit])
        omega
      · show 0 + 1 * (x 1).val = _
        (try dsimp [Rect.unit])
        omega
  iterate 16
    focus
      intro x
      have h : (x 0).val < 16 := (x 0).isLt
      rw [← ix2_eta x]
      pointwise [k0_pay1, k0_pay2, k0_pay3, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay67, k0_pay68, k0_pay69, k0_pay70, k0_pay71, k0_pay72, k0_pay73, k0_pay74, k0_pay75, k0_pay76, k0_pay77, k0_pay78, k0_pay79, k0_pay80]
      try rw [ix2_eta x]
      refine regrouped_hi _ _ _ 0 (Or.inl rfl) _ _ _ _ ?_ ?_
      · show _ + 1 * (x 0).val = _
        (try dsimp [Rect.unit])
        omega
      · show 0 + 1 * (x 1).val = _
        (try dsimp [Rect.unit])
        omega
  iterate 16
    focus
      intro x
      have h : (x 0).val < 16 := (x 0).isLt
      rw [← ix2_eta x]
      pointwise [k0_pay1, k0_pay2, k0_pay3, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay67, k0_pay68, k0_pay69, k0_pay70, k0_pay71, k0_pay72, k0_pay73, k0_pay74, k0_pay75, k0_pay76, k0_pay77, k0_pay78, k0_pay79, k0_pay80]
      try rw [ix2_eta x]
      refine regrouped_lo _ _ _ 256 (Or.inr rfl) _ _ _ _ ?_ ?_
      · show _ + 1 * (x 0).val = _
        (try dsimp [Rect.unit])
        omega
      · show 0 + 1 * (x 1).val = _
        (try dsimp [Rect.unit])
        omega
  iterate 16
    focus
      intro x
      have h : (x 0).val < 16 := (x 0).isLt
      rw [← ix2_eta x]
      pointwise [k0_pay1, k0_pay2, k0_pay3, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay67, k0_pay68, k0_pay69, k0_pay70, k0_pay71, k0_pay72, k0_pay73, k0_pay74, k0_pay75, k0_pay76, k0_pay77, k0_pay78, k0_pay79, k0_pay80]
      try rw [ix2_eta x]
      refine regrouped_lo _ _ _ 0 (Or.inl rfl) _ _ _ _ ?_ ?_
      · show _ + 1 * (x 0).val = _
        (try dsimp [Rect.unit])
        omega
      · show 0 + 1 * (x 1).val = _
        (try dsimp [Rect.unit])
        omega

end Cert.Projection
-- ==== Proof.ProjCases.lean ====
module

public import proofs.«01_k».proof.Proof.ProjFrame
public import proofs.«01_k».proof.Proof.ProjScratchA
public import Idealize.ShloMosaic.Lib.Pointwise
public import Idealize.ShloMosaic.Lib.Pipeline.ReadBack
public import Idealize.ShloMosaic.Lib.Pipeline.Value
public import Idealize.ShloMosaic.Lib.Pipeline.ValueKit

@[expose] public section
set_option backward.proofsInPublic true
set_option maxRecDepth 16384
set_option maxHeartbeats 4000000
noncomputable section
open Idealize.ShloMosaic Idealize.ShloMosaic.TcCoe Idealize.SL.Sem
open Cert.ProjectIdeal Cert.ProjectIdeal.Gen
namespace Cert.Projection

theorem canon_of_pieces {S : Shape} {e : EltTy} (G : S.Idx → Elt Ideal e) (L : List (View.Piece (Elt Ideal) S e)) (h : View.PiecesOf G L)
    (hc : ∀ y, ∃ p ∈ L, y ∈ p.1.set) : View.canon L = G := by
  funext y
  have := View.canon_append_of_piecesOf G [] L h y (hc y)
  rwa [List.append_nil] at this

/-- The rotary block of a point, from the regrouped rows, its weights and its table. -/
def rotated (a : BitVec 32) (u : Vec Ideal S1024x2048 .bf16) (w : Vec Ideal S2048x1024 .f32) (tab : Vec Ideal S16x64x256 .f32) : Vec Ideal S1x16x64x1024 .bf16 :=
  k0_pay4 (k0_pay81 u w) (k0_pay83 a tab) (k0_pay84 a tab) (k0_pay85 a u w tab) (k0_pay86 a u w tab) (k0_pay87 a u w tab)
    (k0_pay88 a u w tab) (k0_pay89 a u w tab) (k0_pay90 a u w tab)

/-- The first row of a pair, and the second. -/
def firstRow (v : Vec Ideal S2x1024 .f32) : Vec Ideal S1x1024 .f32 := View.ld v (Rect.unit ![0, 0] ![1, 1024] inb_S2x1024_S1x1024_0_0)
def secondRow (v : Vec Ideal S2x1024 .f32) : Vec Ideal S1x1024 .f32 := View.ld v (Rect.unit ![1, 0] ![1, 1024] inb_S2x1024_S1x1024_1_0)

section
variable (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x1024 .f32) (harg5 : arg5.IsWhole) (arg6 : Memref sig .tc .vmem S16x64x256 .f32) (harg6 : arg6.IsWhole) (arg7 : Memref sig .tc .vmem S2x1024 .f32) (harg7 : arg7.IsWhole) (arg8 : Memref sig .tc .vmem S1x16x64x1024 .bf16) (harg8 : arg8.IsWhole) (arg9 : Memref sig .tc .vmem S1x16x64x1024 .bf16) (harg9 : arg9.IsWhole) (arg10 : Memref sig .tc .vmem S1024x2048 .bf16) (harg10 : arg10.IsWhole)
include c i arg2 harg2 arg3 harg3 arg4 harg4 arg5 harg5 arg6 harg6 arg7 harg7 arg8 harg8 arg9 harg9 arg10 harg10

/-- The regrouped rows a point that opens a row block keeps. -/
theorem kept_A (hc0 : cond0_0 i) (hc1 : cond0_1 i) (hc2 : ¬cond0_2 i) (hc3 : ¬cond0_3 i) (hc4 : ¬cond0_4 i)
    (x0 : Vec Ideal S512x2048 .f32) (x1 : Vec Ideal S512x2048 .f32) (x2 : Vec Ideal S1x2048 .f32) (x3 : Vec Ideal S2048x1024 .f32) (x4 : Vec Ideal S16x64x256 .f32) (x5 : Vec Ideal S2x1024 .f32) :
    sout0_A_0 (F := Ideal) c i arg2 harg2 arg3 harg3 arg4 harg4 arg5 harg5 arg6 harg6 arg7 harg7 arg8 harg8 arg9 harg9 arg10 harg10 hc0 hc1 hc2 hc3 hc4 x0 x1 x2 x3 x4 x5 = regrouped x0 x1 x2 :=
  (View.read_writes_junk_eq_canon _ _).trans
    (canon_of_pieces _ _ (pieces_A c i arg2 harg2 arg3 harg3 arg4 harg4 arg5 harg5 arg6 harg6 arg7 harg7 arg8 harg8 arg9 harg9 arg10 harg10 hc0 hc1 hc2 hc3 hc4 x0 x1 x2 x3 x4 x5) (scover0_A_0 c i arg2 harg2 arg3 harg3 arg4 harg4 arg5 harg5 arg6 harg6 arg7 harg7 arg8 harg8 arg9 harg9 arg10 harg10 hc0 hc1 hc2 hc3 hc4 x0 x1 x2 x3 x4 x5))

/-- The block such a point writes: its rotary columns. -/
theorem block_A (hc0 : cond0_0 i) (hc1 : cond0_1 i) (hc2 : ¬cond0_2 i) (hc3 : ¬cond0_3 i) (hc4 : ¬cond0_4 i)
    (x0 : Vec Ideal S512x2048 .f32) (x1 : Vec Ideal S512x2048 .f32) (x2 : Vec Ideal S1x2048 .f32) (x3 : Vec Ideal S2048x1024 .f32) (x4 : Vec Ideal S16x64x256 .f32) (x5 : Vec Ideal S2x1024 .f32) :
    out0_A_6 (F := Ideal) c i arg2 harg2 arg3 harg3 arg4 harg4 arg5 harg5 arg6 harg6 arg7 harg7 arg8 harg8 arg9 harg9 arg10 harg10 hc0 hc1 hc2 hc3 hc4 x0 x1 x2 x3 x4 x5 = rotated (BitVec.ofNat 32 (i 1).val) (regrouped x0 x1 x2) x3 x4 := by
  have hk := canon_of_pieces _ _ (pieces_A c i arg2 harg2 arg3 harg3 arg4 harg4 arg5 harg5 arg6 harg6 arg7 harg7 arg8 harg8 arg9 harg9 arg10 harg10 hc0 hc1 hc2 hc3 hc4 x0 x1 x2 x3 x4 x5) (scover0_A_0 c i arg2 harg2 arg3 harg3 arg4 harg4 arg5 harg5 arg6 harg6 arg7 harg7 arg8 harg8 arg9 harg9 arg10 harg10 hc0 hc1 hc2 hc3 hc4 x0 x1 x2 x3 x4 x5)
  refine (View.read_writes_junk_eq_canon _ _).trans ?_
  revert hk
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld,
    Memref.IsWhole.read_unread, View.canon_cons_unit_lit']
  intro hk
  simp only [View.readCov_eq_canon', hk]
  have e : (fun j => regrouped x0 x1 x2 ((Rect.unit (s := S1024x2048) ![0, 0] ![1024, 2048] inb_S1024x2048_S1024x2048_0_0).idx j)) = regrouped x0 x1 x2 :=
    View.ld_unit_lit' _ (regrouped x0 x1 x2) (by decide)
  simp only [e]
  rfl

theorem block_B (hc0 : ¬cond0_0 i) (hc1 : cond0_1 i) (hc2 : ¬cond0_2 i) (hc3 : ¬cond0_3 i) (hc4 : ¬cond0_4 i)
    (x0 : Vec Ideal S512x2048 .f32) (x1 : Vec Ideal S512x2048 .f32) (x2 : Vec Ideal S1x2048 .f32) (x3 : Vec Ideal S2048x1024 .f32) (x4 : Vec Ideal S16x64x256 .f32) (x5 : Vec Ideal S2x1024 .f32) (xs0 : Vec Ideal S1024x2048 .bf16) :
    out0_B_6 (F := Ideal) c i arg2 harg2 arg3 harg3 arg4 harg4 arg5 harg5 arg6 harg6 arg7 harg7 arg8 harg8 arg9 harg9 arg10 harg10 hc0 hc1 hc2 hc3 hc4 x0 x1 x2 x3 x4 x5 xs0 = rotated (BitVec.ofNat 32 (i 1).val) xs0 x3 x4 := by
  refine (View.read_writes_junk_eq_canon _ _).trans ?_
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld,
    Memref.IsWhole.read_unread, View.canon_cons_unit_lit']
  rfl

theorem block_C (hc0 : ¬cond0_0 i) (hc1 : ¬cond0_1 i) (hc2 : ¬cond0_2 i) (hc3 : cond0_3 i) (hc4 : ¬cond0_4 i)
    (x0 : Vec Ideal S512x2048 .f32) (x1 : Vec Ideal S512x2048 .f32) (x2 : Vec Ideal S1x2048 .f32) (x3 : Vec Ideal S2048x1024 .f32) (x4 : Vec Ideal S16x64x256 .f32) (x5 : Vec Ideal S2x1024 .f32) (xs0 : Vec Ideal S1024x2048 .bf16) :
    out0_C_6 (F := Ideal) c i arg2 harg2 arg3 harg3 arg4 harg4 arg5 harg5 arg6 harg6 arg7 harg7 arg8 harg8 arg9 harg9 arg10 harg10 hc0 hc1 hc2 hc3 hc4 x0 x1 x2 x3 x4 x5 xs0 = k0_pay6 xs0 x3 := by
  refine (View.read_writes_junk_eq_canon _ _).trans ?_
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld,
    Memref.IsWhole.read_unread, View.canon_cons_unit_lit']

theorem block_D (hc0 : ¬cond0_0 i) (hc1 : ¬cond0_1 i) (hc2 : cond0_2 i) (hc3 : ¬cond0_3 i) (hc4 : ¬cond0_4 i)
    (x0 : Vec Ideal S512x2048 .f32) (x1 : Vec Ideal S512x2048 .f32) (x2 : Vec Ideal S1x2048 .f32) (x3 : Vec Ideal S2048x1024 .f32) (x4 : Vec Ideal S16x64x256 .f32) (x5 : Vec Ideal S2x1024 .f32) (xs0 : Vec Ideal S1024x2048 .bf16) :
    out0_D_6 (F := Ideal) c i arg2 harg2 arg3 harg3 arg4 harg4 arg5 harg5 arg6 harg6 arg7 harg7 arg8 harg8 arg9 harg9 arg10 harg10 hc0 hc1 hc2 hc3 hc4 x0 x1 x2 x3 x4 x5 xs0 = k0_pay5 xs0 x3 := by
  refine (View.read_writes_junk_eq_canon _ _).trans ?_
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld,
    Memref.IsWhole.read_unread, View.canon_cons_unit_lit']

theorem block_E (hc0 : ¬cond0_0 i) (hc1 : ¬cond0_1 i) (hc2 : ¬cond0_2 i) (hc3 : ¬cond0_3 i) (hc4 : cond0_4 i)
    (x0 : Vec Ideal S512x2048 .f32) (x1 : Vec Ideal S512x2048 .f32) (x2 : Vec Ideal S1x2048 .f32) (x3 : Vec Ideal S2048x1024 .f32) (x4 : Vec Ideal S16x64x256 .f32) (x5 : Vec Ideal S2x1024 .f32) (xs0 : Vec Ideal S1024x2048 .bf16) :
    out0_E_6 (F := Ideal) c i arg2 harg2 arg3 harg3 arg4 harg4 arg5 harg5 arg6 harg6 arg7 harg7 arg8 harg8 arg9 harg9 arg10 harg10 hc0 hc1 hc2 hc3 hc4 x0 x1 x2 x3 x4 x5 xs0 = k0_pay8 xs0 x3 (firstRow x5) (secondRow x5) := by
  refine (View.read_writes_junk_eq_canon _ _).trans ?_
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld,
    Memref.IsWhole.read_unread, View.canon_cons_unit_lit']
  rfl

end

end Cert.Projection
-- ==== Proof.ProjSpec.lean ====
module

public import proofs.«01_k».proof.Proof.ProjScratch
public import proofs.«01_k».proof.Proof.Gen.ProjectReferenceIdeal.Run
public import Idealize.ShloMosaic.Lib.Pointwise
public import Idealize.ShloMosaic.Lib.IdealHost

@[expose] public section
set_option backward.proofsInPublic true
set_option maxRecDepth 16384
set_option maxHeartbeats 4000000
noncomputable section
open Idealize.ShloMosaic Idealize.ShloMosaic.TcCoe Idealize.SL.Sem
namespace Cert.Projection

/-! What the input projection computes, one cell at a time, and that the reference computes it. -/

/-- An entry of a matrix, by its row and column numbers. -/
def entry {a b : ℕ} (A : (⟨2, ![a, b]⟩ : Shape).Idx → EReal) (i j : ℕ) : EReal :=
  if h : i < a ∧ j < b then A (ix2 ⟨i, h.1⟩ ⟨j, h.2⟩) else 0

theorem entry_eq {a b : ℕ} (A : (⟨2, ![a, b]⟩ : Shape).Idx → EReal) (i : Fin a) (j : Fin b) : A (ix2 i j) = entry A i.val j.val := by
  unfold entry
  rw [dif_pos ⟨i.isLt, j.isLt⟩]

/-- A token's normed row times a column of the weights. -/
def product (X : (⟨2, ![16384, 2048]⟩ : Shape).Idx → EReal) (g : (⟨2, ![1, 2048]⟩ : Shape).Idx → EReal)
    (W : (⟨2, ![2048, 17408]⟩ : Shape).Idx → EReal) (t n : ℕ) : EReal :=
  ∑ k : Fin 2048, normed (fun d => entry X t d.val) (fun d => entry g 0 d.val) k * entry W k.val n

/-- The first share of a softmax over a pair. -/
def share (p q : EReal) : EReal := Ideal.div (Ideal.exp (p - max p q)) (Ideal.exp (p - max p q) + Ideal.exp (q - max p q))

/-- One cell of the projection: the rotary columns, the columns passed through the sigmoid unit, the forget gate's logarithm, and the plain ones. -/
def cell (y co si : ℕ → EReal) (p q : EReal) (n : ℕ) : EReal :=
  if n < 6144 then
    (if n % 128 < 64 then y n * co (n % 128) - y (n + 64) * si (n % 128)
      else y n * co (n % 128 - 64) + y (n - 64) * si (n % 128 - 64)) * (if n < 3072 then Ideal.ofBits .f32 0x3E0293EE#32 else 1)
  else if n < 9216 then y n
  else if n < 10240 then y n * Ideal.div 1 (1 + Ideal.exp (-y n))
  else if n < 11264 then Ideal.log (share p q + (1 - share p q) * Ideal.div 1 (1 + Ideal.exp (-y n)))
  else if n < 12288 then y n
  else if n < 13312 then y n * Ideal.div 1 (1 + Ideal.exp (-y n))
  else y n

/-! The reference. -/

theorem least : Ideal.ofBits .f32 0xFF800000#32 = ⊥ := by simp [Ideal.ofBits, Ideal.ieee]

section Ref
open Cert.ProjectReferenceIdeal Cert.ProjectReferenceIdeal.Gen Cert.ProjectReferenceIdeal.Value

/-- The larger of two entries, as a running maximum over them. -/
theorem larger (f : Fin 2 → EReal) :
    max (Ideal.ofBits .f32 0xFF800000#32) (Finset.fold max (Ideal.ofBits .f32 0xFF800000#32) f Finset.univ) = max (f 0) (f 1) := by
  rw [least, max_eq_right bot_le, show (Finset.univ : Finset (Fin 2)) = {0, 1} from rfl, Finset.fold_insert (by decide), Finset.fold_singleton,
    max_eq_left bot_le]

/-- The reference's product of the normed rows and the weights. -/
theorem ref_product (a0 : FVec Ideal S16384x2048 .f32) (a1 : FVec Ideal S1x2048 .f32) (a2 : FVec Ideal S2048x17408 .f32) (t : Fin 16384) (n : Fin 17408) :
    Host.dotGeneral dot_S16384x2048_S2048x17408_S16384x17408_1_0_0_1_n_n none (mulf (mulf a0 (broadcastInDim S16384x2048 ![0, 1] bcast_S16384x1_S16384x2048_0_1 (Host.rsqrt (addf (Host.divf (broadcastInDim S16384x1 ![0] bcast_S16384_S16384x1_0 (Host.reduceAdd (mulf a0 a0) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 a1)) a2 (ix2 t n)
      = product a0 a1 a2 t.val n.val := by
  pointwise
  simp only [entry_eq]
  rfl

/-- The reference's result at one place, over the product. -/
theorem ref_cell (Y : FVec Ideal S16384x17408 .f32) (co si : FVec Ideal S8192x64 .f32) (lb : FVec Ideal S2x1024 .f32) (B : Fin 2) (b : Fin 16) (s : Fin 512) (n : Fin 17408) :
    (transpose S2x16x512x17408 [0, 2, 1, 3] (shapeCast _ (truncf (F := Ideal) (s := S16384x17408) (φ := .f32) .bf16 ((concatenate S16384x17408 1 [⟨S16384x3072, ((mulf (extractStridedSlice S16384x3072 ![0, 0] (shapeCast _ (concatenate S2x8192x48x128 3 [⟨S2x8192x48x64, (subf (mulf (extractStridedSlice S2x8192x48x64 ![0, 0, 0, 0] (shapeCast _ (extractStridedSlice S16384x6144 ![0, 0] Y slices_S16384x17408_S16384x6144_0_0) shapeCasts_S16384x6144_S2x8192x48x128) slices_S2x8192x48x128_S2x8192x48x64_0_0_0_0) (broadcastInDim S2x8192x48x64 ![0, 1, 2, 3] bcast_S1x8192x1x64_S2x8192x48x64_0_1_2_3 (broadcastInDim S1x8192x1x64 ![1, 3] bcast_S8192x64_S1x8192x1x64_1_3 co))) (mulf (extractStridedSlice S2x8192x48x64 ![0, 0, 0, 64] (shapeCast _ (extractStridedSlice S16384x6144 ![0, 0] Y slices_S16384x17408_S16384x6144_0_0) shapeCasts_S16384x6144_S2x8192x48x128) slices_S2x8192x48x128_S2x8192x48x64_0_0_0_64) (broadcastInDim S2x8192x48x64 ![0, 1, 2, 3] bcast_S1x8192x1x64_S2x8192x48x64_0_1_2_3 (broadcastInDim S1x8192x1x64 ![1, 3] bcast_S8192x64_S1x8192x1x64_1_3 si))))⟩, ⟨S2x8192x48x64, (addf (mulf (extractStridedSlice S2x8192x48x64 ![0, 0, 0, 64] (shapeCast _ (extractStridedSlice S16384x6144 ![0, 0] Y slices_S16384x17408_S16384x6144_0_0) shapeCasts_S16384x6144_S2x8192x48x128) slices_S2x8192x48x128_S2x8192x48x64_0_0_0_64) (broadcastInDim S2x8192x48x64 ![0, 1, 2, 3] bcast_S1x8192x1x64_S2x8192x48x64_0_1_2_3 (broadcastInDim S1x8192x1x64 ![1, 3] bcast_S8192x64_S1x8192x1x64_1_3 co))) (mulf (extractStridedSlice S2x8192x48x64 ![0, 0, 0, 0] (shapeCast _ (extractStridedSlice S16384x6144 ![0, 0] Y slices_S16384x17408_S16384x6144_0_0) shapeCasts_S16384x6144_S2x8192x48x128) slices_S2x8192x48x128_S2x8192x48x64_0_0_0_0) (broadcastInDim S2x8192x48x64 ![0, 1, 2, 3] bcast_S1x8192x1x64_S2x8192x48x64_0_1_2_3 (broadcastInDim S1x8192x1x64 ![1, 3] bcast_S8192x64_S1x8192x1x64_1_3 si))))⟩] concatenates_S2x8192x48x64_S2x8192x48x64_S2x8192x48x128_d3) shapeCasts_S2x8192x48x128_S16384x6144) slices_S16384x6144_S16384x3072_0_0) (broadcastInDim S16384x3072 ![] bcast_S_S16384x3072 (constant S_ .f32 0x3E0293EE#32))) : (⟨S16384x3072, .f32⟩ : BufTy).Contents (Elt Ideal))⟩, ⟨S16384x3072, ((extractStridedSlice S16384x3072 ![0, 3072] (shapeCast _ (concatenate S2x8192x48x128 3 [⟨S2x8192x48x64, (subf (mulf (extractStridedSlice S2x8192x48x64 ![0, 0, 0, 0] (shapeCast _ (extractStridedSlice S16384x6144 ![0, 0] Y slices_S16384x17408_S16384x6144_0_0) shapeCasts_S16384x6144_S2x8192x48x128) slices_S2x8192x48x128_S2x8192x48x64_0_0_0_0) (broadcastInDim S2x8192x48x64 ![0, 1, 2, 3] bcast_S1x8192x1x64_S2x8192x48x64_0_1_2_3 (broadcastInDim S1x8192x1x64 ![1, 3] bcast_S8192x64_S1x8192x1x64_1_3 co))) (mulf (extractStridedSlice S2x8192x48x64 ![0, 0, 0, 64] (shapeCast _ (extractStridedSlice S16384x6144 ![0, 0] Y slices_S16384x17408_S16384x6144_0_0) shapeCasts_S16384x6144_S2x8192x48x128) slices_S2x8192x48x128_S2x8192x48x64_0_0_0_64) (broadcastInDim S2x8192x48x64 ![0, 1, 2, 3] bcast_S1x8192x1x64_S2x8192x48x64_0_1_2_3 (broadcastInDim S1x8192x1x64 ![1, 3] bcast_S8192x64_S1x8192x1x64_1_3 si))))⟩, ⟨S2x8192x48x64, (addf (mulf (extractStridedSlice S2x8192x48x64 ![0, 0, 0, 64] (shapeCast _ (extractStridedSlice S16384x6144 ![0, 0] Y slices_S16384x17408_S16384x6144_0_0) shapeCasts_S16384x6144_S2x8192x48x128) slices_S2x8192x48x128_S2x8192x48x64_0_0_0_64) (broadcastInDim S2x8192x48x64 ![0, 1, 2, 3] bcast_S1x8192x1x64_S2x8192x48x64_0_1_2_3 (broadcastInDim S1x8192x1x64 ![1, 3] bcast_S8192x64_S1x8192x1x64_1_3 co))) (mulf (extractStridedSlice S2x8192x48x64 ![0, 0, 0, 0] (shapeCast _ (extractStridedSlice S16384x6144 ![0, 0] Y slices_S16384x17408_S16384x6144_0_0) shapeCasts_S16384x6144_S2x8192x48x128) slices_S2x8192x48x128_S2x8192x48x64_0_0_0_0) (broadcastInDim S2x8192x48x64 ![0, 1, 2, 3] bcast_S1x8192x1x64_S2x8192x48x64_0_1_2_3 (broadcastInDim S1x8192x1x64 ![1, 3] bcast_S8192x64_S1x8192x1x64_1_3 si))))⟩] concatenates_S2x8192x48x64_S2x8192x48x64_S2x8192x48x128_d3) shapeCasts_S2x8192x48x128_S16384x6144) slices_S16384x6144_S16384x3072_0_3072) : (⟨S16384x3072, .f32⟩ : BufTy).Contents (Elt Ideal))⟩, ⟨S16384x3072, ((extractStridedSlice S16384x3072 ![0, 6144] Y slices_S16384x17408_S16384x3072_0_6144) : (⟨S16384x3072, .f32⟩ : BufTy).Contents (Elt Ideal))⟩, ⟨S16384x1024, ((mulf (extractStridedSlice S16384x1024 ![0, 9216] Y slices_S16384x17408_S16384x1024_0_9216) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 9216] Y slices_S16384x17408_S16384x1024_0_9216)))))) : (⟨S16384x1024, .f32⟩ : BufTy).Contents (Elt Ideal))⟩, ⟨S16384x1024, ((Host.log (addf (broadcastInDim S16384x1024 ![0, 1] bcast_S1x1024_S16384x1024_0_1 (extractStridedSlice S1x1024 ![0, 0] (Host.divf (Host.exp (subf lb (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf lb (constant S_ .f32 0xFF800000#32) reducesTo_S2x1024_S1024_d0 h_S_)))))) (broadcastInDim S2x1024 ![0, 1] bcast_S1x1024_S2x1024_0_1 (broadcastInDim S1x1024 ![1] bcast_S1024_S1x1024_1 (Host.reduceAdd (Host.exp (subf lb (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf lb (constant S_ .f32 0xFF800000#32) reducesTo_S2x1024_S1024_d0 h_S_)))))) (constant S_ .f32 0x00000000#32) reducesTo_S2x1024_S1024_d0 h_S_)))) slices_S2x1024_S1x1024_0_0)) (mulf (broadcastInDim S16384x1024 ![0, 1] bcast_S1x1024_S16384x1024_0_1 (subf (broadcastInDim S1x1024 ![] bcast_S_S1x1024 (constant S_ .f32 0x3F800000#32)) (extractStridedSlice S1x1024 ![0, 0] (Host.divf (Host.exp (subf lb (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf lb (constant S_ .f32 0xFF800000#32) reducesTo_S2x1024_S1024_d0 h_S_)))))) (broadcastInDim S2x1024 ![0, 1] bcast_S1x1024_S2x1024_0_1 (broadcastInDim S1x1024 ![1] bcast_S1024_S1x1024_1 (Host.reduceAdd (Host.exp (subf lb (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf lb (constant S_ .f32 0xFF800000#32) reducesTo_S2x1024_S1024_d0 h_S_)))))) (constant S_ .f32 0x00000000#32) reducesTo_S2x1024_S1024_d0 h_S_)))) slices_S2x1024_S1x1024_0_0))) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 10240] Y slices_S16384x17408_S16384x1024_0_10240)))))))) : (⟨S16384x1024, .f32⟩ : BufTy).Contents (Elt Ideal))⟩, ⟨S16384x1024, ((extractStridedSlice S16384x1024 ![0, 11264] Y slices_S16384x17408_S16384x1024_0_11264) : (⟨S16384x1024, .f32⟩ : BufTy).Contents (Elt Ideal))⟩, ⟨S16384x1024, ((mulf (extractStridedSlice S16384x1024 ![0, 12288] Y slices_S16384x17408_S16384x1024_0_12288) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 12288] Y slices_S16384x17408_S16384x1024_0_12288)))))) : (⟨S16384x1024, .f32⟩ : BufTy).Contents (Elt Ideal))⟩, ⟨S16384x4096, ((extractStridedSlice S16384x4096 ![0, 13312] Y slices_S16384x17408_S16384x4096_0_13312) : (⟨S16384x4096, .f32⟩ : BufTy).Contents (Elt Ideal))⟩] concatenates_S16384x3072_S16384x3072_S16384x3072_S16384x1024_S16384x1024_S16384x1024_S16384x1024_S16384x4096_S16384x17408_d1 : (⟨S16384x17408, .f32⟩ : BufTy).Contents (Elt Ideal))) bitsLt_bf16_f32) shapeCasts_S16384x17408_S2x512x16x17408) transposes_S2x512x16x17408_S2x16x512x17408_0_2_1_3 : Vec Ideal S2x16x512x17408 .bf16) (ix4 B b s n)
      = cell (entry Y (B.val * 8192 + s.val * 16 + b.val)) (entry co (s.val * 16 + b.val)) (entry si (s.val * 16 + b.val))
          (entry lb 0 (n.val - 10240)) (entry lb 1 (n.val - 10240)) n.val := by
  pointwise
  simp only [larger, Fin.sum_univ_two]
  have eY : ∀ i j, Y (ix2 i j) = entry Y i.val j.val := entry_eq Y
  have eco : ∀ i j, co (ix2 i j) = entry co i.val j.val := entry_eq co
  have esi : ∀ i j, si (ix2 i j) = entry si i.val j.val := entry_eq si
  have elb : ∀ i j, lb (ix2 i j) = entry lb i.val j.val := entry_eq lb
  simp only [eY, eco, esi, elb]
  generalize entry Y = y
  generalize entry co = co
  generalize entry si = si
  generalize entry lb = lb
  have hB := B.isLt
  have hb := b.isLt
  have hs := s.isLt
  have hn := n.isLt
  generalize hn' : n.val = k at *
  have e1 : B.val * 8192 + (B.val * 8192 + s.val * 16 + b.val) % 8192 = B.val * 8192 + s.val * 16 + b.val := by omega
  have e2 : (B.val * 8192 + s.val * 16 + b.val) % 8192 = s.val * 16 + b.val := by omega
  simp only [e1]
  simp only [e2]
  have e4 : k / 128 * 128 + k % 128 = k := by omega
  have e5 : k / 128 * 128 + (64 + k % 128) = k + 64 := by omega
  unfold cell share
  by_cases h1 : k < 3072
  · rw [dif_pos h1, if_pos (show k < 6144 by omega), if_pos h1]
    by_cases h : k % 128 < 64
    · rw [dif_pos h, if_pos h]
      simp only [e4, e5]
    · rw [dif_neg h, if_neg h]
      have e6 : k / 128 * 128 + (64 + (k % 128 - 64)) = k := by omega
      have e7 : k / 128 * 128 + (k % 128 - 64) = k - 64 := by omega
      simp only [e6, e7]
  rw [dif_neg h1]
  by_cases h2 : k - 3072 < 3072
  · rw [dif_pos h2, if_pos (show k < 6144 by omega), if_neg h1, mul_one]
    have e3 : 3072 + (k - 3072) = k := by omega
    simp only [e3]
    by_cases h : k % 128 < 64
    · rw [dif_pos h, if_pos h]
      simp only [e4, e5]
    · rw [dif_neg h, if_neg h]
      have e6 : k / 128 * 128 + (64 + (k % 128 - 64)) = k := by omega
      have e7 : k / 128 * 128 + (k % 128 - 64) = k - 64 := by omega
      simp only [e6, e7]
  rw [dif_neg h2, if_neg (show ¬k < 6144 by omega)]
  by_cases h3 : k - 3072 - 3072 < 3072
  · rw [dif_pos h3, if_pos (show k < 9216 by omega), show 6144 + (k - 3072 - 3072) = k by omega]
  rw [dif_neg h3, if_neg (show ¬k < 9216 by omega)]
  by_cases h4 : k - 3072 - 3072 - 3072 < 1024
  · rw [dif_pos h4, if_pos (show k < 10240 by omega), show 9216 + (k - 3072 - 3072 - 3072) = k by omega]
  rw [dif_neg h4, if_neg (show ¬k < 10240 by omega)]
  by_cases h5 : k - 3072 - 3072 - 3072 - 1024 < 1024
  · rw [dif_pos h5, if_pos (show k < 11264 by omega)]
    simp only [show 10240 + (k - 3072 - 3072 - 3072 - 1024) = k by omega, show k - 3072 - 3072 - 3072 - 1024 = k - 10240 by omega,
      show 10240 + (k - 10240) = k by omega, show ((0 : Fin 2) : ℕ) = 0 from rfl, show ((1 : Fin 2) : ℕ) = 1 from rfl]
  rw [dif_neg h5, if_neg (show ¬k < 11264 by omega)]
  by_cases h6 : k - 3072 - 3072 - 3072 - 1024 - 1024 < 1024
  · rw [dif_pos h6, if_pos (show k < 12288 by omega), show 11264 + (k - 3072 - 3072 - 3072 - 1024 - 1024) = k by omega]
  rw [dif_neg h6, if_neg (show ¬k < 12288 by omega)]
  by_cases h7 : k - 3072 - 3072 - 3072 - 1024 - 1024 - 1024 < 1024
  · rw [dif_pos h7, if_pos (show k < 13312 by omega), show 12288 + (k - 3072 - 3072 - 3072 - 1024 - 1024 - 1024) = k by omega]
  rw [dif_neg h7, if_neg (show ¬k < 13312 by omega), show 13312 + (k - 3072 - 3072 - 3072 - 1024 - 1024 - 1024 - 1024) = k by omega]

/-- A matrix of such products, by its row and column numbers. -/
theorem product_entry (a0 : FVec Ideal S16384x2048 .f32) (a1 : FVec Ideal S1x2048 .f32) (a2 : FVec Ideal S2048x17408 .f32) (Y : FVec Ideal S16384x17408 .f32)
    (hY : ∀ t n, Y (ix2 t n) = product a0 a1 a2 t.val n.val) (t : ℕ) (ht : t < 16384) : entry Y t = product a0 a1 a2 t := by
  funext n
  by_cases hn : n < 17408
  · exact (entry_eq Y ⟨t, ht⟩ ⟨n, hn⟩).symm.trans (hY ⟨t, ht⟩ ⟨n, hn⟩)
  · have e1 : entry Y t n = 0 := dif_neg fun h => hn h.2
    have e2 : ∀ k : Fin 2048, entry (a := 2048) (b := 17408) a2 k.val n = 0 := fun k => dif_neg fun h => hn h.2
    rw [e1]
    unfold product
    simp only [e2, mul_zero, Finset.sum_const_zero]

/-- The reference's result at one place. -/
theorem ref_at (m : (ℓ : Loc nD τ sig) → Buf (Elt Ideal) ℓ) (c : Dev nD) (a0 : FVec Ideal S16384x2048 .f32) (a1 : FVec Ideal S1x2048 .f32) (a2 : FVec Ideal S2048x17408 .f32)
    (co si : FVec Ideal S8192x64 .f32) (lb : FVec Ideal S2x1024 .f32)
    (h0 : m ((c.tc : Thread nD τ).loc main_arg0) = a0) (h1 : m ((c.tc : Thread nD τ).loc main_arg1) = a1) (h2 : m ((c.tc : Thread nD τ).loc main_arg2) = a2)
    (h3 : m ((c.tc : Thread nD τ).loc main_arg3) = co) (h4 : m ((c.tc : Thread nD τ).loc main_arg4) = si) (h5 : m ((c.tc : Thread nD τ).loc main_arg5) = lb)
    (B : Fin 2) (b : Fin 16) (s : Fin 512) (n : Fin 17408) :
    (res_main_v71 m c : Vec Ideal S2x16x512x17408 .bf16) (ix4 B b s n)
      = cell (product a0 a1 a2 (B.val * 8192 + s.val * 16 + b.val)) (entry co (s.val * 16 + b.val)) (entry si (s.val * 16 + b.val))
          (entry lb 0 (n.val - 10240)) (entry lb 1 (n.val - 10240)) n.val := by
  unfold res_main_v71
  rw [h0, h1, h2, h3, h4, h5]
  refine (ref_cell _ co si lb B b s n).trans ?_
  rw [product_entry a0 a1 a2 _ (ref_product a0 a1 a2) _ (by omega)]

end Ref

end Cert.Projection
-- ==== Proof.ProjPlace.lean ====
module

public import proofs.«01_k».proof.Proof.ProjCases
public import proofs.«01_k».proof.Proof.ProjSpec
public import proofs.«01_k».proof.Proof.Hidden

@[expose] public section
set_option backward.proofsInPublic true
set_option maxRecDepth 16384
set_option maxHeartbeats 4000000
noncomputable section
open Idealize.ShloMosaic Idealize.ShloMosaic.TcCoe Idealize.SL.Sem
open Cert.ProjectIdeal Cert.ProjectIdeal.Gen
namespace Cert.Projection

/-! What each kind of point stores, one place at a time. -/

/-- An entry of an array of three axes, by its place's numbers. -/
def entry3 {a b d : ℕ} (A : (⟨3, ![a, b, d]⟩ : Shape).Idx → EReal) (i j k : ℕ) : EReal :=
  if h : i < a ∧ j < b ∧ k < d then A (ix3 ⟨i, h.1⟩ ⟨j, h.2.1⟩ ⟨k, h.2.2⟩) else 0

theorem entry3_eq {a b d : ℕ} (A : (⟨3, ![a, b, d]⟩ : Shape).Idx → EReal) (i : Fin a) (j : Fin b) (k : Fin d) :
    A (ix3 i j k) = entry3 A i.val j.val k.val := by
  unfold entry3
  rw [dif_pos ⟨i.isLt, j.isLt, k.isLt⟩]

theorem sums_at (u : Vec Ideal S1024x2048 .bf16) (w : Vec Ideal S2048x1024 .f32) (p : Fin 1024) (n : Fin 1024) :
    k0_pay81 u w (ix2 p n) = ∑ k : Fin 2048, u (ix2 p k) * w (ix2 k n) := by
  pointwise [k0_pay81]

theorem silu_at (u : Vec Ideal S1024x2048 .bf16) (w : Vec Ideal S2048x1024 .f32) (b : Fin 16) (r : Fin 64) (n : Fin 1024) (S : EReal)
    (hS : ∑ k : Fin 2048, u (ix2 ⟨b.val * 64 + r.val, by omega⟩ k) * w (ix2 k n) = S) :
    k0_pay5 u w (ix4 0 b r n) = S * (Ideal.ofBits .f32 0x3F000000#32 * Ideal.tanh (Ideal.ofBits .f32 0x3F000000#32 * S) + Ideal.ofBits .f32 0x3F000000#32) := by
  pointwise [k0_pay5]
  rw [hS]

theorem forget_at (u : Vec Ideal S1024x2048 .bf16) (w : Vec Ideal S2048x1024 .f32) (p q : Vec Ideal S1x1024 .f32) (b : Fin 16) (r : Fin 64) (n : Fin 1024) (S : EReal)
    (hS : ∑ k : Fin 2048, u (ix2 ⟨b.val * 64 + r.val, by omega⟩ k) * w (ix2 k n) = S) :
    k0_pay8 u w p q (ix4 0 b r n) = Ideal.log (share (p (ix2 0 n)) (q (ix2 0 n)) + (1 - share (p (ix2 0 n)) (q (ix2 0 n))) * Ideal.div 1 (1 + Ideal.exp (-S))) := by
  pointwise [k0_pay8, k0_pay7]
  rw [hS]
  rfl

theorem turned_at (a : BitVec 32) (u : Vec Ideal S1024x2048 .bf16) (w : Vec Ideal S2048x1024 .f32) (tab : Vec Ideal S16x64x256 .f32) (b : Fin 16) (r : Fin 64) (n : Fin 1024) :
    rotated a u w tab (ix4 0 b r n)
      = entry (k0_pay81 u w) (b.val * 64 + r.val) n.val
          * (entry3 tab b.val r.val (n.val % 128) * Scalar.select (IntOp.cmpi .slt a 3#32) (Ideal.ofBits .f32 0x3E0293EE#32) (1 : EReal))
        + entry (k0_pay81 u w) (b.val * 64 + r.val) (if n.val % 128 < 64 then n.val + 64 else n.val - 64)
          * (entry3 tab b.val r.val (128 + n.val % 128) * Scalar.select (IntOp.cmpi .slt a 3#32) (Ideal.ofBits .f32 0x3E0293EE#32) (1 : EReal)) := by
  unfold rotated
  have e0 : ∀ i j, k0_pay81 u w (ix2 i j) = entry (k0_pay81 u w) i.val j.val := entry_eq _
  pointwise [k0_pay4, k0_pay85, k0_pay86, k0_pay87, k0_pay88, k0_pay89, k0_pay90, k0_pay83, k0_pay84, k0_pay82]
  have e1 : ∀ i j k, tab (ix3 i j k) = entry3 tab i.val j.val k.val := entry3_eq tab
  simp only [e0, e1]
  have hn := n.isLt
  have hb := b.isLt
  have hr := r.isLt
  generalize n.val = k at *
  generalize entry (k0_pay81 u w) (b.val * 64 + r.val) = y
  generalize entry3 tab b.val r.val = tb
  have e2 : ∀ i j i' j' : ℕ, ∀ s : EReal, i = i' → j = j' → y i * (tb j * s) = y i' * (tb j' * s) := by
    intro i j i' j' s h h'; rw [h, h']
  split_ifs <;> refine congrArg₂ (· + ·) (e2 _ _ _ _ _ ?_ ?_) (e2 _ _ _ _ _ ?_ ?_) <;> omega

/-- The scale of the query columns is a nonnegative number. -/
theorem scale : Ideal.ofBits .f32 0x3E0293EE#32 = (((8557550 : ℝ) / 67108864 : ℝ) : EReal) := by
  simp [Ideal.ofBits, Ideal.ieee, -EReal.coe_mul]; norm_num

/-- A turned pair, scaled before or after the sum. -/
theorem turned (y y' p q s : EReal) (h0 : 0 ≤ s) (ht : s ≠ ⊤) : y * (p * s) + y' * (q * s) = (y * p + y' * q) * s := by
  rw [EReal.right_distrib_of_nonneg_of_ne_top h0 ht, mul_assoc, mul_assoc]

/-- What a point's rotary columns hold, against the projection's cell. -/
theorem rotary_cell (y co si tb : ℕ → EReal) (P Q : EReal) (j n : ℕ) (hj : j ≤ 5) (hn : n < 1024)
    (hc : ∀ e, e < 128 → tb e = co (e % 64)) (hs : ∀ e, e < 64 → tb (128 + e) = -si e) (hs' : ∀ e, e < 64 → tb (192 + e) = si e) :
    y (1024 * j + n) * (tb (n % 128) * Scalar.select (IntOp.cmpi .slt (BitVec.ofNat 32 j) 3#32) (Ideal.ofBits .f32 0x3E0293EE#32) (1 : EReal))
        + y (1024 * j + (if n % 128 < 64 then n + 64 else n - 64))
          * (tb (128 + n % 128) * Scalar.select (IntOp.cmpi .slt (BitVec.ofNat 32 j) 3#32) (Ideal.ofBits .f32 0x3E0293EE#32) (1 : EReal))
      = cell y co si P Q (1024 * j + n) := by
  have hsel : Scalar.select (IntOp.cmpi .slt (BitVec.ofNat 32 j) 3#32) (Ideal.ofBits .f32 0x3E0293EE#32) (1 : EReal)
      = if 1024 * j + n < 3072 then Ideal.ofBits .f32 0x3E0293EE#32 else 1 := by
    have hb : ∀ j : Fin 6, IntOp.cmpi .slt (BitVec.ofNat 32 j.val) 3#32 = if j.val < 3 then 1#1 else 0#1 := by decide
    rw [hb ⟨j, by omega⟩]
    by_cases h : j < 3
    · rw [if_pos (show 1024 * j + n < 3072 by omega), if_pos h]; rfl
    · rw [if_neg (show ¬1024 * j + n < 3072 by omega), if_neg h]; rfl
  have h0 : (0 : EReal) ≤ if 1024 * j + n < 3072 then Ideal.ofBits .f32 0x3E0293EE#32 else 1 := by
    split
    · rw [scale]; exact EReal.coe_nonneg.mpr (by norm_num)
    · exact zero_le_one
  have ht : (if 1024 * j + n < 3072 then Ideal.ofBits .f32 0x3E0293EE#32 else 1 : EReal) ≠ ⊤ := by
    split
    · rw [scale]; exact EReal.coe_ne_top _
    · exact EReal.coe_ne_top 1
  rw [hsel, turned _ _ _ _ _ h0 ht]
  unfold cell
  rw [if_pos (show 1024 * j + n < 6144 by omega), show (1024 * j + n) % 128 = n % 128 by omega]
  congr 1
  by_cases h : n % 128 < 64
  · rw [if_pos h, if_pos h, hc _ (by omega), hs _ h, Nat.mod_eq_of_lt h, mul_neg, ← sub_eq_add_neg, show 1024 * j + (n + 64) = 1024 * j + n + 64 by omega]
  · rw [if_neg h, if_neg h, hc _ (by omega), show n % 128 % 64 = n % 128 - 64 by omega, show 128 + n % 128 = 192 + (n % 128 - 64) by omega,
      hs' _ (by omega), show 1024 * j + (n - 64) = 1024 * j + n - 64 by omega]

end Cert.Projection
-- ==== Proof.ProjPoints.lean ====
module

public import proofs.«01_k».proof.Proof.ProjPlace

@[expose] public section
set_option backward.proofsInPublic true
set_option maxRecDepth 16384
set_option maxHeartbeats 2000000
noncomputable section
open Idealize.ShloMosaic Idealize.ShloMosaic.TcCoe Idealize.SL.Sem
open Idealize.ShloMosaic.StableHlo
open Cert.ProjectIdeal Cert.ProjectIdeal.Gen
namespace Cert.Projection

/-! What each point of the input projection's grid leaves, from the arrays it was given. -/

variable (m : (ℓ : Loc nD τ sig) → Buf (Elt Ideal) ℓ) (ρ : Dev nD → PrngReg) (c : Dev nD)

theorem points (t : Fin cfg0.N) : t.val < 272 := lt_of_lt_of_eq t.isLt N_0

/-- The point that opens a point's row block. -/
def lead (t : Fin cfg0.N) : Fin cfg0.N := ⟨17 * (t.val / 17), lt_of_le_of_lt (Nat.mul_div_le _ _) t.isLt⟩

/-- The regrouped rows a point works with. -/
def rows (t : Fin cfg0.N) : Vec Ideal S1024x2048 .bf16 := regrouped (iblk m c 0 (lead t)) (iblk m c 1 (lead t)) (iblk m c 2 (lead t))

theorem column : ∀ t : Fin cfg0.N, (grid0.coords t 1).val = t.val % 17 := (by decide +kernel : ∀ t : Fin grid0.N, _)

/-- A point that opens no row block leaves the kept rows as it found them. -/
theorem passed (t : Fin cfg0.N) (h0 : ¬t.val % 17 = 0) :
    (outsAt0 m c t.val t.isLt).2 = (outsAt0 m c (t.val - 1) (Nat.lt_of_le_of_lt (Nat.sub_le _ _) t.isLt)).2 := by
  by_cases h1 : t.val % 17 ≤ 5
  · rw [outsAt0_B m c t h0 h1 (by omega) (by omega) (by omega), sout0_B_0]
  by_cases h2 : t.val % 17 = 9 ∨ t.val % 17 = 12
  · rw [outsAt0_D m c t h0 h1 h2 (by omega) (by omega), sout0_D_0]
  by_cases h4 : t.val % 17 = 10
  · rw [outsAt0_E m c t h0 h1 h2 (by omega) h4, sout0_E_0]
  · rw [outsAt0_C m c t h0 h1 h2 (by omega) h4, sout0_C_0]

/-- The rows kept after a point are those of its row block. -/
theorem kept (n : ℕ) : ∀ t : Fin cfg0.N, t.val = n → (outsAt0 m c t.val t.isLt).2 = rows m c t := by
  have first : ∀ t : Fin cfg0.N, t.val % 17 = 0 → (outsAt0 m c t.val t.isLt).2 = rows m c t := by
    intro t h0
    have hl : lead t = t := Fin.ext (by show 17 * (t.val / 17) = t.val; omega)
    unfold rows
    rw [outsAt0_A m c t h0 (by omega) (by omega) (by omega) (by omega), kept_A, hl]
  induction n with
  | zero => exact fun t ht => first t (by omega)
  | succ n ih =>
    intro t ht
    by_cases h0 : t.val % 17 = 0
    · exact first t h0
    · have hl : lead ⟨t.val - 1, Nat.lt_of_le_of_lt (Nat.sub_le _ _) t.isLt⟩ = lead t :=
        Fin.ext (by show 17 * ((t.val - 1) / 17) = 17 * (t.val / 17); omega)
      have k := ih ⟨t.val - 1, Nat.lt_of_le_of_lt (Nat.sub_le _ _) t.isLt⟩ (by show t.val - 1 = n; omega)
      rw [passed m c t h0]
      refine k.trans ?_
      unfold rows
      rw [hl]

/-- So are those it finds, unless it opens the block. -/
theorem found (t : Fin cfg0.N) (h0 : ¬t.val % 17 = 0) :
    (outsAt0 m c (t.val - 1) (Nat.lt_of_le_of_lt (Nat.sub_le _ _) t.isLt)).2 = rows m c t :=
  (passed m c t h0).symm.trans (kept m c t.val t rfl)

/-- The block of a point of the rotary columns. -/
theorem leaves_rotary (t : Fin cfg0.N) (h1 : t.val % 17 ≤ 5) :
    (outsAt0 m c t.val t.isLt).1 = rotated (BitVec.ofNat 32 (t.val % 17)) (rows m c t) (iblk m c 3 t) (iblk m c 4 t) := by
  rw [← column t]
  by_cases h0 : t.val % 17 = 0
  · have hl : lead t = t := Fin.ext (by show 17 * (t.val / 17) = t.val; omega)
    unfold rows
    rw [outsAt0_A m c t h0 h1 (by omega) (by omega) (by omega), block_A, hl]
  · rw [← found m c t h0, outsAt0_B m c t h0 h1 (by omega) (by omega) (by omega), block_B]

/-- The block of a point of the plain columns. -/
theorem leaves_plain (t : Fin cfg0.N) (h1 : ¬t.val % 17 ≤ 5) (h2 : ¬(t.val % 17 = 9 ∨ t.val % 17 = 12)) (h4 : ¬t.val % 17 = 10) :
    (outsAt0 m c t.val t.isLt).1 = k0_pay6 (rows m c t) (iblk m c 3 t) := by
  have ht := points t
  rw [← found m c t (by omega), outsAt0_C m c t (by omega) h1 h2 (by omega) h4, block_C]

/-- The block of a point of the columns passed through the sigmoid unit. -/
theorem leaves_silu (t : Fin cfg0.N) (h2 : t.val % 17 = 9 ∨ t.val % 17 = 12) :
    (outsAt0 m c t.val t.isLt).1 = k0_pay5 (rows m c t) (iblk m c 3 t) := by
  rw [← found m c t (by omega), outsAt0_D m c t (by omega) (by omega) h2 (by omega) (by omega), block_D]

/-- The block of a point of the forget gate's columns. -/
theorem leaves_forget (t : Fin cfg0.N) (h4 : t.val % 17 = 10) :
    (outsAt0 m c t.val t.isLt).1 = k0_pay8 (rows m c t) (iblk m c 3 t) (firstRow (iblk m c 5 t)) (secondRow (iblk m c 5 t)) := by
  rw [← found m c t (by omega), outsAt0_E m c t (by omega) (by omega) (by omega) (by omega) h4, block_E]

theorem index0 : ∀ t : Fin cfg0.N, t.val % 17 = 0 → win0_0.index t (0 : Fin 2) = 2 * (t.val / 17) ∧ win0_0.index t (1 : Fin 2) = 0 :=
  (by decide +kernel : ∀ t : Fin grid0.N, _)
theorem index1 : ∀ t : Fin cfg0.N, t.val % 17 = 0 → win0_1.index t (0 : Fin 2) = 2 * (t.val / 17) + 1 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = t.val % 17 :=
  (by decide +kernel : ∀ t : Fin grid0.N, _)
theorem index4 : ∀ t : Fin cfg0.N, win0_4.index t (0 : Fin 3) = 0 ∧ win0_4.index t (1 : Fin 3) = t.val / 17 % 8 ∧ win0_4.index t (2 : Fin 3) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 4) = t.val / 17 / 8 ∧ win0_6.index t (1 : Fin 4) = 0
    ∧ win0_6.index t (2 : Fin 4) = t.val / 17 % 8 ∧ win0_6.index t (3 : Fin 4) = t.val % 17 :=
  (by decide +kernel : ∀ t : Fin grid0.N, _)

/-! The blocks, by the numbers of the arrays' places. -/

theorem block0 (t : Fin cfg0.N) (r : Fin 512) (x : Fin 2048) :
    (iblk m c 0 (lead t) : Vec Ideal S512x2048 .f32) (ix2 r x)
      = entry (a := 16384) (b := 2048) (m ((c.tc : Thread nD τ).loc main_arg0)) (1024 * (t.val / 17) + r.val) x.val := by
  have ht := points t
  have hl : (lead t).val = 17 * (t.val / 17) := rfl
  obtain ⟨e0, e1⟩ := index0 (lead t) (by omega)
  have e : ((cfg0.win 0).blk (lead t)).view.emb (ix2 (n0 := 512) (n1 := 2048) r x)
      = ix2 (n0 := 16384) (n1 := 2048) ⟨1024 * (t.val / 17) + r.val, by omega⟩ x := by
    funext a; apply Fin.ext
    match a with
    | ⟨0, _⟩ => show win0_0.index (lead t) (0 : Fin 2) * 512 + 1 * r.val = 1024 * (t.val / 17) + r.val; omega
    | ⟨1, _⟩ => show win0_0.index (lead t) (1 : Fin 2) * 2048 + 1 * x.val = x.val; omega
  show V m c main_arg0 (((cfg0.win 0).blk (lead t)).view.emb (ix2 (n0 := 512) (n1 := 2048) r x)) = _
  rw [e, V_main_arg0]
  exact entry_eq (a := 16384) (b := 2048) _ ⟨1024 * (t.val / 17) + r.val, by omega⟩ x

theorem block1 (t : Fin cfg0.N) (r : Fin 512) (x : Fin 2048) :
    (iblk m c 1 (lead t) : Vec Ideal S512x2048 .f32) (ix2 r x)
      = entry (a := 16384) (b := 2048) (m ((c.tc : Thread nD τ).loc main_arg0)) (1024 * (t.val / 17) + 512 + r.val) x.val := by
  have ht := points t
  have hl : (lead t).val = 17 * (t.val / 17) := rfl
  obtain ⟨e0, e1⟩ := index1 (lead t) (by omega)
  have e : ((cfg0.win 1).blk (lead t)).view.emb (ix2 (n0 := 512) (n1 := 2048) r x)
      = ix2 (n0 := 16384) (n1 := 2048) ⟨1024 * (t.val / 17) + 512 + r.val, by omega⟩ x := by
    funext a; apply Fin.ext
    match a with
    | ⟨0, _⟩ => show win0_1.index (lead t) (0 : Fin 2) * 512 + 1 * r.val = 1024 * (t.val / 17) + 512 + r.val; omega
    | ⟨1, _⟩ => show win0_1.index (lead t) (1 : Fin 2) * 2048 + 1 * x.val = x.val; omega
  show V m c main_arg0 (((cfg0.win 1).blk (lead t)).view.emb (ix2 (n0 := 512) (n1 := 2048) r x)) = _
  rw [e, V_main_arg0]
  exact entry_eq (a := 16384) (b := 2048) _ ⟨1024 * (t.val / 17) + 512 + r.val, by omega⟩ x

theorem block2 (t : Fin cfg0.N) (x : Fin 2048) :
    (iblk m c 2 t : Vec Ideal S1x2048 .f32) (ix2 0 x) = entry (a := 1) (b := 2048) (m ((c.tc : Thread nD τ).loc main_arg1)) 0 x.val := by
  obtain ⟨e0, e1⟩ := index2 t
  have e : ((cfg0.win 2).blk t).view.emb (ix2 (n0 := 1) (n1 := 2048) 0 x) = ix2 (n0 := 1) (n1 := 2048) 0 x := by
    funext a; apply Fin.ext
    match a with
    | ⟨0, _⟩ => show win0_2.index t (0 : Fin 2) * 1 + 1 * 0 = 0; omega
    | ⟨1, _⟩ => show win0_2.index t (1 : Fin 2) * 2048 + 1 * x.val = x.val; omega
  show V m c main_arg1 (((cfg0.win 2).blk t).view.emb (ix2 (n0 := 1) (n1 := 2048) 0 x)) = _
  rw [e, V_main_arg1]
  exact entry_eq (a := 1) (b := 2048) _ 0 x

theorem block3 (t : Fin cfg0.N) (x : Fin 2048) (n : Fin 1024) :
    (iblk m c 3 t : Vec Ideal S2048x1024 .f32) (ix2 x n)
      = entry (a := 2048) (b := 17408) (m ((c.tc : Thread nD τ).loc main_arg2)) x.val (1024 * (t.val % 17) + n.val) := by
  obtain ⟨e0, e1⟩ := index3 t
  have e : ((cfg0.win 3).blk t).view.emb (ix2 (n0 := 2048) (n1 := 1024) x n)
      = ix2 (n0 := 2048) (n1 := 17408) x ⟨1024 * (t.val % 17) + n.val, by omega⟩ := by
    funext a; apply Fin.ext
    match a with
    | ⟨0, _⟩ => show win0_3.index t (0 : Fin 2) * 2048 + 1 * x.val = x.val; omega
    | ⟨1, _⟩ => show win0_3.index t (1 : Fin 2) * 1024 + 1 * n.val = 1024 * (t.val % 17) + n.val; omega
  show V m c main_arg2 (((cfg0.win 3).blk t).view.emb (ix2 (n0 := 2048) (n1 := 1024) x n)) = _
  rw [e, V_main_arg2]
  exact entry_eq (a := 2048) (b := 17408) _ x ⟨1024 * (t.val % 17) + n.val, by omega⟩

theorem block5 (t : Fin cfg0.N) (q : Fin 2) (n : Fin 1024) :
    (iblk m c 5 t : Vec Ideal S2x1024 .f32) (ix2 q n) = entry (a := 2) (b := 1024) (m ((c.tc : Thread nD τ).loc main_arg5)) q.val n.val := by
  obtain ⟨e0, e1⟩ := index5 t
  have e : ((cfg0.win 5).blk t).view.emb (ix2 (n0 := 2) (n1 := 1024) q n) = ix2 (n0 := 2) (n1 := 1024) q n := by
    funext a; apply Fin.ext
    match a with
    | ⟨0, _⟩ => show win0_5.index t (0 : Fin 2) * 2 + 1 * q.val = q.val; omega
    | ⟨1, _⟩ => show win0_5.index t (1 : Fin 2) * 1024 + 1 * n.val = n.val; omega
  show V m c main_arg5 (((cfg0.win 5).blk t).view.emb (ix2 (n0 := 2) (n1 := 1024) q n)) = _
  rw [e, V_main_arg5]
  exact entry_eq (a := 2) (b := 1024) _ q n

theorem row_first (t : Fin cfg0.N) (n : Fin 1024) :
    firstRow (iblk m c 5 t) (ix2 0 n) = entry (a := 2) (b := 1024) (m ((c.tc : Thread nD τ).loc main_arg5)) 0 n.val := by
  refine Eq.trans ?_ (block5 m c t 0 n)
  show (iblk m c 5 t : Vec Ideal S2x1024 .f32) _ = _
  congr 1
  funext a; apply Fin.ext
  match a with
  | ⟨0, _⟩ => rfl
  | ⟨1, _⟩ => show 0 + 1 * n.val = n.val; omega

theorem row_second (t : Fin cfg0.N) (n : Fin 1024) :
    secondRow (iblk m c 5 t) (ix2 0 n) = entry (a := 2) (b := 1024) (m ((c.tc : Thread nD τ).loc main_arg5)) 1 n.val := by
  refine Eq.trans ?_ (block5 m c t 1 n)
  show (iblk m c 5 t : Vec Ideal S2x1024 .f32) _ = _
  congr 1
  funext a; apply Fin.ext
  match a with
  | ⟨0, _⟩ => rfl
  | ⟨1, _⟩ => show 0 + 1 * n.val = n.val; omega

/-- The rotary table at one place. -/
theorem table_at (co si : FVec Ideal S8192x64 .f32) (h3 : m ((c.tc : Thread nD τ).loc main_arg3) = co) (h4 : m ((c.tc : Thread nD τ).loc main_arg4) = si)
    (b : Fin 16) (s : Fin 512) (e : Fin 256) :
    (V m c main_v3 : Vec Ideal S16x512x256 .f32) (ix3 b s e)
      = if e.val < 128 then entry co (s.val * 16 + b.val) (e.val % 64)
        else if e.val < 192 then -entry si (s.val * 16 + b.val) (e.val - 128) else entry si (s.val * 16 + b.val) (e.val - 192) := by
  have hV : V m c main_v3 = (transpose S16x512x256 [1, 0, 2] (shapeCast S512x16x256 (concatenate S8192x256 1
      [⟨S8192x64, co⟩, ⟨S8192x64, co⟩, ⟨S8192x64, (Host.negf si : FVec Ideal S8192x64 .f32)⟩, ⟨S8192x64, si⟩] concatenates_S8192x64_S8192x64_S8192x64_S8192x64_S8192x256_d1) shapeCasts_S8192x256_S512x16x256)
      transposes_S512x16x256_S16x512x256_1_0_2 : FVec Ideal S16x512x256 .f32) := by
    rw [← h3, ← h4]
    rfl
  rw [hV]
  pointwise
  have eco : ∀ i j, co (ix2 i j) = entry co i.val j.val := entry_eq co
  have esi : ∀ i j, si (ix2 i j) = entry si i.val j.val := entry_eq si
  simp only [eco, esi]
  have he := e.isLt
  generalize e.val = k at *
  have e1 : ∀ i j, i = j → entry co (s.val * 16 + b.val) i = entry co (s.val * 16 + b.val) j := fun i j h => by rw [h]
  have e2 : ∀ i j, i = j → entry si (s.val * 16 + b.val) i = entry si (s.val * 16 + b.val) j := fun i j h => by rw [h]
  split_ifs <;> first | exact e1 _ _ (by omega) | exact e2 _ _ (by omega) | exact congrArg _ (e2 _ _ (by omega)) | (exfalso; omega)

/-- The table's block at one place. -/
theorem block4 (t : Fin cfg0.N) (b : Fin 16) (r : Fin 64) (e : Fin 256) :
    (iblk m c 4 t : Vec Ideal S16x64x256 .f32) (ix3 b r e) = (V m c main_v3 : Vec Ideal S16x512x256 .f32)
      (ix3 (n0 := 16) (n1 := 512) (n2 := 256) b ⟨t.val / 17 % 8 * 64 + r.val, by omega⟩ e) := by
  obtain ⟨e0, e1, e2⟩ := index4 t
  have he : ((cfg0.win 4).blk t).view.emb (ix3 (n0 := 16) (n1 := 64) (n2 := 256) b r e)
      = ix3 (n0 := 16) (n1 := 512) (n2 := 256) b ⟨t.val / 17 % 8 * 64 + r.val, by omega⟩ e := by
    funext a; apply Fin.ext
    match a with
    | ⟨0, _⟩ => show win0_4.index t (0 : Fin 3) * 16 + 1 * b.val = b.val; omega
    | ⟨1, _⟩ => show win0_4.index t (1 : Fin 3) * 64 + 1 * r.val = t.val / 17 % 8 * 64 + r.val; omega
    | ⟨2, _⟩ => show win0_4.index t (2 : Fin 3) * 256 + 1 * e.val = e.val; omega
  show V m c main_v3 (((cfg0.win 4).blk t).view.emb (ix3 (n0 := 16) (n1 := 64) (n2 := 256) b r e)) = _
  rw [he]

/-- The product a point's block rests on. -/
theorem product_at (t : Fin cfg0.N) (b : Fin 16) (r : Fin 64) (n : Fin 1024) :
    ∑ k : Fin 2048, rows m c t (ix2 ⟨b.val * 64 + r.val, by omega⟩ k) * (iblk m c 3 t : Vec Ideal S2048x1024 .f32) (ix2 k n)
      = product (m ((c.tc : Thread nD τ).loc main_arg0)) (m ((c.tc : Thread nD τ).loc main_arg1)) (m ((c.tc : Thread nD τ).loc main_arg2))
          (1024 * (t.val / 17) + (16 * r.val + b.val)) (1024 * (t.val % 17) + n.val) := by
  unfold product
  refine Finset.sum_congr rfl fun k _ => ?_
  rw [block3]
  congr 1
  unfold rows regrouped
  refine congrFun (congrArg₂ normed ?_ ?_) k
  · funext d
    have hb := b.isLt
    have hr := r.isLt
    have hp : (tokenOf ⟨b.val * 64 + r.val, by omega⟩).val = 16 * r.val + b.val := by
      show 16 * ((b.val * 64 + r.val) % 64) + (b.val * 64 + r.val) / 64 = _
      omega
    by_cases h : 16 * r.val + b.val < 512
    · refine (dif_pos (show (tokenOf ⟨b.val * 64 + r.val, by omega⟩).val < 512 by omega)).trans ?_
      rw [block0]
      congr 1
      show _ + (tokenOf ⟨b.val * 64 + r.val, by omega⟩).val = _
      omega
    · refine (dif_neg (show ¬(tokenOf ⟨b.val * 64 + r.val, by omega⟩).val < 512 by omega)).trans ?_
      rw [block1]
      congr 1
      show _ + ((tokenOf ⟨b.val * 64 + r.val, by omega⟩).val - 512) = _
      omega
  · funext d
    exact block2 m c (lead t) d

/-- The rotary table's entries in a point's block. -/
theorem table_entry (t : Fin cfg0.N) (b : Fin 16) (r : Fin 64) (e : ℕ) (he : e < 256) :
    entry3 (a := 16) (b := 64) (d := 256) (iblk m c 4 t) b.val r.val e
      = if e < 128 then entry (a := 8192) (b := 64) (m ((c.tc : Thread nD τ).loc main_arg3)) ((t.val / 17 % 8 * 64 + r.val) * 16 + b.val) (e % 64)
        else if e < 192 then -entry (a := 8192) (b := 64) (m ((c.tc : Thread nD τ).loc main_arg4)) ((t.val / 17 % 8 * 64 + r.val) * 16 + b.val) (e - 128)
        else entry (a := 8192) (b := 64) (m ((c.tc : Thread nD τ).loc main_arg4)) ((t.val / 17 % 8 * 64 + r.val) * 16 + b.val) (e - 192) :=
  (entry3_eq (a := 16) (b := 64) (d := 256) (iblk m c 4 t) b r ⟨e, he⟩).symm.trans
    ((block4 m c t b r ⟨e, he⟩).trans (table_at m c _ _ rfl rfl b ⟨t.val / 17 % 8 * 64 + r.val, by omega⟩ ⟨e, he⟩))

/-- A place of a point's block, in the projection's terms. -/
def placed (t : Fin cfg0.N) (b : Fin 16) (r : Fin 64) (n : Fin 1024) : EReal :=
  cell (product (m ((c.tc : Thread nD τ).loc main_arg0)) (m ((c.tc : Thread nD τ).loc main_arg1)) (m ((c.tc : Thread nD τ).loc main_arg2))
      (1024 * (t.val / 17) + (16 * r.val + b.val)))
    (entry (a := 8192) (b := 64) (m ((c.tc : Thread nD τ).loc main_arg3)) ((t.val / 17 % 8 * 64 + r.val) * 16 + b.val))
    (entry (a := 8192) (b := 64) (m ((c.tc : Thread nD τ).loc main_arg4)) ((t.val / 17 % 8 * 64 + r.val) * 16 + b.val))
    (entry (a := 2) (b := 1024) (m ((c.tc : Thread nD τ).loc main_arg5)) 0 (1024 * (t.val % 17) + n.val - 10240))
    (entry (a := 2) (b := 1024) (m ((c.tc : Thread nD τ).loc main_arg5)) 1 (1024 * (t.val % 17) + n.val - 10240))
    (1024 * (t.val % 17) + n.val)

/-- Every point's block holds the projection's cells. -/
theorem leaves (t : Fin cfg0.N) (b : Fin 16) (r : Fin 64) (n : Fin 1024) :
    (outsAt0 m c t.val t.isLt).1 (ix4 0 b r n) = placed m c t b r n := by
  have hn := n.isLt
  have hb := b.isLt
  have hr := r.isLt
  have hS := product_at m c t b r n
  by_cases h1 : t.val % 17 ≤ 5
  · rw [leaves_rotary m c t h1, turned_at]
    have hY : ∀ n' : ℕ, n' < 1024 → entry (a := 1024) (b := 1024) (k0_pay81 (rows m c t) (iblk m c 3 t)) (b.val * 64 + r.val) n'
        = product (m ((c.tc : Thread nD τ).loc main_arg0)) (m ((c.tc : Thread nD τ).loc main_arg1)) (m ((c.tc : Thread nD τ).loc main_arg2))
          (1024 * (t.val / 17) + (16 * r.val + b.val)) (1024 * (t.val % 17) + n') := fun n' h' =>
      (entry_eq (a := 1024) (b := 1024) _ ⟨b.val * 64 + r.val, by omega⟩ ⟨n', h'⟩).symm.trans
        ((sums_at _ _ _ _).trans (product_at m c t b r ⟨n', h'⟩))
    rw [hY _ hn, hY _ (by split <;> omega)]
    refine rotary_cell _ _ _ _ _ _ (t.val % 17) n.val h1 hn ?_ ?_ ?_
    · intro e he
      rw [table_entry m c t b r e (by omega), if_pos he]
    · intro e he
      rw [table_entry m c t b r (128 + e) (by omega), if_neg (by omega), if_pos (by omega), show 128 + e - 128 = e by omega]
    · intro e he
      rw [table_entry m c t b r (192 + e) (by omega), if_neg (by omega), if_neg (by omega), show 192 + e - 192 = e by omega]
  by_cases h2 : t.val % 17 = 9 ∨ t.val % 17 = 12
  · rw [leaves_silu m c t h2, silu_at _ _ _ _ _ _ hS, Cert.SwigluHidden.sigmoid_eq]
    unfold placed cell
    rw [if_neg (by omega), if_neg (by omega)]
    rcases h2 with h2 | h2
    · rw [if_pos (by omega)]
    · rw [if_neg (by omega), if_neg (by omega), if_neg (by omega), if_pos (by omega)]
  by_cases h4 : t.val % 17 = 10
  · rw [leaves_forget m c t h4, forget_at _ _ _ _ _ _ _ _ hS, row_first, row_second]
    unfold placed cell
    rw [if_neg (by omega), if_neg (by omega), if_neg (by omega), if_pos (by omega), show 1024 * (t.val % 17) + n.val - 10240 = n.val by omega]
  · rw [leaves_plain m c t h1 h2 h4, rows_at, hS]
    unfold placed cell
    rw [if_neg (by omega)]
    by_cases h5 : t.val % 17 < 9
    · rw [if_pos (by omega)]
    rw [if_neg (by omega), if_neg (by omega), if_neg (by omega)]
    by_cases h6 : t.val % 17 = 11
    · rw [if_pos (by omega)]
    · rw [if_neg (by omega), if_neg (by omega)]

end Cert.Projection
-- ==== Proof.Project.lean ====
module

public import proofs.«01_k».proof.Defs
public import proofs.«01_k».proof.Proof.ProjPoints
public import proofs.«01_k».proof.Proof.Gen.Project
public import proofs.«01_k».proof.Proof.Gen.ProjectReferenceIdeal.Run
public import Idealize.ShloMosaic.Lib.IdealHost
public import Idealize.ShloMosaic.Lib.Quiescent

@[expose] public section
set_option backward.proofsInPublic true
set_option maxRecDepth 65536
set_option maxHeartbeats 2000000
noncomputable section
open Idealize.ShloMosaic Idealize.ShloMosaic.TcCoe Idealize.SL.Sem
namespace Cert.Projection

/-! The input projection as a whole: the array its launch leaves, and the claims. -/

section Kernel
open Cert.ProjectIdeal Cert.ProjectIdeal.Gen

variable (m : (ℓ : Loc nD τ sig) → Buf (Elt Ideal) ℓ) (ρ : Dev nD → PrngReg) (c : Dev nD)

/-- The projection. -/
def projected : Buf (Elt Ideal) ((c.tc : Thread nD τ).loc main_v4_0) := fun i : S2x16x512x17408.Idx =>
  cell (product (m ((c.tc : Thread nD τ).loc main_arg0)) (m ((c.tc : Thread nD τ).loc main_arg1)) (m ((c.tc : Thread nD τ).loc main_arg2))
      ((i 0).val * 8192 + (i 2).val * 16 + (i 1).val))
    (entry (a := 8192) (b := 64) (m ((c.tc : Thread nD τ).loc main_arg3)) ((i 2).val * 16 + (i 1).val))
    (entry (a := 8192) (b := 64) (m ((c.tc : Thread nD τ).loc main_arg4)) ((i 2).val * 16 + (i 1).val))
    (entry (a := 2) (b := 1024) (m ((c.tc : Thread nD τ).loc main_arg5)) 0 ((i 3).val - 10240))
    (entry (a := 2) (b := 1024) (m ((c.tc : Thread nD τ).loc main_arg5)) 1 ((i 3).val - 10240)) (i 3).val

theorem flushes6 : ∀ t : Fin cfg0.N, (cfg0.win 6).flush t = true :=
  (by decide +kernel : ∀ t : Fin grid0.N, win0_6.flush t = true)

/-- What a point writes back is its block of the projection. -/
theorem flushed_block (t : Fin cfg0.N) :
    (dats m 0 c).flushed 6 t = ((cfg0.win 6).blk t).view.read (Elt Ideal) (projected m c) := by
  show (cfg0.win 6).cut (grid0.coords t) ((dats m 0 c).after 6 t) = _
  rw [after0_6]
  have ht := points t
  obtain ⟨e0, e1, e2, e3⟩ := index6 t
  funext y
  have hy0 : (y 0).val < 1 := (y 0).isLt
  have hy1 : (y 1).val < 16 := (y 1).isLt
  have hy2 : (y 2).val < 64 := (y 2).isLt
  have hy3 : (y 3).val < 1024 := (y 3).isLt
  have hx : (cfg0.win 6).xinj (grid0.coords t) y = ix4 (n0 := 1) (n1 := 16) (n2 := 64) (n3 := 1024) 0 ⟨(y 1).val, hy1⟩ ⟨(y 2).val, hy2⟩ ⟨(y 3).val, hy3⟩ := by
    funext a; apply Fin.ext
    match a with
    | ⟨0, _⟩ => show (y 0).val = 0; omega
    | ⟨1, _⟩ => rfl
    | ⟨2, _⟩ => rfl
    | ⟨3, _⟩ => rfl
  have he : ((cfg0.win 6).blk t).view.emb y = ix4 (n0 := 2) (n1 := 16) (n2 := 512) (n3 := 17408) ⟨t.val / 17 / 8, by omega⟩ ⟨(y 1).val, hy1⟩
      ⟨t.val / 17 % 8 * 64 + (y 2).val, by omega⟩ ⟨1024 * (t.val % 17) + (y 3).val, by omega⟩ := by
    funext a; apply Fin.ext
    match a with
    | ⟨0, _⟩ => show win0_6.index t (0 : Fin 4) * 1 + 1 * (y 0).val = t.val / 17 / 8; omega
    | ⟨1, _⟩ => show win0_6.index t (1 : Fin 4) * 16 + 1 * (y 1).val = (y 1).val; omega
    | ⟨2, _⟩ => show win0_6.index t (2 : Fin 4) * 64 + 1 * (y 2).val = t.val / 17 % 8 * 64 + (y 2).val; omega
    | ⟨3, _⟩ => show win0_6.index t (3 : Fin 4) * 1024 + 1 * (y 3).val = 1024 * (t.val % 17) + (y 3).val; omega
  show (outsAt0 m c t.val t.isLt).1 ((cfg0.win 6).xinj (grid0.coords t) y) = projected m c (((cfg0.win 6).blk t).view.emb y)
  rw [hx, he, leaves]
  unfold placed
  rw [show 1024 * (t.val / 17) + (16 * (y 2).val + (y 1).val) = t.val / 17 / 8 * 8192 + (t.val / 17 % 8 * 64 + (y 2).val) * 16 + (y 1).val by omega]
  rfl

/-- The point whose block holds a place of the projection. -/
theorem covered (i : S2x16x512x17408.Idx) :
    ∃ t : Fin cfg0.N, (cfg0.win 6).flush t = true ∧ i ∈ ((cfg0.win 6).blk t).view.set := by
  have h0 : (i 0).val < 2 := (i 0).isLt
  have h1 : (i 1).val < 16 := (i 1).isLt
  have h2 : (i 2).val < 512 := (i 2).isLt
  have h3 : (i 3).val < 17408 := (i 3).isLt
  have hN : 17 * (8 * (i 0).val + (i 2).val / 64) + (i 3).val / 1024 < cfg0.N := lt_of_lt_of_eq (by omega) N_0.symm
  obtain ⟨t, ht⟩ : ∃ t : Fin cfg0.N, t.val = 17 * (8 * (i 0).val + (i 2).val / 64) + (i 3).val / 1024 := ⟨⟨_, hN⟩, rfl⟩
  refine ⟨t, flushes6 t, ?_⟩
  obtain ⟨e0, e1, e2, e3⟩ := index6 t
  have d1 : t.val / 17 = 8 * (i 0).val + (i 2).val / 64 := by omega
  have d2 : t.val % 17 = (i 3).val / 1024 := by omega
  rw [d1] at e0 e2
  rw [d2] at e3
  show i ∈ ((View.whole main_v4_0).slice (win0_6.rect t)).set
  rw [View.set_slice_whole, Rect.mem_set_unit]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 16 ≤ (i 1).val ∧ (i 1).val < win0_6.index t (1 : Fin 4) * 16 + 16; omega
  | ⟨2, _⟩ => show win0_6.index t (2 : Fin 4) * 64 ≤ (i 2).val ∧ (i 2).val < win0_6.index t (2 : Fin 4) * 64 + 64; omega
  | ⟨3, _⟩ => show win0_6.index t (3 : Fin 4) * 1024 ≤ (i 3).val ∧ (i 3).val < win0_6.index t (3 : Fin 4) * 1024 + 1024; omega

theorem result_array : (dats m 0 c).arrAt 6 cfg0.N = projected m c :=
  (dats m 0 c).arrAt_eq_of_cover 6 _ (fun t _ => flushed_block m c t) (fun i => covered i)

/-- The run, with the result named. -/
theorem run_result : θ_run defs (onTc (τ := τ) (main (F := Ideal))) ⟨m, fun _ => 0, ρ⟩ fun r => ∀ c : Dev nD,
      r.2.mem ((c.tc : Thread nD τ).loc main_v4_0) = projected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((Pipeline.Dat.toRForget_arrAt_iff (dats m 0 c) forgets0_6 cfg0.N _).mp ((h.1 c).1 6)).trans (result_array m c), h.2 c⟩)
    (θ_run_and (run_main m ρ) (unchanged m ρ))

end Kernel

/-! The claims. -/

theorem algebraic : Cert.algebraic_ProjectIdeal_ProjectReferenceIdeal := by
  intro m ρ m' ρ' hpre hagree
  refine ⟨fun c => projected m c, run_result m ρ, ?_⟩
  refine (θ_run Cert.ProjectReferenceIdeal.defs _ _).mono (fun _ h c => ⟨(h c).1.trans ?_, (h c).2⟩)
    (Cert.ProjectReferenceIdeal.Value.run (F := Ideal) m' ρ')
  obtain ⟨e0, e1, e2, e3, e4, e5⟩ := hagree c
  funext i
  have hi : i = ix4 (i 0) (i 1) (i 2) (i 3) := by funext a; fin_cases a <;> rfl
  rw [hi]
  exact ref_at m' c _ _ _ _ _ _ e0 e1 e2 e3 e4 e5 (i 0) (i 1) (i 2) (i 3)

theorem preserves : Cert.preserves_Project_ProjectIdeal := trivial

/-- The two printings have the same body at every point. -/
theorem bodies_eq : Project.defs₀ (F := Bits) = ProjectIdeal.defs₀ (F := Bits) := by
  unfold Project.defs₀ ProjectIdeal.defs₀
  congr 1
  funext l a
  match l, a with
  | 0, (t, s) => rfl
  | ⟨_ + 1, h⟩, _ => exact absurd h (Nat.not_lt.2 (Nat.le_add_left _ _))

theorem table_eq : Project.defs (F := Bits) = ProjectIdeal.defs (F := Bits) :=
  congrArg (Pipeline.defs (ProjectIdeal.pcfgs (F := Bits))) bodies_eq

theorem frame_kernel : Cert.quiescent_Project := fun m ρ _ => by
  rw [table_eq]
  exact Cert.ProjectIdeal.Gen.frame (F := Bits) m ρ

theorem frame_ideal : Cert.quiescent_ProjectIdeal := fun m ρ _ => Cert.ProjectIdeal.Gen.frame m ρ

theorem frame_reference : Cert.quiescent_ProjectReferenceIdeal := fun m ρ _ =>
  (θ_run Cert.ProjectReferenceIdeal.defs _ _).mono
    (fun r h => ⟨fun c => (h c).2, Idealize.ShloMosaic.sem_eq_zero_of_no_sems (by decide) r.2⟩)
    (Cert.ProjectReferenceIdeal.Value.run (F := Ideal) m ρ)

end Cert.Projection
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Down
public import proofs.«01_k».proof.Proof.Gen.DownIdeal
public import proofs.«01_k».proof.Proof.Gen.DownReferenceIdeal
public import proofs.«01_k».proof.Proof.Gen.Hidden
public import proofs.«01_k».proof.Proof.Gen.HiddenIdeal
public import proofs.«01_k».proof.Proof.Gen.HiddenReferenceIdeal
public import proofs.«01_k».proof.Proof.Gen.Project
public import proofs.«01_k».proof.Proof.Gen.ProjectIdeal
public import proofs.«01_k».proof.Proof.Gen.ProjectReferenceIdeal
public import proofs.«01_k».proof.Proof.Claims
public import proofs.«01_k».proof.Proof.Down
public import proofs.«01_k».proof.Proof.Hidden
public import proofs.«01_k».proof.Proof.Project

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Down.Gen.facts, Cert.DownIdeal.Gen.facts, Cert.DownReferenceIdeal.Gen.facts,
  Cert.Hidden.Gen.facts, Cert.HiddenIdeal.Gen.facts, Cert.HiddenReferenceIdeal.Gen.facts,
  Cert.Project.Gen.facts, Cert.ProjectIdeal.Gen.facts, Cert.ProjectReferenceIdeal.Gen.facts, Cert.Pre_finite.Gen.facts,
  Cert.Hgrn.frame_kernel, Cert.Hgrn.frame_ideal, Cert.Hgrn.frame_ideal_finite, Cert.Hgrn.frame_reference,
  Cert.Hgrn.frame_reference_finite,
  Cert.SwigluOut.frame_kernel, Cert.SwigluOut.frame_ideal, Cert.SwigluOut.frame_reference,
  Cert.SwigluHidden.frame_kernel, Cert.SwigluHidden.frame_ideal, Cert.SwigluHidden.frame_reference,
  Cert.Projection.frame_kernel, Cert.Projection.frame_ideal, Cert.Projection.frame_reference,
  Cert.Hgrn.preserves, Cert.Hgrn.algebraic, Cert.SwigluOut.preserves, Cert.SwigluOut.algebraic,
  Cert.SwigluHidden.preserves, Cert.SwigluHidden.algebraic,
  Cert.Projection.preserves, Cert.Projection.algebraic⟩

end Cert.Proof

end
